-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel3 (m : (ℓ : Loc Cert.Kernel3.nD Cert.Kernel3.τ Cert.Kernel3.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2 = (fun _ => 1#1)

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v86) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v44_0)) (v1 : (c : Dev Cert.Kernel2Ideal.nD) → Buf (Elt Ideal) ((c.tc : Thread Cert.Kernel2Ideal.nD Cert.Kernel2Ideal.τ).loc Cert.Kernel2Ideal.main_v44_1)) (v2 : (c : Dev Cert.Kernel2Ideal.nD) → Buf (Elt Ideal) ((c.tc : Thread Cert.Kernel2Ideal.nD Cert.Kernel2Ideal.τ).loc Cert.Kernel2Ideal.main_v44_2)) (v3 : (c : Dev Cert.Kernel2Ideal.nD) → Buf (Elt Ideal) ((c.tc : Thread Cert.Kernel2Ideal.nD Cert.Kernel2Ideal.τ).loc Cert.Kernel2Ideal.main_v44_3)) (v4 : (c : Dev Cert.Kernel2Ideal.nD) → Buf (Elt Ideal) ((c.tc : Thread Cert.Kernel2Ideal.nD Cert.Kernel2Ideal.τ).loc Cert.Kernel2Ideal.main_v44_4)) (v5 : (c : Dev Cert.Kernel2Ideal.nD) → Buf (Elt Ideal) ((c.tc : Thread Cert.Kernel2Ideal.nD Cert.Kernel2Ideal.τ).loc Cert.Kernel2Ideal.main_v44_5)) (v6 : (c : Dev Cert.Kernel2Ideal.nD) → Buf (Elt Ideal) ((c.tc : Thread Cert.Kernel2Ideal.nD Cert.Kernel2Ideal.τ).loc Cert.Kernel2Ideal.main_v44_6)) (v7 : (c : Dev Cert.Kernel2Ideal.nD) → Buf (Elt Ideal) ((c.tc : Thread Cert.Kernel2Ideal.nD Cert.Kernel2Ideal.τ).loc Cert.Kernel2Ideal.main_v44_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v44_0) = v0 c
          ∧ r.2.mem ((c.tc : Thread Cert.Kernel2Ideal.nD Cert.Kernel2Ideal.τ).loc Cert.Kernel2Ideal.main_v44_1) = v1 c
          ∧ r.2.mem ((c.tc : Thread Cert.Kernel2Ideal.nD Cert.Kernel2Ideal.τ).loc Cert.Kernel2Ideal.main_v44_2) = v2 c
          ∧ r.2.mem ((c.tc : Thread Cert.Kernel2Ideal.nD Cert.Kernel2Ideal.τ).loc Cert.Kernel2Ideal.main_v44_3) = v3 c
          ∧ r.2.mem ((c.tc : Thread Cert.Kernel2Ideal.nD Cert.Kernel2Ideal.τ).loc Cert.Kernel2Ideal.main_v44_4) = v4 c
          ∧ r.2.mem ((c.tc : Thread Cert.Kernel2Ideal.nD Cert.Kernel2Ideal.τ).loc Cert.Kernel2Ideal.main_v44_5) = v5 c
          ∧ r.2.mem ((c.tc : Thread Cert.Kernel2Ideal.nD Cert.Kernel2Ideal.τ).loc Cert.Kernel2Ideal.main_v44_6) = v6 c
          ∧ r.2.mem ((c.tc : Thread Cert.Kernel2Ideal.nD Cert.Kernel2Ideal.τ).loc Cert.Kernel2Ideal.main_v44_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v214) = v0 c
          ∧ r.2.mem ((c.tc : Thread Cert.Reference2Ideal.nD Cert.Reference2Ideal.τ).loc Cert.Reference2Ideal.main_v216) = v1 c
          ∧ r.2.mem ((c.tc : Thread Cert.Reference2Ideal.nD Cert.Reference2Ideal.τ).loc Cert.Reference2Ideal.main_v218) = v2 c
          ∧ r.2.mem ((c.tc : Thread Cert.Reference2Ideal.nD Cert.Reference2Ideal.τ).loc Cert.Reference2Ideal.main_v220) = v3 c
          ∧ r.2.mem ((c.tc : Thread Cert.Reference2Ideal.nD Cert.Reference2Ideal.τ).loc Cert.Reference2Ideal.main_v222) = v4 c
          ∧ r.2.mem ((c.tc : Thread Cert.Reference2Ideal.nD Cert.Reference2Ideal.τ).loc Cert.Reference2Ideal.main_v224) = v5 c
          ∧ r.2.mem ((c.tc : Thread Cert.Reference2Ideal.nD Cert.Reference2Ideal.τ).loc Cert.Reference2Ideal.main_v226) = v6 c
          ∧ r.2.mem ((c.tc : Thread Cert.Reference2Ideal.nD Cert.Reference2Ideal.τ).loc Cert.Reference2Ideal.main_v228) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernel2 : Cert.Kernel2.Facts) (hKernel3 : Cert.Kernel3.Facts) (hKernelIdeal : Cert.KernelIdeal.Facts) (hReferenceIdeal : Cert.ReferenceIdeal.Facts) (hKernel3Ideal : Cert.Kernel3Ideal.Facts) (hReference3Ideal : Cert.Reference3Ideal.Facts) (hKernel2Ideal : Cert.Kernel2Ideal.Facts) (hReference2Ideal : Cert.Reference2Ideal.Facts) (hPre_finite_scores : Cert.Pre_finite_scores.Facts),
    quiescent_Kernel (hKernel := hKernel)
    ∧ quiescent_Kernel2 (hKernel2 := hKernel2)
    ∧ quiescent_Kernel3 (hKernel3 := hKernel3)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel3Ideal (hKernel3Ideal := hKernel3Ideal)
    ∧ quiescent_Reference3Ideal (hReference3Ideal := hReference3Ideal)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel3_Kernel3Ideal
    ∧ algebraic_Kernel3Ideal_Reference3Ideal (hKernel3Ideal := hKernel3Ideal) (hReference3Ideal := hReference3Ideal)
    ∧ preserves_Kernel2_Kernel2Ideal
    ∧ algebraic_Kernel2Ideal_Reference2Ideal (hKernel2Ideal := hKernel2Ideal) (hReference2Ideal := hReference2Ideal)
-- ==== Pre_finite_scores.lean ====
abbrev S4x4096x1024 : Shape := ⟨3, ![4, 4096, 1024]⟩
abbrev S2x8x6144 : Shape := ⟨3, ![2, 8, 6144]⟩
abbrev S4x4096x512 : Shape := ⟨3, ![4, 4096, 512]⟩
abbrev S4x256x512 : Shape := ⟨3, ![4, 256, 512]⟩
abbrev S2x8x15x31 : Shape := ⟨4, ![2, 8, 15, 31]⟩
abbrev S2x8x128x128 : Shape := ⟨4, ![2, 8, 128, 128]⟩
abbrev S2x8x128 : Shape := ⟨3, ![2, 8, 128]⟩
abbrev S2x512x1024 : Shape := ⟨3, ![2, 512, 1024]⟩
abbrev S2x1024x1024 : Shape := ⟨3, ![2, 1024, 1024]⟩
abbrev S2x1024 : Shape := ⟨2, ![2, 1024]⟩
abbrev S_ : Shape := ⟨0, ![]⟩

class Facts : Prop where
  bitsLt_bf16_f32 : FTy.bits .bf16 < FTy.bits .f32
  bcast_S_S4x4096x512 : S_.BroadcastsInDim S4x4096x512 (![] : Fin 0 → Fin S4x4096x512.rank)
  bcast_S_S4x256x512 : S_.BroadcastsInDim S4x256x512 (![] : Fin 0 → Fin S4x256x512.rank)
  bcast_S_S2x8x15x31 : S_.BroadcastsInDim S2x8x15x31 (![] : Fin 0 → Fin S2x8x15x31.rank)

variable [Facts]

def fn {F : FTy → Type} [FloatOps F] (main_arg0 : FVec F S4x4096x1024 .f32) (main_arg1 : FVec F S2x8x6144 .f32) (main_arg2 : FVec F S4x4096x512 .bf16) (main_arg3 : FVec F S4x4096x512 .bf16) (main_arg4 : FVec F S4x4096x512 .bf16) (main_arg5 : FVec F S4x4096x512 .bf16) (main_arg6 : FVec F S4x256x512 .bf16) (main_arg7 : FVec F S4x256x512 .bf16) (main_arg8 : FVec F S2x8x15x31 .f32) (main_arg9 : FVec F S4x4096x512 .bf16) (main_arg10 : FVec F S4x4096x512 .bf16) (main_arg11 : FVec F S4x4096x1024 .bf16) (main_arg12 : FVec F S4x4096x1024 .bf16) (main_arg13 : FVec F S2x8x128x128 .f32) (main_arg14 : FVec F S2x8x128 .f32) (main_arg15 : FVec F S2x512x1024 .f32) (main_arg16 : FVec F S2x512x1024 .f32) (main_arg17 : FVec F S2x1024x1024 .f32) (main_arg18 : FVec F S2x1024 .f32) (main_arg19 : FVec F S2x1024 .f32) : IVec S4x4096x512 1 × IVec S4x4096x512 1 × IVec S4x4096x512 1 × IVec S4x256x512 1 × IVec S2x8x15x31 1 :=
  let main_v0 : FVec F S4x4096x512 .f32 := (extf .f32 · bitsLt_bf16_f32) main_arg2
  let main_v1 : FVec F S4x4096x512 .f32 := Host.absf main_v0
  let main_cst : FVec F S_ .f32 := constant S_ .f32 0x7F800000#32
  let main_v2 : FVec F S4x4096x512 .f32 := broadcastInDim S4x4096x512 ![] bcast_S_S4x4096x512 main_cst
  let main_v3 : IVec S4x4096x512 1 := cmpf .olt main_v1 main_v2
  let main_v4 : FVec F S4x4096x512 .f32 := (extf .f32 · bitsLt_bf16_f32) main_arg3
  let main_v5 : FVec F S4x4096x512 .f32 := Host.absf main_v4
  let main_cst_0 : FVec F S_ .f32 := constant S_ .f32 0x7F800000#32
  let main_v6 : FVec F S4x4096x512 .f32 := broadcastInDim S4x4096x512 ![] bcast_S_S4x4096x512 main_cst_0
  let main_v7 : IVec S4x4096x512 1 := cmpf .olt main_v5 main_v6
  let main_v8 : FVec F S4x4096x512 .f32 := (extf .f32 · bitsLt_bf16_f32) main_arg4
  let main_v9 : FVec F S4x4096x512 .f32 := Host.absf main_v8
  let main_cst_1 : FVec F S_ .f32 := constant S_ .f32 0x7F800000#32
  let main_v10 : FVec F S4x4096x512 .f32 := broadcastInDim S4x4096x512 ![] bcast_S_S4x4096x512 main_cst_1
  let main_v11 : IVec S4x4096x512 1 := cmpf .olt main_v9 main_v10
  let main_v12 : FVec F S4x256x512 .f32 := (extf .f32 · bitsLt_bf16_f32) main_arg6
  let main_v13 : FVec F S4x256x512 .f32 := Host.absf main_v12
  let main_cst_2 : FVec F S_ .f32 := constant S_ .f32 0x7F800000#32
  let main_v14 : FVec F S4x256x512 .f32 := broadcastInDim S4x256x512 ![] bcast_S_S4x256x512 main_cst_2
  let main_v15 : IVec S4x256x512 1 := cmpf .olt main_v13 main_v14
  let main_v16 : FVec F S2x8x15x31 .f32 := Host.absf main_arg8
  let main_cst_3 : FVec F S_ .f32 := constant S_ .f32 0x7F800000#32
  let main_v17 : FVec F S2x8x15x31 .f32 := broadcastInDim S2x8x15x31 ![] bcast_S_S2x8x15x31 main_cst_3
  let main_v18 : IVec S2x8x15x31 1 := cmpf .olt main_v16 main_v17
  (main_v3, main_v7, main_v11, main_v15, main_v18)
-- ==== Kernel.lean ====
abbrev S4x4096x1024 : Shape := ⟨3, ![4, 4096, 1024]⟩
abbrev S2x8x6144 : Shape := ⟨3, ![2, 8, 6144]⟩
abbrev S4x4096x512 : Shape := ⟨3, ![4, 4096, 512]⟩
abbrev S4x256x512 : Shape := ⟨3, ![4, 256, 512]⟩
abbrev S2x8x15x31 : Shape := ⟨4, ![2, 8, 15, 31]⟩
abbrev S2x8x128x128 : Shape := ⟨4, ![2, 8, 128, 128]⟩
abbrev S2x8x128 : Shape := ⟨3, ![2, 8, 128]⟩
abbrev S2x512x1024 : Shape := ⟨3, ![2, 512, 1024]⟩
abbrev S2x1024x1024 : Shape := ⟨3, ![2, 1024, 1024]⟩
abbrev S2x1024 : Shape := ⟨2, ![2, 1024]⟩
abbrev S2x8x6x1024 : Shape := ⟨4, ![2, 8, 6, 1024]⟩
abbrev S2x8x14x31 : Shape := ⟨4, ![2, 8, 14, 31]⟩
abbrev S_ : Shape := ⟨0, ![]⟩
abbrev S2x8x16x32 : Shape := ⟨4, ![2, 8, 16, 32]⟩
abbrev S2x8x16x96 : Shape := ⟨4, ![2, 8, 16, 96]⟩
abbrev S2x8x16x128 : Shape := ⟨4, ![2, 8, 16, 128]⟩
abbrev S2x6x8x256x256 : Shape := ⟨5, ![2, 6, 8, 256, 256]⟩
abbrev S1x1x16x128 : Shape := ⟨4, ![1, 1, 16, 128]⟩
abbrev S1x6x1x256x256 : Shape := ⟨5, ![1, 6, 1, 256, 256]⟩
abbrev S14x64x128 : Shape := ⟨3, ![14, 64, 128]⟩
abbrev S64x128 : Shape := ⟨2, ![64, 128]⟩
abbrev S1x1x1x128 : Shape := ⟨4, ![1, 1, 1, 128]⟩
abbrev S1x128 : Shape := ⟨2, ![1, 128]⟩
abbrev S64x128x1 : Shape := ⟨3, ![64, 128, 1]⟩
abbrev S1x64x128 : Shape := ⟨3, ![1, 64, 128]⟩
abbrev S1x1x1x64x128 : Shape := ⟨5, ![1, 1, 1, 64, 128]⟩
abbrev S2x4x2x128 : Shape := ⟨4, ![2, 4, 2, 128]⟩
abbrev S2x4x128x2 : Shape := ⟨4, ![2, 4, 128, 2]⟩
abbrev S2x4x128x2x64 : Shape := ⟨5, ![2, 4, 128, 2, 64]⟩
abbrev S2x4x128x128 : Shape := ⟨4, ![2, 4, 128, 128]⟩
abbrev S2x4x256x128 : Shape := ⟨4, ![2, 4, 256, 128]⟩
abbrev S2x1x1024 : Shape := ⟨3, ![2, 1, 1024]⟩
abbrev S16384x1024 : Shape := ⟨2, ![16384, 1024]⟩
abbrev S16384x512 : Shape := ⟨2, ![16384, 512]⟩
abbrev S1024x512 : Shape := ⟨2, ![1024, 512]⟩
abbrev S512x1024 : Shape := ⟨2, ![512, 1024]⟩
abbrev S1x1x6x1024 : Shape := ⟨4, ![1, 1, 6, 1024]⟩
abbrev S512x512 : Shape := ⟨2, ![512, 512]⟩
abbrev S256x512 : Shape := ⟨2, ![256, 512]⟩
abbrev S1x6x8x256x256 : Shape := ⟨5, ![1, 6, 8, 256, 256]⟩
abbrev S1x4x256x128 : Shape := ⟨4, ![1, 4, 256, 128]⟩
abbrev S1x4x128x128 : Shape := ⟨4, ![1, 4, 128, 128]⟩
abbrev S1x512x1024 : Shape := ⟨3, ![1, 512, 1024]⟩
abbrev S1x1024x1024 : Shape := ⟨3, ![1, 1024, 1024]⟩
abbrev S1x1x1024 : Shape := ⟨3, ![1, 1, 1024]⟩
abbrev S256x128 : Shape := ⟨2, ![256, 128]⟩
abbrev S512x128 : Shape := ⟨2, ![512, 128]⟩
abbrev S512x256 : Shape := ⟨2, ![512, 256]⟩
abbrev S1x1x2x256x256 : Shape := ⟨5, ![1, 1, 2, 256, 256]⟩
abbrev S2x256x256 : Shape := ⟨3, ![2, 256, 256]⟩
abbrev S512 : Shape := ⟨1, ![512]⟩
abbrev S512x1 : Shape := ⟨2, ![512, 1]⟩
abbrev S128x128 : Shape := ⟨2, ![128, 128]⟩
abbrev S128x256 : Shape := ⟨2, ![128, 256]⟩
abbrev S1x1x256x128 : Shape := ⟨4, ![1, 1, 256, 128]⟩
abbrev S256x256 : Shape := ⟨2, ![256, 256]⟩
abbrev S1x1x128x128 : Shape := ⟨4, ![1, 1, 128, 128]⟩
abbrev S256x1024 : Shape := ⟨2, ![256, 1024]⟩
abbrev S1024x1024 : Shape := ⟨2, ![1024, 1024]⟩
abbrev S1x1x1x1024 : Shape := ⟨4, ![1, 1, 1, 1024]⟩
abbrev S1x1024 : Shape := ⟨2, ![1, 1024]⟩
abbrev S256 : Shape := ⟨1, ![256]⟩
abbrev S256x1 : Shape := ⟨2, ![256, 1]⟩

abbrev nBuf : Space → Nat
  | .hbm => 54
  | .vmem => 53
  | .smem => 0
  | _ => 0

abbrev bufTy : (tb : Table) → Fin (tcTables nBuf tb) → BufTy
  | .hbm, ⟨0, _⟩ => ⟨S4x4096x1024, .f32⟩
  | .hbm, ⟨1, _⟩ => ⟨S2x8x6144, .f32⟩
  | .hbm, ⟨2, _⟩ => ⟨S4x4096x512, .bf16⟩
  | .hbm, ⟨3, _⟩ => ⟨S4x4096x512, .bf16⟩
  | .hbm, ⟨4, _⟩ => ⟨S4x4096x512, .bf16⟩
  | .hbm, ⟨5, _⟩ => ⟨S4x4096x512, .bf16⟩
  | .hbm, ⟨6, _⟩ => ⟨S4x256x512, .bf16⟩
  | .hbm, ⟨7, _⟩ => ⟨S4x256x512, .bf16⟩
  | .hbm, ⟨8, _⟩ => ⟨S2x8x15x31, .f32⟩
  | .hbm, ⟨9, _⟩ => ⟨S4x4096x512, .bf16⟩
  | .hbm, ⟨10, _⟩ => ⟨S4x4096x512, .bf16⟩
  | .hbm, ⟨11, _⟩ => ⟨S4x4096x1024, .bf16⟩
  | .hbm, ⟨12, _⟩ => ⟨S4x4096x1024, .bf16⟩
  | .hbm, ⟨13, _⟩ => ⟨S2x8x128x128, .f32⟩
  | .hbm, ⟨14, _⟩ => ⟨S2x8x128, .f32⟩
  | .hbm, ⟨15, _⟩ => ⟨S2x512x1024, .f32⟩
  | .hbm, ⟨16, _⟩ => ⟨S2x512x1024, .f32⟩
  | .hbm, ⟨17, _⟩ => ⟨S2x1024x1024, .f32⟩
  | .hbm, ⟨18, _⟩ => ⟨S2x1024, .f32⟩
  | .hbm, ⟨19, _⟩ => ⟨S2x1024, .f32⟩
  | .hbm, ⟨20, _⟩ => ⟨S2x8x6x1024, .f32⟩
  | .hbm, ⟨21, _⟩ => ⟨S2x8x14x31, .f32⟩
  | .hbm, ⟨22, _⟩ => ⟨S_, .i32⟩
  | .hbm, ⟨23, _⟩ => ⟨S_, .f32⟩
  | .hbm, ⟨24, _⟩ => ⟨S2x8x16x32, .f32⟩
  | .hbm, ⟨25, _⟩ => ⟨S2x8x14x31, .f32⟩
  | .hbm, ⟨26, _⟩ => ⟨S_, .i32⟩
  | .hbm, ⟨27, _⟩ => ⟨S_, .f32⟩
  | .hbm, ⟨28, _⟩ => ⟨S2x8x16x96, .f32⟩
  | .hbm, ⟨29, _⟩ => ⟨S2x8x16x128, .f32⟩
  | .hbm, ⟨30, _⟩ => ⟨S2x6x8x256x256, .f32⟩
  | .hbm, ⟨31, _⟩ => ⟨S2x4x2x128, .f32⟩
  | .hbm, ⟨32, _⟩ => ⟨S2x4x128x2, .f32⟩
  | .hbm, ⟨33, _⟩ => ⟨S2x4x128x2x64, .f32⟩
  | .hbm, ⟨34, _⟩ => ⟨S2x4x128x128, .f32⟩
  | .hbm, ⟨35, _⟩ => ⟨S2x8x128x128, .bf16⟩
  | .hbm, ⟨36, _⟩ => ⟨S2x4x256x128, .bf16⟩
  | .hbm, ⟨37, _⟩ => ⟨S2x512x1024, .bf16⟩
  | .hbm, ⟨38, _⟩ => ⟨S2x512x1024, .bf16⟩
  | .hbm, ⟨39, _⟩ => ⟨S2x1024x1024, .bf16⟩
  | .hbm, ⟨40, _⟩ => ⟨S2x1x1024, .f32⟩
  | .hbm, ⟨41, _⟩ => ⟨S2x1x1024, .f32⟩
  | .hbm, ⟨42, _⟩ => ⟨S16384x1024, .f32⟩
  | .hbm, ⟨43, _⟩ => ⟨S16384x512, .bf16⟩
  | .hbm, ⟨44, _⟩ => ⟨S16384x512, .bf16⟩
  | .hbm, ⟨45, _⟩ => ⟨S16384x512, .bf16⟩
  | .hbm, ⟨46, _⟩ => ⟨S16384x512, .bf16⟩
  | .hbm, ⟨47, _⟩ => ⟨S16384x512, .bf16⟩
  | .hbm, ⟨48, _⟩ => ⟨S16384x512, .bf16⟩
  | .hbm, ⟨49, _⟩ => ⟨S16384x1024, .bf16⟩
  | .hbm, ⟨50, _⟩ => ⟨S16384x1024, .bf16⟩
  | .hbm, ⟨51, _⟩ => ⟨S1024x512, .bf16⟩
  | .hbm, ⟨52, _⟩ => ⟨S1024x512, .bf16⟩
  | .hbm, ⟨53, _⟩ => ⟨S16384x1024, .f32⟩
  | .local _ .vmem, ⟨0, _⟩ => ⟨S1x1x16x128, .f32⟩
  | .local _ .vmem, ⟨1, _⟩ => ⟨S1x1x16x128, .f32⟩
  | .local _ .vmem, ⟨2, _⟩ => ⟨S1x6x1x256x256, .f32⟩
  | .local _ .vmem, ⟨3, _⟩ => ⟨S1x6x1x256x256, .f32⟩
  | .local _ .vmem, ⟨4, _⟩ => ⟨S14x64x128, .f32⟩
  | .local _ .vmem, ⟨5, _⟩ => ⟨S512x1024, .f32⟩
  | .local _ .vmem, ⟨6, _⟩ => ⟨S512x1024, .f32⟩
  | .local _ .vmem, ⟨7, _⟩ => ⟨S1x1x6x1024, .f32⟩
  | .local _ .vmem, ⟨8, _⟩ => ⟨S1x1x6x1024, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S1x6x8x256x256, .f32⟩
  | .local _ .vmem, ⟨34, _⟩ => ⟨S512x512, .bf16⟩
  | .local _ .vmem, ⟨35, _⟩ => ⟨S512x512, .bf16⟩
  | .local _ .vmem, ⟨36, _⟩ => ⟨S512x512, .bf16⟩
  | .local _ .vmem, ⟨37, _⟩ => ⟨S512x512, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | .local _ .vmem, ⟨42, _⟩ => ⟨S1x4x256x128, .bf16⟩
  | .local _ .vmem, ⟨43, _⟩ => ⟨S1x4x128x128, .f32⟩
  | .local _ .vmem, ⟨44, _⟩ => ⟨S1x512x1024, .bf16⟩
  | .local _ .vmem, ⟨45, _⟩ => ⟨S1x512x1024, .bf16⟩
  | .local _ .vmem, ⟨46, _⟩ => ⟨S1x1024x1024, .bf16⟩
  | .local _ .vmem, ⟨47, _⟩ => ⟨S1x1x1024, .f32⟩
  | .local _ .vmem, ⟨48, _⟩ => ⟨S1x1x1024, .f32⟩
  | .local _ .vmem, ⟨49, _⟩ => ⟨S512x1024, .f32⟩
  | .local _ .vmem, ⟨50, _⟩ => ⟨S512x1024, .f32⟩
  | .local _ .vmem, ⟨51, _⟩ => ⟨S512x512, .bf16⟩
  | .local _ .vmem, ⟨52, _⟩ => ⟨S512x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_c : Ref sig .tc := ⟨.hbm, 22, rfl⟩
abbrev main_call0_v0 : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_call1_v0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg11_1 : Ref sig .tc := ⟨.vmem, 28, rfl⟩
abbrev cc1_stg12_0 : Ref sig .tc := ⟨.vmem, 29, rfl⟩
abbrev cc1_stg12_1 : Ref sig .tc := ⟨.vmem, 30, rfl⟩
abbrev cc1_stg13_0 : Ref sig .tc := ⟨.vmem, 31, rfl⟩
abbrev cc1_stg13_1 : Ref sig .tc := ⟨.vmem, 32, rfl⟩
abbrev cc1_stg14_0 : Ref sig .tc := ⟨.vmem, 33, rfl⟩
abbrev cc1_stg15_0 : Ref sig .tc := ⟨.vmem, 34, rfl⟩
abbrev cc1_stg15_1 : Ref sig .tc := ⟨.vmem, 35, rfl⟩
abbrev cc1_stg16_0 : Ref sig .tc := ⟨.vmem, 36, rfl⟩
abbrev cc1_stg16_1 : Ref sig .tc := ⟨.vmem, 37, rfl⟩
abbrev cc1_stg17_0 : Ref sig .tc := ⟨.vmem, 38, rfl⟩
abbrev cc1_stg17_1 : Ref sig .tc := ⟨.vmem, 39, rfl⟩
abbrev cc1_stg18_0 : Ref sig .tc := ⟨.vmem, 40, rfl⟩
abbrev cc1_stg18_1 : Ref sig .tc := ⟨.vmem, 41, rfl⟩
abbrev cc1_stg19_0 : Ref sig .tc := ⟨.vmem, 42, rfl⟩
abbrev cc1_stg20_0 : Ref sig .tc := ⟨.vmem, 43, rfl⟩
abbrev cc1_stg21_0 : Ref sig .tc := ⟨.vmem, 44, rfl⟩
abbrev cc1_stg22_0 : Ref sig .tc := ⟨.vmem, 45, rfl⟩
abbrev cc1_stg23_0 : Ref sig .tc := ⟨.vmem, 46, rfl⟩
abbrev cc1_stg24_0 : Ref sig .tc := ⟨.vmem, 47, rfl⟩
abbrev cc1_stg25_0 : Ref sig .tc := ⟨.vmem, 48, rfl⟩
abbrev cc1_stg26_0 : Ref sig .tc := ⟨.vmem, 49, rfl⟩
abbrev cc1_stg26_1 : Ref sig .tc := ⟨.vmem, 50, rfl⟩
abbrev cc1_scratch0 : Ref sig .tc := ⟨.vmem, 51, rfl⟩
abbrev cc1_scratch1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25
abbrev cc1_sem11_0 : DmaSem sig := 26
abbrev cc1_sem11_1 : DmaSem sig := 27
abbrev cc1_sem12_0 : DmaSem sig := 28
abbrev cc1_sem12_1 : DmaSem sig := 29
abbrev cc1_sem13_0 : DmaSem sig := 30
abbrev cc1_sem13_1 : DmaSem sig := 31
abbrev cc1_sem14_0 : DmaSem sig := 32
abbrev cc1_sem15_0 : DmaSem sig := 33
abbrev cc1_sem15_1 : DmaSem sig := 34
abbrev cc1_sem16_0 : DmaSem sig := 35
abbrev cc1_sem16_1 : DmaSem sig := 36
abbrev cc1_sem17_0 : DmaSem sig := 37
abbrev cc1_sem17_1 : DmaSem sig := 38
abbrev cc1_sem18_0 : DmaSem sig := 39
abbrev cc1_sem18_1 : DmaSem sig := 40
abbrev cc1_sem19_0 : DmaSem sig := 41
abbrev cc1_sem20_0 : DmaSem sig := 42
abbrev cc1_sem21_0 : DmaSem sig := 43
abbrev cc1_sem22_0 : DmaSem sig := 44
abbrev cc1_sem23_0 : DmaSem sig := 45
abbrev cc1_sem24_0 : DmaSem sig := 46
abbrev cc1_sem25_0 : DmaSem sig := 47
abbrev cc1_sem26_0 : DmaSem sig := 48
abbrev cc1_sem26_1 : DmaSem sig := 49

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![4, 8], ![false, false]⟩

def k1_off1 (i : grid1.Coords) (c0_i32 : BitVec 32) (c5_i32 : BitVec 32) (c0_i32_0 : BitVec 32) : Fin 5 → Nat :=
  let c0_13 : Index := 0#32
  let arg1 : BitVec 32 := BitVec.ofNat 32 (i 1).val
  let v3 : BitVec 1 := Scalar.cmpi .eq arg1 c0_i32
  let v5 : BitVec 32 := Scalar.select v3 c5_i32 c0_i32_0
  let v31 : Index := Scalar.indexCast v5
  let c0_14 : Index := 0#32
  let c0_15 : Index := 0#32
  let c0_16 : Index := 0#32
  ![0, v31.toNat, 0, 0, 0]
def k1_off1_at (r : Fin 4) : BitVec 32 × BitVec 32 × BitVec 32 :=
  if r.val < 2 then
    if r.val < 1 then
      (0#32, 5#32, 0#32)
    else
      (0#32, 4#32, 3#32)
  else
    if r.val < 3 then
      (7#32, 1#32, 0#32)
    else
      (7#32, 5#32, 3#32)
def k1_off2 (i : grid1.Coords) (c0_i32 : BitVec 32) (c5_i32 : BitVec 32) (c0_i32_0 : BitVec 32) : Fin 5 → Nat :=
  let c0_66 : Index := 0#32
  let arg1 : BitVec 32 := BitVec.ofNat 32 (i 1).val
  let v3 : BitVec 1 := Scalar.cmpi .eq arg1 c0_i32
  let v5 : BitVec 32 := Scalar.select v3 c5_i32 c0_i32_0
  let v137 : Index := Scalar.indexCast v5
  let c2_67 : Index := 2#32
  let c0_68 : Index := 0#32
  let c0_69 : Index := 0#32
  ![0, v137.toNat, 2, 0, 0]
def k1_off2_at (r : Fin 4) : BitVec 32 × BitVec 32 × BitVec 32 :=
  if r.val < 2 then
    if r.val < 1 then
      (0#32, 5#32, 0#32)
    else
      (0#32, 4#32, 3#32)
  else
    if r.val < 3 then
      (7#32, 1#32, 0#32)
    else
      (7#32, 5#32, 3#32)
def k1_off3 (i : grid1.Coords) (c0_i32 : BitVec 32) (c5_i32 : BitVec 32) (c0_i32_0 : BitVec 32) : Fin 5 → Nat :=
  let c0_120 : Index := 0#32
  let arg1 : BitVec 32 := BitVec.ofNat 32 (i 1).val
  let v3 : BitVec 1 := Scalar.cmpi .eq arg1 c0_i32
  let v5 : BitVec 32 := Scalar.select v3 c5_i32 c0_i32_0
  let v243 : Index := Scalar.indexCast v5
  let c4 : Index := 4#32
  let c0_121 : Index := 0#32
  let c0_122 : Index := 0#32
  ![0, v243.toNat, 4, 0, 0]
def k1_off3_at (r : Fin 4) : BitVec 32 × BitVec 32 × BitVec 32 :=
  if r.val < 2 then
    if r.val < 1 then
      (0#32, 5#32, 0#32)
    else
      (0#32, 4#32, 3#32)
  else
    if r.val < 3 then
      (7#32, 1#32, 0#32)
    else
      (7#32, 5#32, 3#32)
def k1_off4 (i : grid1.Coords) (c0_i32 : BitVec 32) (c5_i32 : BitVec 32) (c0_i32_0 : BitVec 32) : Fin 5 → Nat :=
  let c0_173 : Index := 0#32
  let arg1 : BitVec 32 := BitVec.ofNat 32 (i 1).val
  let v3 : BitVec 1 := Scalar.cmpi .eq arg1 c0_i32
  let v5 : BitVec 32 := Scalar.select v3 c5_i32 c0_i32_0
  let v349 : Index := Scalar.indexCast v5
  let c6 : Index := 6#32
  let c0_174 : Index := 0#32
  let c0_175 : Index := 0#32
  ![0, v349.toNat, 6, 0, 0]
def k1_off4_at (r : Fin 4) : BitVec 32 × BitVec 32 × BitVec 32 :=
  if r.val < 2 then
    if r.val < 1 then
      (0#32, 5#32, 0#32)
    else
      (0#32, 4#32, 3#32)
  else
    if r.val < 3 then
      (7#32, 1#32, 0#32)
    else
      (7#32, 5#32, 3#32)
def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c1_i32 : BitVec 32 := 1#32
  let v2 : BitVec 32 := Scalar.subi v1 c1_i32
  let c0_i32 : BitVec 32 := 0#32
  let v3 : BitVec 32 := Scalar.addi v2 c0_i32
  let c0_i32_0 : BitVec 32 := 0#32
  let c15_i32 : BitVec 32 := 15#32
  let v4 : BitVec 32 := Scalar.maxsi c0_i32_0 v3
  let v5 : BitVec 32 := Scalar.minsi c15_i32 v4
  let v6 : BitVec 32 := Scalar.addi v0 v5
  let c0_i32_1 : BitVec 32 := 0#32
  let c0_i32_2 : BitVec 32 := 0#32
  ![v6.toNat, c0_i32_1.toNat]

def cc1_transform_5 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c1_i32 : BitVec 32 := 1#32
  let v2 : BitVec 32 := Scalar.subi v1 c1_i32
  let c1_i32_0 : BitVec 32 := 1#32
  let v3 : BitVec 32 := Scalar.addi v2 c1_i32_0
  let c0_i32 : BitVec 32 := 0#32
  let c15_i32 : BitVec 32 := 15#32
  let v4 : BitVec 32 := Scalar.maxsi c0_i32 v3
  let v5 : BitVec 32 := Scalar.minsi c15_i32 v4
  let v6 : BitVec 32 := Scalar.addi v0 v5
  let c0_i32_1 : BitVec 32 := 0#32
  let c0_i32_2 : BitVec 32 := 0#32
  ![v6.toNat, c0_i32_1.toNat]

def cc1_transform_6 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c1_i32 : BitVec 32 := 1#32
  let v2 : BitVec 32 := Scalar.subi v1 c1_i32
  let c2_i32_0 : BitVec 32 := 2#32
  let v3 : BitVec 32 := Scalar.addi v2 c2_i32_0
  let c0_i32 : BitVec 32 := 0#32
  let c15_i32 : BitVec 32 := 15#32
  let v4 : BitVec 32 := Scalar.maxsi c0_i32 v3
  let v5 : BitVec 32 := Scalar.minsi c15_i32 v4
  let v6 : BitVec 32 := Scalar.addi v0 v5
  let c0_i32_1 : BitVec 32 := 0#32
  let c0_i32_2 : BitVec 32 := 0#32
  ![v6.toNat, c0_i32_1.toNat]

def cc1_transform_7 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c1_i32 : BitVec 32 := 1#32
  let v2 : BitVec 32 := Scalar.subi v1 c1_i32
  let c3_i32 : BitVec 32 := 3#32
  let v3 : BitVec 32 := Scalar.addi v2 c3_i32
  let c0_i32 : BitVec 32 := 0#32
  let c15_i32 : BitVec 32 := 15#32
  let v4 : BitVec 32 := Scalar.maxsi c0_i32 v3
  let v5 : BitVec 32 := Scalar.minsi c15_i32 v4
  let v6 : BitVec 32 := Scalar.addi v0 v5
  let c0_i32_0 : BitVec 32 := 0#32
  let c0_i32_1 : BitVec 32 := 0#32
  ![v6.toNat, c0_i32_0.toNat]

def cc1_transform_8 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c1_i32 : BitVec 32 := 1#32
  let v2 : BitVec 32 := Scalar.subi v1 c1_i32
  let c0_i32 : BitVec 32 := 0#32
  let v3 : BitVec 32 := Scalar.addi v2 c0_i32
  let c0_i32_0 : BitVec 32 := 0#32
  let c15_i32 : BitVec 32 := 15#32
  let v4 : BitVec 32 := Scalar.maxsi c0_i32_0 v3
  let v5 : BitVec 32 := Scalar.minsi c15_i32 v4
  let v6 : BitVec 32 := Scalar.addi v0 v5
  let c0_i32_1 : BitVec 32 := 0#32
  let c0_i32_2 : BitVec 32 := 0#32
  ![v6.toNat, c0_i32_1.toNat]

def cc1_transform_9 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c1_i32 : BitVec 32 := 1#32
  let v2 : BitVec 32 := Scalar.subi v1 c1_i32
  let c1_i32_0 : BitVec 32 := 1#32
  let v3 : BitVec 32 := Scalar.addi v2 c1_i32_0
  let c0_i32 : BitVec 32 := 0#32
  let c15_i32 : BitVec 32 := 15#32
  let v4 : BitVec 32 := Scalar.maxsi c0_i32 v3
  let v5 : BitVec 32 := Scalar.minsi c15_i32 v4
  let v6 : BitVec 32 := Scalar.addi v0 v5
  let c0_i32_1 : BitVec 32 := 0#32
  let c0_i32_2 : BitVec 32 := 0#32
  ![v6.toNat, c0_i32_1.toNat]

def cc1_transform_10 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c1_i32 : BitVec 32 := 1#32
  let v2 : BitVec 32 := Scalar.subi v1 c1_i32
  let c2_i32_0 : BitVec 32 := 2#32
  let v3 : BitVec 32 := Scalar.addi v2 c2_i32_0
  let c0_i32 : BitVec 32 := 0#32
  let c15_i32 : BitVec 32 := 15#32
  let v4 : BitVec 32 := Scalar.maxsi c0_i32 v3
  let v5 : BitVec 32 := Scalar.minsi c15_i32 v4
  let v6 : BitVec 32 := Scalar.addi v0 v5
  let c0_i32_1 : BitVec 32 := 0#32
  let c0_i32_2 : BitVec 32 := 0#32
  ![v6.toNat, c0_i32_1.toNat]

def cc1_transform_11 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c1_i32 : BitVec 32 := 1#32
  let v2 : BitVec 32 := Scalar.subi v1 c1_i32
  let c3_i32 : BitVec 32 := 3#32
  let v3 : BitVec 32 := Scalar.addi v2 c3_i32
  let c0_i32 : BitVec 32 := 0#32
  let c15_i32 : BitVec 32 := 15#32
  let v4 : BitVec 32 := Scalar.maxsi c0_i32 v3
  let v5 : BitVec 32 := Scalar.minsi c15_i32 v4
  let v6 : BitVec 32 := Scalar.addi v0 v5
  let c0_i32_0 : BitVec 32 := 0#32
  let c0_i32_1 : BitVec 32 := 0#32
  ![v6.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_14 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc1_transform_15 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_16 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_17 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_18 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_19 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_20 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_21 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_22 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_23 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_24 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_25 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_26 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x6x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S256x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S256x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S256x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S256x512 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S256x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev stage1_13 : Fin 2 → Memref sig .tc .vmem S256x512 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]

abbrev stage1_14 : Fin 1 → Memref sig .tc .vmem S1x6x8x256x256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 2 → Memref sig .tc .vmem S512x512 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S512x512 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

abbrev stage1_17 : Fin 2 → Memref sig .tc .vmem S512x1024 .bf16 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, true]

abbrev stage1_18 : Fin 2 → Memref sig .tc .vmem S512x1024 .bf16 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true, true]

abbrev stage1_19 : Fin 1 → Memref sig .tc .vmem S1x4x256x128 .bf16 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false, false]

abbrev stage1_20 : Fin 1 → Memref sig .tc .vmem S1x4x128x128 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false, false]

abbrev stage1_21 : Fin 1 → Memref sig .tc .vmem S1x512x1024 .bf16 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false, false]

abbrev stage1_22 : Fin 1 → Memref sig .tc .vmem S1x512x1024 .bf16 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false, false]

abbrev stage1_23 : Fin 1 → Memref sig .tc .vmem S1x1024x1024 .bf16 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false, false]

abbrev stage1_24 : Fin 1 → Memref sig .tc .vmem S1x1x1024 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false, false]

abbrev stage1_25 : Fin 1 → Memref sig .tc .vmem S1x1x1024 .f32 := fun | 0 => Memref.whole cc1_stg25_0 | ⟨_ + 1, h⟩ => absurd h (Nat.not_lt.2 (Nat.le_add_left _ _))
abbrev sem1_25 : Fin 1 → DmaSem sig := fun | 0 => cc1_sem25_0 | ⟨_ + 1, h⟩ => absurd h (Nat.not_lt.2 (Nat.le_add_left _ _))
abbrev reads1_25 : Fin grid1.rank → Bool := ![false, false]

abbrev stage1_26 : Fin 2 → Memref sig .tc .vmem S512x1024 .f32 := fun | 0 => Memref.whole cc1_stg26_0 | 1 => Memref.whole cc1_stg26_1 | ⟨_ + 2, h⟩ => absurd h (Nat.not_lt.2 (Nat.le_add_left _ _))
abbrev sem1_26 : Fin 2 → DmaSem sig := fun | 0 => cc1_sem26_0 | 1 => cc1_sem26_1 | ⟨_ + 2, h⟩ => absurd h (Nat.not_lt.2 (Nat.le_add_left _ _))
abbrev reads1_26 : Fin grid1.rank → Bool := ![true, true]
-- ==== Kernel2.lean ====
abbrev S4x4096x1024 : Shape := ⟨3, ![4, 4096, 1024]⟩
abbrev S2x8x6144 : Shape := ⟨3, ![2, 8, 6144]⟩
abbrev S2x1024x4608 : Shape := ⟨3, ![2, 1024, 4608]⟩
abbrev S2x512 : Shape := ⟨2, ![2, 512]⟩
abbrev S2x8x6x1024 : Shape := ⟨4, ![2, 8, 6, 1024]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S16384x1024 : Shape := ⟨2, ![16384, 1024]⟩
abbrev S2x1x512 : Shape := ⟨3, ![2, 1, 512]⟩
abbrev S16384x512 : Shape := ⟨2, ![16384, 512]⟩
abbrev S1024x1024 : Shape := ⟨2, ![1024, 1024]⟩
abbrev S1x1x6x1024 : Shape := ⟨4, ![1, 1, 6, 1024]⟩
abbrev S1x1024x4608 : Shape := ⟨3, ![1, 1024, 4608]⟩
abbrev S1x1x512 : Shape := ⟨3, ![1, 1, 512]⟩
abbrev S1024x128 : Shape := ⟨2, ![1024, 128]⟩
abbrev S1024x512 : Shape := ⟨2, ![1024, 512]⟩
abbrev S1x1x1x1024 : Shape := ⟨4, ![1, 1, 1, 1024]⟩
abbrev S1x1024 : Shape := ⟨2, ![1, 1024]⟩
abbrev S1x1024x512 : Shape := ⟨3, ![1, 1024, 512]⟩
abbrev S1x512 : Shape := ⟨2, ![1, 512]⟩
abbrev S1024 : Shape := ⟨1, ![1024]⟩
abbrev S1024x1 : Shape := ⟨2, ![1024, 1]⟩
abbrev S1x1024x1024 : Shape := ⟨3, ![1, 1024, 1024]⟩

abbrev nBuf : Space → Nat
  | .hbm => 97
  | .vmem => 27
  | .smem => 0
  | _ => 0

abbrev bufTy : (tb : Table) → Fin (tcTables nBuf tb) → BufTy
  | .hbm, ⟨0, _⟩ => ⟨S4x4096x1024, .f32⟩
  | .hbm, ⟨1, _⟩ => ⟨S2x8x6144, .f32⟩
  | .hbm, ⟨2, _⟩ => ⟨S2x1024x4608, .f32⟩
  | .hbm, ⟨3, _⟩ => ⟨S2x512, .f32⟩
  | .hbm, ⟨4, _⟩ => ⟨S2x512, .f32⟩
  | .hbm, ⟨5, _⟩ => ⟨S2x8x6x1024, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S4096, .i32⟩
  | .hbm, ⟨15, _⟩ => ⟨S_, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096, .f32⟩
  | .hbm, ⟨34, _⟩ => ⟨S4096x1, .f32⟩
  | .hbm, ⟨35, _⟩ => ⟨S1x16, .f32⟩
  | .hbm, ⟨36, _⟩ => ⟨S4096x16, .f32⟩
  | .hbm, ⟨37, _⟩ => ⟨S4096x16, .f32⟩
  | .hbm, ⟨38, _⟩ => ⟨S4096x16, .f32⟩
  | .hbm, ⟨39, _⟩ => ⟨S4096x16, .f32⟩
  | .hbm, ⟨40, _⟩ => ⟨S4096x16, .f32⟩
  | .hbm, ⟨41, _⟩ => ⟨S4096x32, .f32⟩
  | .hbm, ⟨42, _⟩ => ⟨S4096x16, .f32⟩
  | .hbm, ⟨43, _⟩ => ⟨S4096x32, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S_, .i32⟩
  | .hbm, ⟨59, _⟩ => ⟨S_, .i1⟩
  | .hbm, ⟨60, _⟩ => ⟨S4096, .i1⟩
  | .hbm, ⟨61, _⟩ => ⟨S4096, .i1⟩
  | .hbm, ⟨62, _⟩ => ⟨S4096, .i1⟩
  | .hbm, ⟨63, _⟩ => ⟨S4096, .i32⟩
  | .hbm, ⟨64, _⟩ => ⟨S4096, .i32⟩
  | .hbm, ⟨65, _⟩ => ⟨S4096, .i32⟩
  | .hbm, ⟨66, _⟩ => ⟨S4096, .f32⟩
  | .hbm, ⟨67, _⟩ => ⟨S4096x1, .f32⟩
  | .hbm, ⟨68, _⟩ => ⟨S1x16, .f32⟩
  | .hbm, ⟨69, _⟩ => ⟨S4096x16, .f32⟩
  | .hbm, ⟨70, _⟩ => ⟨S4096x16, .f32⟩
  | .hbm, ⟨71, _⟩ => ⟨S4096x16, .f32⟩
  | .hbm, ⟨72, _⟩ => ⟨S4096x16, .f32⟩
  | .hbm, ⟨73, _⟩ => ⟨S4096x16, .f32⟩
  | .hbm, ⟨74, _⟩ => ⟨S4096x32, .f32⟩
  | .hbm, ⟨75, _⟩ => ⟨S4096x16, .f32⟩
  | .hbm, ⟨76, _⟩ => ⟨S4096x32, .f32⟩
  | .hbm, ⟨77, _⟩ => ⟨S4096x64, .f32⟩
  | .hbm, ⟨78, _⟩ => ⟨S4096x64, .f32⟩
  | .hbm, ⟨79, _⟩ => ⟨S1x4096x1x64, .f32⟩
  | .hbm, ⟨80, _⟩ => ⟨S1x4096x2x64, .f32⟩
  | .hbm, ⟨81, _⟩ => ⟨S4096x128, .f32⟩
  | .hbm, ⟨82, _⟩ => ⟨S1x4096x1x64, .f32⟩
  | .hbm, ⟨83, _⟩ => ⟨S1x4096x2x64, .f32⟩
  | .hbm, ⟨84, _⟩ => ⟨S4096x128, .f32⟩
  | .hbm, ⟨85, _⟩ => ⟨S16384x1024, .f32⟩
  | .hbm, ⟨86, _⟩ => ⟨S2x1024x4608, .bf16⟩
  | .hbm, ⟨87, _⟩ => ⟨S2x1x512, .f32⟩
  | .hbm, ⟨88, _⟩ => ⟨S2x1x512, .f32⟩
  | .hbm, ⟨89, _⟩ => ⟨S16384x512, .bf16⟩
  | .hbm, ⟨90, _⟩ => ⟨S16384x512, .bf16⟩
  | .hbm, ⟨91, _⟩ => ⟨S16384x512, .bf16⟩
  | .hbm, ⟨92, _⟩ => ⟨S16384x512, .bf16⟩
  | .hbm, ⟨93, _⟩ => ⟨S16384x512, .bf16⟩
  | .hbm, ⟨94, _⟩ => ⟨S16384x512, .bf16⟩
  | .hbm, ⟨95, _⟩ => ⟨S16384x1024, .bf16⟩
  | .hbm, ⟨96, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024x4608, .bf16⟩
  | .local _ .vmem, ⟨5, _⟩ => ⟨S1x1x512, .f32⟩
  | .local _ .vmem, ⟨6, _⟩ => ⟨S1x1x512, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_1 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44_0 : Ref sig .tc := ⟨.hbm, 89, rfl⟩
abbrev main_v44_1 : Ref sig .tc := ⟨.hbm, 90, rfl⟩
abbrev main_v44_2 : Ref sig .tc := ⟨.hbm, 91, rfl⟩
abbrev main_v44_3 : Ref sig .tc := ⟨.hbm, 92, rfl⟩
abbrev main_v44_4 : Ref sig .tc := ⟨.hbm, 93, rfl⟩
abbrev main_v44_5 : Ref sig .tc := ⟨.hbm, 94, rfl⟩
abbrev main_v44_6 : Ref sig .tc := ⟨.hbm, 95, rfl⟩
abbrev main_v44_7 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel3.lean ====
abbrev S4x4096x1024 : Shape := ⟨3, ![4, 4096, 1024]⟩
abbrev S2x8x6144 : Shape := ⟨3, ![2, 8, 6144]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x1024 : Shape := ⟨2, ![2, 1024]⟩
abbrev S2x8x6x1024 : Shape := ⟨4, ![2, 8, 6, 1024]⟩
abbrev S2x1x5632 : Shape := ⟨3, ![2, 1, 5632]⟩
abbrev S2x1x1024 : Shape := ⟨3, ![2, 1, 1024]⟩
abbrev S16384x1024 : Shape := ⟨2, ![16384, 1024]⟩
abbrev S512x1024 : Shape := ⟨2, ![512, 1024]⟩
abbrev S8x1024 : Shape := ⟨2, ![8, 1024]⟩
abbrev S1x1x6x1024 : Shape := ⟨4, ![1, 1, 6, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S1x1x1024 : Shape := ⟨3, ![1, 1, 1024]⟩
abbrev S528x1024 : Shape := ⟨2, ![528, 1024]⟩
abbrev S512x2816 : Shape := ⟨2, ![512, 2816]⟩
abbrev S2x528x128 : Shape := ⟨3, ![2, 528, 128]⟩
abbrev S1x1x1x1024 : Shape := ⟨4, ![1, 1, 1, 1024]⟩
abbrev S1x1024 : Shape := ⟨2, ![1, 1024]⟩
abbrev S16x1024 : Shape := ⟨2, ![16, 1024]⟩
abbrev S1x1024x256 : Shape := ⟨3, ![1, 1024, 256]⟩
abbrev S1024x256 : Shape := ⟨2, ![1024, 256]⟩
abbrev S528x256 : Shape := ⟨2, ![528, 256]⟩
abbrev S528x128 : Shape := ⟨2, ![528, 128]⟩
abbrev S8x128 : Shape := ⟨2, ![8, 128]⟩
abbrev S1x8x128 : Shape := ⟨3, ![1, 8, 128]⟩
abbrev S512x128 : Shape := ⟨2, ![512, 128]⟩
abbrev S1x512x128 : Shape := ⟨3, ![1, 512, 128]⟩
abbrev S1x1x128 : Shape := ⟨3, ![1, 1, 128]⟩
abbrev S1x128 : Shape := ⟨2, ![1, 128]⟩
abbrev S512x256 : Shape := ⟨2, ![512, 256]⟩
abbrev S512x512 : Shape := ⟨2, ![512, 512]⟩
abbrev S1x512x1024 : Shape := ⟨3, ![1, 512, 1024]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 16
  | .vmem => 23
  | .smem => 0
  | _ => 0

abbrev bufTy : (tb : Table) → Fin (tcTables nBuf tb) → BufTy
  | .hbm, ⟨0, _⟩ => ⟨S4x4096x1024, .f32⟩
  | .hbm, ⟨1, _⟩ => ⟨S2x8x6144, .f32⟩
  | .hbm, ⟨2, _⟩ => ⟨S2x1024x5632, .f32⟩
  | .hbm, ⟨3, _⟩ => ⟨S2x3x5632, .f32⟩
  | .hbm, ⟨4, _⟩ => ⟨S2x5632, .f32⟩
  | .hbm, ⟨5, _⟩ => ⟨S2x2816x1024, .f32⟩
  | .hbm, ⟨6, _⟩ => ⟨S2x1024, .f32⟩
  | .hbm, ⟨7, _⟩ => ⟨S2x1024, .f32⟩
  | .hbm, ⟨8, _⟩ => ⟨S2x8x6x1024, .f32⟩
  | .hbm, ⟨9, _⟩ => ⟨S2x1024x5632, .bf16⟩
  | .hbm, ⟨10, _⟩ => ⟨S2x1x5632, .f32⟩
  | .hbm, ⟨11, _⟩ => ⟨S2x2816x1024, .bf16⟩
  | .hbm, ⟨12, _⟩ => ⟨S2x1x1024, .f32⟩
  | .hbm, ⟨13, _⟩ => ⟨S2x1x1024, .f32⟩
  | .hbm, ⟨14, _⟩ => ⟨S16384x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1x6x1024, .f32⟩
  | .local _ .vmem, ⟨7, _⟩ => ⟨S1x1x6x1024, .f32⟩
  | .local _ .vmem, ⟨8, _⟩ => ⟨S1x1024x5632, .bf16⟩
  | .local _ .vmem, ⟨9, _⟩ => ⟨S1x3x5632, .f32⟩
  | .local _ .vmem, ⟨10, _⟩ => ⟨S1x1x5632, .f32⟩
  | .local _ .vmem, ⟨11, _⟩ => ⟨S1x2816x1024, .bf16⟩
  | .local _ .vmem, ⟨12, _⟩ => ⟨S1x1x1024, .f32⟩
  | .local _ .vmem, ⟨13, _⟩ => ⟨S1x1x1024, .f32⟩
  | .local _ .vmem, ⟨14, _⟩ => ⟨S512x1024, .f32⟩
  | .local _ .vmem, ⟨15, _⟩ => ⟨S512x1024, .f32⟩
  | .local _ .vmem, ⟨16, _⟩ => ⟨S528x1024, .bf16⟩
  | .local _ .vmem, ⟨17, _⟩ => ⟨S512x2816, .bf16⟩
  | .local _ .vmem, ⟨18, _⟩ => ⟨S512x1024, .f32⟩
  | .local _ .vmem, ⟨19, _⟩ => ⟨S2x528x128, .f32⟩
  | .local _ .vmem, ⟨20, _⟩ => ⟨S2x528x128, .f32⟩
  | .local _ .vmem, ⟨21, _⟩ => ⟨S2x528x128, .f32⟩
  | .local _ .vmem, ⟨22, _⟩ => ⟨S2x528x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4x4096x1024 : Shape := ⟨3, ![4, 4096, 1024]⟩
abbrev S2x8x6144 : Shape := ⟨3, ![2, 8, 6144]⟩
abbrev S4x4096x512 : Shape := ⟨3, ![4, 4096, 512]⟩
abbrev S4x256x512 : Shape := ⟨3, ![4, 256, 512]⟩
abbrev S2x8x15x31 : Shape := ⟨4, ![2, 8, 15, 31]⟩
abbrev S2x8x128x128 : Shape := ⟨4, ![2, 8, 128, 128]⟩
abbrev S2x8x128 : Shape := ⟨3, ![2, 8, 128]⟩
abbrev S2x512x1024 : Shape := ⟨3, ![2, 512, 1024]⟩
abbrev S2x1024x1024 : Shape := ⟨3, ![2, 1024, 1024]⟩
abbrev S2x1024 : Shape := ⟨2, ![2, 1024]⟩
abbrev S64x64 : Shape := ⟨2, ![64, 64]⟩
abbrev S4096 : Shape := ⟨1, ![4096]⟩
abbrev S4096x1 : Shape := ⟨2, ![4096, 1]⟩
abbrev S1x4096 : Shape := ⟨2, ![1, 4096]⟩
abbrev S_ : Shape := ⟨0, ![]⟩
abbrev S4096x4096 : Shape := ⟨2, ![4096, 4096]⟩
abbrev S1x8x15x31 : Shape := ⟨4, ![1, 8, 15, 31]⟩
abbrev S8x15x31 : Shape := ⟨3, ![8, 15, 31]⟩
abbrev S4096x4096x1 : Shape := ⟨3, ![4096, 4096, 1]⟩
abbrev S4096x4096x2 : Shape := ⟨3, ![4096, 4096, 2]⟩
abbrev S8x4096x4096 : Shape := ⟨3, ![8, 4096, 4096]⟩
abbrev S4x4096x8x64 : Shape := ⟨4, ![4, 4096, 8, 64]⟩
abbrev S4x8x4096x4096 : Shape := ⟨4, ![4, 8, 4096, 4096]⟩
abbrev S1x8x4096x4096 : Shape := ⟨4, ![1, 8, 4096, 4096]⟩
abbrev S4x256x8x64 : Shape := ⟨4, ![4, 256, 8, 64]⟩
abbrev S4x8x4096x256 : Shape := ⟨4, ![4, 8, 4096, 256]⟩
abbrev S4x8x4096x4352 : Shape := ⟨4, ![4, 8, 4096, 4352]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩
abbrev S4x32x128x8x64 : Shape := ⟨5, ![4, 32, 128, 8, 64]⟩
abbrev S1x8x128x128 : Shape := ⟨4, ![1, 8, 128, 128]⟩
abbrev S8x128x128 : Shape := ⟨3, ![8, 128, 128]⟩
abbrev S8x4x32x64x128 : Shape := ⟨5, ![8, 4, 32, 64, 128]⟩
abbrev S1x8x128 : Shape := ⟨3, ![1, 8, 128]⟩
abbrev S8x128 : Shape := ⟨2, ![8, 128]⟩
abbrev S128x8 : Shape := ⟨2, ![128, 8]⟩
abbrev S1x1x128x8x1 : Shape := ⟨5, ![1, 1, 128, 8, 1]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x4x6144 : Shape := ⟨3, ![1, 4, 6144]⟩
abbrev S4x6144 : Shape := ⟨2, ![4, 6144]⟩
abbrev S4x1024 : Shape := ⟨2, ![4, 1024]⟩
abbrev S4x1x1024 : Shape := ⟨3, ![4, 1, 1024]⟩
abbrev S1x1024 : Shape := ⟨2, ![1, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 248
  | .vmem => 0
  | .smem => 0
  | _ => 0

abbrev hbmTy0_0 (i : Nat) : BufTy := match i % 128 with
  | 0 => ⟨S4x4096x1024, .f32⟩
  | 1 => ⟨S2x8x6144, .f32⟩
  | 2 => ⟨S4x4096x512, .bf16⟩
  | 3 => ⟨S4x4096x512, .bf16⟩
  | 4 => ⟨S4x4096x512, .bf16⟩
  | 5 => ⟨S4x4096x512, .bf16⟩
  | 6 => ⟨S4x256x512, .bf16⟩
  | 7 => ⟨S4x256x512, .bf16⟩
  | 8 => ⟨S2x8x15x31, .f32⟩
  | 9 => ⟨S4x4096x512, .bf16⟩
  | 10 => ⟨S4x4096x512, .bf16⟩
  | 11 => ⟨S4x4096x1024, .bf16⟩
  | 12 => ⟨S4x4096x1024, .bf16⟩
  | 13 => ⟨S2x8x128x128, .f32⟩
  | 14 => ⟨S2x8x128, .f32⟩
  | 15 => ⟨S2x512x1024, .f32⟩
  | 16 => ⟨S2x512x1024, .f32⟩
  | 17 => ⟨S2x1024x1024, .f32⟩
  | 18 => ⟨S2x1024, .f32⟩
  | 19 => ⟨S2x1024, .f32⟩
  | 20 => ⟨S64x64, .i32⟩
  | 21 => ⟨S4096, .i32⟩
  | 22 => ⟨S64x64, .i32⟩
  | 23 => ⟨S4096, .i32⟩
  | 24 => ⟨S4096x1, .i32⟩
  | 25 => ⟨S1x4096, .i32⟩
  | 26 => ⟨S4096x1, .i32⟩
  | 27 => ⟨S1x4096, .i32⟩
  | 28 => ⟨S_, .i32⟩
  | 29 => ⟨S4096x1, .i32⟩
  | 30 => ⟨S4096x1, .i32⟩
  | 31 => ⟨S_, .i32⟩
  | 32 => ⟨S_, .i32⟩
  | 33 => ⟨S_, .i32⟩
  | 34 => ⟨S4096x1, .i32⟩
  | 35 => ⟨S4096x1, .i32⟩
  | 36 => ⟨S_, .i32⟩
  | 37 => ⟨S4096x1, .i32⟩
  | 38 => ⟨S4096x1, .i32⟩
  | 39 => ⟨S_, .i32⟩
  | 40 => ⟨S4096x1, .i32⟩
  | 41 => ⟨S4096x1, .i32⟩
  | 42 => ⟨S_, .i32⟩
  | 43 => ⟨S_, .i32⟩
  | 44 => ⟨S_, .i32⟩
  | 45 => ⟨S4096x1, .i32⟩
  | 46 => ⟨S4096x1, .i32⟩
  | 47 => ⟨S_, .i32⟩
  | 48 => ⟨S4096x1, .i32⟩
  | 49 => ⟨S4096x1, .i32⟩
  | 50 => ⟨S4096x4096, .i32⟩
  | 51 => ⟨S4096x4096, .i32⟩
  | 52 => ⟨S4096x4096, .i1⟩
  | 53 => ⟨S_, .i32⟩
  | 54 => ⟨S4096x1, .i32⟩
  | 55 => ⟨S4096x1, .i32⟩
  | 56 => ⟨S4096x4096, .i32⟩
  | 57 => ⟨S4096x4096, .i32⟩
  | 58 => ⟨S4096x4096, .i1⟩
  | 59 => ⟨S4096x4096, .i1⟩
  | 60 => ⟨S4096x4096, .i32⟩
  | 61 => ⟨S4096x4096, .i32⟩
  | 62 => ⟨S4096x4096, .i1⟩
  | 63 => ⟨S4096x4096, .i1⟩
  | 64 => ⟨S_, .i32⟩
  | 65 => ⟨S4096x1, .i32⟩
  | 66 => ⟨S4096x1, .i32⟩
  | 67 => ⟨S4096x4096, .i32⟩
  | 68 => ⟨S4096x4096, .i32⟩
  | 69 => ⟨S4096x4096, .i1⟩
  | 70 => ⟨S4096x4096, .i1⟩
  | 71 => ⟨S4096x4096, .i32⟩
  | 72 => ⟨S4096x4096, .i32⟩
  | 73 => ⟨S4096x4096, .i32⟩
  | 74 => ⟨S_, .i32⟩
  | 75 => ⟨S4096x4096, .i32⟩
  | 76 => ⟨S4096x4096, .i32⟩
  | 77 => ⟨S_, .i32⟩
  | 78 => ⟨S4096x4096, .i32⟩
  | 79 => ⟨S4096x4096, .i32⟩
  | 80 => ⟨S_, .i32⟩
  | 81 => ⟨S_, .i32⟩
  | 82 => ⟨S_, .i32⟩
  | 83 => ⟨S4096x4096, .i32⟩
  | 84 => ⟨S4096x4096, .i32⟩
  | 85 => ⟨S_, .i32⟩
  | 86 => ⟨S4096x4096, .i32⟩
  | 87 => ⟨S4096x4096, .i32⟩
  | 88 => ⟨S4096x4096, .i32⟩
  | 89 => ⟨S4096x4096, .i32⟩
  | 90 => ⟨S4096x4096, .i32⟩
  | 91 => ⟨S_, .i32⟩
  | 92 => ⟨S4096x4096, .i32⟩
  | 93 => ⟨S4096x4096, .i32⟩
  | 94 => ⟨S_, .i32⟩
  | 95 => ⟨S4096x4096, .i32⟩
  | 96 => ⟨S4096x4096, .i32⟩
  | 97 => ⟨S_, .i32⟩
  | 98 => ⟨S_, .i32⟩
  | 99 => ⟨S_, .i32⟩
  | 100 => ⟨S4096x4096, .i32⟩
  | 101 => ⟨S4096x4096, .i32⟩
  | 102 => ⟨S_, .i32⟩
  | 103 => ⟨S4096x4096, .i32⟩
  | 104 => ⟨S4096x4096, .i32⟩
  | 105 => ⟨S1x8x15x31, .f32⟩
  | 106 => ⟨S8x15x31, .f32⟩
  | 107 => ⟨S_, .i32⟩
  | 108 => ⟨S4096x4096, .i32⟩
  | 109 => ⟨S4096x4096, .i1⟩
  | 110 => ⟨S_, .i32⟩
  | 111 => ⟨S4096x4096, .i32⟩
  | 112 => ⟨S4096x4096, .i32⟩
  | 113 => ⟨S4096x4096, .i32⟩
  | 114 => ⟨S_, .i32⟩
  | 115 => ⟨S4096x4096, .i32⟩
  | 116 => ⟨S4096x4096, .i1⟩
  | 117 => ⟨S_, .i32⟩
  | 118 => ⟨S4096x4096, .i32⟩
  | 119 => ⟨S4096x4096, .i32⟩
  | 120 => ⟨S4096x4096, .i32⟩
  | 121 => ⟨S4096x4096x1, .i32⟩
  | 122 => ⟨S4096x4096x1, .i32⟩
  | 123 => ⟨S4096x4096x2, .i32⟩
  | 124 => ⟨S8x4096x4096, .f32⟩
  | 125 => ⟨S4x4096x512, .f32⟩
  | 126 => ⟨S4x4096x8x64, .f32⟩
  | 127 => ⟨S4x4096x512, .f32⟩
  | _ => ⟨S4x4096x1024, .f32⟩

abbrev hbmTy0_1 (i : Nat) : BufTy := match i % 128 with
  | 0 => ⟨S4x4096x8x64, .f32⟩
  | 1 => ⟨S4x8x4096x4096, .f32⟩
  | 2 => ⟨S1x8x4096x4096, .f32⟩
  | 3 => ⟨S4x8x4096x4096, .f32⟩
  | 4 => ⟨S4x8x4096x4096, .f32⟩
  | 5 => ⟨S_, .f32⟩
  | 6 => ⟨S_, .f32⟩
  | 7 => ⟨S4x8x4096x4096, .i1⟩
  | 8 => ⟨S4x8x4096x4096, .f32⟩
  | 9 => ⟨S4x8x4096x4096, .f32⟩
  | 10 => ⟨S4x4096x512, .f32⟩
  | 11 => ⟨S4x4096x8x64, .f32⟩
  | 12 => ⟨S4x256x512, .f32⟩
  | 13 => ⟨S4x256x8x64, .f32⟩
  | 14 => ⟨S4x8x4096x256, .f32⟩
  | 15 => ⟨S4x8x4096x4352, .f32⟩
  | 16 => ⟨S_, .f32⟩
  | 17 => ⟨S4x8x4096, .f32⟩
  | 18 => ⟨S_, .f32⟩
  | 19 => ⟨S4x8x4096, .f32⟩
  | 20 => ⟨S4x8x4096, .f32⟩
  | 21 => ⟨S4x8x4096x1, .f32⟩
  | 22 => ⟨S4x8x4096x4352, .f32⟩
  | 23 => ⟨S4x8x4096x4352, .f32⟩
  | 24 => ⟨S4x8x4096x4352, .f32⟩
  | 25 => ⟨S_, .f32⟩
  | 26 => ⟨S4x8x4096, .f32⟩
  | 27 => ⟨S4x8x4096x1, .f32⟩
  | 28 => ⟨S4x8x4096x4352, .f32⟩
  | 29 => ⟨S4x8x4096x4352, .f32⟩
  | 30 => ⟨S4x8x4096x4096, .f32⟩
  | 31 => ⟨S4x4096x512, .f32⟩
  | 32 => ⟨S4x4096x8x64, .f32⟩
  | 33 => ⟨S4x8x64x4096, .f32⟩
  | 34 => ⟨S4x4096x8x64, .f32⟩
  | 35 => ⟨S4x8x4096x256, .f32⟩
  | 36 => ⟨S4x256x512, .f32⟩
  | 37 => ⟨S4x256x8x64, .f32⟩
  | 38 => ⟨S4x8x64x4096, .f32⟩
  | 39 => ⟨S4x4096x8x64, .f32⟩
  | 40 => ⟨S4x4096x8x64, .f32⟩
  | 41 => ⟨S4x4096x512, .f32⟩
  | 42 => ⟨S4x4096x512, .f32⟩
  | 43 => ⟨S4x32x128x8x64, .f32⟩
  | 44 => ⟨S1x8x128x128, .f32⟩
  | 45 => ⟨S8x128x128, .f32⟩
  | 46 => ⟨S8x4x32x64x128, .f32⟩
  | 47 => ⟨S4x32x128x8x64, .f32⟩
  | 48 => ⟨S1x8x128, .f32⟩
  | 49 => ⟨S8x128, .f32⟩
  | 50 => ⟨S128x8, .f32⟩
  | 51 => ⟨S1x1x128x8x1, .f32⟩
  | 52 => ⟨S4x32x128x8x64, .f32⟩
  | 53 => ⟨S4x32x128x8x64, .f32⟩
  | 54 => ⟨S4x4096x512, .f32⟩
  | 55 => ⟨S4x4096x512, .f32⟩
  | 56 => ⟨S4x4096x512, .f32⟩
  | 57 => ⟨S4x4096x1024, .f32⟩
  | 58 => ⟨S1x512x1024, .f32⟩
  | 59 => ⟨S512x1024, .f32⟩
  | 60 => ⟨S4x4096x1024, .f32⟩
  | 61 => ⟨S4x4096x1024, .f32⟩
  | 62 => ⟨S4x4096x1024, .f32⟩
  | 63 => ⟨S1x512x1024, .f32⟩
  | 64 => ⟨S512x1024, .f32⟩
  | 65 => ⟨S4x4096x1024, .f32⟩
  | 66 => ⟨S4x4096x1024, .f32⟩
  | 67 => ⟨S4x4096x1024, .f32⟩
  | 68 => ⟨S1x1024x1024, .f32⟩
  | 69 => ⟨S1024x1024, .f32⟩
  | 70 => ⟨S4x4096x1024, .f32⟩
  | 71 => ⟨S1x4x6144, .f32⟩
  | 72 => ⟨S4x6144, .f32⟩
  | 73 => ⟨S4x1024, .f32⟩
  | 74 => ⟨S4x1024, .f32⟩
  | 75 => ⟨S4x1024, .f32⟩
  | 76 => ⟨S4x1024, .f32⟩
  | 77 => ⟨S4x1024, .f32⟩
  | 78 => ⟨S4x1024, .f32⟩
  | 79 => ⟨S4x1x1024, .f32⟩
  | 80 => ⟨S_, .f32⟩
  | 81 => ⟨S4x4096x1024, .f32⟩
  | 82 => ⟨S4x4096x1024, .f32⟩
  | 83 => ⟨S4x4096x1024, .f32⟩
  | 84 => ⟨S4x4096x1024, .f32⟩
  | 85 => ⟨S4x4096x1024, .f32⟩
  | 86 => ⟨S1x1024, .f32⟩
  | 87 => ⟨S1024, .f32⟩
  | 88 => ⟨S1x1024, .f32⟩
  | 89 => ⟨S1024, .f32⟩
  | 90 => ⟨S_, .f32⟩
  | 91 => ⟨S4x4096, .f32⟩
  | 92 => ⟨S4x4096x1, .f32⟩
  | 93 => ⟨S_, .f32⟩
  | 94 => ⟨S4x4096x1, .f32⟩
  | 95 => ⟨S4x4096x1, .f32⟩
  | 96 => ⟨S4x4096x1024, .f32⟩
  | 97 => ⟨S4x4096x1024, .f32⟩
  | 98 => ⟨S4x4096x1024, .f32⟩
  | 99 => ⟨S_, .f32⟩
  | 100 => ⟨S4x4096, .f32⟩
  | 101 => ⟨S4x4096x1, .f32⟩
  | 102 => ⟨S_, .f32⟩
  | 103 => ⟨S4x4096x1, .f32⟩
  | 104 => ⟨S4x4096x1, .f32⟩
  | 105 => ⟨S4x4096x1024, .f32⟩
  | 106 => ⟨S4x4096x1024, .f32⟩
  | 107 => ⟨S_, .f32⟩
  | 108 => ⟨S4x4096x1, .f32⟩
  | 109 => ⟨S4x4096x1, .f32⟩
  | 110 => ⟨S4x4096x1, .f32⟩
  | 111 => ⟨S4x4096x1024, .f32⟩
  | 112 => ⟨S4x4096x1024, .f32⟩
  | 113 => ⟨S1x1x1024, .f32⟩
  | 114 => ⟨S4x4096x1024, .f32⟩
  | 115 => ⟨S4x4096x1024, .f32⟩
  | 116 => ⟨S1x1x1024, .f32⟩
  | 117 => ⟨S4x4096x1024, .f32⟩
  | 118 => ⟨S4x4096x1024, .f32⟩
  | 119 => ⟨S16384x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_0 : Ref sig .tc := ⟨.hbm, 31, rfl⟩
abbrev main_c_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v10 : Ref sig .tc := ⟨.hbm, 38, rfl⟩
abbrev main_c_2 : Ref sig .tc := ⟨.hbm, 39, rfl⟩
abbrev main_v11 : Ref sig .tc := ⟨.hbm, 40, rfl⟩
abbrev main_v12 : Ref sig .tc := ⟨.hbm, 41, rfl⟩
abbrev main_c_3 : Ref sig .tc := ⟨.hbm, 42, rfl⟩
abbrev main_c_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_c_5 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_c_6 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_c_7 : Ref sig .tc := ⟨.hbm, 74, rfl⟩
abbrev main_v36 : Ref sig .tc := ⟨.hbm, 75, rfl⟩
abbrev main_v37 : Ref sig .tc := ⟨.hbm, 76, rfl⟩
abbrev main_c_8 : Ref sig .tc := ⟨.hbm, 77, rfl⟩
abbrev main_v38 : Ref sig .tc := ⟨.hbm, 78, rfl⟩
abbrev main_v39 : Ref sig .tc := ⟨.hbm, 79, rfl⟩
abbrev main_c_9 : Ref sig .tc := ⟨.hbm, 80, rfl⟩
abbrev main_c_10 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_c_11 : Ref sig .tc := ⟨.hbm, 91, rfl⟩
abbrev main_v44 : Ref sig .tc := ⟨.hbm, 92, rfl⟩
abbrev main_v45 : Ref sig .tc := ⟨.hbm, 93, rfl⟩
abbrev main_c_12 : Ref sig .tc := ⟨.hbm, 94, rfl⟩
abbrev main_v46 : Ref sig .tc := ⟨.hbm, 95, rfl⟩
abbrev main_v47 : Ref sig .tc := ⟨.hbm, 96, rfl⟩
abbrev main_c_13 : Ref sig .tc := ⟨.hbm, 97, rfl⟩
abbrev main_c_14 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_c_15 : Ref sig .tc := ⟨.hbm, 107, rfl⟩
abbrev main_v51 : Ref sig .tc := ⟨.hbm, 108, rfl⟩
abbrev main_v52 : Ref sig .tc := ⟨.hbm, 109, rfl⟩
abbrev main_c_16 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_c_17 : Ref sig .tc := ⟨.hbm, 114, rfl⟩
abbrev main_v56 : Ref sig .tc := ⟨.hbm, 115, rfl⟩
abbrev main_v57 : Ref sig .tc := ⟨.hbm, 116, rfl⟩
abbrev main_c_18 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_cst : Ref sig .tc := ⟨.hbm, 133, rfl⟩
abbrev main_call4_v0 : Ref sig .tc := ⟨.hbm, 134, rfl⟩
abbrev main_call4_v1 : Ref sig .tc := ⟨.hbm, 135, rfl⟩
abbrev main_call4_v2 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_cst_19 : Ref sig .tc := ⟨.hbm, 144, rfl⟩
abbrev main_v80 : Ref sig .tc := ⟨.hbm, 145, rfl⟩
abbrev main_cst_20 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_cst_21 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_cst_22 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_cst_23 : Ref sig .tc := ⟨.hbm, 218, rfl⟩
abbrev main_v150 : Ref sig .tc := ⟨.hbm, 219, rfl⟩
abbrev main_v151 : Ref sig .tc := ⟨.hbm, 220, rfl⟩
abbrev main_cst_24 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_cst_25 : Ref sig .tc := ⟨.hbm, 227, rfl⟩
abbrev main_v157 : Ref sig .tc := ⟨.hbm, 228, rfl⟩
abbrev main_v158 : Ref sig .tc := ⟨.hbm, 229, rfl⟩
abbrev main_cst_26 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_cst_27 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩

abbrev nD : Nat := 1
abbrev τ : Topo := Topo.v7x

variable {F : FTy → Type} [FloatOps F]
-- ==== Reference3Ideal.lean ====
abbrev S4x4096x1024 : Shape := ⟨3, ![4, 4096, 1024]⟩
abbrev S2x8x6144 : Shape := ⟨3, ![2, 8, 6144]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x1024 : Shape := ⟨2, ![2, 1024]⟩
abbrev S1x4x6144 : Shape := ⟨3, ![1, 4, 6144]⟩
abbrev S4x6144 : Shape := ⟨2, ![4, 6144]⟩
abbrev S4x1024 : Shape := ⟨2, ![4, 1024]⟩
abbrev S4x1x1024 : Shape := ⟨3, ![4, 1, 1024]⟩
abbrev S_ : Shape := ⟨0, ![]⟩
abbrev S1x1024x5632 : Shape := ⟨3, ![1, 1024, 5632]⟩
abbrev S1024x5632 : Shape := ⟨2, ![1024, 5632]⟩
abbrev S4x4096x5632 : Shape := ⟨3, ![4, 4096, 5632]⟩
abbrev S4x4098x5632 : Shape := ⟨3, ![4, 4098, 5632]⟩
abbrev S1x1x5632 : Shape := ⟨3, ![1, 1, 5632]⟩
abbrev S5632 : Shape := ⟨1, ![5632]⟩
abbrev S1x5632 : Shape := ⟨2, ![1, 5632]⟩
abbrev S4x4096x2816 : Shape := ⟨3, ![4, 4096, 2816]⟩
abbrev S1x2816x1024 : Shape := ⟨3, ![1, 2816, 1024]⟩
abbrev S2816x1024 : Shape := ⟨2, ![2816, 1024]⟩
abbrev S1x1024 : Shape := ⟨2, ![1, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 112
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x8x6144, .f32⟩
  | .hbm, ⟨2, _⟩ => ⟨S2x1024x5632, .f32⟩
  | .hbm, ⟨3, _⟩ => ⟨S2x3x5632, .f32⟩
  | .hbm, ⟨4, _⟩ => ⟨S2x5632, .f32⟩
  | .hbm, ⟨5, _⟩ => ⟨S2x2816x1024, .f32⟩
  | .hbm, ⟨6, _⟩ => ⟨S2x1024, .f32⟩
  | .hbm, ⟨7, _⟩ => ⟨S2x1024, .f32⟩
  | .hbm, ⟨8, _⟩ => ⟨S1x4x6144, .f32⟩
  | .hbm, ⟨9, _⟩ => ⟨S4x6144, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S_, .f32⟩
  | .hbm, ⟨20, _⟩ => ⟨S4x1x1024, .f32⟩
  | .hbm, ⟨21, _⟩ => ⟨S4x1x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S1x1024x5632, .f32⟩
  | .hbm, ⟨27, _⟩ => ⟨S1024x5632, .f32⟩
  | .hbm, ⟨28, _⟩ => ⟨S4x4096x5632, .f32⟩
  | .hbm, ⟨29, _⟩ => ⟨S_, .i32⟩
  | .hbm, ⟨30, _⟩ => ⟨S_, .f32⟩
  | .hbm, ⟨31, _⟩ => ⟨S4x4098x5632, .f32⟩
  | .hbm, ⟨32, _⟩ => ⟨S1x1x5632, .f32⟩
  | .hbm, ⟨33, _⟩ => ⟨S5632, .f32⟩
  | .hbm, ⟨34, _⟩ => ⟨S4x4096x5632, .f32⟩
  | .hbm, ⟨35, _⟩ => ⟨S1x1x5632, .f32⟩
  | .hbm, ⟨36, _⟩ => ⟨S4x4096x5632, .f32⟩
  | .hbm, ⟨37, _⟩ => ⟨S4x4096x5632, .f32⟩
  | .hbm, ⟨38, _⟩ => ⟨S1x1x5632, .f32⟩
  | .hbm, ⟨39, _⟩ => ⟨S5632, .f32⟩
  | .hbm, ⟨40, _⟩ => ⟨S4x4096x5632, .f32⟩
  | .hbm, ⟨41, _⟩ => ⟨S1x1x5632, .f32⟩
  | .hbm, ⟨42, _⟩ => ⟨S4x4096x5632, .f32⟩
  | .hbm, ⟨43, _⟩ => ⟨S4x4096x5632, .f32⟩
  | .hbm, ⟨44, _⟩ => ⟨S4x4096x5632, .f32⟩
  | .hbm, ⟨45, _⟩ => ⟨S1x1x5632, .f32⟩
  | .hbm, ⟨46, _⟩ => ⟨S5632, .f32⟩
  | .hbm, ⟨47, _⟩ => ⟨S4x4096x5632, .f32⟩
  | .hbm, ⟨48, _⟩ => ⟨S1x1x5632, .f32⟩
  | .hbm, ⟨49, _⟩ => ⟨S4x4096x5632, .f32⟩
  | .hbm, ⟨50, _⟩ => ⟨S4x4096x5632, .f32⟩
  | .hbm, ⟨51, _⟩ => ⟨S4x4096x5632, .f32⟩
  | .hbm, ⟨52, _⟩ => ⟨S1x5632, .f32⟩
  | .hbm, ⟨53, _⟩ => ⟨S5632, .f32⟩
  | .hbm, ⟨54, _⟩ => ⟨S1x1x5632, .f32⟩
  | .hbm, ⟨55, _⟩ => ⟨S4x4096x5632, .f32⟩
  | .hbm, ⟨56, _⟩ => ⟨S4x4096x5632, .f32⟩
  | .hbm, ⟨57, _⟩ => ⟨S4x4096x2816, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S_, .f32⟩
  | .hbm, ⟨62, _⟩ => ⟨S4x4096x2816, .f32⟩
  | .hbm, ⟨63, _⟩ => ⟨S4x4096x2816, .f32⟩
  | .hbm, ⟨64, _⟩ => ⟨S_, .f32⟩
  | .hbm, ⟨65, _⟩ => ⟨S4x4096x2816, .f32⟩
  | .hbm, ⟨66, _⟩ => ⟨S4x4096x2816, .f32⟩
  | .hbm, ⟨67, _⟩ => ⟨S4x4096x2816, .f32⟩
  | .hbm, ⟨68, _⟩ => ⟨S4x4096x2816, .f32⟩
  | .hbm, ⟨69, _⟩ => ⟨S1x2816x1024, .f32⟩
  | .hbm, ⟨70, _⟩ => ⟨S2816x1024, .f32⟩
  | .hbm, ⟨71, _⟩ => ⟨S4x4096x1024, .f32⟩
  | .hbm, ⟨72, _⟩ => ⟨S_, .f32⟩
  | .hbm, ⟨73, _⟩ => ⟨S4x4096x1024, .f32⟩
  | .hbm, ⟨74, _⟩ => ⟨S4x4096x1024, .f32⟩
  | .hbm, ⟨75, _⟩ => ⟨S4x4096x1024, .f32⟩
  | .hbm, ⟨76, _⟩ => ⟨S4x4096x1024, .f32⟩
  | .hbm, ⟨77, _⟩ => ⟨S4x4096x1024, .f32⟩
  | .hbm, ⟨78, _⟩ => ⟨S1x1024, .f32⟩
  | .hbm, ⟨79, _⟩ => ⟨S1024, .f32⟩
  | .hbm, ⟨80, _⟩ => ⟨S1x1024, .f32⟩
  | .hbm, ⟨81, _⟩ => ⟨S1024, .f32⟩
  | .hbm, ⟨82, _⟩ => ⟨S_, .f32⟩
  | .hbm, ⟨83, _⟩ => ⟨S4x4096, .f32⟩
  | .hbm, ⟨84, _⟩ => ⟨S4x4096x1, .f32⟩
  | .hbm, ⟨85, _⟩ => ⟨S_, .f32⟩
  | .hbm, ⟨86, _⟩ => ⟨S4x4096x1, .f32⟩
  | .hbm, ⟨87, _⟩ => ⟨S4x4096x1, .f32⟩
  | .hbm, ⟨88, _⟩ => ⟨S4x4096x1024, .f32⟩
  | .hbm, ⟨89, _⟩ => ⟨S4x4096x1024, .f32⟩
  | .hbm, ⟨90, _⟩ => ⟨S4x4096x1024, .f32⟩
  | .hbm, ⟨91, _⟩ => ⟨S_, .f32⟩
  | .hbm, ⟨92, _⟩ => ⟨S4x4096, .f32⟩
  | .hbm, ⟨93, _⟩ => ⟨S4x4096x1, .f32⟩
  | .hbm, ⟨94, _⟩ => ⟨S_, .f32⟩
  | .hbm, ⟨95, _⟩ => ⟨S4x4096x1, .f32⟩
  | .hbm, ⟨96, _⟩ => ⟨S4x4096x1, .f32⟩
  | .hbm, ⟨97, _⟩ => ⟨S4x4096x1024, .f32⟩
  | .hbm, ⟨98, _⟩ => ⟨S4x4096x1024, .f32⟩
  | .hbm, ⟨99, _⟩ => ⟨S_, .f32⟩
  | .hbm, ⟨100, _⟩ => ⟨S4x4096x1, .f32⟩
  | .hbm, ⟨101, _⟩ => ⟨S4x4096x1, .f32⟩
  | .hbm, ⟨102, _⟩ => ⟨S4x4096x1, .f32⟩
  | .hbm, ⟨103, _⟩ => ⟨S4x4096x1024, .f32⟩
  | .hbm, ⟨104, _⟩ => ⟨S4x4096x1024, .f32⟩
  | .hbm, ⟨105, _⟩ => ⟨S1x1x1024, .f32⟩
  | .hbm, ⟨106, _⟩ => ⟨S4x4096x1024, .f32⟩
  | .hbm, ⟨107, _⟩ => ⟨S4x4096x1024, .f32⟩
  | .hbm, ⟨108, _⟩ => ⟨S1x1x1024, .f32⟩
  | .hbm, ⟨109, _⟩ => ⟨S4x4096x1024, .f32⟩
  | .hbm, ⟨110, _⟩ => ⟨S4x4096x1024, .f32⟩
  | .hbm, ⟨111, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_0 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_1 : Ref sig .tc := ⟨.hbm, 82, rfl⟩
abbrev main_v62 : Ref sig .tc := ⟨.hbm, 83, rfl⟩
abbrev main_v63 : Ref sig .tc := ⟨.hbm, 84, rfl⟩
abbrev main_cst_2 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_3 : Ref sig .tc := ⟨.hbm, 91, rfl⟩
abbrev main_v69 : Ref sig .tc := ⟨.hbm, 92, rfl⟩
abbrev main_v70 : Ref sig .tc := ⟨.hbm, 93, rfl⟩
abbrev main_cst_4 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_5 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩

abbrev nD : Nat := 1
abbrev τ : Topo := Topo.v7x

variable {F : FTy → Type} [FloatOps F]
-- ==== Reference2Ideal.lean ====
abbrev S4x4096x1024 : Shape := ⟨3, ![4, 4096, 1024]⟩
abbrev S2x8x6144 : Shape := ⟨3, ![2, 8, 6144]⟩
abbrev S2x1024x4608 : Shape := ⟨3, ![2, 1024, 4608]⟩
abbrev S2x512 : Shape := ⟨2, ![2, 512]⟩
abbrev S1x4x6144 : Shape := ⟨3, ![1, 4, 6144]⟩
abbrev S4x6144 : Shape := ⟨2, ![4, 6144]⟩
abbrev S4x1024 : Shape := ⟨2, ![4, 1024]⟩
abbrev S4x1x1024 : Shape := ⟨3, ![4, 1, 1024]⟩
abbrev S_ : Shape := ⟨0, ![]⟩
abbrev S1x1024x4608 : Shape := ⟨3, ![1, 1024, 4608]⟩
abbrev S1024x4608 : Shape := ⟨2, ![1024, 4608]⟩
abbrev S4x4096x4608 : Shape := ⟨3, ![4, 4096, 4608]⟩
abbrev S4x4096x512 : Shape := ⟨3, ![4, 4096, 512]⟩
abbrev S4096 : Shape := ⟨1, ![4096]⟩
abbrev S4x4096x8x64 : Shape := ⟨4, ![4, 4096, 8, 64]⟩
abbrev S16 : Shape := ⟨1, ![16]⟩
abbrev S4x4096x8x32 : Shape := ⟨4, ![4, 4096, 8, 32]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S4x4096x8x16 : Shape := ⟨4, ![4, 4096, 8, 16]⟩
abbrev S1x512 : Shape := ⟨2, ![1, 512]⟩
abbrev S512 : Shape := ⟨1, ![512]⟩
abbrev S4x4096 : Shape := ⟨2, ![4, 4096]⟩
abbrev S4x4096x1 : Shape := ⟨3, ![4, 4096, 1]⟩
abbrev S1x1x512 : Shape := ⟨3, ![1, 1, 512]⟩
abbrev S16384x512 : Shape := ⟨2, ![16384, 512]⟩
abbrev S16384x1024 : Shape := ⟨2, ![16384, 1024]⟩

abbrev nBuf : Space → Nat
  | .hbm => 334
  | .vmem => 0
  | .smem => 0
  | _ => 0

abbrev hbmTy0_0 (i : Nat) : BufTy := match i % 128 with
  | 0 => ⟨S4x4096x1024, .f32⟩
  | 1 => ⟨S2x8x6144, .f32⟩
  | 2 => ⟨S2x1024x4608, .f32⟩
  | 3 => ⟨S2x512, .f32⟩
  | 4 => ⟨S2x512, .f32⟩
  | 5 => ⟨S1x4x6144, .f32⟩
  | 6 => ⟨S4x6144, .f32⟩
  | 7 => ⟨S4x1024, .f32⟩
  | 8 => ⟨S4x1024, .f32⟩
  | 9 => ⟨S4x1024, .f32⟩
  | 10 => ⟨S4x1024, .f32⟩
  | 11 => ⟨S4x1024, .f32⟩
  | 12 => ⟨S4x1024, .f32⟩
  | 13 => ⟨S4x1x1024, .f32⟩
  | 14 => ⟨S4x1x1024, .f32⟩
  | 15 => ⟨S_, .f32⟩
  | 16 => ⟨S4x1x1024, .f32⟩
  | 17 => ⟨S4x1x1024, .f32⟩
  | 18 => ⟨S4x4096x1024, .f32⟩
  | 19 => ⟨S4x4096x1024, .f32⟩
  | 20 => ⟨S4x4096x1024, .f32⟩
  | 21 => ⟨S4x4096x1024, .f32⟩
  | 22 => ⟨S1x1024x4608, .f32⟩
  | 23 => ⟨S1024x4608, .f32⟩
  | 24 => ⟨S4x4096x4608, .f32⟩
  | 25 => ⟨S4x4096x512, .f32⟩
  | 26 => ⟨S4x4096x512, .f32⟩
  | 27 => ⟨S4x4096x512, .f32⟩
  | 28 => ⟨S4x4096x512, .f32⟩
  | 29 => ⟨S4x4096x512, .f32⟩
  | 30 => ⟨S4x4096x1024, .f32⟩
  | 31 => ⟨S4x4096x1024, .f32⟩
  | 32 => ⟨S4096, .i32⟩
  | 33 => ⟨S4x4096x8x64, .f32⟩
  | 34 => ⟨S_, .i32⟩
  | 35 => ⟨S_, .i32⟩
  | 36 => ⟨S4096, .i32⟩
  | 37 => ⟨S4096, .i32⟩
  | 38 => ⟨S4096, .i32⟩
  | 39 => ⟨S_, .i32⟩
  | 40 => ⟨S4096, .i32⟩
  | 41 => ⟨S4096, .i1⟩
  | 42 => ⟨S4096, .i32⟩
  | 43 => ⟨S4096, .i32⟩
  | 44 => ⟨S_, .i32⟩
  | 45 => ⟨S4096, .i32⟩
  | 46 => ⟨S4096, .i1⟩
  | 47 => ⟨S4096, .i1⟩
  | 48 => ⟨S_, .i32⟩
  | 49 => ⟨S4096, .i32⟩
  | 50 => ⟨S4096, .i32⟩
  | 51 => ⟨S4096, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S4096, .i32⟩
  | 59 => ⟨S4096, .i32⟩
  | 60 => ⟨S_, .i32⟩
  | 61 => ⟨S4096, .i32⟩
  | 62 => ⟨S4096, .i1⟩
  | 63 => ⟨S_, .i32⟩
  | 64 => ⟨S4096, .i32⟩
  | 65 => ⟨S4096, .i1⟩
  | 66 => ⟨S_, .i32⟩
  | 67 => ⟨S_, .i1⟩
  | 68 => ⟨S4096, .i1⟩
  | 69 => ⟨S4096, .i1⟩
  | 70 => ⟨S4096, .i1⟩
  | 71 => ⟨S4096, .i32⟩
  | 72 => ⟨S4096, .i32⟩
  | 73 => ⟨S4096, .i32⟩
  | 74 => ⟨S16, .f32⟩
  | 75 => ⟨S16, .f32⟩
  | 76 => ⟨S_, .f32⟩
  | 77 => ⟨S16, .f32⟩
  | 78 => ⟨S16, .f32⟩
  | 79 => ⟨S_, .f32⟩
  | 80 => ⟨S16, .f32⟩
  | 81 => ⟨S16, .f32⟩
  | 82 => ⟨S4x4096x8x32, .f32⟩
  | 83 => ⟨S4096, .f32⟩
  | 84 => ⟨S4096x1, .f32⟩
  | 85 => ⟨S1x16, .f32⟩
  | 86 => ⟨S4096x16, .f32⟩
  | 87 => ⟨S4096x16, .f32⟩
  | 88 => ⟨S4096x16, .f32⟩
  | 89 => ⟨S4096x16, .f32⟩
  | 90 => ⟨S1x4096x1x16, .f32⟩
  | 91 => ⟨S4096x16, .f32⟩
  | 92 => ⟨S1x4096x1x16, .f32⟩
  | 93 => ⟨S4x4096x8x16, .f32⟩
  | 94 => ⟨S4x4096x8x16, .f32⟩
  | 95 => ⟨S4x4096x8x16, .f32⟩
  | 96 => ⟨S4x4096x8x16, .f32⟩
  | 97 => ⟨S4x4096x8x16, .f32⟩
  | 98 => ⟨S4x4096x8x16, .f32⟩
  | 99 => ⟨S4x4096x8x16, .f32⟩
  | 100 => ⟨S4x4096x8x16, .f32⟩
  | 101 => ⟨S4x4096x8x16, .f32⟩
  | 102 => ⟨S4x4096x8x16, .f32⟩
  | 103 => ⟨S4x4096x8x16, .f32⟩
  | 104 => ⟨S4x4096x8x16, .f32⟩
  | 105 => ⟨S4x4096x8x32, .f32⟩
  | 106 => ⟨S4x4096x8x32, .f32⟩
  | 107 => ⟨S4096, .f32⟩
  | 108 => ⟨S4096x1, .f32⟩
  | 109 => ⟨S1x16, .f32⟩
  | 110 => ⟨S4096x16, .f32⟩
  | 111 => ⟨S4096x16, .f32⟩
  | 112 => ⟨S4096x16, .f32⟩
  | 113 => ⟨S4096x16, .f32⟩
  | 114 => ⟨S1x4096x1x16, .f32⟩
  | 115 => ⟨S4096x16, .f32⟩
  | 116 => ⟨S1x4096x1x16, .f32⟩
  | 117 => ⟨S4x4096x8x16, .f32⟩
  | 118 => ⟨S4x4096x8x16, .f32⟩
  | 119 => ⟨S4x4096x8x16, .f32⟩
  | 120 => ⟨S4x4096x8x16, .f32⟩
  | 121 => ⟨S4x4096x8x16, .f32⟩
  | 122 => ⟨S4x4096x8x16, .f32⟩
  | 123 => ⟨S4x4096x8x16, .f32⟩
  | 124 => ⟨S4x4096x8x16, .f32⟩
  | 125 => ⟨S4x4096x8x16, .f32⟩
  | 126 => ⟨S4x4096x8x16, .f32⟩
  | 127 => ⟨S4x4096x8x16, .f32⟩
  | _ => ⟨S4x4096x1024, .f32⟩

abbrev hbmTy0_1 (i : Nat) : BufTy := match i % 128 with
  | 0 => ⟨S4x4096x8x16, .f32⟩
  | 1 => ⟨S4x4096x8x32, .f32⟩
  | 2 => ⟨S4x4096x8x64, .f32⟩
  | 3 => ⟨S_, .f32⟩
  | 4 => ⟨S4x4096x8x64, .f32⟩
  | 5 => ⟨S4x4096x8x64, .f32⟩
  | 6 => ⟨S_, .f32⟩
  | 7 => ⟨S4x4096x512, .f32⟩
  | 8 => ⟨S4x4096x512, .f32⟩
  | 9 => ⟨S4x4096x8x64, .f32⟩
  | 10 => ⟨S_, .i32⟩
  | 11 => ⟨S_, .i32⟩
  | 12 => ⟨S4096, .i32⟩
  | 13 => ⟨S4096, .i32⟩
  | 14 => ⟨S4096, .i32⟩
  | 15 => ⟨S_, .i32⟩
  | 16 => ⟨S4096, .i32⟩
  | 17 => ⟨S4096, .i1⟩
  | 18 => ⟨S4096, .i32⟩
  | 19 => ⟨S4096, .i32⟩
  | 20 => ⟨S_, .i32⟩
  | 21 => ⟨S4096, .i32⟩
  | 22 => ⟨S4096, .i1⟩
  | 23 => ⟨S4096, .i1⟩
  | 24 => ⟨S_, .i32⟩
  | 25 => ⟨S4096, .i32⟩
  | 26 => ⟨S4096, .i32⟩
  | 27 => ⟨S4096, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S4096, .i32⟩
  | 35 => ⟨S4096, .i32⟩
  | 36 => ⟨S_, .i32⟩
  | 37 => ⟨S4096, .i32⟩
  | 38 => ⟨S4096, .i1⟩
  | 39 => ⟨S_, .i32⟩
  | 40 => ⟨S4096, .i32⟩
  | 41 => ⟨S4096, .i1⟩
  | 42 => ⟨S_, .i32⟩
  | 43 => ⟨S_, .i1⟩
  | 44 => ⟨S4096, .i1⟩
  | 45 => ⟨S4096, .i1⟩
  | 46 => ⟨S4096, .i1⟩
  | 47 => ⟨S4096, .i32⟩
  | 48 => ⟨S4096, .i32⟩
  | 49 => ⟨S4096, .i32⟩
  | 50 => ⟨S16, .f32⟩
  | 51 => ⟨S16, .f32⟩
  | 52 => ⟨S_, .f32⟩
  | 53 => ⟨S16, .f32⟩
  | 54 => ⟨S16, .f32⟩
  | 55 => ⟨S_, .f32⟩
  | 56 => ⟨S16, .f32⟩
  | 57 => ⟨S16, .f32⟩
  | 58 => ⟨S4x4096x8x32, .f32⟩
  | 59 => ⟨S4096, .f32⟩
  | 60 => ⟨S4096x1, .f32⟩
  | 61 => ⟨S1x16, .f32⟩
  | 62 => ⟨S4096x16, .f32⟩
  | 63 => ⟨S4096x16, .f32⟩
  | 64 => ⟨S4096x16, .f32⟩
  | 65 => ⟨S4096x16, .f32⟩
  | 66 => ⟨S1x4096x1x16, .f32⟩
  | 67 => ⟨S4096x16, .f32⟩
  | 68 => ⟨S1x4096x1x16, .f32⟩
  | 69 => ⟨S4x4096x8x16, .f32⟩
  | 70 => ⟨S4x4096x8x16, .f32⟩
  | 71 => ⟨S4x4096x8x16, .f32⟩
  | 72 => ⟨S4x4096x8x16, .f32⟩
  | 73 => ⟨S4x4096x8x16, .f32⟩
  | 74 => ⟨S4x4096x8x16, .f32⟩
  | 75 => ⟨S4x4096x8x16, .f32⟩
  | 76 => ⟨S4x4096x8x16, .f32⟩
  | 77 => ⟨S4x4096x8x16, .f32⟩
  | 78 => ⟨S4x4096x8x16, .f32⟩
  | 79 => ⟨S4x4096x8x16, .f32⟩
  | 80 => ⟨S4x4096x8x16, .f32⟩
  | 81 => ⟨S4x4096x8x32, .f32⟩
  | 82 => ⟨S4x4096x8x32, .f32⟩
  | 83 => ⟨S4096, .f32⟩
  | 84 => ⟨S4096x1, .f32⟩
  | 85 => ⟨S1x16, .f32⟩
  | 86 => ⟨S4096x16, .f32⟩
  | 87 => ⟨S4096x16, .f32⟩
  | 88 => ⟨S4096x16, .f32⟩
  | 89 => ⟨S4096x16, .f32⟩
  | 90 => ⟨S1x4096x1x16, .f32⟩
  | 91 => ⟨S4096x16, .f32⟩
  | 92 => ⟨S1x4096x1x16, .f32⟩
  | 93 => ⟨S4x4096x8x16, .f32⟩
  | 94 => ⟨S4x4096x8x16, .f32⟩
  | 95 => ⟨S4x4096x8x16, .f32⟩
  | 96 => ⟨S4x4096x8x16, .f32⟩
  | 97 => ⟨S4x4096x8x16, .f32⟩
  | 98 => ⟨S4x4096x8x16, .f32⟩
  | 99 => ⟨S4x4096x8x16, .f32⟩
  | 100 => ⟨S4x4096x8x16, .f32⟩
  | 101 => ⟨S4x4096x8x16, .f32⟩
  | 102 => ⟨S4x4096x8x16, .f32⟩
  | 103 => ⟨S4x4096x8x16, .f32⟩
  | 104 => ⟨S4x4096x8x16, .f32⟩
  | 105 => ⟨S4x4096x8x32, .f32⟩
  | 106 => ⟨S4x4096x8x64, .f32⟩
  | 107 => ⟨S4x4096x512, .f32⟩
  | 108 => ⟨S4x4096x512, .f32⟩
  | 109 => ⟨S_, .f32⟩
  | 110 => ⟨S4x4096x512, .f32⟩
  | 111 => ⟨S4x4096x512, .f32⟩
  | 112 => ⟨S4x4096x512, .f32⟩
  | 113 => ⟨S_, .f32⟩
  | 114 => ⟨S4x4096x512, .f32⟩
  | 115 => ⟨S4x4096x512, .f32⟩
  | 116 => ⟨S4x4096x512, .f32⟩
  | 117 => ⟨S_, .f32⟩
  | 118 => ⟨S4x4096x512, .f32⟩
  | 119 => ⟨S4x4096x512, .f32⟩
  | 120 => ⟨S_, .f32⟩
  | 121 => ⟨S4x4096x512, .f32⟩
  | 122 => ⟨S4x4096x512, .f32⟩
  | 123 => ⟨S4x4096x512, .f32⟩
  | 124 => ⟨S4x4096x512, .f32⟩
  | 125 => ⟨S4x4096x512, .f32⟩
  | 126 => ⟨S_, .f32⟩
  | 127 => ⟨S4x4096x512, .f32⟩
  | _ => ⟨S4x4096x1024, .f32⟩

abbrev hbmTy0_2 (i : Nat) : BufTy := match i % 128 with
  | 0 => ⟨S4x4096x512, .f32⟩
  | 1 => ⟨S4x4096x512, .f32⟩
  | 2 => ⟨S_, .f32⟩
  | 3 => ⟨S4x4096x512, .f32⟩
  | 4 => ⟨S4x4096x512, .f32⟩
  | 5 => ⟨S4x4096x512, .f32⟩
  | 6 => ⟨S_, .f32⟩
  | 7 => ⟨S4x4096x512, .f32⟩
  | 8 => ⟨S4x4096x512, .f32⟩
  | 9 => ⟨S_, .f32⟩
  | 10 => ⟨S4x4096x512, .f32⟩
  | 11 => ⟨S4x4096x512, .f32⟩
  | 12 => ⟨S4x4096x512, .f32⟩
  | 13 => ⟨S1x512, .f32⟩
  | 14 => ⟨S512, .f32⟩
  | 15 => ⟨S1x512, .f32⟩
  | 16 => ⟨S512, .f32⟩
  | 17 => ⟨S_, .f32⟩
  | 18 => ⟨S4x4096, .f32⟩
  | 19 => ⟨S4x4096x1, .f32⟩
  | 20 => ⟨S_, .f32⟩
  | 21 => ⟨S4x4096x1, .f32⟩
  | 22 => ⟨S4x4096x1, .f32⟩
  | 23 => ⟨S4x4096x512, .f32⟩
  | 24 => ⟨S4x4096x512, .f32⟩
  | 25 => ⟨S4x4096x512, .f32⟩
  | 26 => ⟨S_, .f32⟩
  | 27 => ⟨S4x4096, .f32⟩
  | 28 => ⟨S4x4096x1, .f32⟩
  | 29 => ⟨S_, .f32⟩
  | 30 => ⟨S4x4096x1, .f32⟩
  | 31 => ⟨S4x4096x1, .f32⟩
  | 32 => ⟨S4x4096x512, .f32⟩
  | 33 => ⟨S4x4096x512, .f32⟩
  | 34 => ⟨S_, .f32⟩
  | 35 => ⟨S4x4096x1, .f32⟩
  | 36 => ⟨S4x4096x1, .f32⟩
  | 37 => ⟨S4x4096x1, .f32⟩
  | 38 => ⟨S4x4096x512, .f32⟩
  | 39 => ⟨S4x4096x512, .f32⟩
  | 40 => ⟨S1x1x512, .f32⟩
  | 41 => ⟨S4x4096x512, .f32⟩
  | 42 => ⟨S4x4096x512, .f32⟩
  | 43 => ⟨S1x1x512, .f32⟩
  | 44 => ⟨S4x4096x512, .f32⟩
  | 45 => ⟨S4x4096x512, .f32⟩
  | 46 => ⟨S4x4096x1024, .f32⟩
  | 47 => ⟨S4x4096x1024, .f32⟩
  | 48 => ⟨S_, .f32⟩
  | 49 => ⟨S4x4096x1024, .f32⟩
  | 50 => ⟨S4x4096x1024, .f32⟩
  | 51 => ⟨S_, .f32⟩
  | 52 => ⟨S4x4096x1024, .f32⟩
  | 53 => ⟨S4x4096x1024, .f32⟩
  | 54 => ⟨S4x4096x1024, .f32⟩
  | 55 => ⟨S4x4096x1024, .f32⟩
  | 56 => ⟨S_, .f32⟩
  | 57 => ⟨S4x4096x1024, .f32⟩
  | 58 => ⟨S4x4096x1024, .f32⟩
  | 59 => ⟨S_, .f32⟩
  | 60 => ⟨S4x4096x1024, .f32⟩
  | 61 => ⟨S4x4096x1024, .f32⟩
  | 62 => ⟨S16384x512, .f32⟩
  | 63 => ⟨S16384x512, .bf16⟩
  | 64 => ⟨S16384x512, .f32⟩
  | 65 => ⟨S16384x512, .bf16⟩
  | 66 => ⟨S16384x512, .f32⟩
  | 67 => ⟨S16384x512, .bf16⟩
  | 68 => ⟨S16384x512, .f32⟩
  | 69 => ⟨S16384x512, .bf16⟩
  | 70 => ⟨S16384x512, .f32⟩
  | 71 => ⟨S16384x512, .bf16⟩
  | 72 => ⟨S16384x512, .f32⟩
  | 73 => ⟨S16384x512, .bf16⟩
  | 74 => ⟨S16384x1024, .f32⟩
  | 75 => ⟨S16384x1024, .bf16⟩
  | 76 => ⟨S16384x1024, .f32⟩
  | 77 => ⟨S16384x1024, .bf16⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v28 : Ref sig .tc := ⟨.hbm, 51, rfl⟩
abbrev main_c_0 : Ref sig .tc := ⟨.hbm, 52, rfl⟩
abbrev main_call1_v0 : Ref sig .tc := ⟨.hbm, 53, rfl⟩
abbrev main_call1_c : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_c_1 : Ref sig .tc := ⟨.hbm, 60, rfl⟩
abbrev main_call1_v5 : Ref sig .tc := ⟨.hbm, 61, rfl⟩
abbrev main_call1_v6 : Ref sig .tc := ⟨.hbm, 62, rfl⟩
abbrev main_call1_c_2 : Ref sig .tc := ⟨.hbm, 63, rfl⟩
abbrev main_call1_v7 : Ref sig .tc := ⟨.hbm, 64, rfl⟩
abbrev main_call1_v8 : Ref sig .tc := ⟨.hbm, 65, rfl⟩
abbrev main_call1_c_3 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_1 : Ref sig .tc := ⟨.hbm, 76, rfl⟩
abbrev main_v32 : Ref sig .tc := ⟨.hbm, 77, rfl⟩
abbrev main_v33 : Ref sig .tc := ⟨.hbm, 78, rfl⟩
abbrev main_cst_2 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_3 : Ref sig .tc := ⟨.hbm, 131, rfl⟩
abbrev main_v85 : Ref sig .tc := ⟨.hbm, 132, rfl⟩
abbrev main_v86 : Ref sig .tc := ⟨.hbm, 133, rfl⟩
abbrev main_cst_4 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_c_5 : Ref sig .tc := ⟨.hbm, 138, rfl⟩
abbrev main_call2_v0 : Ref sig .tc := ⟨.hbm, 139, rfl⟩
abbrev main_call2_v1 : Ref sig .tc := ⟨.hbm, 140, rfl⟩
abbrev main_call2_v2 : Ref sig .tc := ⟨.hbm, 141, rfl⟩
abbrev main_call2_v3 : Ref sig .tc := ⟨.hbm, 142, rfl⟩
abbrev main_call2_v4 : Ref sig .tc := ⟨.hbm, 143, rfl⟩
abbrev main_call2_v5 : Ref sig .tc := ⟨.hbm, 144, rfl⟩
abbrev main_call2_v6 : Ref sig .tc := ⟨.hbm, 145, rfl⟩
abbrev main_call2_v7 : Ref sig .tc := ⟨.hbm, 146, rfl⟩
abbrev main_call2_v8 : Ref sig .tc := ⟨.hbm, 147, rfl⟩
abbrev main_call2_c : Ref sig .tc := ⟨.hbm, 148, rfl⟩
abbrev main_call2_v9 : Ref sig .tc := ⟨.hbm, 149, rfl⟩
abbrev main_call2_v10 : Ref sig .tc := ⟨.hbm, 150, rfl⟩
abbrev main_call2_v11 : Ref sig .tc := ⟨.hbm, 151, rfl⟩
abbrev main_call2_c_0 : Ref sig .tc := ⟨.hbm, 152, rfl⟩
abbrev main_call2_v12 : Ref sig .tc := ⟨.hbm, 153, rfl⟩
abbrev main_call2_v13 : Ref sig .tc := ⟨.hbm, 154, rfl⟩
abbrev main_v90 : Ref sig .tc := ⟨.hbm, 155, rfl⟩
abbrev main_c_6 : Ref sig .tc := ⟨.hbm, 156, rfl⟩
abbrev main_call3_v0 : Ref sig .tc := ⟨.hbm, 157, rfl⟩
abbrev main_call3_c : Ref sig .tc := ⟨.hbm, 158, rfl⟩
abbrev main_call3_v1 : Ref sig .tc := ⟨.hbm, 159, rfl⟩
abbrev main_call3_c_0 : Ref sig .tc := ⟨.hbm, 160, rfl⟩
abbrev main_call3_v2 : Ref sig .tc := ⟨.hbm, 161, rfl⟩
abbrev main_call3_v3 : Ref sig .tc := ⟨.hbm, 162, rfl⟩
abbrev main_call3_v4 : Ref sig .tc := ⟨.hbm, 163, rfl⟩
abbrev main_call3_c_1 : Ref sig .tc := ⟨.hbm, 164, rfl⟩
abbrev main_call3_v5 : Ref sig .tc := ⟨.hbm, 165, rfl⟩
abbrev main_call3_v6 : Ref sig .tc := ⟨.hbm, 166, rfl⟩
abbrev main_call3_c_2 : Ref sig .tc := ⟨.hbm, 167, rfl⟩
abbrev main_call3_v7 : Ref sig .tc := ⟨.hbm, 168, rfl⟩
abbrev main_call3_v8 : Ref sig .tc := ⟨.hbm, 169, rfl⟩
abbrev main_call3_c_3 : Ref sig .tc := ⟨.hbm, 170, rfl⟩
abbrev main_call3_v9 : Ref sig .tc := ⟨.hbm, 171, rfl⟩
abbrev main_call3_v10 : Ref sig .tc := ⟨.hbm, 172, rfl⟩
abbrev main_call3_v11 : Ref sig .tc := ⟨.hbm, 173, rfl⟩
abbrev main_call3_v12 : Ref sig .tc := ⟨.hbm, 174, rfl⟩
abbrev main_call3_v13 : Ref sig .tc := ⟨.hbm, 175, rfl⟩
abbrev main_call3_v14 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_cst_7 : Ref sig .tc := ⟨.hbm, 180, rfl⟩
abbrev main_v94 : Ref sig .tc := ⟨.hbm, 181, rfl⟩
abbrev main_v95 : Ref sig .tc := ⟨.hbm, 182, rfl⟩
abbrev main_cst_8 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_9 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_10 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_11 : Ref sig .tc := ⟨.hbm, 245, rfl⟩
abbrev main_v155 : Ref sig .tc := ⟨.hbm, 246, rfl⟩
abbrev main_v156 : Ref sig .tc := ⟨.hbm, 247, rfl⟩
abbrev main_cst_12 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_cst_13 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_cst_14 : Ref sig .tc := ⟨.hbm, 258, rfl⟩
abbrev main_v165 : Ref sig .tc := ⟨.hbm, 259, rfl⟩
abbrev main_v166 : Ref sig .tc := ⟨.hbm, 260, rfl⟩
abbrev main_v167 : Ref sig .tc := ⟨.hbm, 261, rfl⟩
abbrev main_cst_15 : Ref sig .tc := ⟨.hbm, 262, rfl⟩
abbrev main_v168 : Ref sig .tc := ⟨.hbm, 263, rfl⟩
abbrev main_v169 : Ref sig .tc := ⟨.hbm, 264, rfl⟩
abbrev main_cst_16 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_cst_17 : Ref sig .tc := ⟨.hbm, 273, rfl⟩
abbrev main_v177 : Ref sig .tc := ⟨.hbm, 274, rfl⟩
abbrev main_v178 : Ref sig .tc := ⟨.hbm, 275, rfl⟩
abbrev main_cst_18 : Ref sig .tc := ⟨.hbm, 276, rfl⟩
abbrev main_v179 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩
abbrev main_v183 : Ref sig .tc := ⟨.hbm, 281, rfl⟩
abbrev main_cst_19 : Ref sig .tc := ⟨.hbm, 282, rfl⟩
abbrev main_v184 : Ref sig .tc := ⟨.hbm, 283, rfl⟩
abbrev main_v185 : Ref sig .tc := ⟨.hbm, 284, rfl⟩
abbrev main_cst_20 : Ref sig .tc := ⟨.hbm, 285, rfl⟩
abbrev main_v186 : Ref sig .tc := ⟨.hbm, 286, rfl⟩
abbrev main_v187 : Ref sig .tc := ⟨.hbm, 287, rfl⟩
abbrev main_v188 : Ref sig .tc := ⟨.hbm, 288, rfl⟩
abbrev main_v189 : Ref sig .tc := ⟨.hbm, 289, rfl⟩
abbrev main_cst_21 : Ref sig .tc := ⟨.hbm, 290, rfl⟩
abbrev main_v190 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_v195 : Ref sig .tc := ⟨.hbm, 296, rfl⟩
abbrev main_v196 : Ref sig .tc := ⟨.hbm, 297, rfl⟩
abbrev main_v197 : Ref sig .tc := ⟨.hbm, 298, rfl⟩
abbrev main_v198 : Ref sig .tc := ⟨.hbm, 299, rfl⟩
abbrev main_v199 : Ref sig .tc := ⟨.hbm, 300, rfl⟩
abbrev main_v200 : Ref sig .tc := ⟨.hbm, 301, rfl⟩
abbrev main_v201 : Ref sig .tc := ⟨.hbm, 302, rfl⟩
abbrev main_v202 : Ref sig .tc := ⟨.hbm, 303, rfl⟩
abbrev main_cst_22 : Ref sig .tc := ⟨.hbm, 304, rfl⟩
abbrev main_v203 : Ref sig .tc := ⟨.hbm, 305, rfl⟩
abbrev main_v204 : Ref sig .tc := ⟨.hbm, 306, rfl⟩
abbrev main_cst_23 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_cst_24 : Ref sig .tc := ⟨.hbm, 312, rfl⟩
abbrev main_v209 : Ref sig .tc := ⟨.hbm, 313, rfl⟩
abbrev main_v210 : Ref sig .tc := ⟨.hbm, 314, rfl⟩
abbrev main_cst_25 : Ref sig .tc := ⟨.hbm, 315, rfl⟩
abbrev main_v211 : Ref sig .tc := ⟨.hbm, 316, rfl⟩
abbrev main_v212 : Ref sig .tc := ⟨.hbm, 317, rfl⟩
abbrev main_v213 : Ref sig .tc := ⟨.hbm, 318, rfl⟩
abbrev main_v214 : Ref sig .tc := ⟨.hbm, 319, rfl⟩
abbrev main_v215 : Ref sig .tc := ⟨.hbm, 320, rfl⟩
abbrev main_v216 : Ref sig .tc := ⟨.hbm, 321, rfl⟩
abbrev main_v217 : Ref sig .tc := ⟨.hbm, 322, rfl⟩
abbrev main_v218 : Ref sig .tc := ⟨.hbm, 323, rfl⟩
abbrev main_v219 : Ref sig .tc := ⟨.hbm, 324, rfl⟩
abbrev main_v220 : Ref sig .tc := ⟨.hbm, 325, rfl⟩
abbrev main_v221 : Ref sig .tc := ⟨.hbm, 326, rfl⟩
abbrev main_v222 : Ref sig .tc := ⟨.hbm, 327, rfl⟩
abbrev main_v223 : Ref sig .tc := ⟨.hbm, 328, rfl⟩
abbrev main_v224 : Ref sig .tc := ⟨.hbm, 329, rfl⟩
abbrev main_v225 : Ref sig .tc := ⟨.hbm, 330, rfl⟩
abbrev main_v226 : Ref sig .tc := ⟨.hbm, 331, rfl⟩
abbrev main_v227 : Ref sig .tc := ⟨.hbm, 332, rfl⟩
abbrev main_v228 : Ref sig .tc := ⟨.hbm, 333, rfl⟩

abbrev nD : Nat := 1
abbrev τ : Topo := Topo.v7x

variable {F : FTy → Type} [FloatOps F]
-- ==== Proof.IdealBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! # The two launches of the attention call: what each body does to its staging buffers at every grid point

The bias tables first, then the attention itself. The work that Lean may do on the long body is raised here. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_bias_tables` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 1, through which its contents are stated (`View.read_writes_of_cover`: the
    choice does not matter). -/
abbrev VO0_1 : View sig .tc .vmem S1x6x1x256x256 .f32 := (Memref.whole cc0_stg1_0 : Memref sig .tc .vmem S1x6x1x256x256 .f32).view
/-- Each window's current staging memref at point `t`, spelled as the pipeline passes it (`bodyAt0`), and its wholeness. -/
abbrev ms0_0 (t : Fin cfg0.N) : Memref sig .tc .vmem S1x1x16x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6x1x256x256 .f32 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S14x64x128 .f32 := Memref.whole cc0_scratch0

/-- `Gen.scopedRest0_split` as ONE chain: the kernel's own scratch buffers, each whole at some contents, then every
    other scoped buffer, unopened (`Pipeline.scopedRestBut`). -/
theorem scopedRest0_flat (c : Dev nD) :
    (Pipeline.scopedRest spec0 c : sProp 𝕄)
      = iprop((∃ f : Buf (Elt F) ((c : Thread nD τ).loc cc0_scratch0), ((c : Thread nD τ).loc cc0_scratch0) ↦{fullShare} f) ∗ Pipeline.scopedRestBut spec0 c [cc0_scratch0]) := by
  rw [scopedRest0_split]

/-- The frame kit's invariant with the scratch operands as memrefs owned at some contents (`Gen.scopedRest0_flat`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ Pipeline.scopedRestBut spec0 c [cc0_scratch0]) ∗ (∃ r, prngReg c r)) := by
  unfold Pipeline.ΦA; rw [scopedRest0_flat]; simp only [scM0_0, owns_whole]; try rfl

-- (the run's proof term is large: the definition's epilogue — `abstractNestedProofs` — walks it past the default budget)
set_option maxHeartbeats 1084000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x1x16x128 .f32) (harg2 : arg2.IsWhole) (arg3 : Memref sig .tc .vmem S1x6x1x256x256 .f32) (harg3 : arg3.IsWhole) (arg4 : Memref sig .tc .vmem S14x64x128 .f32) (harg4 : arg4.IsWhole)
    (x0 : Vec F S1x1x16x128 .f32) :
    Σ' (L1 : List (View.Piece (Elt F) S1x6x1x256x256 .f32)), { LT0 : List (View.Piece (Elt F) S14x64x128 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LT0)) -∗ K ⟨⟩))
          ⊢ wp frame (wpE (defs₀ (F := F)) Variants.none c none) E (cc0_bias_tables i arg2 harg2 arg3 harg3 arg4 harg4) K } := by
  refine ⟨?_, ?_, fun E K => ?run⟩
  case run =>
    simp only [cc0_bias_tables_eq_skeleton]; unfold cc0_bias_tables_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%d1, %f1, -, H1⟩, ⟨%ds0, %fs0, -, HS0⟩, Hk⟩
    obtain rfl := harg2.eq_unread hf0
    sl_exec
    sl_step
    iapply Hk
    isplitl [H0]
    · iexists _; isplitr; · ipureintro; exact harg2.read_unread _
      iexact H0
    isplitl [H1]; · iexists _; iexact H1
    iexists _; iexact HS0

/-- The run's pieces for output 1 tile its block (48 stores of `S1x1x1x64x128`, checked by the kernel's evaluation: Lib/Ring.lean `Piece.tiledL`, linear in the pieces, through a loop's `@[irreducible]` trip theorem too), so they cover it. -/
theorem cover0_A_1 (c : Dev nD) (i : grid0.Coords) (arg2 : Memref sig .tc .vmem S1x1x16x128 .f32) (harg2 : arg2.IsWhole) (arg3 : Memref sig .tc .vmem S1x6x1x256x256 .f32) (harg3 : arg3.IsWhole) (arg4 : Memref sig .tc .vmem S14x64x128 .f32) (harg4 : arg4.IsWhole)
    (x0 : Vec F S1x1x16x128 .f32) (y : S1x6x1x256x256.Idx) :
    ∃ pc ∈ (kernelRun0_A c i arg2 harg2 arg3 harg3 arg4 harg4 x0).1, y ∈ pc.1.set :=
  View.cover_of_tiledL (kernelRun0_A c i arg2 harg2 arg3 harg3 arg4 harg4 x0).1 S1x1x1x64x128.size (by sl_kernel_rfl) y

/-- What the run leaves in output 1's staging buffer: its pieces read back over junk. -/
def out0_A_1 (c : Dev nD) (i : grid0.Coords) (arg2 : Memref sig .tc .vmem S1x1x16x128 .f32) (harg2 : arg2.IsWhole) (arg3 : Memref sig .tc .vmem S1x6x1x256x256 .f32) (harg3 : arg3.IsWhole) (arg4 : Memref sig .tc .vmem S14x64x128 .f32) (harg4 : arg4.IsWhole)
    (x0 : Vec F S1x1x16x128 .f32) : Vec F S1x6x1x256x256 .f32 :=
  VO0_1.read (Elt F) (VO0_1.writes (Elt F) VO0_1.junk (kernelRun0_A c i arg2 harg2 arg3 harg3 arg4 harg4 x0).1)

/-! ## What the outputs hold after each point -/

/-- What the outputs' staging buffers hold after the body at point `t`: the run's contents at
    the point's memrefs and input blocks. -/
def outsAt0 (c : Dev nD) (t : Fin cfg0.N) : Vec F S1x6x1x256x256 .f32 :=
  out0_A_1 c (grid0.coords t) (ms0_0 t) (hs0_0 t) (ms0_1 t) (hs0_1 t) scM0_0 (Memref.isWhole_whole _) (iblk0 V c 0 t)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  rw [show (dat0 V c).Φ t.castSucc = Pipeline.ΦA spec0 c from rfl, PhiA0_eq]
  unfold outsAt0
  unfold out0_A_1
  iintro ⟨⟨⟨HS0, HR1⟩, Hg⟩, Ho, ⟨%d0, H0⟩, ⟨%d1, H1⟩⟩
  iapply ((kernelRun0_A c (grid0.coords t) _ _ _ _ _ _ (iblk0 V c 0 t)).2.2 Set.univ _)
  isplitl [H0]; · iexact H0
  isplitl [H1]; · iexists _; iexact H1
  isplitl [HS0]; · iexact HS0
  iintro ⟨H0, ⟨%e1, H1⟩, ⟨%fT0, HS0⟩⟩
  isplitl [HS0 HR1 Hg]
  · isplitl [HS0 HR1]
    · isplitl [HS0]
      · iexists _; unfold owns; iexists _; isplitr
        swap; · iexact HS0
        ipureintro; rfl
      iexact HR1
    iexact Hg
  isplitl [Ho]; · iexact Ho
  isplitl [H0]; · iexact H0
  unfold owns; iexists _; isplitr
  swap; · iexact H1
  ipureintro; exact View.read_writes_of_cover _ _ _ _ _ (cover0_A_1 c _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_mix_latent` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_18_of {c : Dev nD} (dat : Dat τ (Elt F) Unit ℕ (UR sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_19_of {c : Dev nD} (dat : Dat τ (Elt F) Unit ℕ (UR sig nD τ) ℕ cfg1 c) (hA : dat.A 19 = V c (Pipeline.arrRef spec1 19))
    (hafter : ∀ t, dat.after 19 t = iblk1 V c 19 t) (t : Fin cfg1.N) (d) : dat.before 19 t d = iblk1 V c 19 t :=
  (dat.before_in_eq_fetched 19 rfl (fun _ => rfl) (fun _ _ _ => rfl) (fun t => by rw [hafter]; unfold Dat.blockOf iblk1; rw [hA]; try rfl) t d).trans
    (by unfold Dat.fetched Dat.blockOf iblk1; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_20_of {c : Dev nD} (dat : Dat τ (Elt F) Unit ℕ (UR sig nD τ) ℕ cfg1 c) (hA : dat.A 20 = V c (Pipeline.arrRef spec1 20))
    (hafter : ∀ t, dat.after 20 t = iblk1 V c 20 t) (t : Fin cfg1.N) (d) : dat.before 20 t d = iblk1 V c 20 t :=
  (dat.before_in_eq_fetched 20 rfl (fun _ => rfl) (fun _ _ _ => rfl) (fun t => by rw [hafter]; unfold Dat.blockOf iblk1; rw [hA]; try rfl) t d).trans
    (by unfold Dat.fetched Dat.blockOf iblk1; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_21_of {c : Dev nD} (dat : Dat τ (Elt F) Unit ℕ (UR sig nD τ) ℕ cfg1 c) (hA : dat.A 21 = V c (Pipeline.arrRef spec1 21))
    (hafter : ∀ t, dat.after 21 t = iblk1 V c 21 t) (t : Fin cfg1.N) (d) : dat.before 21 t d = iblk1 V c 21 t :=
  (dat.before_in_eq_fetched 21 rfl (fun _ => rfl) (fun _ _ _ => rfl) (fun t => by rw [hafter]; unfold Dat.blockOf iblk1; rw [hA]; try rfl) t d).trans
    (by unfold Dat.fetched Dat.blockOf iblk1; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_22_of {c : Dev nD} (dat : Dat τ (Elt F) Unit ℕ (UR sig nD τ) ℕ cfg1 c) (hA : dat.A 22 = V c (Pipeline.arrRef spec1 22))
    (hafter : ∀ t, dat.after 22 t = iblk1 V c 22 t) (t : Fin cfg1.N) (d) : dat.before 22 t d = iblk1 V c 22 t :=
  (dat.before_in_eq_fetched 22 rfl (fun _ => rfl) (fun _ _ _ => rfl) (fun t => by rw [hafter]; unfold Dat.blockOf iblk1; rw [hA]; try rfl) t d).trans
    (by unfold Dat.fetched Dat.blockOf iblk1; rw [hA]; try rfl)
/-- Input window 23's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_23_of {c : Dev nD} (dat : Dat τ (Elt F) Unit ℕ (UR sig nD τ) ℕ cfg1 c) (hA : dat.A 23 = V c (Pipeline.arrRef spec1 23))
    (hafter : ∀ t, dat.after 23 t = iblk1 V c 23 t) (t : Fin cfg1.N) (d) : dat.before 23 t d = iblk1 V c 23 t :=
  (dat.before_in_eq_fetched 23 rfl (fun _ => rfl) (fun _ _ _ => rfl) (fun t => by rw [hafter]; unfold Dat.blockOf iblk1; rw [hA]; try rfl) t d).trans
    (by unfold Dat.fetched Dat.blockOf iblk1; rw [hA]; try rfl)
/-- Input window 24's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_24_of {c : Dev nD} (dat : Dat τ (Elt F) Unit ℕ (UR sig nD τ) ℕ cfg1 c) (hA : dat.A 24 = V c (Pipeline.arrRef spec1 24))
    (hafter : ∀ t, dat.after 24 t = iblk1 V c 24 t) (t : Fin cfg1.N) (d) : dat.before 24 t d = iblk1 V c 24 t :=
  (dat.before_in_eq_fetched 24 rfl (fun _ => rfl) (fun _ _ _ => rfl) (fun t => by rw [hafter]; unfold Dat.blockOf iblk1; rw [hA]; try rfl) t d).trans
    (by unfold Dat.fetched Dat.blockOf iblk1; rw [hA]; try rfl)
/-- Input window 25's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_25_of {c : Dev nD} (dat : Dat τ (Elt F) Unit ℕ (UR sig nD τ) ℕ cfg1 c) (hA : dat.A 25 = V c (Pipeline.arrRef spec1 25))
    (hafter : ∀ t, dat.after 25 t = iblk1 V c 25 t) (t : Fin cfg1.N) (d) : dat.before 25 t d = iblk1 V c 25 t :=
  (dat.before_in_eq_fetched 25 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 26, through which its contents are stated (`View.read_writes_of_cover`: the
    choice does not matter). -/
abbrev VO1_26 : View sig .tc .vmem S512x1024 .f32 := (Memref.whole cc1_stg26_0 : Memref sig .tc .vmem S512x1024 .f32).view
/-- Each window's current staging memref at point `t`, spelled as the pipeline passes it (`bodyAt1`), and its wholeness. -/
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x6x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x512 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x512 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x512 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x512 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S256x512 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S256x512 .bf16 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S256x512 .bf16 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S256x512 .bf16 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S1x6x8x256x256 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S512x512 .bf16 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S512x512 .bf16 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S512x1024 .bf16 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S512x1024 .bf16 := win1_18.stage (cfg1.slots t 18)
abbrev hs1_18 (t : Fin cfg1.N) : (ms1_18 t).IsWhole := hstage1_18 ((cfg1.slots t 18).cast nbuf1_18)
abbrev ms1_19 (t : Fin cfg1.N) : Memref sig .tc .vmem S1x4x256x128 .bf16 := win1_19.stage (cfg1.slots t 19)
abbrev hs1_19 (t : Fin cfg1.N) : (ms1_19 t).IsWhole := hstage1_19 ((cfg1.slots t 19).cast nbuf1_19)
abbrev ms1_20 (t : Fin cfg1.N) : Memref sig .tc .vmem S1x4x128x128 .f32 := win1_20.stage (cfg1.slots t 20)
abbrev hs1_20 (t : Fin cfg1.N) : (ms1_20 t).IsWhole := hstage1_20 ((cfg1.slots t 20).cast nbuf1_20)
abbrev ms1_21 (t : Fin cfg1.N) : Memref sig .tc .vmem S1x512x1024 .bf16 := win1_21.stage (cfg1.slots t 21)
abbrev hs1_21 (t : Fin cfg1.N) : (ms1_21 t).IsWhole := hstage1_21 ((cfg1.slots t 21).cast nbuf1_21)
abbrev ms1_22 (t : Fin cfg1.N) : Memref sig .tc .vmem S1x512x1024 .bf16 := win1_22.stage (cfg1.slots t 22)
abbrev hs1_22 (t : Fin cfg1.N) : (ms1_22 t).IsWhole := hstage1_22 ((cfg1.slots t 22).cast nbuf1_22)
abbrev ms1_23 (t : Fin cfg1.N) : Memref sig .tc .vmem S1x1024x1024 .bf16 := win1_23.stage (cfg1.slots t 23)
abbrev hs1_23 (t : Fin cfg1.N) : (ms1_23 t).IsWhole := hstage1_23 ((cfg1.slots t 23).cast nbuf1_23)
abbrev ms1_24 (t : Fin cfg1.N) : Memref sig .tc .vmem S1x1x1024 .f32 := win1_24.stage (cfg1.slots t 24)
abbrev hs1_24 (t : Fin cfg1.N) : (ms1_24 t).IsWhole := hstage1_24 ((cfg1.slots t 24).cast nbuf1_24)
abbrev ms1_25 (t : Fin cfg1.N) : Memref sig .tc .vmem S1x1x1024 .f32 := win1_25.stage (cfg1.slots t 25)
abbrev hs1_25 (t : Fin cfg1.N) : (ms1_25 t).IsWhole := hstage1_25 ((cfg1.slots t 25).cast nbuf1_25)
abbrev ms1_26 (t : Fin cfg1.N) : Memref sig .tc .vmem S512x1024 .f32 := win1_26.stage (cfg1.slots t 26)
abbrev hs1_26 (t : Fin cfg1.N) : (ms1_26 t).IsWhole := hstage1_26 ((cfg1.slots t 26).cast nbuf1_26)
/-- The scratch operands: whole scoped buffers of the kernel's own, passed beside the windows. -/
abbrev scM1_0 : Memref sig .tc .vmem S512x512 .bf16 := Memref.whole cc1_scratch0
abbrev scM1_1 : Memref sig .tc .vmem S512x512 .bf16 := Memref.whole cc1_scratch1

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

-- (the run's proof term is large: the definition's epilogue — `abstractNestedProofs` — walks it past the default budget)
set_option maxHeartbeats 4000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg2 : Memref sig .tc .vmem S512x1024 .f32) (harg2 : arg2.IsWhole) (arg3 : Memref sig .tc .vmem S1x1x6x1024 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1x6x8x256x256 .f32) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S1x4x256x128 .bf16) (harg21 : arg21.IsWhole) (arg22 : Memref sig .tc .vmem S1x4x128x128 .f32) (harg22 : arg22.IsWhole) (arg23 : Memref sig .tc .vmem S1x512x1024 .bf16) (harg23 : arg23.IsWhole) (arg24 : Memref sig .tc .vmem S1x512x1024 .bf16) (harg24 : arg24.IsWhole) (arg25 : Memref sig .tc .vmem S1x1024x1024 .bf16) (harg25 : arg25.IsWhole) (arg26 : Memref sig .tc .vmem S1x1x1024 .f32) (harg26 : arg26.IsWhole) (arg27 : Memref sig .tc .vmem S1x1x1024 .f32) (harg27 : arg27.IsWhole) (arg28 : Memref sig .tc .vmem S512x1024 .f32) (harg28 : arg28.IsWhole) (arg29 : Memref sig .tc .vmem S512x512 .bf16) (harg29 : arg29.IsWhole) (arg30 : Memref sig .tc .vmem S512x512 .bf16) (harg30 : arg30.IsWhole)
    (x0 : Vec F S512x1024 .f32) (x1 : Vec F S1x1x6x1024 .f32) (x2 : Vec F S512x512 .bf16) (x3 : Vec F S512x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S256x512 .bf16) (x12 : Vec F S256x512 .bf16) (x13 : Vec F S256x512 .bf16) (x14 : Vec F S1x6x8x256x256 .f32) (x15 : Vec F S512x512 .bf16) (x16 : Vec F S512x512 .bf16) (x17 : Vec F S512x1024 .bf16) (x18 : Vec F S512x1024 .bf16) (x19 : Vec F S1x4x256x128 .bf16) (x20 : Vec F S1x4x128x128 .f32) (x21 : Vec F S1x512x1024 .bf16) (x22 : Vec F S1x512x1024 .bf16) (x23 : Vec F S1x1024x1024 .bf16) (x24 : Vec F S1x1x1024 .f32) (x25 : Vec F S1x1x1024 .f32) :
    Σ' (L26 : List (View.Piece (Elt F) S512x1024 .f32)), Σ' (LT0 : List (View.Piece (Elt F) S512x512 .bf16)), { LT1 : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ (∃ d, owns (c : Thread nD τ) arg28 fullShare d) ∗ (∃ d, owns (c : Thread nD τ) arg29 fullShare d) ∗ (∃ d, owns (c : Thread nD τ) arg30 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f LT0) ∗ (∃ f, arg30.view.loc (c : Thread nD τ) ↦[arg30.view.set]{fullShare} arg30.view.writes (Elt F) f LT1)) -∗ K ⟨⟩))
          ⊢ wp frame (wpE (defs₀ (F := F)) Variants.none c none) E (cc1_mix_latent i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, ?_, fun E K => ?run⟩
  case run =>
    simp only [cc1_mix_latent_eq_skeleton]; unfold cc1_mix_latent_skel
    simp only [k1_part34_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]; · iexists _; iexact H26
    isplitl [HS0]; · iexists _; iexact HS0
    iexists _; iexact HS1

/-- The run's pieces for output 26 tile its block (2 stores of `S256x1024`, checked by the kernel's evaluation: Lib/Ring.lean `Piece.tiledL`, linear in the pieces, through a loop's `@[irreducible]` trip theorem too), so they cover it. -/
theorem cover1_A_26 (c : Dev nD) (i : grid1.Coords) (arg2 : Memref sig .tc .vmem S512x1024 .f32) (harg2 : arg2.IsWhole) (arg3 : Memref sig .tc .vmem S1x1x6x1024 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1x6x8x256x256 .f32) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S1x4x256x128 .bf16) (harg21 : arg21.IsWhole) (arg22 : Memref sig .tc .vmem S1x4x128x128 .f32) (harg22 : arg22.IsWhole) (arg23 : Memref sig .tc .vmem S1x512x1024 .bf16) (harg23 : arg23.IsWhole) (arg24 : Memref sig .tc .vmem S1x512x1024 .bf16) (harg24 : arg24.IsWhole) (arg25 : Memref sig .tc .vmem S1x1024x1024 .bf16) (harg25 : arg25.IsWhole) (arg26 : Memref sig .tc .vmem S1x1x1024 .f32) (harg26 : arg26.IsWhole) (arg27 : Memref sig .tc .vmem S1x1x1024 .f32) (harg27 : arg27.IsWhole) (arg28 : Memref sig .tc .vmem S512x1024 .f32) (harg28 : arg28.IsWhole) (arg29 : Memref sig .tc .vmem S512x512 .bf16) (harg29 : arg29.IsWhole) (arg30 : Memref sig .tc .vmem S512x512 .bf16) (harg30 : arg30.IsWhole)
    (x0 : Vec F S512x1024 .f32) (x1 : Vec F S1x1x6x1024 .f32) (x2 : Vec F S512x512 .bf16) (x3 : Vec F S512x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S256x512 .bf16) (x12 : Vec F S256x512 .bf16) (x13 : Vec F S256x512 .bf16) (x14 : Vec F S1x6x8x256x256 .f32) (x15 : Vec F S512x512 .bf16) (x16 : Vec F S512x512 .bf16) (x17 : Vec F S512x1024 .bf16) (x18 : Vec F S512x1024 .bf16) (x19 : Vec F S1x4x256x128 .bf16) (x20 : Vec F S1x4x128x128 .f32) (x21 : Vec F S1x512x1024 .bf16) (x22 : Vec F S1x512x1024 .bf16) (x23 : Vec F S1x1024x1024 .bf16) (x24 : Vec F S1x1x1024 .f32) (x25 : Vec F S1x1x1024 .f32) (y : S512x1024.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25).1 S256x1024.size (by sl_kernel_rfl) y

/-- What the run leaves in output 26's staging buffer: its pieces read back over junk. -/
def out1_A_26 (c : Dev nD) (i : grid1.Coords) (arg2 : Memref sig .tc .vmem S512x1024 .f32) (harg2 : arg2.IsWhole) (arg3 : Memref sig .tc .vmem S1x1x6x1024 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1x6x8x256x256 .f32) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S1x4x256x128 .bf16) (harg21 : arg21.IsWhole) (arg22 : Memref sig .tc .vmem S1x4x128x128 .f32) (harg22 : arg22.IsWhole) (arg23 : Memref sig .tc .vmem S1x512x1024 .bf16) (harg23 : arg23.IsWhole) (arg24 : Memref sig .tc .vmem S1x512x1024 .bf16) (harg24 : arg24.IsWhole) (arg25 : Memref sig .tc .vmem S1x1024x1024 .bf16) (harg25 : arg25.IsWhole) (arg26 : Memref sig .tc .vmem S1x1x1024 .f32) (harg26 : arg26.IsWhole) (arg27 : Memref sig .tc .vmem S1x1x1024 .f32) (harg27 : arg27.IsWhole) (arg28 : Memref sig .tc .vmem S512x1024 .f32) (harg28 : arg28.IsWhole) (arg29 : Memref sig .tc .vmem S512x512 .bf16) (harg29 : arg29.IsWhole) (arg30 : Memref sig .tc .vmem S512x512 .bf16) (harg30 : arg30.IsWhole)
    (x0 : Vec F S512x1024 .f32) (x1 : Vec F S1x1x6x1024 .f32) (x2 : Vec F S512x512 .bf16) (x3 : Vec F S512x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S256x512 .bf16) (x12 : Vec F S256x512 .bf16) (x13 : Vec F S256x512 .bf16) (x14 : Vec F S1x6x8x256x256 .f32) (x15 : Vec F S512x512 .bf16) (x16 : Vec F S512x512 .bf16) (x17 : Vec F S512x1024 .bf16) (x18 : Vec F S512x1024 .bf16) (x19 : Vec F S1x4x256x128 .bf16) (x20 : Vec F S1x4x128x128 .f32) (x21 : Vec F S1x512x1024 .bf16) (x22 : Vec F S1x512x1024 .bf16) (x23 : Vec F S1x1024x1024 .bf16) (x24 : Vec F S1x1x1024 .f32) (x25 : Vec F S1x1x1024 .f32) : Vec F S512x1024 .f32 :=
  VO1_26.read (Elt F) (VO1_26.writes (Elt F) VO1_26.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25).1)

/-! ## What the outputs hold after each point -/

/-- What the outputs' staging buffers hold after the body at point `t`: the run's contents at
    the point's memrefs and input blocks. -/
def outsAt1 (c : Dev nD) (t : Fin cfg1.N) : Vec F S512x1024 .f32 :=
  out1_A_26 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) (ms1_21 t) (hs1_21 t) (ms1_22 t) (hs1_22 t) (ms1_23 t) (hs1_23 t) (ms1_24 t) (hs1_24 t) (ms1_25 t) (hs1_25 t) (ms1_26 t) (hs1_26 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) (iblk1 V c 25 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; each input's share of its array
    (`Pipeline.shareOf`: the full share of an array several windows stage, dealt among them). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => iblk1 V c 21 t
    | ⟨22, _⟩ => iblk1 V c 22 t
    | ⟨23, _⟩ => iblk1 V c 23 t
    | ⟨24, _⟩ => iblk1 V c 24 t
    | ⟨25, _⟩ => iblk1 V c 25 t
    | ⟨26, _⟩ => (outsAt1 V c t)
    | ⟨_ + 27, h⟩ => absurd h (Nat.not_lt.2 (Nat.le_add_left _ _))
  Φ _ := Pipeline.ΦA spec1 c
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = iblk1 V c 20 t := by dsimp only [dat1]
theorem after1_21 (c : Dev nD) (t : Fin cfg1.N) : (dat1 V c).after 21 t = iblk1 V c 21 t := by dsimp only [dat1]
theorem after1_22 (c : Dev nD) (t : Fin cfg1.N) : (dat1 V c).after 22 t = iblk1 V c 22 t := by dsimp only [dat1]
theorem after1_23 (c : Dev nD) (t : Fin cfg1.N) : (dat1 V c).after 23 t = iblk1 V c 23 t := by dsimp only [dat1]
theorem after1_24 (c : Dev nD) (t : Fin cfg1.N) : (dat1 V c).after 24 t = iblk1 V c 24 t := by dsimp only [dat1]
theorem after1_25 (c : Dev nD) (t : Fin cfg1.N) : (dat1 V c).after 25 t = iblk1 V c 25 t := by dsimp only [dat1]
theorem after1_26 (c : Dev nD) (t : Fin cfg1.N) : (dat1 V c).after 26 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d
theorem before1_18 (c : Dev nD) (t : Fin cfg1.N) (d) : (dat1 V c).before 18 t d = iblk1 V c 18 t :=
  before1_18_of V (dat1 V c) (A_eq1 V c 18) (after1_18 V c) t d
theorem before1_19 (c : Dev nD) (t : Fin cfg1.N) (d) : (dat1 V c).before 19 t d = iblk1 V c 19 t :=
  before1_19_of V (dat1 V c) (A_eq1 V c 19) (after1_19 V c) t d
theorem before1_20 (c : Dev nD) (t : Fin cfg1.N) (d) : (dat1 V c).before 20 t d = iblk1 V c 20 t :=
  before1_20_of V (dat1 V c) (A_eq1 V c 20) (after1_20 V c) t d
theorem before1_21 (c : Dev nD) (t : Fin cfg1.N) (d) : (dat1 V c).before 21 t d = iblk1 V c 21 t :=
  before1_21_of V (dat1 V c) (A_eq1 V c 21) (after1_21 V c) t d
theorem before1_22 (c : Dev nD) (t : Fin cfg1.N) (d) : (dat1 V c).before 22 t d = iblk1 V c 22 t :=
  before1_22_of V (dat1 V c) (A_eq1 V c 22) (after1_22 V c) t d
theorem before1_23 (c : Dev nD) (t : Fin cfg1.N) (d) : (dat1 V c).before 23 t d = iblk1 V c 23 t :=
  before1_23_of V (dat1 V c) (A_eq1 V c 23) (after1_23 V c) t d
theorem before1_24 (c : Dev nD) (t : Fin cfg1.N) (d) : (dat1 V c).before 24 t d = iblk1 V c 24 t :=
  before1_24_of V (dat1 V c) (A_eq1 V c 24) (after1_24 V c) t d
theorem before1_25 (c : Dev nD) (t : Fin cfg1.N) (d) : (dat1 V c).before 25 t d = iblk1 V c 25 t :=
  before1_25_of V (dat1 V c) (A_eq1 V c 25) (after1_25 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d))
    ∗ (∃ d, owns (c : Thread nD τ) (ms1_19 t) fullShare ((dat1 V c).before 19 t d))
    ∗ (∃ d, owns (c : Thread nD τ) (ms1_20 t) fullShare ((dat1 V c).before 20 t d))
    ∗ (∃ d, owns (c : Thread nD τ) (ms1_21 t) fullShare ((dat1 V c).before 21 t d))
    ∗ (∃ d, owns (c : Thread nD τ) (ms1_22 t) fullShare ((dat1 V c).before 22 t d))
    ∗ (∃ d, owns (c : Thread nD τ) (ms1_23 t) fullShare ((dat1 V c).before 23 t d))
    ∗ (∃ d, owns (c : Thread nD τ) (ms1_24 t) fullShare ((dat1 V c).before 24 t d))
    ∗ (∃ d, owns (c : Thread nD τ) (ms1_25 t) fullShare ((dat1 V c).before 25 t d))
    ∗ (∃ d, owns (c : Thread nD τ) (ms1_26 t) fullShare ((dat1 V c).before 26 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t)
    ∗ owns (c : Thread nD τ) (ms1_16 t) fullShare ((dat1 V c).after 16 t)
    ∗ owns (c : Thread nD τ) (ms1_17 t) fullShare ((dat1 V c).after 17 t)
    ∗ owns (c : Thread nD τ) (ms1_18 t) fullShare ((dat1 V c).after 18 t)
    ∗ owns (c : Thread nD τ) (ms1_19 t) fullShare ((dat1 V c).after 19 t)
    ∗ owns (c : Thread nD τ) (ms1_20 t) fullShare ((dat1 V c).after 20 t)
    ∗ owns (c : Thread nD τ) (ms1_21 t) fullShare ((dat1 V c).after 21 t)
    ∗ owns (c : Thread nD τ) (ms1_22 t) fullShare ((dat1 V c).after 22 t)
    ∗ owns (c : Thread nD τ) (ms1_23 t) fullShare ((dat1 V c).after 23 t)
    ∗ owns (c : Thread nD τ) (ms1_24 t) fullShare ((dat1 V c).after 24 t)
    ∗ owns (c : Thread nD τ) (ms1_25 t) fullShare ((dat1 V c).after 25 t)
    ∗ owns (c : Thread nD τ) (ms1_26 t) fullShare ((dat1 V c).after 26 t))

set_option maxHeartbeats 2800000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21, before1_22, before1_23, before1_24, before1_25]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24, after1_25, after1_26]
  rw [show (dat1 V c).Φ t.castSucc = Pipeline.ΦA spec1 c from rfl, PhiA1_eq]
  unfold outsAt1
  unfold out1_A_26
  iintro ⟨⟨⟨HR0, HR1, HR2, HR3, HR4, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((kernelRun1_A c (grid1.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) (iblk1 V c 25 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  isplitl [HS0]; · iexact HS0
  isplitl [HS1]; · iexact HS1
  iintro ⟨H0, H1, H2, H3, H4, H5, H6, H7, H8, H9, H10, H11, H12, H13, H14, H15, H16, H17, H18, H19, H20, H21, H22, H23, H24, H25, ⟨%e26, H26⟩, ⟨%fT0, HS0⟩, ⟨%fT1, HS1⟩⟩
  isplitl [HR0 HR1 HR2 HR3 HR4 HS0 HS1 Hg]
  · isplitl [HR0 HR1 HR2 HR3 HR4 HS0 HS1]
    · isplitl [HR0]
      · iexact HR0
      isplitl [HR1]
      · iexact HR1
      isplitl [HR2]
      · iexact HR2
      isplitl [HR3]
      · iexact HR3
      isplitl [HR4]
      · iexact HR4
      isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  unfold owns; iexists _; isplitr
  swap; · iexact H26
  ipureintro; exact View.read_writes_of_cover _ _ _ _ _ (cover1_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

set_option maxHeartbeats 2000000 in
/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.IdealRun.lean ====
module

public import proofs.«01_k».proof.Proof.IdealBody

/-! # The run of the attention call from launch to return

Its host operations and its two launches in order, and what every buffer of it holds at the end. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_c]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v2]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v3, main_c_0]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- The reference each operation of `hostOps0_3` writes, in order. -/
abbrev hostOps0_3_W : List (Ref sig .tc) := [main_call1_v0, main_v4]
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes none of the argument arrays (checked: each argument against each reference it writes). -/
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- The reference each operation of `hostOps0_4` writes, in order. -/
abbrev hostOps0_4_W : List (Ref sig .tc) := [main_v5]
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes none of the argument arrays (checked: each argument against each reference it writes). -/
theorem hostOps0_4_args : ∀ a ∈ argRefs, a ∉ hostOps0_4_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v7, main_v8, main_v9, main_v10, main_v11, main_v12, main_v13, main_v14, main_v15, main_v16, main_v17, main_v18, main_v19, main_v20, main_v21, main_v22, main_v23, main_v24, main_v25, main_v26, main_v27, main_v28]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4` (region 0's entry). -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- The same read at the TensorCore's references (what region 0's proof data take). -/
abbrev V5 : (c : Dev nD) → (b : Ref sig .tc) → Buf (Elt F) ((c : Thread nD τ).loc b) := fun c b => W5 m ρ c b
/-- At region 0's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- A reference that is none of region 0's OUTPUT arrays keeps its entry contents across it: an input window's
    array is never written back (`Dat.arrAt_in`, `A_eq0`); any other buffer is left as is. -/
theorem W6_of (c : Dev nD) (r : Ref sig .tc) (h : ∀ w : Fin cfg0.W, Pipeline.arrRef spec0 w = r → (cfg0.win w).isOut = false) :
    W6 m ρ c (Proc.devRef .tc r) = W5 m ρ c (Proc.devRef .tc r) := by
  by_cases hw : ∃ w : Fin cfg0.W, Pipeline.arrRef spec0 w = r
  · obtain ⟨w, rfl⟩ := hw
    exact (W6_arr m ρ c w).trans (((dat0 (V5 m ρ) c).arrAt_in w (h w rfl) _).trans (A_eq0 (V5 m ρ) c w))
  · exact W6_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn0 a ha)).trans (W5_args m ρ c a ha)
/-- The same read at the TensorCore's references (region 0's exit contents). -/
abbrev V6 : (c : Dev nD) → (b : Ref sig .tc) → Buf (Elt F) ((c : Thread nD τ).loc b) := fun c b => W6 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After `hostOps1` (region 1's entry). -/
abbrev W7 : Dev nD → Valuation τ sig (Elt F) := fun c => StableHlo.after hostOps1 (W6 m ρ c)
/-- A reference `hostOps1` does not write keeps its contents across it. -/
theorem W7_of (c : Dev nD) (r : Ref sig .tc) (h : r ∉ hostOps1_W) : W7 m ρ c (Proc.devRef .tc r) = W6 m ρ c (Proc.devRef .tc r) :=
  StableHlo.after_of_writes_sub hostOps1 _ hostOps1_writes h
theorem W7_args (c : Dev nD) : ∀ a ∈ argRefs, W7 m ρ c (Proc.devRef .tc a) = m ((c : Thread nD τ).loc a) :=
  fun a ha => (W7_of m ρ c a (hostOps1_args a ha)).trans (W6_args m ρ c a ha)
/-- The same read at the TensorCore's references (what region 1's proof data take). -/
abbrev V7 : (c : Dev nD) → (b : Ref sig .tc) → Buf (Elt F) ((c : Thread nD τ).loc b) := fun c b => W7 m ρ c b
/-- At region 1's exit: its arrays at what the pipeline leaves (the inputs as entered, each output's write-backs
    folded: `Dat.arrAt … N`), every other buffer as entered (Lib/Pipeline/FrameSuffix.lean `withArrays`). -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact (dat1 (V7 m ρ) c).withArrays_arrAt launch₀1.sharedIn _ (A_eq1 (V7 m ρ) c) w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- A reference that is none of region 1's OUTPUT arrays keeps its entry contents across it: an input window's
    array is never written back (`Dat.arrAt_in`, `A_eq1`); any other buffer is left as is. -/
theorem W8_of (c : Dev nD) (r : Ref sig .tc) (h : ∀ w : Fin cfg1.W, Pipeline.arrRef spec1 w = r → (cfg1.win w).isOut = false) :
    W8 m ρ c (Proc.devRef .tc r) = W7 m ρ c (Proc.devRef .tc r) := by
  by_cases hw : ∃ w : Fin cfg1.W, Pipeline.arrRef spec1 w = r
  · obtain ⟨w, rfl⟩ := hw
    exact (W8_arr m ρ c w).trans (((dat1 (V7 m ρ) c).arrAt_in w (h w rfl) _).trans (A_eq1 (V7 m ρ) c w))
  · exact W8_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn1 a ha)).trans (W7_args m ρ c a ha)
/-- The same read at the TensorCore's references (region 1's exit contents). -/
abbrev V8 : (c : Dev nD) → (b : Ref sig .tc) → Buf (Elt F) ((c : Thread nD τ).loc b) := fun c b => W8 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-! ### The arguments end as launched: no host stretch writes one and no region may change one (a region reads it
    through an input window or bypasses it) -/

theorem W8_main_arg0 (c : Dev nD) : W8 m ρ c (Proc.devRef .tc main_arg0) = m ((c : Thread nD τ).loc main_arg0) :=
  W8_args m ρ c main_arg0 (by decide)
theorem W8_main_arg1 (c : Dev nD) : W8 m ρ c (Proc.devRef .tc main_arg1) = m ((c : Thread nD τ).loc main_arg1) :=
  W8_args m ρ c main_arg1 (by decide)
theorem W8_main_arg2 (c : Dev nD) : W8 m ρ c (Proc.devRef .tc main_arg2) = m ((c : Thread nD τ).loc main_arg2) :=
  W8_args m ρ c main_arg2 (by decide)
theorem W8_main_arg3 (c : Dev nD) : W8 m ρ c (Proc.devRef .tc main_arg3) = m ((c : Thread nD τ).loc main_arg3) :=
  W8_args m ρ c main_arg3 (by decide)
theorem W8_main_arg4 (c : Dev nD) : W8 m ρ c (Proc.devRef .tc main_arg4) = m ((c : Thread nD τ).loc main_arg4) :=
  W8_args m ρ c main_arg4 (by decide)
theorem W8_main_arg5 (c : Dev nD) : W8 m ρ c (Proc.devRef .tc main_arg5) = m ((c : Thread nD τ).loc main_arg5) :=
  W8_args m ρ c main_arg5 (by decide)
theorem W8_main_arg6 (c : Dev nD) : W8 m ρ c (Proc.devRef .tc main_arg6) = m ((c : Thread nD τ).loc main_arg6) :=
  W8_args m ρ c main_arg6 (by decide)
theorem W8_main_arg7 (c : Dev nD) : W8 m ρ c (Proc.devRef .tc main_arg7) = m ((c : Thread nD τ).loc main_arg7) :=
  W8_args m ρ c main_arg7 (by decide)
theorem W8_main_arg8 (c : Dev nD) : W8 m ρ c (Proc.devRef .tc main_arg8) = m ((c : Thread nD τ).loc main_arg8) :=
  W8_args m ρ c main_arg8 (by decide)
theorem W8_main_arg9 (c : Dev nD) : W8 m ρ c (Proc.devRef .tc main_arg9) = m ((c : Thread nD τ).loc main_arg9) :=
  W8_args m ρ c main_arg9 (by decide)
theorem W8_main_arg10 (c : Dev nD) : W8 m ρ c (Proc.devRef .tc main_arg10) = m ((c : Thread nD τ).loc main_arg10) :=
  W8_args m ρ c main_arg10 (by decide)
theorem W8_main_arg11 (c : Dev nD) : W8 m ρ c (Proc.devRef .tc main_arg11) = m ((c : Thread nD τ).loc main_arg11) :=
  W8_args m ρ c main_arg11 (by decide)
theorem W8_main_arg12 (c : Dev nD) : W8 m ρ c (Proc.devRef .tc main_arg12) = m ((c : Thread nD τ).loc main_arg12) :=
  W8_args m ρ c main_arg12 (by decide)
theorem W8_main_arg13 (c : Dev nD) : W8 m ρ c (Proc.devRef .tc main_arg13) = m ((c : Thread nD τ).loc main_arg13) :=
  W8_args m ρ c main_arg13 (by decide)
theorem W8_main_arg14 (c : Dev nD) : W8 m ρ c (Proc.devRef .tc main_arg14) = m ((c : Thread nD τ).loc main_arg14) :=
  W8_args m ρ c main_arg14 (by decide)
theorem W8_main_arg15 (c : Dev nD) : W8 m ρ c (Proc.devRef .tc main_arg15) = m ((c : Thread nD τ).loc main_arg15) :=
  W8_args m ρ c main_arg15 (by decide)
theorem W8_main_arg16 (c : Dev nD) : W8 m ρ c (Proc.devRef .tc main_arg16) = m ((c : Thread nD τ).loc main_arg16) :=
  W8_args m ρ c main_arg16 (by decide)
theorem W8_main_arg17 (c : Dev nD) : W8 m ρ c (Proc.devRef .tc main_arg17) = m ((c : Thread nD τ).loc main_arg17) :=
  W8_args m ρ c main_arg17 (by decide)
theorem W8_main_arg18 (c : Dev nD) : W8 m ρ c (Proc.devRef .tc main_arg18) = m ((c : Thread nD τ).loc main_arg18) :=
  W8_args m ρ c main_arg18 (by decide)
theorem W8_main_arg19 (c : Dev nD) : W8 m ρ c (Proc.devRef .tc main_arg19) = m ((c : Thread nD τ).loc main_arg19) :=
  W8_args m ρ c main_arg19 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W8`, the generator register at some state. -/
abbrev Tₙ (c : Dev nD) : sProp 𝕄 := iprop(StableHlo.held (c : Thread nD τ) (Pipeline.ucRefs τ sig) (W8 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) (A_eq0 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W7`, left at `W8`
    (what the launch reads at the end). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V7 m ρ c) (A_eq1 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run with every array it leaves: at the compiled mesh, from any memory with zero counters, every weakly fair execution
    terminates, nothing faulting, the arrays hold what the host stretches and the pipelines left in them (`W8`), and every
    counter is at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

/-- The run: the result array ends as the second pipeline's last, the argument arrays as launched, every counter at zero. -/
theorem ends : θ_run defs (onTc (τ := τ) (main (F := F))) ⟨m, fun _ => 0, ρ⟩ (fun r => (∀ c : Dev nD,
      r.2.mem ((c.tc : Thread nD τ).loc main_v29) = (dat1 (V7 m ρ) c).arrAt 26 cfg1.N ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  (θ_run defs _ _).mono (fun r hr => ⟨fun c => let h := hr.1
      ⟨(h c _ (mem_uc main_v29 (by decide))).trans (W8_arr m ρ c 26), (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c)⟩, hr.2⟩) (run_all m ρ)

/-- The frame: the argument arrays end as launched and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  (θ_run defs _ _).mono (fun _ h => ⟨fun c => (h.1 c).2, h.2⟩) (ends m ρ)

end Cert.KernelIdeal.Gen

end
-- ==== Proof.MixBody.lean ====
module

public import proofs.«01_k».proof.Proof.IdealBody

@[expose] public section

set_option maxRecDepth 16384

/-! # What the mixing body leaves in its output block

The body of the mixing call treats its 512 rows as two halves of 256 and its 512 attention lanes as
four pairs of heads. The values it stores are named here by one definition per kind of piece: the
attention of one head pair of one half, the gating of one head pair of one chunk of 128 rows, and the
projection with its normalization of one half. -/

noncomputable section

namespace Cert.KernelIdeal.Gen
open Cert.KernelIdeal Idealize.ShloMosaic Idealize.ShloMosaic.TcCoe Idealize.SL.Sem
variable {F : FTy → Type} [FloatOps F] [Named F]

/-- The attention of one pair of heads: the queries `qp` against the context keys `kc`, the queries `qr` against
    the three key blocks with their tables, one softmax over the four, and the weighted values. -/
def attnPiece (qp kc qr k1 k2 k3 : Vec F S256x128 .bf16) (tL tM tH : Vec F S1x1x2x256x256 .f32)
    (vC vL vM vH : Vec F S256x128 .bf16) : FVec F S256x128 .bf16 :=
  k1_pay14 k1_pay2
    (k1_pay10 (k1_pay3 qp kc) (k1_pay4 qr) (k1_pay5 qr k1) tL k2 tM k3 tH)
    (k1_pay11 (k1_pay3 qp kc) (k1_pay4 qr) (k1_pay5 qr k1) tL k2 tM k3 tH)
    (k1_pay12 (k1_pay3 qp kc) (k1_pay4 qr) (k1_pay5 qr k1) tL k2 tM k3 tH)
    (k1_pay13 (k1_pay3 qp kc) (k1_pay4 qr) (k1_pay5 qr k1) tL k2 tM k3 tH)
    vC vL vM vH

/-- The gating of the first of two chunks of rows, for one pair of heads. -/
def gateFst (sa sb : Vec F S128x128 .bf16) (w : Vec F S1x1x256x128 .bf16) (bs : Vec F S1x1x128x128 .f32)
    (gu : Vec F S128x128 .bf16) : FVec F S128x128 .bf16 :=
  k1_pay118 (iota .tc S128x128 32 [1] iota_S128x128_d1_w32) 64#32 sa sb w bs gu

/-- The gating of the second of two chunks of rows, for one pair of heads. -/
def gateSnd (sa sb : Vec F S128x128 .bf16) (w : Vec F S1x1x256x128 .bf16) (bs : Vec F S1x1x128x128 .f32)
    (gu : Vec F S128x128 .bf16) : FVec F S128x128 .bf16 :=
  k1_pay120 (k1_pay119 (iota .tc S128x128 32 [1] iota_S128x128_d1_w32) 64#32 sa sb w bs gu)

/-- Projection, gated merge, residual and normalization of one half. -/
def halfOut (oa ga : Vec F S256x512 .bf16) (wa wb : Vec F S1x512x1024 .bf16) (sa sb : Vec F S256x1024 .bf16)
    (wo : Vec F S1x1024x1024 .bf16) (x : Vec F S256x1024 .f32) (m : Vec F S1x1x1x1024 .f32)
    (lg lb : Vec F S1x1x1024 .f32) : FVec F S256x1024 .f32 :=
  k1_pay151 (k1_pay150 oa wa ga wb sa sb) wo x m lg lb

variable (V : (c : Dev nD) → (b : Ref sig .tc) → Buf (Elt F) ((c : Thread nD τ).loc b))

/-- A tile of the attention lanes of head pair `p` in rows `256 s …`. -/
theorem inb_half : ∀ (s : Fin 2) (p : Fin 4) (a : Fin 2),
    (![256 * s.val, 128 * p.val] : Fin 2 → ℕ) a + S256x128.size a ≤ S512x512.size a := by decide
theorem inb_pair : ∀ (p : Fin 4) (a : Fin 2),
    (![0, 128 * p.val] : Fin 2 → ℕ) a + S256x128.size a ≤ S256x512.size a := by decide
theorem inb_mid : ∀ (p : Fin 4) (a : Fin 5),
    (![0, 2, 2 * p.val, 0, 0] : Fin 5 → ℕ) a + S1x1x2x256x256.size a ≤ S1x6x8x256x256.size a := by decide
theorem inb_chunk : ∀ (s : Fin 4) (p : Fin 4) (a : Fin 2),
    (![128 * s.val, 128 * p.val] : Fin 2 → ℕ) a + S128x128.size a ≤ S512x512.size a := by decide
theorem inb_ws : ∀ (p : Fin 4) (a : Fin 4),
    (![0, p.val, 0, 0] : Fin 4 → ℕ) a + S1x1x256x128.size a ≤ S1x4x256x128.size a := by decide
theorem inb_bs : ∀ (p : Fin 4) (a : Fin 4),
    (![0, p.val, 0, 0] : Fin 4 → ℕ) a + S1x1x128x128.size a ≤ S1x4x128x128.size a := by decide
theorem inb_rows512 : ∀ (s : Fin 2) (a : Fin 2),
    (![256 * s.val, 0] : Fin 2 → ℕ) a + S256x512.size a ≤ S512x512.size a := by decide
theorem inb_rows : ∀ (s : Fin 2) (a : Fin 2),
    (![256 * s.val, 0] : Fin 2 → ℕ) a + S256x1024.size a ≤ S512x1024.size a := by decide

/-- The attention of head pair `p` of half `s`, with the key and value blocks and the table offsets it reads. -/
def attnAt (s : Fin 2) (p : Fin 4) (qr qp : Vec F S512x512 .bf16) (kc vc k1 k2 k3 v1 v2 v3 : Vec F S256x512 .bf16)
    (tab : Vec F S1x6x8x256x256 .f32) (oL oH : Fin 5 → ℕ)
    (hL : ∀ a : Fin 5, oL a + S1x1x2x256x256.size a ≤ S1x6x8x256x256.size a)
    (hH : ∀ a : Fin 5, oH a + S1x1x2x256x256.size a ≤ S1x6x8x256x256.size a) : FVec F S256x128 .bf16 :=
  attnPiece
    (View.ld qp (Rect.unit (s := S512x512) ![256 * s.val, 128 * p.val] S256x128.size (inb_half s p)))
    (View.ld kc (Rect.unit (s := S256x512) ![0, 128 * p.val] S256x128.size (inb_pair p)))
    (View.ld qr (Rect.unit (s := S512x512) ![256 * s.val, 128 * p.val] S256x128.size (inb_half s p)))
    (View.ld k1 (Rect.unit (s := S256x512) ![0, 128 * p.val] S256x128.size (inb_pair p)))
    (View.ld k2 (Rect.unit (s := S256x512) ![0, 128 * p.val] S256x128.size (inb_pair p)))
    (View.ld k3 (Rect.unit (s := S256x512) ![0, 128 * p.val] S256x128.size (inb_pair p)))
    (View.ld tab (Rect.unit (s := S1x6x8x256x256) oL S1x1x2x256x256.size hL))
    (View.ld tab (Rect.unit (s := S1x6x8x256x256) ![0, 2, 2 * p.val, 0, 0] S1x1x2x256x256.size (inb_mid p)))
    (View.ld tab (Rect.unit (s := S1x6x8x256x256) oH S1x1x2x256x256.size hH))
    (View.ld vc (Rect.unit (s := S256x512) ![0, 128 * p.val] S256x128.size (inb_pair p)))
    (View.ld v1 (Rect.unit (s := S256x512) ![0, 128 * p.val] S256x128.size (inb_pair p)))
    (View.ld v2 (Rect.unit (s := S256x512) ![0, 128 * p.val] S256x128.size (inb_pair p)))
    (View.ld v3 (Rect.unit (s := S256x512) ![0, 128 * p.val] S256x128.size (inb_pair p)))

/-- The attention piece of the first half at point `t`. -/
def attnFst (c : Dev nD) (t : Fin cfg1.N) (p : Fin 4) (oL oH : Fin 5 → ℕ)
    (hL : ∀ a : Fin 5, oL a + S1x1x2x256x256.size a ≤ S1x6x8x256x256.size a)
    (hH : ∀ a : Fin 5, oH a + S1x1x2x256x256.size a ≤ S1x6x8x256x256.size a) : FVec F S256x128 .bf16 :=
  attnAt 0 p (iblk1 V c 2 t) (iblk1 V c 3 t) (iblk1 V c 12 t) (iblk1 V c 13 t)
    (iblk1 V c 4 t) (iblk1 V c 5 t) (iblk1 V c 6 t) (iblk1 V c 8 t) (iblk1 V c 9 t) (iblk1 V c 10 t) (iblk1 V c 14 t) oL oH hL hH

/-- The attention piece of the second half at point `t`. -/
def attnSnd (c : Dev nD) (t : Fin cfg1.N) (p : Fin 4) (oL oH : Fin 5 → ℕ)
    (hL : ∀ a : Fin 5, oL a + S1x1x2x256x256.size a ≤ S1x6x8x256x256.size a)
    (hH : ∀ a : Fin 5, oH a + S1x1x2x256x256.size a ≤ S1x6x8x256x256.size a) : FVec F S256x128 .bf16 :=
  attnAt 1 p (iblk1 V c 2 t) (iblk1 V c 3 t) (iblk1 V c 12 t) (iblk1 V c 13 t)
    (iblk1 V c 5 t) (iblk1 V c 6 t) (iblk1 V c 7 t) (iblk1 V c 9 t) (iblk1 V c 10 t) (iblk1 V c 11 t) (iblk1 V c 14 t) oL oH hL hH

/-- A piece of the attention scratch. -/
def attnPc (s : Fin 2) (p : Fin 4) (x : FVec F S256x128 .bf16) : View.Piece (Elt F) S512x512 .bf16 :=
  ⟨Rect.unit (s := S512x512) ![256 * s.val, 128 * p.val] S256x128.size (inb_half s p), x⟩

/-- The eight pieces of the attention scratch, the last stored first. -/
def attnList (c : Dev nD) (t : Fin cfg1.N) (i : grid1.Coords) : List (View.Piece (Elt F) S512x512 .bf16) :=
  [attnPc 1 3 (attnSnd V c t 3 (k1_off4 i 7#32 1#32 0#32) (k1_off4 i 7#32 5#32 3#32) (k1_off4_inb i 2) (k1_off4_inb i 3)),
   attnPc 1 2 (attnSnd V c t 2 (k1_off3 i 7#32 1#32 0#32) (k1_off3 i 7#32 5#32 3#32) (k1_off3_inb i 2) (k1_off3_inb i 3)),
   attnPc 1 1 (attnSnd V c t 1 (k1_off2 i 7#32 1#32 0#32) (k1_off2 i 7#32 5#32 3#32) (k1_off2_inb i 2) (k1_off2_inb i 3)),
   attnPc 1 0 (attnSnd V c t 0 (k1_off1 i 7#32 1#32 0#32) (k1_off1 i 7#32 5#32 3#32) (k1_off1_inb i 2) (k1_off1_inb i 3)),
   attnPc 0 3 (attnFst V c t 3 (k1_off4 i 0#32 5#32 0#32) (k1_off4 i 0#32 4#32 3#32) (k1_off4_inb i 0) (k1_off4_inb i 1)),
   attnPc 0 2 (attnFst V c t 2 (k1_off3 i 0#32 5#32 0#32) (k1_off3 i 0#32 4#32 3#32) (k1_off3_inb i 0) (k1_off3_inb i 1)),
   attnPc 0 1 (attnFst V c t 1 (k1_off2 i 0#32 5#32 0#32) (k1_off2 i 0#32 4#32 3#32) (k1_off2_inb i 0) (k1_off2_inb i 1)),
   attnPc 0 0 (attnFst V c t 0 (k1_off1 i 0#32 5#32 0#32) (k1_off1 i 0#32 4#32 3#32) (k1_off1_inb i 0) (k1_off1_inb i 1))]

/-- The gating of head pair `p` in the first chunk of half `s`. -/
def gate0At (c : Dev nD) (t : Fin cfg1.N) (sa sb p : Fin 4) : FVec F S128x128 .bf16 :=
  gateFst (View.ld (iblk1 V c 16 t) (Rect.unit (s := S512x512) ![128 * sa.val, 128 * p.val] S128x128.size (inb_chunk sa p)))
    (View.ld (iblk1 V c 16 t) (Rect.unit (s := S512x512) ![128 * sb.val, 128 * p.val] S128x128.size (inb_chunk sb p)))
    (View.ld (iblk1 V c 19 t) (Rect.unit (s := S1x4x256x128) ![0, p.val, 0, 0] S1x1x256x128.size (inb_ws p)))
    (View.ld (iblk1 V c 20 t) (Rect.unit (s := S1x4x128x128) ![0, p.val, 0, 0] S1x1x128x128.size (inb_bs p)))
    (View.ld (iblk1 V c 15 t) (Rect.unit (s := S512x512) ![128 * sa.val, 128 * p.val] S128x128.size (inb_chunk sa p)))

/-- The gating of head pair `p` in the second chunk of half `s`. -/
def gate1At (c : Dev nD) (t : Fin cfg1.N) (sa sb p : Fin 4) : FVec F S128x128 .bf16 :=
  gateSnd (View.ld (iblk1 V c 16 t) (Rect.unit (s := S512x512) ![128 * sa.val, 128 * p.val] S128x128.size (inb_chunk sa p)))
    (View.ld (iblk1 V c 16 t) (Rect.unit (s := S512x512) ![128 * sb.val, 128 * p.val] S128x128.size (inb_chunk sb p)))
    (View.ld (iblk1 V c 19 t) (Rect.unit (s := S1x4x256x128) ![0, p.val, 0, 0] S1x1x256x128.size (inb_ws p)))
    (View.ld (iblk1 V c 20 t) (Rect.unit (s := S1x4x128x128) ![0, p.val, 0, 0] S1x1x128x128.size (inb_bs p)))
    (View.ld (iblk1 V c 15 t) (Rect.unit (s := S512x512) ![128 * sb.val, 128 * p.val] S128x128.size (inb_chunk sb p)))

/-- A piece of the gating scratch. -/
def gatePc (s p : Fin 4) (x : FVec F S128x128 .bf16) : View.Piece (Elt F) S512x512 .bf16 :=
  ⟨Rect.unit (s := S512x512) ![128 * s.val, 128 * p.val] S128x128.size (inb_chunk s p), x⟩

/-- The sixteen pieces of the gating scratch, the last stored first. -/
def gateList (c : Dev nD) (t : Fin cfg1.N) : List (View.Piece (Elt F) S512x512 .bf16) :=
  [gatePc 3 3 (gate1At V c t 2 3 3), gatePc 2 3 (gate0At V c t 2 3 3),
   gatePc 3 2 (gate1At V c t 2 3 2), gatePc 2 2 (gate0At V c t 2 3 2),
   gatePc 3 1 (gate1At V c t 2 3 1), gatePc 2 1 (gate0At V c t 2 3 1),
   gatePc 3 0 (gate1At V c t 2 3 0), gatePc 2 0 (gate0At V c t 2 3 0),
   gatePc 1 3 (gate1At V c t 0 1 3), gatePc 0 3 (gate0At V c t 0 1 3),
   gatePc 1 2 (gate1At V c t 0 1 2), gatePc 0 2 (gate0At V c t 0 1 2),
   gatePc 1 1 (gate1At V c t 0 1 1), gatePc 0 1 (gate0At V c t 0 1 1),
   gatePc 1 0 (gate1At V c t 0 1 0), gatePc 0 0 (gate0At V c t 0 1 0)]

/-- The rows of half `s` of a scratch holding the pieces `L`. -/
def rowsOf (s : Fin 2) (L : List (View.Piece (Elt F) S512x512 .bf16)) : Vec F S256x512 .bf16 :=
  fun j => View.canon L ((Rect.unit (s := S512x512) ![256 * s.val, 0] S256x512.size (inb_rows512 s)).toLoadRect.idx j)

/-- The half `s` of the output block from the scratches' pieces. -/
def halfAt (c : Dev nD) (t : Fin cfg1.N) (LA LG : List (View.Piece (Elt F) S512x512 .bf16)) (s : Fin 2) : FVec F S256x1024 .f32 :=
  halfOut (rowsOf s LA) (rowsOf s LG)
    (View.ld (iblk1 V c 21 t) (Rect.unit (s := S1x512x1024) ![0, 0, 0] S1x512x1024.size inb_S1x512x1024_S1x512x1024_0_0_0))
    (View.ld (iblk1 V c 22 t) (Rect.unit (s := S1x512x1024) ![0, 0, 0] S1x512x1024.size inb_S1x512x1024_S1x512x1024_0_0_0))
    (View.ld (iblk1 V c 17 t) (Rect.unit (s := S512x1024) ![256 * s.val, 0] S256x1024.size (inb_rows s)))
    (View.ld (iblk1 V c 18 t) (Rect.unit (s := S512x1024) ![256 * s.val, 0] S256x1024.size (inb_rows s)))
    (View.ld (iblk1 V c 23 t) (Rect.unit (s := S1x1024x1024) ![0, 0, 0] S1x1024x1024.size inb_S1x1024x1024_S1x1024x1024_0_0_0))
    (View.ld (iblk1 V c 0 t) (Rect.unit (s := S512x1024) ![256 * s.val, 0] S256x1024.size (inb_rows s)))
    (View.ld (iblk1 V c 1 t) (Rect.unit (s := S1x1x6x1024) ![0, 0, 2, 0] S1x1x1x1024.size inb_S1x1x6x1024_S1x1x1x1024_0_0_2_0))
    (View.ld (iblk1 V c 24 t) (Rect.unit (s := S1x1x1024) ![0, 0, 0] S1x1x1024.size inb_S1x1x1024_S1x1x1024_0_0_0))
    (View.ld (iblk1 V c 25 t) (Rect.unit (s := S1x1x1024) ![0, 0, 0] S1x1x1024.size inb_S1x1x1024_S1x1x1024_0_0_0))

/-- The two pieces of the output block. -/
def outPc (s : Fin 2) (x : FVec F S256x1024 .f32) : View.Piece (Elt F) S512x1024 .f32 :=
  ⟨Rect.unit (s := S512x1024) ![256 * s.val, 0] S256x1024.size (inb_rows s), x⟩

set_option maxHeartbeats 4000000 in
/-- What the mixing body leaves in its output block: two halves over the two scratches. -/
theorem outsAt1_eq (c : Dev nD) (t : Fin cfg1.N) : outsAt1 V c t = View.canon
    [outPc 1 (halfAt V c t (attnList V c t (grid1.coords t)) (gateList V c t) 1),
     outPc 0 (halfAt V c t (attnList V c t (grid1.coords t)) (gateList V c t) 0)] := by
  unfold outsAt1 out1_A_26; rw [View.read_writes_junk_eq_canon]; unfold kernelRun1_A; dsimp only
  sl_unfold_words
  simp only [View.readAt_eq_ld, View.readCov_eq_canon', (hs1_0 t).read_unread, (hs1_1 t).read_unread, (hs1_4 t).read_unread, (hs1_5 t).read_unread, (hs1_6 t).read_unread, (hs1_7 t).read_unread, (hs1_8 t).read_unread, (hs1_9 t).read_unread, (hs1_10 t).read_unread, (hs1_11 t).read_unread, (hs1_12 t).read_unread, (hs1_13 t).read_unread, (hs1_14 t).read_unread, (hs1_15 t).read_unread, (hs1_17 t).read_unread, (hs1_18 t).read_unread, (hs1_19 t).read_unread, (hs1_20 t).read_unread, (hs1_21 t).read_unread, (hs1_22 t).read_unread, (hs1_23 t).read_unread, (hs1_24 t).read_unread, (hs1_25 t).read_unread]
  rw [(hs1_2 t).read_unread, (hs1_3 t).read_unread, (hs1_16 t).read_unread]
  rfl
end Cert.KernelIdeal.Gen
-- ==== Proof.RefMask.lean ====
module

public import proofs.«01_k».proof.Proof.Gen.ReferenceIdeal.Read
public import Idealize.ShloMosaic.Lib.Pointwise

/-! # The reference's window mask and position bias, read at a query and a key token -/

@[expose] public section

set_option maxRecDepth 16384

noncomputable section

namespace Cert.RefValue

open Idealize.ShloMosaic
open Cert.ReferenceIdeal Cert.ReferenceIdeal.Gen Cert.ReferenceIdeal.Read

/-- Key row `c` is in the window of query row `a`. -/
def rowIn (a c : ℕ) : Prop := min 56 (a - 4) ≤ c ∧ c < min 56 (a - 4) + 8

/-- Key column `c` is in the window of query column `a`. -/
def colIn (a c : ℕ) : Prop := min 48 (a - 8) ≤ c ∧ c < min 48 (a - 8) + 16

instance (a c : ℕ) : Decidable (rowIn a c) := inferInstanceAs (Decidable (_ ∧ _))
instance (a c : ℕ) : Decidable (colIn a c) := inferInstanceAs (Decidable (_ ∧ _))

/-- Key token `t` is in the window of query token `q`. -/
def inWin (q t : ℕ) : Prop := rowIn (q / 64) (t / 64) ∧ colIn (q % 64) (t % 64)

instance (q t : ℕ) : Decidable (inWin q t) := inferInstanceAs (Decidable (_ ∧ _))

/-- A coordinate's distance from the query's, as a place in the bias table: moved by `s`, held between 0 and `n`. -/
abbrev place (s n a c : ℕ) : ℕ := min n (c + s - a)

/-- The words of a row or column number. -/
abbrev word (n : ℕ) : BitVec 32 := BitVec.ofNat 32 n

/-- The first row of the window of row `a`, the first column of the window of column `a`, as words. -/
abbrev rowWord (a : ℕ) : BitVec 32 := IntOp.minsi 56#32 (IntOp.maxsi 0#32 (IntOp.subi (word a) 4#32))
abbrev colWord (a : ℕ) : BitVec 32 := IntOp.minsi 48#32 (IntOp.maxsi 0#32 (IntOp.subi (word a) 8#32))

theorem row_word : ∀ a c : Fin 64,
    IntOp.andi (IntOp.cmpi .sge (word c) (rowWord a)) (IntOp.cmpi .slt (word c) (IntOp.addi (rowWord a) 8#32))
      = if rowIn a c then 1#1 else 0#1 := by decide +kernel

theorem col_word : ∀ a c : Fin 64,
    IntOp.cmpi .sge (word c) (colWord a) = (if min 48 (a.val - 8) ≤ c.val then 1#1 else 0#1)
    ∧ IntOp.cmpi .slt (word c) (IntOp.addi (colWord a) 16#32) = if c.val < min 48 (a.val - 8) + 16 then 1#1 else 0#1 := by
  decide +kernel

theorem mask_apply (q t : Fin 4096) :
    val_main_v32 (F := Ideal) (ix2 q t) = if inWin q t then 1#1 else 0#1 := by
  simp only [val_main_v32_apply, val_main_v26_apply, val_main_v22_apply, val_main_v16_apply, val_main_v21_apply,
    val_main_v25_apply, val_main_v31_apply, val_main_v14_apply, val_main_v15_apply, val_main_v19_apply, val_main_v20_apply,
    val_main_v23_apply, val_main_v24_apply, val_main_v29_apply, val_main_v30_apply, val_main_v18_apply, val_main_v28_apply,
    val_main_v17_apply, val_main_v27_apply, val_main_v10_apply, val_main_v13_apply, val_main_call0_v4_apply,
    val_main_call0_v3_apply, val_main_call0_v2_apply, val_main_call0_v1_apply, val_main_call0_v0_apply,
    val_main_call1_v4_apply,
    val_main_call1_v3_apply, val_main_call1_v2_apply, val_main_call1_v1_apply, val_main_call1_v0_apply,
    val_main_v9_apply, val_main_v12_apply, val_main_v8_apply, val_main_v11_apply, val_main_v4_apply, val_main_v5_apply,
    val_main_v6_apply, val_main_v7_apply, val_main_v1_apply, val_main_v3_apply, val_main_v0_apply, val_main_v2_apply,
    val_main_c_apply, val_main_c_0_apply, val_main_c_1_apply, val_main_c_2_apply, val_main_c_3_apply, val_main_c_4_apply,
    val_main_c_5_apply, val_main_c_6_apply]
  have hr := row_word ⟨q / 64, by omega⟩ ⟨t / 64, by omega⟩
  have hc := col_word ⟨q % 64, by omega⟩ ⟨t % 64, by omega⟩
  refine (congrArg₂ IntOp.andi (congrArg₂ IntOp.andi hr hc.1) hc.2).trans ?_
  unfold inWin colIn
  dsimp only
  by_cases h1 : rowIn (q / 64) (t / 64) <;> by_cases h2 : min 48 (q.val % 64 - 8) ≤ t.val % 64 <;>
    by_cases h3 : t.val % 64 < min 48 (q.val % 64 - 8) + 16 <;> simp [h1, h2, h3, IntOp.andi]

/-- A place in the bias table as the reference reckons it: clipped, then moved up if it were negative. -/
theorem place_row : ∀ a c : Fin 64,
    let p := IntOp.minsi 14#32 (IntOp.maxsi 0#32 (IntOp.subi (IntOp.addi (IntOp.subi (word c) (word a)) 8#32) 1#32))
    (Scalar.select (IntOp.cmpi .slt p 0#32) (IntOp.addi p 15#32) p).toInt.toNat = place 7 14 a c := by decide +kernel

theorem place_col : ∀ a c : Fin 64,
    let p := IntOp.minsi 30#32 (IntOp.maxsi 0#32 (IntOp.subi (IntOp.addi (IntOp.subi (word c) (word a)) 16#32) 1#32))
    (Scalar.select (IntOp.cmpi .slt p 0#32) (IntOp.addi p 31#32) p).toInt.toNat = place 15 30 a c := by decide +kernel

theorem place_row_apply (q t : Fin 4096) :
    (val_main_v55 (F := Ideal) (ix2 q t)).toInt.toNat = place 7 14 (q / 64) (t / 64) := by
  simp only [val_main_v55_apply, val_main_v52_apply, val_main_v54_apply, val_main_v51_apply, val_main_v53_apply,
    val_main_v40_apply, val_main_call2_v4_apply, val_main_call2_v3_apply, val_main_call2_v2_apply, val_main_call2_v1_apply,
    val_main_call2_v0_apply, val_main_v39_apply, val_main_v38_apply, val_main_v37_apply, val_main_v36_apply,
    val_main_v35_apply, val_main_v34_apply, val_main_v33_apply, val_main_v4_apply, val_main_v5_apply, val_main_v1_apply,
    val_main_v0_apply, val_main_c_7_apply, val_main_c_8_apply, val_main_c_9_apply, val_main_c_10_apply,
    val_main_c_15_apply, val_main_c_16_apply]
  exact place_row ⟨q / 64, by omega⟩ ⟨t / 64, by omega⟩

theorem place_col_apply (q t : Fin 4096) :
    (val_main_v60 (F := Ideal) (ix2 q t)).toInt.toNat = place 15 30 (q % 64) (t % 64) := by
  simp only [val_main_v60_apply, val_main_v57_apply, val_main_v59_apply, val_main_v56_apply, val_main_v58_apply,
    val_main_v48_apply, val_main_call3_v4_apply, val_main_call3_v3_apply, val_main_call3_v2_apply, val_main_call3_v1_apply,
    val_main_call3_v0_apply, val_main_v47_apply, val_main_v46_apply, val_main_v45_apply, val_main_v44_apply,
    val_main_v43_apply, val_main_v42_apply, val_main_v41_apply, val_main_v6_apply, val_main_v7_apply, val_main_v3_apply,
    val_main_v2_apply, val_main_c_11_apply, val_main_c_12_apply, val_main_c_13_apply, val_main_c_14_apply,
    val_main_c_17_apply, val_main_c_18_apply]
  exact place_col ⟨q % 64, by omega⟩ ⟨t % 64, by omega⟩

/-- The two places side by side: the row's first. -/
theorem places0_apply (q t : Fin 4096) :
    (val_main_v63 (F := Ideal) (ix3 q t 0)).toInt.toNat = place 7 14 (q / 64) (t / 64) := by
  rw [show val_main_v63 (F := Ideal) (ix3 q t 0) = val_main_v61 (F := Ideal) (ix3 q t 0) by unfold val_main_v63; pointwise]
  rw [val_main_v61_apply, show idx_main_v61 (ix3 q t 0) = ix2 q t from funext fun b => match b with | ⟨0, _⟩ => rfl | ⟨1, _⟩ => rfl]
  exact place_row_apply q t

/-- and the column's second. -/
theorem places1_apply (q t : Fin 4096) :
    (val_main_v63 (F := Ideal) (ix3 q t 1)).toInt.toNat = place 15 30 (q % 64) (t % 64) := by
  rw [show val_main_v63 (F := Ideal) (ix3 q t 1) = val_main_v62 (F := Ideal) (ix3 q t 0) by unfold val_main_v63; pointwise]
  rw [val_main_v62_apply, show idx_main_v62 (ix3 q t 0) = ix2 q t from funext fun b => match b with | ⟨0, _⟩ => rfl | ⟨1, _⟩ => rfl]
  exact place_col_apply q t

/-- The bias table gathered: at the two places of the pair of tokens, each held inside the table. -/
theorem gather_apply (x : Vec Ideal S8x15x31 .f32) (i : IVec S4096x4096x2 32) (h : Fin 8) (q t : Fin 4096) :
    Host.gather gather_S8x15x31_S4096x4096x2_S8x4096x4096_0_12_n_n_12_2_811 x i (ix3 h q t)
      = x (ix3 h ⟨min (i (ix3 q t 0)).toInt.toNat 14, by omega⟩ ⟨min (i (ix3 q t 1)).toInt.toNat 30, by omega⟩) := by
  unfold Host.gather
  congr 1
  funext a
  refine Fin.ext ?_
  show (gather_S8x15x31_S4096x4096x2_S8x4096x4096_0_12_n_n_12_2_811).start (ix3 h q t) i a
    + (gather_S8x15x31_S4096x4096x2_S8x4096x4096_0_12_n_n_12_2_811).batchCoord (ix3 h q t) a
    + (gather_S8x15x31_S4096x4096x2_S8x4096x4096_0_12_n_n_12_2_811).offCoord (ix3 h q t) a = _
  rw [GatherDims.batchCoord_eq_zero _ _ _ List.not_mem_nil]
  have three : ∀ a : Fin 3, a = 0 ∨ a = 1 ∨ a = 2 := by decide
  rcases three a with rfl | rfl | rfl
  · unfold GatherDims.start
    rw [dif_neg (by simp [gather_S8x15x31_S4096x4096x2_S8x4096x4096_0_12_n_n_12_2_811])]
    unfold GatherDims.offCoord
    rw [dif_pos (by rw [GatherDims.mem_sKept]; simp [gather_S8x15x31_S4096x4096x2_S8x4096x4096_0_12_n_n_12_2_811])]
    simp only [Nat.zero_add]
    rfl
  · rw [GatherDims.offCoord_eq_zero _ _ _ (by rw [GatherDims.mem_sKept]; simp [gather_S8x15x31_S4096x4096x2_S8x4096x4096_0_12_n_n_12_2_811])]
    unfold GatherDims.start
    rw [dif_pos (by simp [gather_S8x15x31_S4096x4096x2_S8x4096x4096_0_12_n_n_12_2_811])]
    simp only [Nat.add_zero]
    rw [show GatherDims.siIdx _ _ _ = (ix3 q t 0 : S4096x4096x2.Idx) from ?_]
    · rfl
    · funext b; refine Fin.ext ?_
      match b with
      | ⟨0, _⟩ => rfl
      | ⟨1, _⟩ => rfl
      | ⟨2, _⟩ => rfl
  · rw [GatherDims.offCoord_eq_zero _ _ _ (by rw [GatherDims.mem_sKept]; simp [gather_S8x15x31_S4096x4096x2_S8x4096x4096_0_12_n_n_12_2_811])]
    unfold GatherDims.start
    rw [dif_pos (by simp [gather_S8x15x31_S4096x4096x2_S8x4096x4096_0_12_n_n_12_2_811])]
    simp only [Nat.add_zero]
    rw [show GatherDims.siIdx _ _ _ = (ix3 q t 1 : S4096x4096x2.Idx) from ?_]
    · rfl
    · funext b; refine Fin.ext ?_
      match b with
      | ⟨0, _⟩ => rfl
      | ⟨1, _⟩ => rfl
      | ⟨2, _⟩ => rfl

theorem place_lt (s n a c : ℕ) : place s n a c < n + 1 := Nat.lt_succ_of_le (min_le_left _ _)

theorem bias_apply (x8 : Vec Ideal S2x8x15x31 .f32) (h : Fin 8) (q t : Fin 4096) :
    val_main_v64 (F := Ideal) x8 (ix3 h q t)
      = x8 (ix4 0 h ⟨place 7 14 (q / 64) (t / 64), place_lt _ _ _ _⟩ ⟨place 15 30 (q % 64) (t % 64), place_lt _ _ _ _⟩) := by
  unfold val_main_v64
  rw [gather_apply]
  simp only [places0_apply, places1_apply]
  rw [val_main_v50_apply, val_main_v49_apply]
  congr 1
  have hh := h.isLt
  have a1 := place_lt 7 14 (q / 64) (t / 64)
  have a2 := place_lt 15 30 (q % 64) (t % 64)
  have e1 : min (place 7 14 (q / 64) (t / 64)) 14 = place 7 14 (q / 64) (t / 64) := by omega
  have e2 : min (place 15 30 (q % 64) (t % 64)) 30 = place 15 30 (q % 64) (t % 64) := by omega
  simp only [e1, e2]
  funext a; refine Fin.ext ?_
  match a with
  | ⟨0, _⟩ => rfl
  | ⟨1, _⟩ => show ((h.val * 15 + place 7 14 (q / 64) (t / 64)) * 31 + place 15 30 (q % 64) (t % 64)) / 465 % 8 = h.val; omega
  | ⟨2, _⟩ => show ((h.val * 15 + place 7 14 (q / 64) (t / 64)) * 31 + place 15 30 (q % 64) (t % 64)) / 31 % 15 = place 7 14 (q / 64) (t / 64); omega
  | ⟨3, _⟩ => show ((h.val * 15 + place 7 14 (q / 64) (t / 64)) * 31 + place 15 30 (q % 64) (t % 64)) % 31 = place 15 30 (q % 64) (t % 64); omega

end Cert.RefValue
-- ==== Proof.Softmax.lean ====
module

public import Idealize.ShloMosaic.PureOps.Ideal
public import Mathlib.Data.EReal.Inv
public import Mathlib.Algebra.BigOperators.Fin

/-! # Softmax-weighted means over the extended reals

The attention of one query token and one head, in the two forms that the certificate compares: over all keys of the
image with the keys out of the window masked by minus infinity, and over the three key blocks round the query's block. -/

@[expose] public section

noncomputable section

namespace Cert.Softmax

open Idealize.ShloMosaic

/-- Multiplying by a finite number that is not negative distributes over any sum, infinite terms or not. -/
theorem sum_mul_of_nonneg {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- A score that is allowed: a real number, or minus infinity where the key is masked. -/
theorem exp_sub_mem {s M : EReal} (hs : s ≠ ⊤) (hM : ∃ r : ℝ, M = r) : ∃ r : ℝ, 0 ≤ r ∧ Ideal.exp (s - M) = r := by
  obtain ⟨r, rfl⟩ := hM
  induction s using EReal.rec with
  | bot => exact ⟨0, le_refl _, by rw [EReal.bot_sub]; simp⟩
  | top => exact absurd rfl hs
  | coe x => exact ⟨Real.exp (x - r), (Real.exp_pos _).le, by rw [← EReal.coe_sub, Ideal.exp_coe]⟩

theorem exp_bot_sub {M : EReal} : Ideal.exp (⊥ - M) = 0 := by rw [EReal.bot_sub]; simp

/-- A sum of real numbers that are not negative is one. -/
theorem sum_mem {ι : Type*} (s : Finset ι) (f : ι → EReal) (h : ∀ i ∈ s, ∃ r : ℝ, 0 ≤ r ∧ f i = r) :
    ∃ r : ℝ, 0 ≤ r ∧ ∑ i ∈ s, f i = r := by
  classical
  induction s using Finset.induction_on with
  | empty => exact ⟨0, le_refl _, by simp⟩
  | insert a s ha ih =>
    obtain ⟨x, hx, ex⟩ := h a (Finset.mem_insert_self _ _)
    obtain ⟨y, hy, ey⟩ := ih fun i hi => h i (Finset.mem_insert_of_mem hi)
    exact ⟨x + y, add_nonneg hx hy, by rw [Finset.sum_insert ha, ex, ey, EReal.coe_add]⟩

/-- The largest of finitely many values, minus infinity of none. -/
abbrev top {n : ℕ} (f : Fin n → EReal) : EReal := Finset.univ.fold max ⊥ f

theorem top_le {n : ℕ} {f : Fin n → EReal} {c : EReal} : top f ≤ c ↔ ∀ i, f i ≤ c := by
  unfold top; rw [Finset.fold_max_le]; simp

theorem le_top {n : ℕ} (f : Fin n → EReal) (i : Fin n) : f i ≤ top f := top_le.mp (le_refl _) i

/-- A sum over the sixteen blocks of which only the three round block `b` are not zero. -/
theorem sum_blocks (F : ℕ → EReal) (b : Fin 16) (h : ∀ B : Fin 16, B.val + 1 ≠ b.val → B ≠ b → B.val ≠ b.val + 1 → F B = 0) :
    ∑ B : Fin 16, F B = (if b.val = 0 then 0 else F (b.val - 1)) + F b.val + (if b.val = 15 then 0 else F (b.val + 1)) := by
  have key : ∀ B : Fin 16, F B = (if B.val + 1 = b.val then F (b.val - 1) else 0) + (if B = b then F b.val else 0)
      + (if B.val = b.val + 1 then F (b.val + 1) else 0) := by
    intro B
    by_cases h1 : B.val + 1 = b.val
    · have h2 : B ≠ b := fun e => by rw [e] at h1; omega
      have h3 : B.val ≠ b.val + 1 := by omega
      simp only [h1, h2, h3, if_true, if_false, add_zero]
      congr 1; omega
    · by_cases h2 : B = b
      · subst h2; simp
      · by_cases h3 : B.val = b.val + 1
        · rw [if_neg h1, if_neg h2, if_pos h3, h3]; simp
        · simp [h1, h2, h3, h B h1 h2 h3]
  rw [Finset.sum_congr rfl fun B _ => key B, Finset.sum_add_distrib, Finset.sum_add_distrib]
  congr 1
  · congr 1
    · by_cases hb : b.val = 0
      · rw [if_pos hb]; exact Finset.sum_eq_zero fun B _ => if_neg (by omega)
      · rw [if_neg hb, Finset.sum_eq_single (⟨b.val - 1, by omega⟩ : Fin 16)]
        · rw [if_pos (by show b.val - 1 + 1 = b.val; omega)]
        · intro B _ hB; exact if_neg fun e => hB (Fin.ext (by show B.val = b.val - 1; omega))
        · simp
    · simp
  · by_cases hb : b.val = 15
    · rw [if_pos hb]; exact Finset.sum_eq_zero fun B _ => if_neg (by omega)
    · rw [if_neg hb, Finset.sum_eq_single (⟨b.val + 1, by omega⟩ : Fin 16)]
      · rw [if_pos rfl]
      · intro B _ hB; exact if_neg fun e => hB (Fin.ext e)
      · simp

/-- A sum over the tokens of an image, block by block. -/
theorem sum_tokens (f : ℕ → EReal) : ∑ t : Fin 4096, f t = ∑ B : Fin 16, ∑ k : Fin 256, f (256 * B.val + k.val) := by
  rw [← Finset.sum_product', Finset.univ_product_univ]
  refine Fintype.sum_equiv (finProdFinEquiv (m := 16) (n := 256)).symm _ _ fun t => ?_
  congr 1
  have := (finProdFinEquiv (m := 16) (n := 256)).apply_symm_apply t
  conv_lhs => rw [← this]
  simp [finProdFinEquiv, add_comm]

/-- What one query token and one head read: scores and values of the context, and of the blocks below, at and above. -/
def attend (sC vC sL vL sM vM sH vH : Fin 256 → EReal) : EReal :=
  let M := max (max (max (top sC) (top sL)) (top sM)) (top sH)
  Ideal.div
    ((((∑ k, Ideal.exp (sC k - M) * vC k) + ∑ k, Ideal.exp (sL k - M) * vL k) + ∑ k, Ideal.exp (sM k - M) * vM k)
      + ∑ k, Ideal.exp (sH k - M) * vH k)
    ((((∑ k, Ideal.exp (sC k - M)) + ∑ k, Ideal.exp (sL k - M)) + ∑ k, Ideal.exp (sM k - M)) + ∑ k, Ideal.exp (sH k - M))

/-- The same over all tokens of the image: scores `S`, values `V`, and the context's. -/
def attendAll (S V : ℕ → EReal) (sC vC : Fin 256 → EReal) : EReal :=
  let M := max (top fun t : Fin 4096 => S t) (top sC)
  let d := (∑ t : Fin 4096, Ideal.exp (S t - M)) + ∑ k, Ideal.exp (sC k - M)
  (∑ t : Fin 4096, Ideal.div (Ideal.exp (S t - M)) d * V t) + ∑ k, Ideal.div (Ideal.exp (sC k - M)) d * vC k

/-- The weighted mean of all is the weighted mean of the three blocks, where every other key is masked and a block that
    does not exist is masked too. -/
theorem attendAll_eq (S V : ℕ → EReal) (sC vC sL vL sM vM sH vH : Fin 256 → EReal) (b : Fin 16)
    (hC : ∀ k, ∃ r : ℝ, sC k = r) (hS : ∀ t : Fin 4096, S t ≠ ⊤)
    (hout : ∀ B : Fin 16, B.val + 1 ≠ b.val → B ≠ b → B.val ≠ b.val + 1 → ∀ k : Fin 256, S (256 * B.val + k.val) = ⊥)
    (hM : ∀ k, sM k = S (256 * b.val + k.val) ∧ vM k = V (256 * b.val + k.val))
    (hL : b.val ≠ 0 → ∀ k, sL k = S (256 * (b.val - 1) + k.val) ∧ vL k = V (256 * (b.val - 1) + k.val))
    (hL0 : b.val = 0 → ∀ k, sL k = ⊥)
    (hH : b.val ≠ 15 → ∀ k, sH k = S (256 * (b.val + 1) + k.val) ∧ vH k = V (256 * (b.val + 1) + k.val))
    (hH0 : b.val = 15 → ∀ k, sH k = ⊥) :
    attendAll S V sC vC = attend sC vC sL vL sM vM sH vH := by
  -- sums over all tokens, of terms that vanish where masked
  have sums : ∀ g : EReal → EReal → EReal, (∀ v, g ⊥ v = 0) →
      ∑ t : Fin 4096, g (S t) (V t) = (∑ k, g (sL k) (vL k)) + (∑ k, g (sM k) (vM k)) + ∑ k, g (sH k) (vH k) := by
    intro g hg
    rw [sum_tokens fun t => g (S t) (V t),
      sum_blocks (fun B => ∑ k : Fin 256, g (S (256 * B + k.val)) (V (256 * B + k.val))) b
        fun B h1 h2 h3 => Finset.sum_eq_zero fun k _ => by rw [hout B h1 h2 h3 k, hg]]
    congr 1
    · congr 1
      · by_cases hb : b.val = 0
        · rw [if_pos hb]; exact (Finset.sum_eq_zero fun k _ => by rw [hL0 hb k, hg]).symm
        · rw [if_neg hb]; exact Finset.sum_congr rfl fun k _ => by rw [(hL hb k).1, (hL hb k).2]
      · exact Finset.sum_congr rfl fun k _ => by rw [(hM k).1, (hM k).2]
    · by_cases hb : b.val = 15
      · rw [if_pos hb]; exact (Finset.sum_eq_zero fun k _ => by rw [hH0 hb k, hg]).symm
      · rw [if_neg hb]; exact Finset.sum_congr rfl fun k _ => by rw [(hH hb k).1, (hH hb k).2]
  -- the largest score
  have hmax : max (top fun t : Fin 4096 => S t) (top sC) = max (max (max (top sC) (top sL)) (top sM)) (top sH) := by
    apply le_antisymm
    · refine max_le (top_le.mpr fun t => ?_) (by simp)
      have ht : t.val = 256 * (t.val / 256) + t.val % 256 := by omega
      have hk : t.val % 256 < 256 := Nat.mod_lt _ (by norm_num)
      rcases lt_trichotomy (t.val / 256) b.val with h | h | h
      · by_cases h1 : t.val / 256 + 1 = b.val
        · have e := (hL (by omega) ⟨t.val % 256, hk⟩).1
          rw [show 256 * (b.val - 1) + t.val % 256 = t.val by omega] at e
          rw [← e]; exact le_trans (le_top sL _) (by simp)
        · have e := hout ⟨t.val / 256, by omega⟩ h1 (fun e => by rw [← e] at h; exact lt_irrefl _ h) (by show t.val / 256 ≠ _; omega) ⟨t.val % 256, hk⟩
          rw [show 256 * (⟨t.val / 256, by omega⟩ : Fin 16).val + (⟨t.val % 256, hk⟩ : Fin 256).val = t.val from ht.symm] at e
          rw [e]; exact bot_le
      · have e := (hM ⟨t.val % 256, hk⟩).1
        rw [show 256 * b.val + t.val % 256 = t.val by omega] at e
        rw [← e]; exact le_trans (le_top sM _) (by simp)
      · by_cases h1 : t.val / 256 = b.val + 1
        · have e := (hH (by omega) ⟨t.val % 256, hk⟩).1
          rw [show 256 * (b.val + 1) + t.val % 256 = t.val by omega] at e
          rw [← e]; exact le_trans (le_top sH _) (by simp)
        · have e := hout ⟨t.val / 256, by omega⟩ (by show t.val / 256 + 1 ≠ _; omega) (fun e => by rw [← e] at h; exact lt_irrefl _ h) h1 ⟨t.val % 256, hk⟩
          rw [show 256 * (⟨t.val / 256, by omega⟩ : Fin 16).val + (⟨t.val % 256, hk⟩ : Fin 256).val = t.val from ht.symm] at e
          rw [e]; exact bot_le
    · have inS : ∀ (B : Fin 16) (k : Fin 256), S (256 * B.val + k.val) ≤ max (top fun t : Fin 4096 => S t) (top sC) := fun B k =>
        le_trans (le_top (fun t : Fin 4096 => S t) ⟨256 * B.val + k.val, by omega⟩) (le_max_left _ _)
      refine max_le (max_le (max_le (le_max_right _ _) (top_le.mpr fun k => ?_)) (top_le.mpr fun k => ?_)) (top_le.mpr fun k => ?_)
      · by_cases hb : b.val = 0
        · rw [hL0 hb k]; exact bot_le
        · rw [(hL hb k).1]; exact inS ⟨b.val - 1, by omega⟩ k
      · rw [(hM k).1]; exact inS b k
      · by_cases hb : b.val = 15
        · rw [hH0 hb k]; exact bot_le
        · rw [(hH hb k).1]; exact inS ⟨b.val + 1, by omega⟩ k
  unfold attendAll attend
  simp only [← hmax]
  generalize hMM : max (top fun t : Fin 4096 => S t) (top sC) = M
  -- it is a real number
  have hreal : ∃ r : ℝ, M = r := by
    obtain ⟨r0, h0⟩ := hC 0
    have lo : (r0 : EReal) ≤ M := by rw [← h0, ← hMM]; exact le_trans (le_top sC 0) (le_max_right _ _)
    have hne : M ≠ ⊤ := by
      rw [← hMM]
      refine ne_of_lt (max_lt ?_ ?_)
      · rw [Finset.fold_max_lt]; exact ⟨bot_lt_top, fun t _ => lt_top_iff_ne_top.mpr (hS t)⟩
      · rw [Finset.fold_max_lt]
        exact ⟨bot_lt_top, fun k _ => by obtain ⟨r, e⟩ := hC k; rw [e]; exact EReal.coe_lt_top r⟩
    exact ⟨M.toReal, (EReal.coe_toReal hne fun e => by rw [e] at lo; simp at lo).symm⟩
  -- the denominator is a positive real number
  obtain ⟨x, hx, ex⟩ := sum_mem Finset.univ (fun t : Fin 4096 => Ideal.exp (S t - M)) fun t _ => exp_sub_mem (hS t) hreal
  have hd : ∃ d : ℝ, 0 < d ∧ (∑ t : Fin 4096, Ideal.exp (S t - M)) + ∑ k, Ideal.exp (sC k - M) = d := by
    obtain ⟨m, rfl⟩ := hreal
    obtain ⟨y, hy, ey⟩ := sum_mem (Finset.univ.erase (0 : Fin 256)) (fun k => Ideal.exp (sC k - m)) fun k _ =>
      exp_sub_mem (by obtain ⟨r, e⟩ := hC k; rw [e]; exact EReal.coe_ne_top r) ⟨m, rfl⟩
    obtain ⟨r0, h0⟩ := hC 0
    refine ⟨x + (Real.exp (r0 - m) + y), by have := Real.exp_pos (r0 - m); positivity, ?_⟩
    rw [ex, ← Finset.add_sum_erase _ _ (Finset.mem_univ (0 : Fin 256)), ey, h0, ← EReal.coe_sub, Ideal.exp_coe,
      EReal.coe_add, EReal.coe_add]
  have den : (∑ t : Fin 4096, Ideal.exp (S t - M)) + ∑ k, Ideal.exp (sC k - M)
      = (((∑ k, Ideal.exp (sC k - M)) + ∑ k, Ideal.exp (sL k - M)) + ∑ k, Ideal.exp (sM k - M)) + ∑ k, Ideal.exp (sH k - M) := by
    rw [sums (fun s _ => Ideal.exp (s - M)) fun _ => exp_bot_sub]; ac_rfl
  rw [← den]
  obtain ⟨d, hd0, hd⟩ := hd
  rw [hd]
  have hc0 : (0 : EReal) ≤ ((1 / d : ℝ) : EReal) := by exact_mod_cast (one_div_pos.mpr hd0).le
  simp only [Ideal.div_coe hd0.ne']
  have swap : ∀ e v : EReal, e * ((1 / d : ℝ) : EReal) * v = e * v * ((1 / d : ℝ) : EReal) := fun e v => by ac_rfl
  simp only [swap]
  rw [← sum_mul_of_nonneg _ _ hc0 (EReal.coe_ne_top _), ← sum_mul_of_nonneg _ _ hc0 (EReal.coe_ne_top _),
    ← EReal.right_distrib_of_nonneg_of_ne_top hc0 (EReal.coe_ne_top _)]
  congr 1
  rw [sums (fun s v => Ideal.exp (s - M) * v) fun v => by rw [exp_bot_sub, zero_mul]]
  ac_rfl

end Cert.Softmax
-- ==== Proof.Spec.lean ====
module

public import proofs.«01_k».proof.Proof.RefMask
public import proofs.«01_k».proof.Proof.Softmax

/-! # The mix layer's result, an element at a time

The functions both programs compute, of the arguments' elements. -/

@[expose] public section

set_option maxRecDepth 16384

noncomputable section

namespace Cert.Spec

open Idealize.ShloMosaic
open Cert.ReferenceIdeal Cert.RefValue

/-- Lane `d` of head `h`. -/
abbrev lane (h : Fin 8) (d : Fin 64) : Fin 512 := ⟨64 * h.val + d.val, by omega⟩

/-- The head a lane is of. -/
abbrev head (j : Fin 512) : Fin 8 := ⟨j.val / 64, by omega⟩

/-- The latent token a number names, the numbers being read in turn. -/
abbrev tok (t : ℕ) : Fin 4096 := ⟨t % 4096, Nat.mod_lt _ (by norm_num)⟩

/-- The score of query token `q` against latent key token `t`: their product and the bias in the window, −∞ outside. -/
def score (qr kr : S4x4096x512.Idx → EReal) (rpb : S2x8x15x31.Idx → EReal) (b : Fin 4) (h : Fin 8) (q t : Fin 4096) : EReal :=
  if inWin q t then
    (∑ d : Fin 64, qr (ix3 b q (lane h d)) * kr (ix3 b t (lane h d)))
      + rpb (ix4 0 h ⟨place 7 14 (q / 64) (t / 64), place_lt _ _ _ _⟩ ⟨place 15 30 (q % 64) (t % 64), place_lt _ _ _ _⟩)
  else ⊥

/-- The score of query token `q` against context key `c`. -/
def scoreC (qp : S4x4096x512.Idx → EReal) (kc : S4x256x512.Idx → EReal) (b : Fin 4) (h : Fin 8) (q : Fin 4096) (c : Fin 256) : EReal :=
  ∑ d : Fin 64, qp (ix3 b q (lane h d)) * kc (ix3 b c (lane h d))

/-- The attention's output. -/
def attn (qr qp kr v : S4x4096x512.Idx → EReal) (kc vc : S4x256x512.Idx → EReal) (rpb : S2x8x15x31.Idx → EReal)
    (b : Fin 4) (q : Fin 4096) (j : Fin 512) : EReal :=
  Softmax.attendAll (fun t => score qr kr rpb b (head j) q (tok t)) (fun t => v (ix3 b (tok t) j))
    (fun c => scoreC qp kc b (head j) q c) (fun c => vc (ix3 b c j))

/-- The spatial gating's output. -/
def gate (gu svn : S4x4096x512.Idx → EReal) (ws : S2x8x128x128.Idx → EReal) (bs : S2x8x128.Idx → EReal)
    (b : Fin 4) (q : Fin 4096) (j : Fin 512) : EReal :=
  gu (ix3 b q j) * ((∑ p : Fin 128, svn (ix3 b (tok (q.val / 128 * 128 + p.val)) j) * ws (ix4 0 (head j) ⟨q.val % 128, by omega⟩ p))
    + bs (ix3 0 (head j) ⟨q.val % 128, by omega⟩))

/-- The layer norm of a row, with its gain and offset. -/
def norm (r g o : Fin 1024 → EReal) (n : Fin 1024) : EReal :=
  (r n - Ideal.div (∑ k, r k) (Ideal.ofBits .f32 0x44800000#32))
    * Ideal.rsqrt (Ideal.div (∑ k, (r k - Ideal.div (∑ k, r k) (Ideal.ofBits .f32 0x44800000#32)) * (r k - Ideal.div (∑ k, r k) (Ideal.ofBits .f32 0x44800000#32)))
        (Ideal.ofBits .f32 0x44800000#32) + Ideal.ofBits .f32 0x3727C5AC#32) * g n + o n

/-- The row of the two branches' outputs, gated and projected. -/
def merge (oa ob : Fin 512 → EReal) (sa sb : Fin 1024 → EReal) (wpa wpb : Fin 512 → Fin 1024 → EReal) (k : Fin 1024) : EReal :=
  sa k * (∑ j, oa j * wpa j k) + sb k * ∑ j, ob j * wpb j k

/-- A row of the layer's result, of the rows it is made from. -/
def layer (oa ob : Fin 512 → EReal) (x sa sb : Fin 1024 → EReal) (wpa wpb : Fin 512 → Fin 1024 → EReal)
    (wo : Fin 1024 → Fin 1024 → EReal) (ga g o : Fin 1024 → EReal) (n : Fin 1024) : EReal :=
  norm (fun n => Ideal.ofBits .f32 0x3FB504F3#32 * x n + ga n * ∑ k, merge oa ob sa sb wpa wpb k * wo k n) g o n

end Cert.Spec
-- ==== Proof.RefAttn.lean ====
module

public import proofs.«01_k».proof.Proof.Spec

/-! # The reference's attention, an element at a time -/

@[expose] public section

set_option maxRecDepth 16384

noncomputable section

namespace Cert.RefValue

open Idealize.ShloMosaic
open Cert.ReferenceIdeal Cert.ReferenceIdeal.Gen Cert.ReferenceIdeal.Read
open Cert.Spec (score scoreC lane head tok)

variable (x2 x3 x4 x5 : S4x4096x512.Idx → EReal) (x6 x7 : S4x256x512.Idx → EReal) (x8 : S2x8x15x31.Idx → EReal)

theorem negInf_word : Ideal.ofBits .f32 0xFF800000#32 = ⊥ := by simp [Ideal.ofBits, Ideal.ieee]

/-- The largest of two runs of numbers, one after the other, is the larger of the two runs' largest. -/
theorem top_append {m n : ℕ} (f : Fin (m + n) → EReal) :
    Softmax.top f = max (Softmax.top fun i : Fin m => f (Fin.castAdd n i)) (Softmax.top fun i : Fin n => f (Fin.natAdd m i)) := by
  apply le_antisymm
  · exact Softmax.top_le.mpr fun i => Fin.addCases (fun i => le_max_of_le_left (Softmax.le_top (fun i : Fin m => f (Fin.castAdd n i)) i))
      (fun i => le_max_of_le_right (Softmax.le_top (fun i : Fin n => f (Fin.natAdd m i)) i)) i
  · exact max_le (Softmax.top_le.mpr fun i => Softmax.le_top f _) (Softmax.top_le.mpr fun i => Softmax.le_top f _)

/-- A token's lane, read through the split into heads. -/
theorem split_lane (b : Fin 4) (q : Fin 4096) (h : Fin 8) (d : Fin 64) :
    idx_main_v93 (ix4 b q h d) = ix3 b q (lane h d) := by
  have := b.isLt; have := q.isLt; have := h.isLt; have := d.isLt
  funext a; refine Fin.ext ?_
  match a with
  | ⟨0, _⟩ => show (((b.val * 4096 + q.val) * 8 + h.val) * 64 + d.val) / 2097152 = b.val; omega
  | ⟨1, _⟩ => show (((b.val * 4096 + q.val) * 8 + h.val) * 64 + d.val) / 512 % 4096 = q.val; omega
  | ⟨2, _⟩ => show (((b.val * 4096 + q.val) * 8 + h.val) * 64 + d.val) % 512 = 64 * h.val + d.val; omega

/-- The same of a context key. -/
theorem split_lane_ctx (b : Fin 4) (c : Fin 256) (h : Fin 8) (d : Fin 64) :
    idx_main_v98 (ix4 b c h d) = ix3 b c (lane h d) := by
  have := b.isLt; have := c.isLt; have := h.isLt; have := d.isLt
  funext a; refine Fin.ext ?_
  match a with
  | ⟨0, _⟩ => show (((b.val * 256 + c.val) * 8 + h.val) * 64 + d.val) / 131072 = b.val; omega
  | ⟨1, _⟩ => show (((b.val * 256 + c.val) * 8 + h.val) * 64 + d.val) / 512 % 256 = c.val; omega
  | ⟨2, _⟩ => show (((b.val * 256 + c.val) * 8 + h.val) * 64 + d.val) % 512 = 64 * h.val + d.val; omega

theorem latent_apply (b : Fin 4) (h : Fin 8) (q t : Fin 4096) :
    val_main_v73 (F := Ideal) x2 x4 x8 (ix4 b h q t) = score x2 x4 x8 b h q t := by
  rw [val_main_v73_apply, val_main_call4_v1_apply, val_main_v72_apply, val_main_v69_apply, val_main_v71_apply, val_main_v70_apply,
    val_main_call4_v2_apply, val_main_call4_v0_apply, val_main_cst_apply]
  rw [show idx_main_call4_v1 (ix4 b h q t) = ix2 q t from funext fun a => match a with | ⟨0, _⟩ => rfl | ⟨1, _⟩ => rfl, mask_apply,
    show idx_main_v70 (idx_main_v71 (ix4 b h q t)) = ix3 h q t from funext fun a => match a with | ⟨0, _⟩ => rfl | ⟨1, _⟩ => rfl | ⟨2, _⟩ => rfl,
    bias_apply]
  have e : ∀ d : Fin 64, val_main_v66 (F := Ideal) x2 (lidx_main_v69 (ix4 b h q t) d) * val_main_v68 (F := Ideal) x4 (ridx_main_v69 (ix4 b h q t) d)
      = x2 (ix3 b q (lane h d)) * x4 (ix3 b t (lane h d)) := fun d => by
    rw [val_main_v66_apply, val_main_v68_apply, val_main_v65_apply, val_main_v67_apply]
    exact congrArg₂ (fun i j => x2 i * x4 j) (split_lane b q h d) (split_lane b t h d)
  simp only [e]
  unfold score
  by_cases hw : inWin q t
  · rw [if_pos hw, if_pos hw]; rfl
  · rw [if_neg hw, if_neg hw]
    show Ideal.ofBits .f32 0xFF800000#32 = ⊥
    exact negInf_word

theorem ctx_apply (b : Fin 4) (h : Fin 8) (q : Fin 4096) (c : Fin 256) :
    val_main_v78 (F := Ideal) x3 x6 (ix4 b h q c) = scoreC x3 x6 b h q c := by
  rw [val_main_v78_apply]
  refine Finset.sum_congr rfl fun d _ => ?_
  rw [val_main_v75_apply, val_main_v77_apply, val_main_v74_apply, val_main_v76_apply]
  exact congrArg₂ (fun i j => x3 i * x6 j) (split_lane b q h d) (split_lane_ctx b c h d)

theorem concat_left (b : Fin 4) (h : Fin 8) (q : Fin 4096) (t : Fin 4096) :
    val_main_v79 (F := Ideal) x2 x3 x4 x6 x8 (ix4 b h q (Fin.castAdd 256 t)) = score x2 x4 x8 b h q t := by
  pointwise [val_main_v79]
  rw [dif_pos (show (Fin.castAdd 256 t).val < 4096 from t.isLt)]
  exact latent_apply x2 x4 x8 b h q t

theorem concat_right (b : Fin 4) (h : Fin 8) (q : Fin 4096) (c : Fin 256) :
    val_main_v79 (F := Ideal) x2 x3 x4 x6 x8 (ix4 b h q (Fin.natAdd 4096 c)) = scoreC x3 x6 b h q c := by
  pointwise [val_main_v79]
  rw [dif_neg (show ¬ (Fin.natAdd 4096 c).val < 4096 from by simp)]
  rw [show (⟨(Fin.natAdd 4096 c).val - 4096, by have := c.isLt; simp only [Fin.val_natAdd]; omega⟩ : Fin 256) = c from Fin.ext (by simp)]
  exact ctx_apply x3 x6 b h q c

/-- The largest score of a query. -/
abbrev most (b : Fin 4) (h : Fin 8) (q : Fin 4096) : EReal :=
  max (Softmax.top fun t : Fin 4096 => score x2 x4 x8 b h q t) (Softmax.top fun c => scoreC x3 x6 b h q c)

theorem most_apply (b : Fin 4) (h : Fin 8) (q : Fin 4096) :
    val_main_v82 (F := Ideal) x2 x3 x4 x6 x8 (ix3 b h q) = most x2 x3 x4 x6 x8 b h q := by
  rw [val_main_v82_apply]
  rw [val_main_v81_apply, val_main_cst_20_apply]
  unfold val_main_v80 val_main_cst_19
  pointwise
  rw [negInf_word, max_eq_right bot_le]
  refine (top_append (m := 4096) (n := 256) fun x => val_main_v79 (F := Ideal) x2 x3 x4 x6 x8 (ix4 b h q x)).trans ?_
  simp only [concat_left, concat_right]

/-- The sum of a query's weights before they are divided. -/
abbrev total (b : Fin 4) (h : Fin 8) (q : Fin 4096) : EReal :=
  (∑ t : Fin 4096, Ideal.exp (score x2 x4 x8 b h q t - most x2 x3 x4 x6 x8 b h q))
    + ∑ c, Ideal.exp (scoreC x3 x6 b h q c - most x2 x3 x4 x6 x8 b h q)

theorem weight_apply (b : Fin 4) (h : Fin 8) (q : Fin 4096) (k : Fin 4352) :
    val_main_v86 (F := Ideal) x2 x3 x4 x6 x8 (ix4 b h q k)
      = Ideal.exp (val_main_v79 (F := Ideal) x2 x3 x4 x6 x8 (ix4 b h q k) - most x2 x3 x4 x6 x8 b h q) := by
  rw [val_main_v86_apply, val_main_v85_apply, val_main_v84_apply, val_main_v83_apply,
    show idx_main_v83 (idx_main_v84 (ix4 b h q k)) = ix3 b h q from funext fun a => match a with | ⟨0, _⟩ => rfl | ⟨1, _⟩ => rfl | ⟨2, _⟩ => rfl,
    most_apply]
  rfl

theorem total_apply (b : Fin 4) (h : Fin 8) (q : Fin 4096) :
    val_main_v87 (F := Ideal) x2 x3 x4 x6 x8 (ix3 b h q) = total x2 x3 x4 x6 x8 b h q := by
  rw [val_main_v87_apply, val_main_cst_21_apply]
  have e : ∀ k : Fin 4352, val_main_v86 (F := Ideal) x2 x3 x4 x6 x8 (idx_main_v87 (ix3 b h q) k)
      = Ideal.exp (val_main_v79 (F := Ideal) x2 x3 x4 x6 x8 (ix4 b h q k) - most x2 x3 x4 x6 x8 b h q) := fun k => by
    rw [show idx_main_v87 (ix3 b h q) k = ix4 b h q k from funext fun a => match a with | ⟨0, _⟩ => rfl | ⟨1, _⟩ => rfl | ⟨2, _⟩ => rfl | ⟨3, _⟩ => rfl,
      weight_apply]
  simp only [e]
  refine (congrArg (· + _) Ideal.ofBits_zero_f32).trans ?_
  rw [zero_add]
  refine (Fin.sum_univ_add (a := 4096) (b := 256) _).trans ?_
  simp only [concat_left, concat_right]

theorem share_apply (b : Fin 4) (h : Fin 8) (q : Fin 4096) (k : Fin 4352) :
    val_main_v90 (F := Ideal) x2 x3 x4 x6 x8 (ix4 b h q k)
      = Ideal.div (Ideal.exp (val_main_v79 (F := Ideal) x2 x3 x4 x6 x8 (ix4 b h q k) - most x2 x3 x4 x6 x8 b h q))
          (total x2 x3 x4 x6 x8 b h q) := by
  rw [val_main_v90_apply, weight_apply, val_main_v89_apply, val_main_v88_apply,
    show idx_main_v88 (idx_main_v89 (ix4 b h q k)) = ix3 b h q from funext fun a => match a with | ⟨0, _⟩ => rfl | ⟨1, _⟩ => rfl | ⟨2, _⟩ => rfl,
    total_apply]
  rfl

theorem latent_part (b : Fin 4) (q : Fin 4096) (h : Fin 8) (d : Fin 64) :
    val_main_v95 (F := Ideal) x2 x3 x4 x5 x6 x8 (ix4 b q h d)
      = ∑ t : Fin 4096, Ideal.div (Ideal.exp (score x2 x4 x8 b h q t - most x2 x3 x4 x6 x8 b h q)) (total x2 x3 x4 x6 x8 b h q)
          * x5 (ix3 b t (lane h d)) := by
  rw [val_main_v95_apply, val_main_v94_apply]
  refine Finset.sum_congr rfl fun t _ => ?_
  rw [val_main_v91_apply,
    show idx_main_v91 (ridx_main_v94 (idx_main_v95 (ix4 b q h d)) t) = ix4 b h q (Fin.castAdd 256 t) from
      funext fun a => match a with | ⟨0, _⟩ => rfl | ⟨1, _⟩ => rfl | ⟨2, _⟩ => rfl | ⟨3, _⟩ => rfl,
    share_apply, concat_left, val_main_v93_apply, val_main_v92_apply, mul_comm]
  exact congrArg (fun i => _ * x5 i) (split_lane b t h d)

theorem ctx_part (b : Fin 4) (q : Fin 4096) (h : Fin 8) (d : Fin 64) :
    val_main_v100 (F := Ideal) x2 x3 x4 x6 x7 x8 (ix4 b q h d)
      = ∑ c : Fin 256, Ideal.div (Ideal.exp (scoreC x3 x6 b h q c - most x2 x3 x4 x6 x8 b h q)) (total x2 x3 x4 x6 x8 b h q)
          * x7 (ix3 b c (lane h d)) := by
  rw [val_main_v100_apply, val_main_v99_apply]
  refine Finset.sum_congr rfl fun c _ => ?_
  rw [val_main_v96_apply,
    show idx_main_v96 (ridx_main_v99 (idx_main_v100 (ix4 b q h d)) c) = ix4 b h q (Fin.natAdd 4096 c) from
      funext fun a => match a with | ⟨0, _⟩ => rfl | ⟨1, _⟩ => rfl | ⟨2, _⟩ => rfl | ⟨3, _⟩ => rfl,
    share_apply, concat_right, val_main_v98_apply, val_main_v97_apply, mul_comm]
  exact congrArg (fun i => _ * x7 i) (split_lane_ctx b c h d)

/-- The reference's attention is `Spec.attn`. -/
theorem attn_apply (b : Fin 4) (q : Fin 4096) (j : Fin 512) :
    val_main_v102 (F := Ideal) x2 x3 x4 x5 x6 x7 x8 (ix3 b q j) = Spec.attn x2 x3 x4 x5 x6 x7 x8 b q j := by
  have hb := b.isLt; have hq := q.isLt; have hj := j.isLt
  rw [val_main_v102_apply,
    show idx_main_v102 (ix3 b q j) = ix4 b q (head j) ⟨j.val % 64, by omega⟩ from funext fun a => Fin.ext (match a with
      | ⟨0, _⟩ => show ((b.val * 4096 + q.val) * 512 + j.val) / 2097152 = b.val by omega
      | ⟨1, _⟩ => show ((b.val * 4096 + q.val) * 512 + j.val) / 512 % 4096 = q.val by omega
      | ⟨2, _⟩ => show ((b.val * 4096 + q.val) * 512 + j.val) / 64 % 8 = j.val / 64 by omega
      | ⟨3, _⟩ => show ((b.val * 4096 + q.val) * 512 + j.val) % 64 = j.val % 64 by omega),
    val_main_v101_apply, latent_part, ctx_part]
  have el : lane (head j) ⟨j.val % 64, by omega⟩ = j := Fin.ext (show 64 * (j.val / 64) + j.val % 64 = j.val by omega)
  have et : ∀ t : Fin 4096, tok t.val = t := fun t => Fin.ext (Nat.mod_eq_of_lt t.isLt)
  simp only [el, Spec.attn, Softmax.attendAll, et]
  rfl

end Cert.RefValue
-- ==== Proof.MixAttn.lean ====
module

public import proofs.«01_k».proof.Proof.MixBody
public import proofs.«01_k».proof.Proof.RefAttn

/-! # The attention piece, an element at a time -/

@[expose] public section

set_option maxRecDepth 16384

noncomputable section

namespace Cert.MixValue

open Idealize.ShloMosaic
open Cert.KernelIdeal Cert.KernelIdeal.Gen

/-- The mask of the first head's lanes. -/
theorem lane_mask {α : Type} (e : Fin 128) (x y : α) :
    Scalar.select (IntOp.cmpi CmpIPredicate.slt (BitVec.ofNat 32 e.val) 64#32) x y = if e.val < 64 then x else y := by
  have h : IntOp.cmpi CmpIPredicate.slt (BitVec.ofNat 32 e.val) 64#32 = BitVec.ofBool (decide (e.val < 64)) := by
    revert e; decide +kernel
  rw [h]; unfold Scalar.select
  by_cases h : e.val < 64 <;> simp [h]

/-- Row `i` of head `h` in a stack of two heads. -/
abbrev row (h : Fin 2) (i : Fin 256) : Fin 512 := ⟨256 * h.val + i.val, by omega⟩
/-- Lane `d` of head `h` of a pair. -/
abbrev plane (h : Fin 2) (d : Fin 64) : Fin 128 := ⟨64 * h.val + d.val, by omega⟩
/-- The head of a pair a lane is of. -/
abbrev phead (l : Fin 128) : Fin 2 := ⟨l.val / 64, by omega⟩

theorem stack0 (q : S256x128.Idx → EReal) (i : Fin 256) (e : Fin 128) :
    k1_pay4 (F := Ideal) q (ix2 (⟨i.val, by omega⟩ : Fin 512) e) = if e.val < 64 then q (ix2 i e) else 0 := by
  pointwise [k1_pay4, k1_pay2]
  rw [lane_mask]; simp

theorem stack1 (q : S256x128.Idx → EReal) (i : Fin 256) (e : Fin 128) :
    k1_pay4 (F := Ideal) q (ix2 (⟨256 + i.val, by omega⟩ : Fin 512) e) = if e.val < 64 then 0 else q (ix2 i e) := by
  pointwise [k1_pay4, k1_pay2]
  rw [lane_mask]; simp

theorem stack (q : S256x128.Idx → EReal) (h : Fin 2) (i : Fin 256) (e : Fin 128) :
    k1_pay4 (F := Ideal) q (ix2 (row h i) e) = if e.val / 64 = h.val then q (ix2 i e) else 0 := by
  match h with
  | ⟨0, _⟩ =>
    rw [show row ⟨0, by omega⟩ i = (⟨i.val, by omega⟩ : Fin 512) from Fin.ext (by simp), stack0]
    exact if_congr (by show _ ↔ e.val / 64 = 0; omega) rfl rfl
  | ⟨1, _⟩ =>
    rw [show row ⟨1, by omega⟩ i = (⟨256 + i.val, by omega⟩ : Fin 512) from Fin.ext (by simp), stack1]
    have := e.isLt
    by_cases h : e.val < 64
    · rw [if_pos h, if_neg (show ¬ e.val / 64 = 1 by omega)]
    · rw [if_neg h, if_pos (show e.val / 64 = 1 by omega)]

/-- A sum over the lanes of a pair of which one head's are kept. -/
theorem sum_half (f g : Fin 128 → EReal) (h : Fin 2) :
    ∑ e : Fin 128, (if e.val / 64 = h.val then f e else 0) * g e = ∑ d : Fin 64, f (plane h d) * g (plane h d) := by
  have key : ∀ e : Fin 128, (if e.val / 64 = h.val then f e else 0) * g e = if e.val / 64 = h.val then f e * g e else 0 := fun e => by
    split <;> simp
  simp only [key]
  rw [← Finset.sum_filter]
  symm
  refine Finset.sum_nbij' (fun d => plane h d) (fun e => ⟨e.val % 64, Nat.mod_lt _ (by norm_num)⟩) ?_ ?_ ?_ ?_ ?_
  · intro d _; simp only [Finset.mem_filter, Finset.mem_univ, true_and]; show (64 * h.val + d.val) / 64 = h.val; omega
  · intro e _; exact Finset.mem_univ _
  · intro d _; refine Fin.ext ?_; show (64 * h.val + d.val) % 64 = d.val; omega
  · intro e he; refine Fin.ext ?_; have := (Finset.mem_filter.mp he).2; show 64 * h.val + e.val % 64 = e.val; omega
  · intro d _; rfl

theorem pay5_apply (q k : S256x128.Idx → EReal) (h : Fin 2) (i j : Fin 256) :
    k1_pay5 (F := Ideal) q k (ix2 (row h i) j) = ∑ d : Fin 64, q (ix2 i (plane h d)) * k (ix2 j (plane h d)) := by
  have e : k1_pay5 (F := Ideal) q k (ix2 (row h i) j) = ∑ e : Fin 128, k1_pay4 (F := Ideal) q (ix2 (row h i) e) * k (ix2 j e) := by
    pointwise [k1_pay5]
  rw [e]; simp only [stack]; exact sum_half (fun e => q (ix2 i e)) (fun e => k (ix2 j e)) h

theorem pay3_eq (q k : S256x128.Idx → EReal) : k1_pay3 (F := Ideal) q k = k1_pay5 (F := Ideal) q k := rfl

theorem pay6_apply (s : S512x256.Idx → EReal) (t : S1x1x2x256x256.Idx → EReal) (h : Fin 2) (i : Fin 256) (j : Fin 256) :
    k1_pay6 (F := Ideal) s t (ix2 (row h i) j) = s (ix2 (row h i) j) + t (ix5 0 0 h i j) := by
  have e1 : (⟨(256 * h.val + i.val) / 256, by omega⟩ : Fin 2) = h := Fin.ext (by show (256 * h.val + i.val) / 256 = h.val; omega)
  have e2 : (⟨(256 * h.val + i.val) % 256, by omega⟩ : Fin 256) = i := Fin.ext (by show (256 * h.val + i.val) % 256 = i.val; omega)
  pointwise [k1_pay6]
  rw [e1, e2]

theorem pay7_eq (q k : S256x128.Idx → EReal) (t : S1x1x2x256x256.Idx → EReal) :
    k1_pay7 (F := Ideal) (k1_pay4 q) k t = k1_pay6 (F := Ideal) (k1_pay5 q k) t := rfl
theorem pay8_eq (q k : S256x128.Idx → EReal) (t : S1x1x2x256x256.Idx → EReal) :
    k1_pay8 (F := Ideal) (k1_pay4 q) k t = k1_pay6 (F := Ideal) (k1_pay5 q k) t := rfl

theorem pay9_apply (sC : S512x256.Idx → EReal) (x27 : S512x128.Idx → EReal) (s1 : S512x256.Idx → EReal) (tL tM tH : S1x1x2x256x256.Idx → EReal)
    (k2 k3 : S256x128.Idx → EReal) (r : Fin 512) :
    k1_pay9 (F := Ideal) sC x27 s1 tL k2 tM k3 tH (ix2 r 0)
      = max (max (max (Softmax.top fun k : Fin 256 => sC (ix2 r k)) (Softmax.top fun k : Fin 256 => k1_pay6 (F := Ideal) s1 tL (ix2 r k)))
          (Softmax.top fun k : Fin 256 => k1_pay7 (F := Ideal) x27 k2 tM (ix2 r k))) (Softmax.top fun k : Fin 256 => k1_pay8 (F := Ideal) x27 k3 tH (ix2 r k)) := by
  pointwise [k1_pay9]
  rw [RefValue.negInf_word]

theorem pay10_apply (sC : S512x256.Idx → EReal) (x27 : S512x128.Idx → EReal) (s1 : S512x256.Idx → EReal) (tL tM tH : S1x1x2x256x256.Idx → EReal)
    (k2 k3 : S256x128.Idx → EReal) (r : Fin 512) (k : Fin 256) :
    k1_pay10 (F := Ideal) sC x27 s1 tL k2 tM k3 tH (ix2 r k) = Ideal.exp (sC (ix2 r k) - k1_pay9 (F := Ideal) sC x27 s1 tL k2 tM k3 tH (ix2 r 0)) := by
  pointwise [k1_pay10]
theorem pay11_apply (sC : S512x256.Idx → EReal) (x27 : S512x128.Idx → EReal) (s1 : S512x256.Idx → EReal) (tL tM tH : S1x1x2x256x256.Idx → EReal)
    (k2 k3 : S256x128.Idx → EReal) (r : Fin 512) (k : Fin 256) :
    k1_pay11 (F := Ideal) sC x27 s1 tL k2 tM k3 tH (ix2 r k)
      = Ideal.exp (k1_pay6 (F := Ideal) s1 tL (ix2 r k) - k1_pay9 (F := Ideal) sC x27 s1 tL k2 tM k3 tH (ix2 r 0)) := by
  pointwise [k1_pay11]
theorem pay12_apply (sC : S512x256.Idx → EReal) (x27 : S512x128.Idx → EReal) (s1 : S512x256.Idx → EReal) (tL tM tH : S1x1x2x256x256.Idx → EReal)
    (k2 k3 : S256x128.Idx → EReal) (r : Fin 512) (k : Fin 256) :
    k1_pay12 (F := Ideal) sC x27 s1 tL k2 tM k3 tH (ix2 r k)
      = Ideal.exp (k1_pay7 (F := Ideal) x27 k2 tM (ix2 r k) - k1_pay9 (F := Ideal) sC x27 s1 tL k2 tM k3 tH (ix2 r 0)) := by
  pointwise [k1_pay12]
theorem pay13_apply (sC : S512x256.Idx → EReal) (x27 : S512x128.Idx → EReal) (s1 : S512x256.Idx → EReal) (tL tM tH : S1x1x2x256x256.Idx → EReal)
    (k2 k3 : S256x128.Idx → EReal) (r : Fin 512) (k : Fin 256) :
    k1_pay13 (F := Ideal) sC x27 s1 tL k2 tM k3 tH (ix2 r k)
      = Ideal.exp (k1_pay8 (F := Ideal) x27 k3 tH (ix2 r k) - k1_pay9 (F := Ideal) sC x27 s1 tL k2 tM k3 tH (ix2 r 0)) := by
  pointwise [k1_pay13]

/-- The weighted mean of one row over the four blocks. -/
abbrev mean (eC eL eM eH : S512x256.Idx → EReal) (vC vL vM vH : S256x128.Idx → EReal) (r : Fin 512) (l : Fin 128) : EReal :=
  Ideal.div
    ((((∑ k : Fin 256, eC (ix2 r k) * vC (ix2 k l)) + ∑ k : Fin 256, eL (ix2 r k) * vL (ix2 k l)) + ∑ k : Fin 256, eM (ix2 r k) * vM (ix2 k l))
      + ∑ k : Fin 256, eH (ix2 r k) * vH (ix2 k l))
    ((((∑ k : Fin 256, eC (ix2 r k)) + ∑ k : Fin 256, eL (ix2 r k)) + ∑ k : Fin 256, eM (ix2 r k)) + ∑ k : Fin 256, eH (ix2 r k))

theorem pay14_apply (eC eL eM eH : S512x256.Idx → EReal) (vC vL vM vH : S256x128.Idx → EReal) (i : Fin 256) (l : Fin 128) :
    k1_pay14 (F := Ideal) k1_pay2 eC eL eM eH vC vL vM vH (ix2 i l) = mean eC eL eM eH vC vL vM vH (row (phead l) i) l := by
  have hl := l.isLt
  have e : k1_pay14 (F := Ideal) k1_pay2 eC eL eM eH vC vL vM vH (ix2 i l) =
      if l.val < 64 then mean eC eL eM eH vC vL vM vH ⟨i.val, by omega⟩ l else mean eC eL eM eH vC vL vM vH ⟨256 + i.val, by omega⟩ l := by
    pointwise [k1_pay14, k1_pay2, mean]
    rw [lane_mask]
  rw [e]
  by_cases h : l.val < 64
  · rw [if_pos h, show row (phead l) i = (⟨i.val, by omega⟩ : Fin 512) from Fin.ext (by show 256 * (l.val / 64) + i.val = i.val; omega)]
  · rw [if_neg h, show row (phead l) i = (⟨256 + i.val, by omega⟩ : Fin 512) from Fin.ext (by show 256 * (l.val / 64) + i.val = 256 + i.val; omega)]

/-- The attention piece at row `i` and lane `l`. -/
theorem attnPiece_apply (qp kc qr k1 k2 k3 : S256x128.Idx → EReal) (tL tM tH : S1x1x2x256x256.Idx → EReal)
    (vC vL vM vH : S256x128.Idx → EReal) (i : Fin 256) (l : Fin 128) :
    attnPiece (F := Ideal) qp kc qr k1 k2 k3 tL tM tH vC vL vM vH (ix2 i l) = Softmax.attend
      (fun k => ∑ d : Fin 64, qp (ix2 i (plane (phead l) d)) * kc (ix2 k (plane (phead l) d))) (fun k => vC (ix2 k l))
      (fun k => (∑ d : Fin 64, qr (ix2 i (plane (phead l) d)) * k1 (ix2 k (plane (phead l) d))) + tL (ix5 0 0 (phead l) i k)) (fun k => vL (ix2 k l))
      (fun k => (∑ d : Fin 64, qr (ix2 i (plane (phead l) d)) * k2 (ix2 k (plane (phead l) d))) + tM (ix5 0 0 (phead l) i k)) (fun k => vM (ix2 k l))
      (fun k => (∑ d : Fin 64, qr (ix2 i (plane (phead l) d)) * k3 (ix2 k (plane (phead l) d))) + tH (ix5 0 0 (phead l) i k)) (fun k => vH (ix2 k l)) := by
  unfold attnPiece
  rw [pay14_apply]
  unfold mean
  simp only [pay10_apply, pay11_apply, pay12_apply, pay13_apply, pay9_apply, pay3_eq, pay7_eq, pay8_eq, pay6_apply, pay5_apply]
  rfl

end Cert.MixValue
-- ==== Proof.MixGate.lean ====
module

public import proofs.«01_k».proof.Proof.MixAttn

/-! # The gating piece and the projected half, an element at a time -/

@[expose] public section

set_option maxRecDepth 16384

noncomputable section

namespace Cert.MixValue

open Idealize.ShloMosaic
open Cert.KernelIdeal Cert.KernelIdeal.Gen

/-- Row `i` of head `h` in the stacked spatial weights of two heads. -/
abbrev wrow (h : Fin 2) (i : Fin 128) : Fin 256 := ⟨128 * h.val + i.val, by omega⟩

theorem wrow_pick (l i : Fin 128) (f : Fin 256 → EReal) :
    (if l.val < 64 then f ⟨i.val, by omega⟩ else f ⟨128 + i.val, by omega⟩) = f (wrow (phead l) i) := by
  have hl := l.isLt
  by_cases h : l.val < 64
  · rw [if_pos h]; exact congrArg f (Fin.ext (by show i.val = 128 * (l.val / 64) + i.val; omega))
  · rw [if_neg h]; exact congrArg f (Fin.ext (by show 128 + i.val = 128 * (l.val / 64) + i.val; omega))

theorem gateFst_apply (sa sb : S128x128.Idx → EReal) (w : S1x1x256x128.Idx → EReal) (bs : S1x1x128x128.Idx → EReal)
    (gu : S128x128.Idx → EReal) (i l : Fin 128) :
    gateFst (F := Ideal) sa sb w bs gu (ix2 i l)
      = gu (ix2 i l) * ((∑ p : Fin 128, w (ix4 0 0 (wrow (phead l) i) p) * sa (ix2 p l)) + bs (ix4 0 0 i l)) := by
  rw [← wrow_pick l i fun r => ∑ p : Fin 128, w (ix4 0 0 r p) * sa (ix2 p l), ← lane_mask]
  pointwise [gateFst, k1_pay118, k1_pay117, k1_pay116]

theorem gateSnd_apply (sa sb : S128x128.Idx → EReal) (w : S1x1x256x128.Idx → EReal) (bs : S1x1x128x128.Idx → EReal)
    (gu : S128x128.Idx → EReal) (i l : Fin 128) :
    gateSnd (F := Ideal) sa sb w bs gu (ix2 i l)
      = gu (ix2 i l) * ((∑ p : Fin 128, w (ix4 0 0 (wrow (phead l) i) p) * sb (ix2 p l)) + bs (ix4 0 0 i l)) := by
  rw [← wrow_pick l i fun r => ∑ p : Fin 128, w (ix4 0 0 r p) * sb (ix2 p l), ← lane_mask]
  pointwise [gateSnd, k1_pay120, k1_pay119, k1_pay117, k1_pay116]

theorem merge_apply (oa ga : S256x512.Idx → EReal) (wa wb : S1x512x1024.Idx → EReal) (sa sb : S256x1024.Idx → EReal) (i : Fin 256) (k : Fin 1024) :
    k1_pay150 (F := Ideal) oa wa ga wb sa sb (ix2 i k) = Spec.merge (fun j => oa (ix2 i j)) (fun j => ga (ix2 i j))
      (fun k => sa (ix2 i k)) (fun k => sb (ix2 i k)) (fun j k => wa (ix3 0 j k)) (fun j k => wb (ix3 0 j k)) k := by
  pointwise [k1_pay150, Spec.merge]

theorem half_apply (y : S256x1024.Idx → EReal) (wo : S1x1024x1024.Idx → EReal) (x : S256x1024.Idx → EReal)
    (m : S1x1x1x1024.Idx → EReal) (lg lb : S1x1x1024.Idx → EReal) (i : Fin 256) (n : Fin 1024) :
    k1_pay151 (F := Ideal) y wo x m lg lb (ix2 i n) = Spec.norm
      (fun n => Ideal.ofBits .f32 0x3FB504F3#32 * x (ix2 i n) + m (ix4 0 0 0 n) * ∑ k : Fin 1024, y (ix2 i k) * wo (ix3 0 k n))
      (fun n => lg (ix3 0 0 n)) (fun n => lb (ix3 0 0 n)) n := by
  pointwise [k1_pay151, Spec.norm]

/-- A half of the output at row `i` and column `n` is a row of the layer's result, of the rows it is made from. -/
theorem halfOut_apply (oa ga : S256x512.Idx → EReal) (wa wb : S1x512x1024.Idx → EReal) (sa sb : S256x1024.Idx → EReal)
    (wo : S1x1024x1024.Idx → EReal) (x : S256x1024.Idx → EReal) (m : S1x1x1x1024.Idx → EReal) (lg lb : S1x1x1024.Idx → EReal)
    (i : Fin 256) (n : Fin 1024) :
    halfOut (F := Ideal) oa ga wa wb sa sb wo x m lg lb (ix2 i n) = Spec.layer (fun j => oa (ix2 i j)) (fun j => ga (ix2 i j))
      (fun n => x (ix2 i n)) (fun k => sa (ix2 i k)) (fun k => sb (ix2 i k)) (fun j k => wa (ix3 0 j k)) (fun j k => wb (ix3 0 j k))
      (fun k n => wo (ix3 0 k n)) (fun n => m (ix4 0 0 0 n)) (fun n => lg (ix3 0 0 n)) (fun n => lb (ix3 0 0 n)) n := by
  unfold halfOut; rw [half_apply]; simp only [merge_apply]; rfl

end Cert.MixValue
-- ==== Proof.MixGlue.lean ====
module

public import proofs.«01_k».proof.Proof.MixGate
public import Idealize.ShloMosaic.Lib.Pipeline.ValueKit

/-! # The scratches of the mixing body, an element at a time

The attention scratch is covered by eight tiles and the gating scratch by sixteen; each holds one value of the
input blocks, whichever tile an element lies in. -/

@[expose] public section

set_option maxRecDepth 16384

noncomputable section

namespace Cert.MixValue

open Idealize.ShloMosaic Idealize.ShloMosaic.TcCoe Idealize.SL.Sem
open Cert.KernelIdeal Cert.KernelIdeal.Gen

/-- The kind of table against the block of keys below block `B`. -/
def lowK (B : ℕ) : Fin 6 := if B = 0 then 5 else if B = 15 then 1 else 0
/-- The kind of table against the block of keys above block `B`. -/
def highK (B : ℕ) : Fin 6 := if B = 0 then 4 else if B = 15 then 5 else 3

/-- Where head pair `p` of a kind of table begins. -/
abbrev offK (k : Fin 6) (p : Fin 4) : Fin 5 → ℕ := ![0, k.val, 2 * p.val, 0, 0]

theorem off1 : ∀ t : Fin grid1.N,
    (k1_off1 (grid1.coords t) 7#32 1#32 0#32 = offK (lowK (2 * (t.val % 8) + 1)) 0 ∧ k1_off1 (grid1.coords t) 7#32 5#32 3#32 = offK (highK (2 * (t.val % 8) + 1)) 0)
    ∧ k1_off1 (grid1.coords t) 0#32 5#32 0#32 = offK (lowK (2 * (t.val % 8))) 0 ∧ k1_off1 (grid1.coords t) 0#32 4#32 3#32 = offK (highK (2 * (t.val % 8))) 0 := by
  decide +kernel
theorem off2 : ∀ t : Fin grid1.N,
    (k1_off2 (grid1.coords t) 7#32 1#32 0#32 = offK (lowK (2 * (t.val % 8) + 1)) 1 ∧ k1_off2 (grid1.coords t) 7#32 5#32 3#32 = offK (highK (2 * (t.val % 8) + 1)) 1)
    ∧ k1_off2 (grid1.coords t) 0#32 5#32 0#32 = offK (lowK (2 * (t.val % 8))) 1 ∧ k1_off2 (grid1.coords t) 0#32 4#32 3#32 = offK (highK (2 * (t.val % 8))) 1 := by
  decide +kernel
theorem off3 : ∀ t : Fin grid1.N,
    (k1_off3 (grid1.coords t) 7#32 1#32 0#32 = offK (lowK (2 * (t.val % 8) + 1)) 2 ∧ k1_off3 (grid1.coords t) 7#32 5#32 3#32 = offK (highK (2 * (t.val % 8) + 1)) 2)
    ∧ k1_off3 (grid1.coords t) 0#32 5#32 0#32 = offK (lowK (2 * (t.val % 8))) 2 ∧ k1_off3 (grid1.coords t) 0#32 4#32 3#32 = offK (highK (2 * (t.val % 8))) 2 := by
  decide +kernel
theorem off4 : ∀ t : Fin grid1.N,
    (k1_off4 (grid1.coords t) 7#32 1#32 0#32 = offK (lowK (2 * (t.val % 8) + 1)) 3 ∧ k1_off4 (grid1.coords t) 7#32 5#32 3#32 = offK (highK (2 * (t.val % 8) + 1)) 3)
    ∧ k1_off4 (grid1.coords t) 0#32 5#32 0#32 = offK (lowK (2 * (t.val % 8))) 3 ∧ k1_off4 (grid1.coords t) 0#32 4#32 3#32 = offK (highK (2 * (t.val % 8))) 3 := by
  decide +kernel

/-- A two-axis rectangle of a block, read. -/
theorem ld2 {α : EltTy → Type} {e : EltTy} {a b a' b' : ℕ} (X : (⟨2, ![a, b]⟩ : Shape).Idx → α e) (o o' : ℕ)
    (h : ∀ x : Fin 2, (![o, o'] : Fin 2 → ℕ) x + (![a', b'] : Fin 2 → ℕ) x ≤ (![a, b] : Fin 2 → ℕ) x) (i : Fin a') (l : Fin b') :
    View.ld X (Rect.unit (s := ⟨2, ![a, b]⟩) ![o, o'] ![a', b'] h) (ix2 i l)
      = X (ix2 ⟨o + i.val, by have := h 0; have := i.isLt; simp at *; omega⟩ ⟨o' + l.val, by have := h 1; have := l.isLt; simp at *; omega⟩) :=
  View.ld_unit_apply_of X _ _ h (ix2 i l) _ fun x => by
    match x with
    | ⟨0, _⟩ => rfl
    | ⟨1, _⟩ => rfl

/-- A table of one head of a pair, read. -/
theorem ldTab (X : S1x6x8x256x256.Idx → EReal) (k : Fin 6) (p : Fin 4) (o : Fin 5 → ℕ) (ho : o = offK k p)
    (h : ∀ a : Fin 5, o a + S1x1x2x256x256.size a ≤ S1x6x8x256x256.size a) (u : Fin 2) (i j : Fin 256) :
    View.ld (Val := Elt Ideal) (e' := .f32) X (Rect.unit (s := S1x6x8x256x256) o S1x1x2x256x256.size h) (ix5 0 0 u i j)
      = X (ix5 0 k ⟨2 * p.val + u.val, by omega⟩ i j) := by
  subst ho
  exact View.ld_unit_apply_of (Val := Elt Ideal) (e := .f32) X _ _ h (ix5 0 0 u i j) _ fun x => by
    match x with
    | ⟨0, _⟩ => rfl
    | ⟨1, _⟩ => rfl
    | ⟨2, _⟩ => rfl
    | ⟨3, _⟩ => exact (Nat.zero_add _).symm
    | ⟨4, _⟩ => exact (Nat.zero_add _).symm

/-- One element of the attention, from the blocks: row `r` of the query block, lane `j`, the kinds of the two outer tables. -/
def rowAttn (qr qp : S512x512.Idx → EReal) (kc vc k1 k2 k3 v1 v2 v3 : S256x512.Idx → EReal) (tab : S1x6x8x256x256.Idx → EReal)
    (kL kH : Fin 6) (r j : Fin 512) : EReal :=
  Softmax.attend
    (fun k => ∑ d : Fin 64, qp (ix2 r (Spec.lane (Spec.head j) d)) * kc (ix2 k (Spec.lane (Spec.head j) d))) (fun k => vc (ix2 k j))
    (fun k => (∑ d : Fin 64, qr (ix2 r (Spec.lane (Spec.head j) d)) * k1 (ix2 k (Spec.lane (Spec.head j) d)))
      + tab (ix5 0 kL (Spec.head j) ⟨r.val % 256, by omega⟩ k)) (fun k => v1 (ix2 k j))
    (fun k => (∑ d : Fin 64, qr (ix2 r (Spec.lane (Spec.head j) d)) * k2 (ix2 k (Spec.lane (Spec.head j) d)))
      + tab (ix5 0 2 (Spec.head j) ⟨r.val % 256, by omega⟩ k)) (fun k => v2 (ix2 k j))
    (fun k => (∑ d : Fin 64, qr (ix2 r (Spec.lane (Spec.head j) d)) * k3 (ix2 k (Spec.lane (Spec.head j) d)))
      + tab (ix5 0 kH (Spec.head j) ⟨r.val % 256, by omega⟩ k)) (fun k => v3 (ix2 k j))

/-- The attention of tiles that read the blocks at head pair `p`. -/
theorem attn_of (p : Fin 4) (r : Fin 512) (qr qp : S512x512.Idx → EReal) (kc vc k1 k2 k3 v1 v2 v3 : S256x512.Idx → EReal)
    (tab : S1x6x8x256x256.Idx → EReal) (kL kH : Fin 6) (i : Fin 256) (l : Fin 128) (hi : i = ⟨r.val % 256, by omega⟩)
    (qr' qp' kc' vc' k1' k2' k3' v1' v2' v3' : S256x128.Idx → EReal) (tL tM tH : S1x1x2x256x256.Idx → EReal)
    (hqr : ∀ x : Fin 128, qr' (ix2 i x) = qr (ix2 r ⟨128 * p.val + x.val, by omega⟩))
    (hqp : ∀ x : Fin 128, qp' (ix2 i x) = qp (ix2 r ⟨128 * p.val + x.val, by omega⟩))
    (hkc : ∀ (k : Fin 256) (x : Fin 128), kc' (ix2 k x) = kc (ix2 k ⟨128 * p.val + x.val, by omega⟩))
    (hvc : ∀ (k : Fin 256) (x : Fin 128), vc' (ix2 k x) = vc (ix2 k ⟨128 * p.val + x.val, by omega⟩))
    (hk1 : ∀ (k : Fin 256) (x : Fin 128), k1' (ix2 k x) = k1 (ix2 k ⟨128 * p.val + x.val, by omega⟩))
    (hk2 : ∀ (k : Fin 256) (x : Fin 128), k2' (ix2 k x) = k2 (ix2 k ⟨128 * p.val + x.val, by omega⟩))
    (hk3 : ∀ (k : Fin 256) (x : Fin 128), k3' (ix2 k x) = k3 (ix2 k ⟨128 * p.val + x.val, by omega⟩))
    (hv1 : ∀ (k : Fin 256) (x : Fin 128), v1' (ix2 k x) = v1 (ix2 k ⟨128 * p.val + x.val, by omega⟩))
    (hv2 : ∀ (k : Fin 256) (x : Fin 128), v2' (ix2 k x) = v2 (ix2 k ⟨128 * p.val + x.val, by omega⟩))
    (hv3 : ∀ (k : Fin 256) (x : Fin 128), v3' (ix2 k x) = v3 (ix2 k ⟨128 * p.val + x.val, by omega⟩))
    (hL : ∀ (u : Fin 2) (k : Fin 256), tL (ix5 0 0 u i k) = tab (ix5 0 kL ⟨2 * p.val + u.val, by omega⟩ i k))
    (hM : ∀ (u : Fin 2) (k : Fin 256), tM (ix5 0 0 u i k) = tab (ix5 0 2 ⟨2 * p.val + u.val, by omega⟩ i k))
    (hH : ∀ (u : Fin 2) (k : Fin 256), tH (ix5 0 0 u i k) = tab (ix5 0 kH ⟨2 * p.val + u.val, by omega⟩ i k)) :
    attnPiece (F := Ideal) qp' kc' qr' k1' k2' k3' tL tM tH vc' v1' v2' v3' (ix2 i l)
      = rowAttn qr qp kc vc k1 k2 k3 v1 v2 v3 tab kL kH r ⟨128 * p.val + l.val, by omega⟩ := by
  have hl : ∀ d : Fin 64, (⟨128 * p.val + (plane (phead l) d).val, by have := (plane (phead l) d).isLt; omega⟩ : Fin 512)
      = Spec.lane (Spec.head ⟨128 * p.val + l.val, by omega⟩) d := fun d => Fin.ext (by
    show 128 * p.val + (64 * (l.val / 64) + d.val) = 64 * ((128 * p.val + l.val) / 64) + d.val; omega)
  have hh : (⟨2 * p.val + (phead l).val, by have := (phead l).isLt; omega⟩ : Fin 8) = Spec.head ⟨128 * p.val + l.val, by omega⟩ :=
    Fin.ext (by show 2 * p.val + l.val / 64 = (128 * p.val + l.val) / 64; omega)
  rw [attnPiece_apply]
  simp only [hqr, hqp, hkc, hvc, hk1, hk2, hk3, hv1, hv2, hv3, hL, hM, hH, hl, hh]
  unfold rowAttn
  simp only [← hi]

theorem attnAt_apply (s : Fin 2) (p : Fin 4) (qr qp : S512x512.Idx → EReal) (kc vc k1 k2 k3 v1 v2 v3 : S256x512.Idx → EReal)
    (tab : S1x6x8x256x256.Idx → EReal) (oL oH : Fin 5 → ℕ)
    (hL : ∀ a : Fin 5, oL a + S1x1x2x256x256.size a ≤ S1x6x8x256x256.size a)
    (hH : ∀ a : Fin 5, oH a + S1x1x2x256x256.size a ≤ S1x6x8x256x256.size a) (kL kH : Fin 6) (eL : oL = offK kL p) (eH : oH = offK kH p)
    (i : Fin 256) (l : Fin 128) :
    attnAt (F := Ideal) s p qr qp kc vc k1 k2 k3 v1 v2 v3 tab oL oH hL hH (ix2 i l)
      = rowAttn qr qp kc vc k1 k2 k3 v1 v2 v3 tab kL kH ⟨256 * s.val + i.val, by omega⟩ ⟨128 * p.val + l.val, by omega⟩ := by
  have hq : ∀ (X : S512x512.Idx → EReal) (x : Fin 128), View.ld (Val := Elt Ideal) (e' := .bf16) X
      (Rect.unit (s := S512x512) ![256 * s.val, 128 * p.val] S256x128.size (inb_half s p)) (ix2 i x)
        = X (ix2 ⟨256 * s.val + i.val, by omega⟩ ⟨128 * p.val + x.val, by omega⟩) := fun X x =>
    ld2 (α := Elt Ideal) (e := .bf16) (a := 512) (b := 512) (a' := 256) (b' := 128) X _ _ (inb_half s p) i x
  have hk : ∀ (X : S256x512.Idx → EReal) (k : Fin 256) (x : Fin 128), View.ld (Val := Elt Ideal) (e' := .bf16) X
      (Rect.unit (s := S256x512) ![0, 128 * p.val] S256x128.size (inb_pair p)) (ix2 k x)
        = X (ix2 k ⟨128 * p.val + x.val, by omega⟩) := fun X k x =>
    (ld2 (α := Elt Ideal) (e := .bf16) (a := 256) (b := 512) (a' := 256) (b' := 128) X _ _ (inb_pair p) k x).trans
      (congrArg (fun z => X (ix2 z _)) (Fin.ext (Nat.zero_add _)))
  have hi : i = (⟨(256 * s.val + i.val) % 256, by omega⟩ : Fin 256) := Fin.ext (by show i.val = (256 * s.val + i.val) % 256; omega)
  exact attn_of p ⟨256 * s.val + i.val, by omega⟩ qr qp kc vc k1 k2 k3 v1 v2 v3 tab kL kH i l hi _ _ _ _ _ _ _ _ _ _ _ _ _
    (hq qr) (hq qp) (hk kc) (hk vc) (hk k1) (hk k2) (hk k3) (hk v1) (hk v2) (hk v3)
    (fun u k => ldTab tab kL p oL eL hL u i k) (fun u k => ldTab tab 2 p _ rfl (inb_mid p) u i k) (fun u k => ldTab tab kH p oH eH hH u i k)

variable (V : (c : Dev nD) → (b : Ref sig .tc) → Buf (Elt Ideal) ((c : Thread nD τ).loc b)) (c : Dev nD) (t : Fin cfg1.N)

/-- What the attention scratch holds. -/
def attnG (r j : Fin 512) : EReal :=
  if r.val / 256 = 0 then
    rowAttn (iblk1 V c 2 t) (iblk1 V c 3 t) (iblk1 V c 12 t) (iblk1 V c 13 t) (iblk1 V c 4 t) (iblk1 V c 5 t) (iblk1 V c 6 t)
      (iblk1 V c 8 t) (iblk1 V c 9 t) (iblk1 V c 10 t) (iblk1 V c 14 t) (lowK (2 * (t.val % 8))) (highK (2 * (t.val % 8))) r j
  else
    rowAttn (iblk1 V c 2 t) (iblk1 V c 3 t) (iblk1 V c 12 t) (iblk1 V c 13 t) (iblk1 V c 5 t) (iblk1 V c 6 t) (iblk1 V c 7 t)
      (iblk1 V c 9 t) (iblk1 V c 10 t) (iblk1 V c 11 t) (iblk1 V c 14 t) (lowK (2 * (t.val % 8) + 1)) (highK (2 * (t.val % 8) + 1)) r j

/-- A piece holds `G` read through its rectangle, when it does at coordinates. -/
theorem piece_of {a b a' b' : ℕ} (o o' : ℕ)
    (h : ∀ x : Fin 2, (![o, o'] : Fin 2 → ℕ) x + (![a', b'] : Fin 2 → ℕ) x ≤ (![a, b] : Fin 2 → ℕ) x)
    (X : (⟨2, ![a', b']⟩ : Shape).Idx → EReal) (G : Fin a → Fin b → EReal)
    (hX : ∀ (i : Fin a') (l : Fin b') (r : Fin a) (j : Fin b), r.val = o + i.val → j.val = o' + l.val → X (ix2 i l) = G r j)
    (x : (⟨2, ![a', b']⟩ : Shape).Idx) :
    X x = (fun y : (⟨2, ![a, b]⟩ : Shape).Idx => G (y 0) (y 1)) ((Rect.unit (s := ⟨2, ![a, b]⟩) ![o, o'] ![a', b'] h).emb x) := by
  have e := Rect.idx_unit_val (s := ⟨2, ![a, b]⟩) ![o, o'] ![a', b'] h x
  rw [eq_ix2 x]
  exact hX (x 0) (x 1) _ _ (e 0) (e 1)

theorem attnFst_pc (p : Fin 4) (oL oH : Fin 5 → ℕ) (hL hH) (eL : oL = offK (lowK (2 * (t.val % 8))) p)
    (eH : oH = offK (highK (2 * (t.val % 8))) p) (x : S256x128.Idx) :
    (attnPc (F := Ideal) 0 p (attnFst V c t p oL oH hL hH)).2 x
      = (fun y : S512x512.Idx => attnG V c t (y 0) (y 1)) ((attnPc (F := Ideal) 0 p (attnFst V c t p oL oH hL hH)).1.emb x) := by
  refine piece_of (256 * (0 : Fin 2).val) (128 * p.val) (inb_half 0 p) _ (attnG V c t) (fun i l r j hr hj => ?_) x
  refine (attnAt_apply 0 p _ _ _ _ _ _ _ _ _ _ _ oL oH hL hH _ _ eL eH i l).trans ?_
  have hr' : r.val = i.val := hr.trans (by simp)
  rw [attnG, if_pos (by omega)]
  exact congr (congrArg _ (Fin.ext hr.symm)) (Fin.ext hj.symm)

theorem attnSnd_pc (p : Fin 4) (oL oH : Fin 5 → ℕ) (hL hH) (eL : oL = offK (lowK (2 * (t.val % 8) + 1)) p)
    (eH : oH = offK (highK (2 * (t.val % 8) + 1)) p) (x : S256x128.Idx) :
    (attnPc (F := Ideal) 1 p (attnSnd V c t p oL oH hL hH)).2 x
      = (fun y : S512x512.Idx => attnG V c t (y 0) (y 1)) ((attnPc (F := Ideal) 1 p (attnSnd V c t p oL oH hL hH)).1.emb x) := by
  refine piece_of (256 * (1 : Fin 2).val) (128 * p.val) (inb_half 1 p) _ (attnG V c t) (fun i l r j hr hj => ?_) x
  refine (attnAt_apply 1 p _ _ _ _ _ _ _ _ _ _ _ oL oH hL hH _ _ eL eH i l).trans ?_
  have hr' : r.val = 256 + i.val := hr.trans (by simp)
  rw [attnG, if_neg (by omega)]
  exact congr (congrArg _ (Fin.ext hr.symm)) (Fin.ext hj.symm)

/-- The attention scratch, read. -/
theorem attn_apply (r j : Fin 512) : View.canon (attnList V c t (grid1.coords t)) (ix2 r j) = attnG V c t r j := by
  refine (View.canon_apply_of_pieces (Val := Elt Ideal) (e := .bf16) (fun y : S512x512.Idx => attnG V c t (y 0) (y 1)) _ ?_ _
    (View.cover_of_tiledL (attnList V c t (grid1.coords t)) S256x128.size (by sl_kernel_rfl) _)).trans rfl
  unfold attnList
  simp only [List.forall_mem_cons, List.not_mem_nil, false_implies, implies_true, and_true]
  exact ⟨attnSnd_pc V c t 3 _ _ _ _ (off4 t).1.1 (off4 t).1.2, attnSnd_pc V c t 2 _ _ _ _ (off3 t).1.1 (off3 t).1.2,
    attnSnd_pc V c t 1 _ _ _ _ (off2 t).1.1 (off2 t).1.2, attnSnd_pc V c t 0 _ _ _ _ (off1 t).1.1 (off1 t).1.2,
    attnFst_pc V c t 3 _ _ _ _ (off4 t).2.1 (off4 t).2.2, attnFst_pc V c t 2 _ _ _ _ (off3 t).2.1 (off3 t).2.2,
    attnFst_pc V c t 1 _ _ _ _ (off2 t).2.1 (off2 t).2.2, attnFst_pc V c t 0 _ _ _ _ (off1 t).2.1 (off1 t).2.2⟩

/-- One element of the gating, from the blocks. -/
def rowGate (gu svn : S512x512.Idx → EReal) (ws : S1x4x256x128.Idx → EReal) (bs : S1x4x128x128.Idx → EReal) (r j : Fin 512) : EReal :=
  gu (ix2 r j)
    * ((∑ p : Fin 128, ws (ix4 0 ⟨j.val / 128, by omega⟩ ⟨128 * (j.val % 128 / 64) + r.val % 128, by omega⟩ p)
          * svn (ix2 ⟨128 * (r.val / 128) + p.val, by omega⟩ j))
      + bs (ix4 0 ⟨j.val / 128, by omega⟩ ⟨r.val % 128, by omega⟩ ⟨j.val % 128, by omega⟩))

/-- What the gating scratch holds. -/
def gateG (r j : Fin 512) : EReal := rowGate (iblk1 V c 15 t) (iblk1 V c 16 t) (iblk1 V c 19 t) (iblk1 V c 20 t) r j

/-- The gating of tiles that read the blocks at chunk `s`, head pair `p`. -/
theorem gate_of (gu svn : S512x512.Idx → EReal) (ws : S1x4x256x128.Idx → EReal) (bs : S1x4x128x128.Idx → EReal)
    (s p : Fin 4) (i l : Fin 128) (r j : Fin 512) (hr : r.val = 128 * s.val + i.val) (hj : j.val = 128 * p.val + l.val) :
    (View.ld (Val := Elt Ideal) (e' := .bf16) gu (Rect.unit (s := S512x512) ![128 * s.val, 128 * p.val] S128x128.size (inb_chunk s p)) (ix2 i l) : EReal)
      * ((∑ q : Fin 128, (View.ld (Val := Elt Ideal) (e' := .bf16) ws (Rect.unit (s := S1x4x256x128) ![0, p.val, 0, 0] S1x1x256x128.size (inb_ws p)) (ix4 0 0 (wrow (phead l) i) q) : EReal)
          * (View.ld (Val := Elt Ideal) (e' := .bf16) svn (Rect.unit (s := S512x512) ![128 * s.val, 128 * p.val] S128x128.size (inb_chunk s p)) (ix2 q l) : EReal))
        + (View.ld (Val := Elt Ideal) (e' := .f32) bs (Rect.unit (s := S1x4x128x128) ![0, p.val, 0, 0] S1x1x128x128.size (inb_bs p)) (ix4 0 0 i l) : EReal))
    = rowGate gu svn ws bs r j := by
  have hq : ∀ (X : S512x512.Idx → EReal) (q : Fin 128) (r' : Fin 512), r'.val = 128 * s.val + q.val → View.ld (Val := Elt Ideal) (e' := .bf16) X
      (Rect.unit (s := S512x512) ![128 * s.val, 128 * p.val] S128x128.size (inb_chunk s p)) (ix2 q l) = X (ix2 r' j) := fun X q r' h =>
    (ld2 (α := Elt Ideal) (e := .bf16) (a := 512) (b := 512) (a' := 128) (b' := 128) X _ _ (inb_chunk s p) q l).trans
      (congrArg X (funext fun a => match a with | ⟨0, _⟩ => Fin.ext h.symm | ⟨1, _⟩ => Fin.ext hj.symm))
  have hw : ∀ q : Fin 128, View.ld (Val := Elt Ideal) (e' := .bf16) ws
      (Rect.unit (s := S1x4x256x128) ![0, p.val, 0, 0] S1x1x256x128.size (inb_ws p)) (ix4 0 0 (wrow (phead l) i) q)
        = ws (ix4 0 ⟨j.val / 128, by omega⟩ ⟨128 * (j.val % 128 / 64) + r.val % 128, by omega⟩ q) := fun q =>
    View.ld_unit_apply_of (Val := Elt Ideal) (e := .bf16) ws _ _ _ (ix4 0 0 (wrow (phead l) i) q) _ fun x => by
      match x with
      | ⟨0, _⟩ => rfl
      | ⟨1, _⟩ => show j.val / 128 = p.val + 0; omega
      | ⟨2, _⟩ => show 128 * (j.val % 128 / 64) + r.val % 128 = 0 + (128 * (l.val / 64) + i.val); omega
      | ⟨3, _⟩ => exact (Nat.zero_add _).symm
  have hb : View.ld (Val := Elt Ideal) (e' := .f32) bs
      (Rect.unit (s := S1x4x128x128) ![0, p.val, 0, 0] S1x1x128x128.size (inb_bs p)) (ix4 0 0 i l)
        = bs (ix4 0 ⟨j.val / 128, by omega⟩ ⟨r.val % 128, by omega⟩ ⟨j.val % 128, by omega⟩) :=
    View.ld_unit_apply_of (Val := Elt Ideal) (e := .f32) bs _ _ _ (ix4 0 0 i l) _ fun x => by
      match x with
      | ⟨0, _⟩ => rfl
      | ⟨1, _⟩ => show j.val / 128 = p.val + 0; omega
      | ⟨2, _⟩ => show r.val % 128 = 0 + i.val; omega
      | ⟨3, _⟩ => show j.val % 128 = 0 + l.val; omega
  refine congr (congrArg _ (hq gu i r hr)) (congr (congrArg _ (Finset.sum_congr rfl fun q _ => ?_)) hb)
  exact congr (congrArg _ (hw q)) (hq svn q _ (by show 128 * (r.val / 128) + q.val = 128 * s.val + q.val; omega))

theorem gate0_pc (sa sb p : Fin 4) (x : S128x128.Idx) : (gatePc (F := Ideal) sa p (gate0At V c t sa sb p)).2 x
    = (fun y : S512x512.Idx => gateG V c t (y 0) (y 1)) ((gatePc (F := Ideal) sa p (gate0At V c t sa sb p)).1.emb x) :=
  piece_of (128 * sa.val) (128 * p.val) (inb_chunk sa p) _ (gateG V c t)
    (fun i l r j hr hj => (gateFst_apply _ _ _ _ _ i l).trans (gate_of _ _ _ _ sa p i l r j hr hj)) x

theorem gate1_pc (sa sb p : Fin 4) (x : S128x128.Idx) : (gatePc (F := Ideal) sb p (gate1At V c t sa sb p)).2 x
    = (fun y : S512x512.Idx => gateG V c t (y 0) (y 1)) ((gatePc (F := Ideal) sb p (gate1At V c t sa sb p)).1.emb x) :=
  piece_of (128 * sb.val) (128 * p.val) (inb_chunk sb p) _ (gateG V c t)
    (fun i l r j hr hj => (gateSnd_apply _ _ _ _ _ i l).trans (gate_of _ _ _ _ sb p i l r j hr hj)) x

/-- The gating scratch, read. -/
theorem gate_apply (r j : Fin 512) : View.canon (gateList V c t) (ix2 r j) = gateG V c t r j := by
  refine (View.canon_apply_of_pieces (Val := Elt Ideal) (e := .bf16) (fun y : S512x512.Idx => gateG V c t (y 0) (y 1)) _ ?_ _
    (View.cover_of_tiledL (gateList V c t) S128x128.size (by sl_kernel_rfl) _)).trans rfl
  unfold gateList
  simp only [List.forall_mem_cons, List.not_mem_nil, false_implies, implies_true, and_true]
  exact ⟨gate1_pc V c t 2 3 3, gate0_pc V c t 2 3 3, gate1_pc V c t 2 3 2, gate0_pc V c t 2 3 2, gate1_pc V c t 2 3 1, gate0_pc V c t 2 3 1,
    gate1_pc V c t 2 3 0, gate0_pc V c t 2 3 0, gate1_pc V c t 0 1 3, gate0_pc V c t 0 1 3, gate1_pc V c t 0 1 2, gate0_pc V c t 0 1 2,
    gate1_pc V c t 0 1 1, gate0_pc V c t 0 1 1, gate1_pc V c t 0 1 0, gate0_pc V c t 0 1 0⟩

end Cert.MixValue
-- ==== Proof.MixOut.lean ====
module

public import proofs.«01_k».proof.Proof.MixGlue

/-! # The mixing body's output block, an element at a time -/

@[expose] public section

set_option maxRecDepth 16384

noncomputable section

namespace Cert.MixValue

open Idealize.ShloMosaic Idealize.ShloMosaic.TcCoe Idealize.SL.Sem
open Cert.KernelIdeal Cert.KernelIdeal.Gen

/-- A row of the output block, from a row of each scratch and the blocks. -/
def rowOut (oa ga : Fin 512 → EReal) (wa wb : S1x512x1024.Idx → EReal) (sa sb : S512x1024.Idx → EReal)
    (wo : S1x1024x1024.Idx → EReal) (x : S512x1024.Idx → EReal) (md : S1x1x6x1024.Idx → EReal) (lg lb : S1x1x1024.Idx → EReal)
    (r : Fin 512) (n : Fin 1024) : EReal :=
  Spec.layer oa ga (fun n => x (ix2 r n)) (fun k => sa (ix2 r k)) (fun k => sb (ix2 r k)) (fun j k => wa (ix3 0 j k)) (fun j k => wb (ix3 0 j k))
    (fun k n => wo (ix3 0 k n)) (fun n => md (ix4 0 0 2 n)) (fun n => lg (ix3 0 0 n)) (fun n => lb (ix3 0 0 n)) n

/-- A half of rows of a scratch, read. -/
theorem rowsOf_apply (s : Fin 2) (L : List (View.Piece (Elt Ideal) S512x512 .bf16)) (i : Fin 256) (j : Fin 512) (r : Fin 512)
    (hr : r.val = 256 * s.val + i.val) : rowsOf s L (ix2 i j) = View.canon L (ix2 r j) := by
  have e : ∀ a, ((Rect.unit (s := S512x512) ![256 * s.val, 0] S256x512.size (inb_rows512 s)).toLoadRect.idx (ix2 i j) a).val
      = (![256 * s.val, 0] : Fin 2 → ℕ) a + (ix2 i j a).val := Rect.idx_unit_val (s := S512x512) _ _ (inb_rows512 s) (ix2 i j)
  refine congrArg (View.canon L) (funext fun a => match a with
    | ⟨0, _⟩ => Fin.ext ((e 0).trans hr.symm)
    | ⟨1, _⟩ => Fin.ext ((e 1).trans (Nat.zero_add _)))

/-- Three axes read whole. -/
theorem ld3 {a b : ℕ} {e : EltTy} (X : (⟨3, ![1, a, b]⟩ : Shape).Idx → Elt Ideal e)
    (h : ∀ x : Fin 3, (![0, 0, 0] : Fin 3 → ℕ) x + (![1, a, b] : Fin 3 → ℕ) x ≤ (![1, a, b] : Fin 3 → ℕ) x) (j : Fin a) (k : Fin b) :
    View.ld X (Rect.unit (s := ⟨3, ![1, a, b]⟩) ![0, 0, 0] ![1, a, b] h) (ix3 0 j k) = X (ix3 0 j k) :=
  View.ld_unit_apply_of X _ _ h (ix3 0 j k) _ fun x => by
    match x with
    | ⟨0, _⟩ => rfl
    | ⟨1, _⟩ => exact (Nat.zero_add _).symm
    | ⟨2, _⟩ => exact (Nat.zero_add _).symm

variable (V : (c : Dev nD) → (b : Ref sig .tc) → Buf (Elt Ideal) ((c : Thread nD τ).loc b)) (c : Dev nD) (t : Fin cfg1.N)

/-- What the output block holds. -/
def outG (r : Fin 512) (n : Fin 1024) : EReal :=
  rowOut (attnG V c t r) (gateG V c t r) (iblk1 V c 21 t) (iblk1 V c 22 t) (iblk1 V c 17 t) (iblk1 V c 18 t) (iblk1 V c 23 t)
    (iblk1 V c 0 t) (iblk1 V c 1 t) (iblk1 V c 24 t) (iblk1 V c 25 t) r n

/-- A half of the output from the tiles it reads. -/
theorem half_of (oa ga : Fin 512 → EReal) (wa wb : S1x512x1024.Idx → EReal) (sa sb : S512x1024.Idx → EReal)
    (wo : S1x1024x1024.Idx → EReal) (x : S512x1024.Idx → EReal) (md : S1x1x6x1024.Idx → EReal) (lg lb : S1x1x1024.Idx → EReal)
    (r : Fin 512) (i : Fin 256) (n : Fin 1024)
    (oa' ga' : S256x512.Idx → EReal) (wa' wb' : S1x512x1024.Idx → EReal) (sa' sb' : S256x1024.Idx → EReal)
    (wo' : S1x1024x1024.Idx → EReal) (x' : S256x1024.Idx → EReal) (m' : S1x1x1x1024.Idx → EReal) (lg' lb' : S1x1x1024.Idx → EReal)
    (hoa : ∀ j, oa' (ix2 i j) = oa j) (hga : ∀ j, ga' (ix2 i j) = ga j) (hwa : ∀ j k, wa' (ix3 0 j k) = wa (ix3 0 j k))
    (hwb : ∀ j k, wb' (ix3 0 j k) = wb (ix3 0 j k)) (hsa : ∀ k, sa' (ix2 i k) = sa (ix2 r k)) (hsb : ∀ k, sb' (ix2 i k) = sb (ix2 r k))
    (hwo : ∀ j k, wo' (ix3 0 j k) = wo (ix3 0 j k)) (hx : ∀ k, x' (ix2 i k) = x (ix2 r k)) (hm : ∀ k, m' (ix4 0 0 0 k) = md (ix4 0 0 2 k))
    (hlg : ∀ k, lg' (ix3 0 0 k) = lg (ix3 0 0 k)) (hlb : ∀ k, lb' (ix3 0 0 k) = lb (ix3 0 0 k)) :
    halfOut (F := Ideal) oa' ga' wa' wb' sa' sb' wo' x' m' lg' lb' (ix2 i n) = rowOut oa ga wa wb sa sb wo x md lg lb r n := by
  rw [halfOut_apply]
  simp only [hoa, hga, hwa, hwb, hsa, hsb, hwo, hx, hm, hlg, hlb]
  rfl

theorem halfAt_apply (s : Fin 2) (i : Fin 256) (n : Fin 1024) (r : Fin 512) (hr : r.val = 256 * s.val + i.val) :
    halfAt V c t (attnList V c t (grid1.coords t)) (gateList V c t) s (ix2 i n) = outG V c t r n := by
  have h2 : ∀ (X : S512x1024.Idx → EReal) (e : EltTy) (hh : Elt Ideal e = EReal) (k : Fin 1024), View.ld (Val := fun _ => EReal) (e' := e) X
      (Rect.unit (s := S512x1024) ![256 * s.val, 0] S256x1024.size (inb_rows s)) (ix2 i k) = X (ix2 r k) := fun X e hh k =>
    (ld2 (α := fun _ => EReal) (e := e) (a := 512) (b := 1024) (a' := 256) (b' := 1024) X _ _ (inb_rows s) i k).trans
      (congrArg X (funext fun a => match a with | ⟨0, _⟩ => Fin.ext hr.symm | ⟨1, _⟩ => Fin.ext (Nat.zero_add _)))
  refine half_of _ _ _ _ _ _ _ _ (iblk1 V c 1 t) _ _ r i n _ _ _ _ _ _ _ _ _ _ _
    (fun j => (rowsOf_apply s _ i j r hr).trans (attn_apply V c t r j)) (fun j => (rowsOf_apply s _ i j r hr).trans (gate_apply V c t r j))
    (fun j k => ld3 (e := .bf16) _ _ j k) (fun j k => ld3 (e := .bf16) _ _ j k) (h2 _ .bf16 rfl) (h2 _ .bf16 rfl)
    (fun j k => ld3 (e := .bf16) _ _ j k) (h2 _ .f32 rfl) (fun k => ?_) (fun k => ld3 (e := .f32) _ _ 0 k) (fun k => ld3 (e := .f32) _ _ 0 k)
  exact View.ld_unit_apply_of (Val := Elt Ideal) (e := .f32) (iblk1 V c 1 t) _ _ inb_S1x1x6x1024_S1x1x1x1024_0_0_2_0 (ix4 0 0 0 k) _ fun x => by
    match x with
    | ⟨0, _⟩ => rfl
    | ⟨1, _⟩ => rfl
    | ⟨2, _⟩ => rfl
    | ⟨3, _⟩ => exact (Nat.zero_add _).symm

theorem out_pc (s : Fin 2) (x : S256x1024.Idx) :
    (outPc (F := Ideal) s (halfAt V c t (attnList V c t (grid1.coords t)) (gateList V c t) s)).2 x
      = (fun y : S512x1024.Idx => outG V c t (y 0) (y 1))
          ((outPc (F := Ideal) s (halfAt V c t (attnList V c t (grid1.coords t)) (gateList V c t) s)).1.emb x) :=
  piece_of (a := 512) (b := 1024) (a' := 256) (b' := 1024) (256 * s.val) 0 (inb_rows s) _ (outG V c t)
    (fun i l r j hr hj => (halfAt_apply V c t s i l r hr).trans (congrArg (outG V c t r) (Fin.ext (by omega)))) x

/-- The mixing body's output block, read. -/
theorem outsAt1_apply (r : Fin 512) (n : Fin 1024) : (outsAt1 V c t : S512x1024.Idx → EReal) (ix2 r n) = outG V c t r n := by
  rw [outsAt1_eq]
  refine (View.canon_apply_of_pieces (Val := Elt Ideal) (e := .f32) (fun y : S512x1024.Idx => outG V c t (y 0) (y 1)) _ ?_ _
    (View.cover_of_tiledL [outPc 1 (halfAt V c t (attnList V c t (grid1.coords t)) (gateList V c t) 1),
      outPc 0 (halfAt V c t (attnList V c t (grid1.coords t)) (gateList V c t) 0)] S256x1024.size (by sl_kernel_rfl) _)).trans rfl
  simp only [List.forall_mem_cons, List.not_mem_nil, false_implies, implies_true, and_true]
  exact ⟨out_pc V c t 1, out_pc V c t 0⟩

end Cert.MixValue
-- ==== Proof.TabBody.lean ====
module

public import proofs.«01_k».proof.Proof.IdealBody

/-! # What the bias-table body leaves in its output block

Fourteen planes of a pair of rows' bias each, kept in a scratch, and forty-eight tiles of 64 by 128 cut from
them: one for each kind of table, row of queries and pair of rows of keys. -/

@[expose] public section

set_option maxRecDepth 16384

noncomputable section

namespace Cert.KernelIdeal.Gen
open Cert.KernelIdeal Idealize.ShloMosaic Idealize.ShloMosaic.TcCoe Idealize.SL.Sem
variable {F : FTy → Type} [FloatOps F] [Named F]

theorem inb_plane : ∀ (d : Fin 14) (a : Fin 3),
    (![d.val, 0, 0] : Fin 3 → ℕ) a + S1x64x128.size a ≤ S14x64x128.size a := by decide
theorem inb_src : ∀ (d : Fin 14) (a : Fin 4),
    (![0, 0, d.val, 0] : Fin 4 → ℕ) a + S1x1x1x128.size a ≤ S1x1x16x128.size a := by decide
theorem inb_tile : ∀ (k : Fin 6) (q : Fin 4) (p : Fin 2) (a : Fin 5),
    (![0, k.val, 0, 64 * q.val, 128 * p.val] : Fin 5 → ℕ) a + S1x1x1x64x128.size a ≤ S1x6x1x256x256.size a := by decide

/-- The plane of rows `d` and `d + 1` of the bias. -/
def planePc (x : Vec F S1x1x16x128 .f32) (d : Fin 14) : View.Piece (Elt F) S14x64x128 .f32 :=
  ⟨Rect.unit (s := S14x64x128) ![d.val, 0, 0] S1x64x128.size (inb_plane d),
    k0_pay14 k0_pay7 k0_pay8 (View.ld x (Rect.unit (s := S1x1x16x128) ![0, 0, d.val, 0] S1x1x1x128.size (inb_src d)))⟩

/-- The planes, the last stored first. -/
def planeList (x : Vec F S1x1x16x128 .f32) : List (View.Piece (Elt F) S14x64x128 .f32) :=
  [13, 12, 11, 10, 9, 8, 7, 6, 5, 4, 3, 2, 1, 0].map (planePc x)

/-- Plane `d` as the scratch holds it. -/
def planeAt (x : Vec F S1x1x16x128 .f32) (d : Fin 14) : Vec F S1x64x128 .f32 :=
  fun j => View.canon (planeList x) ((Rect.unit (s := S14x64x128) ![d.val, 0, 0] S1x64x128.size (inb_plane d)).toLoadRect.idx j)

/-- The row of keys, from the first one a table reaches, at which a kind of table's block starts. -/
def keyBase : Fin 6 → ℕ := fun k => match k with
  | ⟨0, _⟩ => 0 | ⟨1, _⟩ => 0 | ⟨2, _⟩ => 4 | ⟨3, _⟩ => 8 | ⟨4, _⟩ => 8 | _ => 0

/-- Whether the queries of row `q` see the keys of row `r` of a kind of table. -/
def rowOk (k : Fin 6) (q r : ℕ) : Bool := match k with
  | ⟨1, _⟩ => true | ⟨2, _⟩ => true | ⟨4, _⟩ => true | ⟨5, _⟩ => false
  | k => decide (q ≤ keyBase k + r) && decide (keyBase k + r < q + 8)

/-- The plane a tile is cut from. -/
def planeOf (k : Fin 6) (q : Fin 4) (p : Fin 2) : Fin 14 := ⟨(keyBase k + 2 * p.val + 3 - q.val) % 14, Nat.mod_lt _ (by norm_num)⟩

/-- A tile of a table: whole, its lower or upper half of lanes masked, or masked. -/
def tileOf (x : Vec F S1x1x16x128 .f32) (d : Fin 14) : Bool → Bool → FVec F S1x1x1x64x128 .f32
  | true, true => k0_pay32 (planeAt x d)
  | false, true => k0_pay35 (k0_pay34 k0_pay5 (planeAt x d))
  | true, false => k0_pay35 (select k0_pay5 k0_pay9 (shapeCast S64x128 (planeAt x d) shapeCasts_S1x64x128_S64x128))
  | false, false => k0_pay1 k0_pay9

/-- A tile with its place. -/
def tilePc (x : Vec F S1x1x16x128 .f32) (k : Fin 6) (q : Fin 4) (p : Fin 2) : View.Piece (Elt F) S1x6x1x256x256 .f32 :=
  ⟨Rect.unit (s := S1x6x1x256x256) ![0, k.val, 0, 64 * q.val, 128 * p.val] S1x1x1x64x128.size (inb_tile k q p),
    tileOf x (planeOf k q p) (rowOk k q.val (2 * p.val)) (rowOk k q.val (2 * p.val + 1))⟩

/-- The tiles, the last stored first. -/
def tileList (x : Vec F S1x1x16x128 .f32) : List (View.Piece (Elt F) S1x6x1x256x256 .f32) :=
  [5, 4, 3, 2, 1, 0].flatMap fun k => [3, 2, 1, 0].flatMap fun q => [1, 0].map fun p => tilePc x k q p

variable (V : (c : Dev nD) → (b : Ref sig .tc) → Buf (Elt F) ((c : Thread nD τ).loc b))

set_option maxHeartbeats 2000000 in
/-- What the table body leaves in its output block. -/
theorem outsAt0_eq (c : Dev nD) (t : Fin cfg0.N) : outsAt0 V c t = View.canon (tileList (iblk0 V c 0 t)) := by
  unfold outsAt0 out0_A_1; rw [View.read_writes_junk_eq_canon]; unfold kernelRun0_A; dsimp only
  sl_unfold_words
  simp only [View.readAt_eq_ld, View.readCov_eq_canon', (hs0_0 t).read_unread]
  rfl

end Cert.KernelIdeal.Gen
-- ==== Proof.TabWord.lean ====
module

public import proofs.«01_k».proof.Proof.TabBody
public import proofs.«01_k».proof.Proof.MixAttn

/-! # The words the tables are made with: the masks of lanes and columns, and the places read -/

@[expose] public section

set_option maxRecDepth 16384

noncomputable section

namespace Cert.TabValue

open Idealize.ShloMosaic
open Cert.KernelIdeal Cert.KernelIdeal.Gen Cert.RefValue

/-- Where in a pair of bias rows lane `l` of query column `q` reads. -/
def src (q : Fin 64) (l : Fin 128) : Fin 128 := ⟨place 15 30 q.val (l.val % 64) + 32 * (l.val / 64), by unfold place; omega⟩

theorem pay7_apply : ∀ (q : Fin 64) (l : Fin 128), k0_pay7 (ix2 q l) = if colIn q.val (l.val % 64) then 1#1 else 0#1 := by
  decide +kernel

theorem pay5_apply : ∀ (q : Fin 64) (l : Fin 128), k0_pay5 (ix2 q l) = if 64 ≤ l.val then 1#1 else 0#1 := by
  decide +kernel

theorem pay8_apply : ∀ (q : Fin 64) (l : Fin 128), k0_pay8 (ix2 q l) = BitVec.ofNat 32 (src q l).val := by
  decide +kernel

theorem src_word : ∀ n : Fin 128, (Scalar.select (IntOp.cmpi .slt (BitVec.ofNat 32 n.val) 0#32)
    (IntOp.addi (BitVec.ofNat 32 n.val) 128#32) (BitVec.ofNat 32 n.val)).toNat % 128 = n.val := by decide +kernel

end Cert.TabValue
-- ==== Proof.TabValue.lean ====
module

public import proofs.«01_k».proof.Proof.TabWord
public import Idealize.ShloMosaic.Lib.Pipeline.ValueKit.Tiles

/-! # The tables, an element at a time -/

@[expose] public section

set_option maxRecDepth 16384

noncomputable section

namespace Cert.TabValue

open Idealize.ShloMosaic
open Cert.KernelIdeal Cert.KernelIdeal.Gen Cert.RefValue

theorem mask_word : (Named.named (F := Ideal) (φ := .f32) Cert.KernelIdeal.κ "mask" 0xF149F2CA#32 : EReal) = ⊥ :=
  IdealRules.named_const.ideal_named_scalar _ _ _ _ rfl

theorem sel_word {α : Type} (p : Prop) [Decidable p] (x y : α) :
    Scalar.select (if p then 1#1 else 0#1) x y = if p then x else y := by
  unfold Scalar.select; by_cases h : p <;> simp [h]

/-- A plane, from its pair of bias rows. -/
theorem plane_apply (r : Vec Ideal S1x1x1x128 .f32) (q : Fin 64) (l : Fin 128) :
    k0_pay14 (F := Ideal) k0_pay7 k0_pay8 r (ix3 (0 : Fin 1) q l) = if colIn q.val (l.val % 64) then r (ix4 0 0 0 (src q l)) else ⊥ := by
  have key : ∀ (m : IVec S64x128 1) (w : IVec S64x128 32),
      k0_pay14 (F := Ideal) m w r (ix3 (0 : Fin 1) q l) = Scalar.select (m (ix2 q l)) (r (ix4 0 0 0
        ⟨(Scalar.select (IntOp.cmpi .slt (w (ix2 q l)) 0#32) (IntOp.addi (w (ix2 q l)) 128#32) (w (ix2 q l))).toNat % 128,
          Nat.mod_lt _ (by norm_num)⟩)) ⊥ := fun m w => by
    rw [← mask_word]
    pointwise [k0_pay14]
  rw [key, pay7_apply, sel_word]
  refine if_congr Iff.rfl (congrArg (fun z => r (ix4 0 0 0 z)) (Fin.ext ?_)) rfl
  rw [pay8_apply]; exact src_word _

/-- A pair of planes' rows: what the plane of rows `d` and `d + 1` holds. -/
def planeVal (x : Vec Ideal S1x1x16x128 .f32) (d : Fin 14) (q : Fin 64) (l : Fin 128) : EReal :=
  if colIn q.val (l.val % 64) then x (ix4 0 0 ⟨d.val, by omega⟩ (src q l)) else ⊥

theorem planePc_apply (x : Vec Ideal S1x1x16x128 .f32) (d : Fin 14) (j : S1x64x128.Idx) :
    (planePc x d).2 j = planeVal x d (j 1) (j 2) := by
  rw [show j = ix3 (0 : Fin 1) (j 1) (j 2) from (eq_ix3 j).trans (congrArg (fun z => ix3 z (j 1) (j 2)) (Subsingleton.elim _ _))]
  refine (plane_apply _ _ _).trans (if_congr Iff.rfl ?_ rfl)
  exact View.ld_unit_apply_of _ _ _ _ _ _ fun a => by
    match a with
    | ⟨0, _⟩ => rfl
    | ⟨1, _⟩ => rfl
    | ⟨2, _⟩ => rfl
    | ⟨3, _⟩ => exact (Nat.zero_add _).symm

theorem planeAt_apply (x : Vec Ideal S1x1x16x128 .f32) (d : Fin 14) (q : Fin 64) (l : Fin 128) :
    planeAt x d (ix3 (0 : Fin 1) q l) = planeVal x d q l := by
  unfold planeAt
  refine (View.canon_apply_of_pieces (Val := Elt Ideal) (fun y : S14x64x128.Idx => planeVal x (y 0) (y 1) (y 2)) _ ?_ _ ?_).trans ?_
  · intro p hp j
    obtain ⟨e, _, rfl⟩ := List.mem_map.mp hp
    refine (planePc_apply x e j).trans ?_
    have h : ∀ a, ((planePc x e).1.emb j a).val = (![e.val, 0, 0] : Fin 3 → ℕ) a + (j a).val := Rect.idx_unit_val _ _ (inb_plane e) j
    have h0 : (planePc x e).1.emb j 0 = e := Fin.ext ((h 0).trans (by have : (j 0).val < 1 := (j 0).isLt; show e.val + (j 0).val = _; omega))
    have h1 : (planePc x e).1.emb j 1 = j 1 := Fin.ext ((h 1).trans (Nat.zero_add _))
    have h2 : (planePc x e).1.emb j 2 = j 2 := Fin.ext ((h 2).trans (Nat.zero_add _))
    rw [h0, h1, h2]
  · exact View.cover_of_tiledL (planeList x) S1x64x128.size (by sl_kernel_rfl) _
  · have h := Rect.idx_unit_val (s := S14x64x128) ![d.val, 0, 0] S1x64x128.size (inb_plane d) (ix3 (0 : Fin 1) q l)
    exact congr (congr (congrArg (planeVal x) (Fin.ext (h 0))) (Fin.ext ((h 1).trans (Nat.zero_add _)))) (Fin.ext ((h 2).trans (Nat.zero_add _)))

/-- A tile, whichever of its halves are masked. -/
theorem tileOf_apply (x : Vec Ideal S1x1x16x128 .f32) (d : Fin 14) (a b : Bool) (q : Fin 64) (l : Fin 128) :
    tileOf x d a b (ix5 (0 : Fin 1) (0 : Fin 1) (0 : Fin 1) q l) = if (if 64 ≤ l.val then b else a) = true then planeVal x d q l else ⊥ := by
  rw [← planeAt_apply]
  match a, b with
  | true, true =>
    simp only [ite_self, if_true]
    unfold tileOf; pointwise [k0_pay32]
  | false, false =>
    simp only [ite_self, Bool.false_eq_true, if_false]
    rw [← mask_word]
    unfold tileOf; pointwise [k0_pay1, k0_pay9]
  | false, true =>
    have key : ∀ m : IVec S64x128 1, k0_pay35 (k0_pay34 m (planeAt x d)) (ix5 (0 : Fin 1) (0 : Fin 1) (0 : Fin 1) q l)
        = Scalar.select (m (ix2 q l)) (planeAt x d (ix3 (0 : Fin 1) q l)) (⊥ : EReal) := fun m => by
      rw [← mask_word]; pointwise [k0_pay35, k0_pay34]
    refine (key _).trans ?_
    rw [pay5_apply, sel_word]
    by_cases h : 64 ≤ l.val <;> simp [h]
  | true, false =>
    have key : ∀ m : IVec S64x128 1,
        k0_pay35 (select m (k0_pay9 (F := Ideal)) (shapeCast S64x128 (planeAt x d) shapeCasts_S1x64x128_S64x128))
            (ix5 (0 : Fin 1) (0 : Fin 1) (0 : Fin 1) q l)
        = Scalar.select (m (ix2 q l)) (⊥ : EReal) (planeAt x d (ix3 (0 : Fin 1) q l)) := fun m => by
      rw [← mask_word]; pointwise [k0_pay35, k0_pay9]
    refine (key _).trans ?_
    rw [pay5_apply, sel_word]
    by_cases h : 64 ≤ l.val <;> simp [h]

/-- What a kind of table holds for query `i` of its block and key `j` of the key block. -/
def tab (x : Vec Ideal S1x1x16x128 .f32) (k : Fin 6) (i j : Fin 256) : EReal :=
  if rowOk k (i.val / 64) (j.val / 64) = true then
    planeVal x (planeOf k ⟨i.val / 64, by omega⟩ ⟨j.val / 128, by omega⟩) ⟨i.val % 64, by omega⟩ ⟨j.val % 128, by omega⟩
  else ⊥

/-- The table body's output block. -/
theorem tiles_apply (x : Vec Ideal S1x1x16x128 .f32) (k : Fin 6) (i j : Fin 256) :
    View.canon (tileList x) (ix5 (0 : Fin 1) k (0 : Fin 1) i j) = tab x k i j := by
  refine (View.canon_apply_of_pieces (Val := Elt Ideal) (fun y : S1x6x1x256x256.Idx => tab x (y 1) (y 3) (y 4)) _ ?_ _ ?_).trans rfl
  · intro p hp y
    obtain ⟨kk, _, hp⟩ := List.mem_flatMap.mp hp
    obtain ⟨q, _, hp⟩ := List.mem_flatMap.mp hp
    obtain ⟨r, _, rfl⟩ := List.mem_map.mp hp
    have h : ∀ a, ((tilePc x kk q r).1.emb y a).val = (![0, kk.val, 0, 64 * q.val, 128 * r.val] : Fin 5 → ℕ) a + (y a).val :=
      Rect.idx_unit_val _ _ (inb_tile kk q r) y
    have y1 : (y 1).val < 1 := (y 1).isLt
    have y3 : (y 3).val < 64 := (y 3).isLt
    have y4 : (y 4).val < 128 := (y 4).isLt
    have h1 : (tilePc x kk q r).1.emb y 1 = kk := Fin.ext ((h 1).trans (by show kk.val + (y 1).val = _; omega))
    have h3 : ((tilePc x kk q r).1.emb y 3).val = 64 * q.val + (y 3).val := h 3
    have h4 : ((tilePc x kk q r).1.emb y 4).val = 128 * r.val + (y 4).val := h 4
    have hy : y = ix5 (0 : Fin 1) (0 : Fin 1) (0 : Fin 1) (y 3) (y 4) := by
      funext a
      match a with
      | ⟨0, _⟩ => exact Subsingleton.elim (α := Fin 1) _ _
      | ⟨1, _⟩ => exact Subsingleton.elim (α := Fin 1) _ _
      | ⟨2, _⟩ => exact Subsingleton.elim (α := Fin 1) _ _
      | ⟨3, _⟩ => rfl
      | ⟨4, _⟩ => rfl
    show (tilePc x kk q r).2 y = tab x _ _ _
    rw [h1]
    refine (congrArg (tilePc x kk q r).2 hy).trans ((tileOf_apply x _ _ _ _ _).trans ?_)
    unfold tab
    have e3 : ((tilePc x kk q r).1.emb y 3).val / 64 = q.val := by omega
    have e4 : ((tilePc x kk q r).1.emb y 4).val / 128 = r.val := by omega
    have e5 : ((tilePc x kk q r).1.emb y 4).val / 64 = 2 * r.val + (y 4).val / 64 := by omega
    refine if_congr ?_ (congr (congr (congrArg (planeVal x) ?_) (Fin.ext ?_)) (Fin.ext ?_)) rfl
    · rw [e3, e5]
      by_cases hh : 64 ≤ (y 4).val
      · rw [if_pos hh, show (y 4).val / 64 = 1 by omega]
      · rw [if_neg hh, show (y 4).val / 64 = 0 by omega, Nat.add_zero]
    · exact congr (congrArg (planeOf kk) (Fin.ext e3.symm)) (Fin.ext e4.symm)
    · show (y 3).val = _ % 64; omega
    · show (y 4).val = _ % 128; omega
  · exact View.cover_of_tiledL (tileList x) S1x1x1x64x128.size (by sl_kernel_rfl) _

end Cert.TabValue
-- ==== Proof.HostValue.lean ====
module

public import proofs.«01_k».proof.Proof.IdealRun
public import proofs.«01_k».proof.Proof.TabValue
public import Idealize.ShloMosaic.Lib.Claim
public import Idealize.ShloMosaic.Lib.StableHlo.Run
public import Idealize.ShloMosaic.Lib.KernelVsHost

/-! # What the host lines leave, an element at a time -/

@[expose] public section

set_option maxRecDepth 16384

noncomputable section

namespace Cert.HostValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- Token `q` of image `b` among the rows of all images. -/
abbrev tok (b : Fin 4) (q : Fin 4096) : Fin 16384 := ⟨4096 * b.val + q.val, by omega⟩
/-- Context token `k` of image `b`. -/
abbrev ctok (b : Fin 4) (k : Fin 256) : Fin 1024 := ⟨256 * b.val + k.val, by omega⟩

theorem casttok512 (x : S4x4096x512.Idx → EReal) (h : S4x4096x512.ShapeCasts S16384x512)
    (b : Fin 4) (q : Fin 4096) (n : Fin 512) : shapeCast S16384x512 x h (ix2 (tok b q) n) = x (ix3 b q n) := by
  pointwise
  refine congrArg x (funext fun a => ?_)
  match a with
  | ⟨0, _⟩ => exact Fin.ext (by show (4096 * b.val + q.val) / 4096 = b.val; omega)
  | ⟨1, _⟩ => exact Fin.ext (by show (4096 * b.val + q.val) % 4096 = q.val; omega)
  | ⟨2, _⟩ => rfl

theorem casttok1024 (x : S4x4096x1024.Idx → EReal) (h : S4x4096x1024.ShapeCasts S16384x1024)
    (b : Fin 4) (q : Fin 4096) (n : Fin 1024) : shapeCast S16384x1024 x h (ix2 (tok b q) n) = x (ix3 b q n) := by
  pointwise
  refine congrArg x (funext fun a => ?_)
  match a with
  | ⟨0, _⟩ => exact Fin.ext (by show (4096 * b.val + q.val) / 4096 = b.val; omega)
  | ⟨1, _⟩ => exact Fin.ext (by show (4096 * b.val + q.val) % 4096 = q.val; omega)
  | ⟨2, _⟩ => rfl

theorem castctx512 (x : S4x256x512.Idx → EReal) (h : S4x256x512.ShapeCasts S1024x512)
    (b : Fin 4) (q : Fin 256) (n : Fin 512) : shapeCast S1024x512 x h (ix2 (ctok b q) n) = x (ix3 b q n) := by
  pointwise
  refine congrArg x (funext fun a => ?_)
  match a with
  | ⟨0, _⟩ => exact Fin.ext (by show (256 * b.val + q.val) / 256 = b.val; omega)
  | ⟨1, _⟩ => exact Fin.ext (by show (256 * b.val + q.val) % 256 = q.val; omega)
  | ⟨2, _⟩ => rfl

theorem castln (x : S2x1024.Idx → EReal) (h : S2x1024.ShapeCasts S2x1x1024)
    (a : Fin 2) (n : Fin 1024) : shapeCast S2x1x1024 x h (ix3 a 0 n) = x (ix2 a n) := by
  pointwise

theorem v18 (b : Fin 4) (q : Fin 4096) (n : Fin 1024) : (V7 m ρ c main_v18 : S16384x1024.Idx → EReal) (ix2 (tok b q) n) = (m ((c : Thread nD τ).loc main_arg0) : S4x4096x1024.Idx → EReal) (ix3 b q n) := by
  have h : V7 m ρ c main_v18 = shapeCast S16384x1024 (m ((c : Thread nD τ).loc main_arg0)) shapeCasts_S4x4096x1024_S16384x1024 := by
    rw [← W6_args m ρ c main_arg0 (by decide)]
    unfold_abbrev_sides
    after_results
    rfl
  exact (congrFun h _).trans (casttok1024 _ _ _ _ _)

theorem v19 (b : Fin 4) (q : Fin 4096) (n : Fin 512) : (V7 m ρ c main_v19 : S16384x512.Idx → EReal) (ix2 (tok b q) n) = (m ((c : Thread nD τ).loc main_arg2) : S4x4096x512.Idx → EReal) (ix3 b q n) := by
  have h : V7 m ρ c main_v19 = shapeCast S16384x512 (m ((c : Thread nD τ).loc main_arg2)) shapeCasts_S4x4096x512_S16384x512 := by
    rw [← W6_args m ρ c main_arg2 (by decide)]
    unfold_abbrev_sides
    after_results
    rfl
  exact (congrFun h _).trans (casttok512 _ _ _ _ _)

theorem v20 (b : Fin 4) (q : Fin 4096) (n : Fin 512) : (V7 m ρ c main_v20 : S16384x512.Idx → EReal) (ix2 (tok b q) n) = (m ((c : Thread nD τ).loc main_arg3) : S4x4096x512.Idx → EReal) (ix3 b q n) := by
  have h : V7 m ρ c main_v20 = shapeCast S16384x512 (m ((c : Thread nD τ).loc main_arg3)) shapeCasts_S4x4096x512_S16384x512 := by
    rw [← W6_args m ρ c main_arg3 (by decide)]
    unfold_abbrev_sides
    after_results
    rfl
  exact (congrFun h _).trans (casttok512 _ _ _ _ _)

theorem v21 (b : Fin 4) (q : Fin 4096) (n : Fin 512) : (V7 m ρ c main_v21 : S16384x512.Idx → EReal) (ix2 (tok b q) n) = (m ((c : Thread nD τ).loc main_arg4) : S4x4096x512.Idx → EReal) (ix3 b q n) := by
  have h : V7 m ρ c main_v21 = shapeCast S16384x512 (m ((c : Thread nD τ).loc main_arg4)) shapeCasts_S4x4096x512_S16384x512 := by
    rw [← W6_args m ρ c main_arg4 (by decide)]
    unfold_abbrev_sides
    after_results
    rfl
  exact (congrFun h _).trans (casttok512 _ _ _ _ _)

theorem v22 (b : Fin 4) (q : Fin 4096) (n : Fin 512) : (V7 m ρ c main_v22 : S16384x512.Idx → EReal) (ix2 (tok b q) n) = (m ((c : Thread nD τ).loc main_arg5) : S4x4096x512.Idx → EReal) (ix3 b q n) := by
  have h : V7 m ρ c main_v22 = shapeCast S16384x512 (m ((c : Thread nD τ).loc main_arg5)) shapeCasts_S4x4096x512_S16384x512 := by
    rw [← W6_args m ρ c main_arg5 (by decide)]
    unfold_abbrev_sides
    after_results
    rfl
  exact (congrFun h _).trans (casttok512 _ _ _ _ _)

theorem v23 (b : Fin 4) (q : Fin 4096) (n : Fin 512) : (V7 m ρ c main_v23 : S16384x512.Idx → EReal) (ix2 (tok b q) n) = (m ((c : Thread nD τ).loc main_arg9) : S4x4096x512.Idx → EReal) (ix3 b q n) := by
  have h : V7 m ρ c main_v23 = shapeCast S16384x512 (m ((c : Thread nD τ).loc main_arg9)) shapeCasts_S4x4096x512_S16384x512 := by
    rw [← W6_args m ρ c main_arg9 (by decide)]
    unfold_abbrev_sides
    after_results
    rfl
  exact (congrFun h _).trans (casttok512 _ _ _ _ _)

theorem v24 (b : Fin 4) (q : Fin 4096) (n : Fin 512) : (V7 m ρ c main_v24 : S16384x512.Idx → EReal) (ix2 (tok b q) n) = (m ((c : Thread nD τ).loc main_arg10) : S4x4096x512.Idx → EReal) (ix3 b q n) := by
  have h : V7 m ρ c main_v24 = shapeCast S16384x512 (m ((c : Thread nD τ).loc main_arg10)) shapeCasts_S4x4096x512_S16384x512 := by
    rw [← W6_args m ρ c main_arg10 (by decide)]
    unfold_abbrev_sides
    after_results
    rfl
  exact (congrFun h _).trans (casttok512 _ _ _ _ _)

theorem v25 (b : Fin 4) (q : Fin 4096) (n : Fin 1024) : (V7 m ρ c main_v25 : S16384x1024.Idx → EReal) (ix2 (tok b q) n) = (m ((c : Thread nD τ).loc main_arg11) : S4x4096x1024.Idx → EReal) (ix3 b q n) := by
  have h : V7 m ρ c main_v25 = shapeCast S16384x1024 (m ((c : Thread nD τ).loc main_arg11)) shapeCasts_S4x4096x1024_S16384x1024 := by
    rw [← W6_args m ρ c main_arg11 (by decide)]
    unfold_abbrev_sides
    after_results
    rfl
  exact (congrFun h _).trans (casttok1024 _ _ _ _ _)

theorem v26 (b : Fin 4) (q : Fin 4096) (n : Fin 1024) : (V7 m ρ c main_v26 : S16384x1024.Idx → EReal) (ix2 (tok b q) n) = (m ((c : Thread nD τ).loc main_arg12) : S4x4096x1024.Idx → EReal) (ix3 b q n) := by
  have h : V7 m ρ c main_v26 = shapeCast S16384x1024 (m ((c : Thread nD τ).loc main_arg12)) shapeCasts_S4x4096x1024_S16384x1024 := by
    rw [← W6_args m ρ c main_arg12 (by decide)]
    unfold_abbrev_sides
    after_results
    rfl
  exact (congrFun h _).trans (casttok1024 _ _ _ _ _)

theorem v27 (b : Fin 4) (q : Fin 256) (n : Fin 512) : (V7 m ρ c main_v27 : S1024x512.Idx → EReal) (ix2 (ctok b q) n) = (m ((c : Thread nD τ).loc main_arg6) : S4x256x512.Idx → EReal) (ix3 b q n) := by
  have h : V7 m ρ c main_v27 = shapeCast S1024x512 (m ((c : Thread nD τ).loc main_arg6)) shapeCasts_S4x256x512_S1024x512 := by
    rw [← W6_args m ρ c main_arg6 (by decide)]
    unfold_abbrev_sides
    after_results
    rfl
  exact (congrFun h _).trans (castctx512 _ _ _ _ _)

theorem v28 (b : Fin 4) (q : Fin 256) (n : Fin 512) : (V7 m ρ c main_v28 : S1024x512.Idx → EReal) (ix2 (ctok b q) n) = (m ((c : Thread nD τ).loc main_arg7) : S4x256x512.Idx → EReal) (ix3 b q n) := by
  have h : V7 m ρ c main_v28 = shapeCast S1024x512 (m ((c : Thread nD τ).loc main_arg7)) shapeCasts_S4x256x512_S1024x512 := by
    rw [← W6_args m ρ c main_arg7 (by decide)]
    unfold_abbrev_sides
    after_results
    rfl
  exact (congrFun h _).trans (castctx512 _ _ _ _ _)

theorem v16 (a : Fin 2) (n : Fin 1024) : (V7 m ρ c main_v16 : S2x1x1024.Idx → EReal) (ix3 a 0 n) = (m ((c : Thread nD τ).loc main_arg18) : S2x1024.Idx → EReal) (ix2 a n) := by
  have h : V7 m ρ c main_v16 = shapeCast S2x1x1024 (m ((c : Thread nD τ).loc main_arg18)) shapeCasts_S2x1024_S2x1x1024 := by
    rw [← W6_args m ρ c main_arg18 (by decide)]
    unfold_abbrev_sides
    after_results
    rfl
  exact (congrFun h _).trans (castln _ _ _ _)

theorem v17 (a : Fin 2) (n : Fin 1024) : (V7 m ρ c main_v17 : S2x1x1024.Idx → EReal) (ix3 a 0 n) = (m ((c : Thread nD τ).loc main_arg19) : S2x1024.Idx → EReal) (ix2 a n) := by
  have h : V7 m ρ c main_v17 = shapeCast S2x1x1024 (m ((c : Thread nD τ).loc main_arg19)) shapeCasts_S2x1024_S2x1x1024 := by
    rw [← W6_args m ρ c main_arg19 (by decide)]
    unfold_abbrev_sides
    after_results
    rfl
  exact (congrFun h _).trans (castln _ _ _ _)

theorem v13 (i : Fin 2) (j : Fin 512) (k : Fin 1024) : (V7 m ρ c main_v13 : S2x512x1024.Idx → EReal) (ix3 i j k) = ((m ((c : Thread nD τ).loc main_arg15)) : S2x512x1024.Idx → EReal) (ix3 i j k) := by
  have h : V7 m ρ c main_v13 = truncf (F := Ideal) (φ := .f32) (s := S2x512x1024) .bf16 (m ((c : Thread nD τ).loc main_arg15)) bitsLt_bf16_f32 := by
    rw [← W6_args m ρ c main_arg15 (by decide)]
    unfold_abbrev_sides
    after_results
  exact (congrFun h _).trans rfl

theorem v14 (i : Fin 2) (j : Fin 512) (k : Fin 1024) : (V7 m ρ c main_v14 : S2x512x1024.Idx → EReal) (ix3 i j k) = ((m ((c : Thread nD τ).loc main_arg16)) : S2x512x1024.Idx → EReal) (ix3 i j k) := by
  have h : V7 m ρ c main_v14 = truncf (F := Ideal) (φ := .f32) (s := S2x512x1024) .bf16 (m ((c : Thread nD τ).loc main_arg16)) bitsLt_bf16_f32 := by
    rw [← W6_args m ρ c main_arg16 (by decide)]
    unfold_abbrev_sides
    after_results
  exact (congrFun h _).trans rfl

theorem v15 (i : Fin 2) (j : Fin 1024) (k : Fin 1024) : (V7 m ρ c main_v15 : S2x1024x1024.Idx → EReal) (ix3 i j k) = ((m ((c : Thread nD τ).loc main_arg17)) : S2x1024x1024.Idx → EReal) (ix3 i j k) := by
  have h : V7 m ρ c main_v15 = truncf (F := Ideal) (φ := .f32) (s := S2x1024x1024) .bf16 (m ((c : Thread nD τ).loc main_arg17)) bitsLt_bf16_f32 := by
    rw [← W6_args m ρ c main_arg17 (by decide)]
    unfold_abbrev_sides
    after_results
  exact (congrFun h _).trans rfl

theorem castw (x : S2x8x128x128.Idx → EReal) (h : S2x8x128x128.ShapeCasts S2x4x256x128) (i : Fin 2) (g : Fin 4) (r : Fin 256) (k : Fin 128) :
    shapeCast S2x4x256x128 x h (ix4 i g r k) = x (ix4 i ⟨2 * g.val + r.val / 128, by omega⟩ ⟨r.val % 128, by omega⟩ k) := by
  pointwise
  refine congrArg x (funext fun a => ?_)
  match a with
  | ⟨0, _⟩ => rfl
  | ⟨1, _⟩ => exact Fin.ext (by show g.val * 2 + r.val / 128 = 2 * g.val + r.val / 128; omega)
  | ⟨2, _⟩ => rfl
  | ⟨3, _⟩ => rfl

theorem castm (x : S2x8x6144.Idx → EReal) (h : S2x8x6144.ShapeCasts S2x8x6x1024) (i : Fin 2) (b : Fin 8) (k : Fin 6) (n : Fin 1024) :
    shapeCast S2x8x6x1024 x h (ix4 i b k n) = x (ix3 i b ⟨1024 * k.val + n.val, by omega⟩) := by
  pointwise
  refine congrArg x (funext fun a => ?_)
  match a with
  | ⟨0, _⟩ => rfl
  | ⟨1, _⟩ => rfl
  | ⟨2, _⟩ => exact Fin.ext (by show k.val * 1024 + n.val = 1024 * k.val + n.val; omega)

theorem castb (x : S2x8x128.Idx → EReal) (h1 : S2x8x128.ShapeCasts S2x4x2x128) (h2 : S2x4x128x2x64.ShapeCasts S2x4x128x128)
    (i : Fin 2) (g : Fin 4) (r l : Fin 128) :
    shapeCast S2x4x128x128 (broadcastInDim S2x4x128x2x64 ![0, 1, 2, 3] bcast_S2x4x128x2_S2x4x128x2x64_0_1_2_3
      (transpose S2x4x128x2 [0, 1, 3, 2] (shapeCast S2x4x2x128 x h1) transposes_S2x4x2x128_S2x4x128x2_0_1_3_2)) h2 (ix4 i g r l)
      = x (ix3 i ⟨2 * g.val + l.val / 64, by omega⟩ r) := by
  have e1 : ∀ y : S2x4x128x2x64.Idx → EReal, shapeCast S2x4x128x128 y h2 (ix4 i g r l)
      = y (ix5 i g r ⟨l.val / 64, by omega⟩ ⟨l.val % 64, by omega⟩) := fun y => by
    pointwise
  rw [e1]
  have e2 : ∀ (z : S2x4x2x128.Idx → EReal) (h : Fin 2) (d : Fin 64),
      broadcastInDim S2x4x128x2x64 ![0, 1, 2, 3] bcast_S2x4x128x2_S2x4x128x2x64_0_1_2_3
      (transpose S2x4x128x2 [0, 1, 3, 2] z transposes_S2x4x2x128_S2x4x128x2_0_1_3_2) (ix5 i g r h d) = z (ix4 i g h r) := fun z h d => by
    pointwise
  rw [e2]
  have e3 : ∀ h : Fin 2, shapeCast S2x4x2x128 x h1 (ix4 i g h r) = x (ix3 i ⟨2 * g.val + h.val, by omega⟩ r) := fun h => by
    pointwise
    refine congrArg x (funext fun a => ?_)
    match a with
    | ⟨0, _⟩ => rfl
    | ⟨1, _⟩ => exact Fin.ext (by show g.val * 2 + h.val = 2 * g.val + h.val; omega)
    | ⟨2, _⟩ => rfl
  rw [e3]

/-- The weights of a pair of heads' gate, one head's rows after the other's. -/
theorem v12 (i : Fin 2) (g : Fin 4) (r : Fin 256) (k : Fin 128) : (V7 m ρ c main_v12 : S2x4x256x128.Idx → EReal) (ix4 i g r k)
    = ((m ((c : Thread nD τ).loc main_arg13)) : S2x8x128x128.Idx → EReal) (ix4 i ⟨2 * g.val + r.val / 128, by omega⟩ ⟨r.val % 128, by omega⟩ k) := by
  have h : V7 m ρ c main_v12 = shapeCast S2x4x256x128 (truncf (F := Ideal) (φ := .f32) (s := S2x8x128x128) .bf16 (m ((c : Thread nD τ).loc main_arg13)) bitsLt_bf16_f32)
      shapeCasts_S2x8x128x128_S2x4x256x128 := by
    rw [← W6_args m ρ c main_arg13 (by decide)]
    unfold_abbrev_sides
    after_results
    rfl
  exact (congrFun h _).trans (castw _ _ _ _ _ _)

/-- The gate's bias, each head's repeated over its lanes. -/
theorem v10 (i : Fin 2) (g : Fin 4) (r l : Fin 128) : (V7 m ρ c main_v10 : S2x4x128x128.Idx → EReal) (ix4 i g r l)
    = ((m ((c : Thread nD τ).loc main_arg14)) : S2x8x128.Idx → EReal) (ix3 i ⟨2 * g.val + l.val / 64, by omega⟩ r) := by
  have h : V7 m ρ c main_v10 = shapeCast S2x4x128x128 (broadcastInDim S2x4x128x2x64 ![0, 1, 2, 3] bcast_S2x4x128x2_S2x4x128x2x64_0_1_2_3
      (transpose S2x4x128x2 [0, 1, 3, 2] (shapeCast S2x4x2x128 (m ((c : Thread nD τ).loc main_arg14)) shapeCasts_S2x8x128_S2x4x2x128)
        transposes_S2x4x2x128_S2x4x128x2_0_1_3_2)) shapeCasts_S2x4x128x2x64_S2x4x128x128 := by
    rw [← W6_args m ρ c main_arg14 (by decide)]
    unfold_abbrev_sides
    after_results
    rfl
  exact (congrFun h _).trans (castb _ _ _ _ _ _ _)

/-- The modulation, its six vectors apart. -/
theorem v0 (i : Fin 2) (b : Fin 8) (k : Fin 6) (n : Fin 1024) : (V7 m ρ c main_v0 : S2x8x6x1024.Idx → EReal) (ix4 i b k n)
    = ((m ((c : Thread nD τ).loc main_arg1)) : S2x8x6144.Idx → EReal) (ix3 i b ⟨1024 * k.val + n.val, by omega⟩) := by
  have h : V7 m ρ c main_v0 = shapeCast S2x8x6x1024 (m ((c : Thread nD τ).loc main_arg1)) shapeCasts_S2x8x6144_S2x8x6x1024 := by
    show W7 m ρ c (Proc.devRef .tc main_v0) = _
    rw [W7_of m ρ c main_v0 (by decide), W6_of m ρ c main_v0 (by decide), W5_of m ρ c main_v0 (by decide), W4_of m ρ c main_v0 (by decide),
      W3_of m ρ c main_v0 (by decide), W2_of m ρ c main_v0 (by decide), ← W0_args m ρ c main_arg1 (by decide)]
    unfold_abbrev_sides
    after_results
    rfl
  exact (congrFun h _).trans (castm _ _ _ _ _ _)

/-- The bias rows paired: a row in the lower lanes and the next one in the upper. -/
theorem v5_eq : V5 m ρ c main_v5 = concatenate S2x8x16x128 3
    [⟨S2x8x16x32, pad S2x8x16x32 ![0, 0, 0, 0] ![0, 0, 2, 1] ![0, 0, 0, 0]
        (extractStridedSlice S2x8x14x31 ![0, 0, 0, 0] (m ((c : Thread nD τ).loc main_arg8)) slices_S2x8x15x31_S2x8x14x31_0_0_0_0)
        (sitofp (F := Ideal) .f32 (constantI S_ 32 0#32)) pads_S2x8x14x31_S2x8x16x32_000_000_020_010 h_S_⟩,
     ⟨S2x8x16x96, pad S2x8x16x96 ![0, 0, 0, 0] ![0, 0, 2, 65] ![0, 0, 0, 0]
        (extractStridedSlice S2x8x14x31 ![0, 0, 1, 0] (m ((c : Thread nD τ).loc main_arg8)) slices_S2x8x15x31_S2x8x14x31_0_0_1_0)
        (sitofp (F := Ideal) .f32 (constantI S_ 32 0#32)) pads_S2x8x14x31_S2x8x16x96_000_000_020_0650 h_S_⟩]
    concatenates_S2x8x16x32_S2x8x16x96_S2x8x16x128_d3 := by
  rw [← W0_args m ρ c main_arg8 (by decide)]
  unfold_abbrev_sides
  after_results
  rfl

theorem padlo (x : S2x8x14x31.Idx → EReal) (z : S_.Idx → EReal) (h : S2x8x14x31.Pads ![0, 0, 0, 0] ![0, 0, 2, 1] ![0, 0, 0, 0] S2x8x16x32)
    (i : Fin 2) (k : Fin 8) (d : Fin 14) (e : Fin 31) :
    pad S2x8x16x32 ![0, 0, 0, 0] ![0, 0, 2, 1] ![0, 0, 0, 0] x z h h_S_ (ix4 i k ⟨d.val, by omega⟩ ⟨e.val, by omega⟩) = x (ix4 i k d e) :=
  pad_apply_of_inside _ _ _ _ _ _ _ _ _ fun a => by
    match a with
    | ⟨0, _⟩ => show i.val = 0 + i.val * 1; omega
    | ⟨1, _⟩ => show k.val = 0 + k.val * 1; omega
    | ⟨2, _⟩ => show d.val = 0 + d.val * 1; omega
    | ⟨3, _⟩ => show e.val = 0 + e.val * 1; omega

theorem padhi (x : S2x8x14x31.Idx → EReal) (z : S_.Idx → EReal) (h : S2x8x14x31.Pads ![0, 0, 0, 0] ![0, 0, 2, 65] ![0, 0, 0, 0] S2x8x16x96)
    (i : Fin 2) (k : Fin 8) (d : Fin 14) (e : Fin 31) :
    pad S2x8x16x96 ![0, 0, 0, 0] ![0, 0, 2, 65] ![0, 0, 0, 0] x z h h_S_ (ix4 i k ⟨d.val, by omega⟩ ⟨e.val, by omega⟩) = x (ix4 i k d e) :=
  pad_apply_of_inside _ _ _ _ _ _ _ _ _ fun a => by
    match a with
    | ⟨0, _⟩ => show i.val = 0 + i.val * 1; omega
    | ⟨1, _⟩ => show k.val = 0 + k.val * 1; omega
    | ⟨2, _⟩ => show d.val = 0 + d.val * 1; omega
    | ⟨3, _⟩ => show e.val = 0 + e.val * 1; omega

/-- A pair of bias rows, in either half of its lanes. -/
theorem v5 (i : Fin 2) (k : Fin 8) (d : Fin 14) (u : Fin 2) (e : Fin 31) : (V5 m ρ c main_v5 : S2x8x16x128.Idx → EReal)
      (ix4 i k ⟨d.val, by omega⟩ ⟨e.val + 32 * u.val, by omega⟩)
    = (m ((c : Thread nD τ).loc main_arg8) : S2x8x15x31.Idx → EReal) (ix4 i k ⟨d.val + u.val, by omega⟩ e) := by
  refine (congrFun (v5_eq m ρ c) _).trans ?_
  match u with
  | ⟨0, _⟩ =>
    have hc : ∀ (x : S2x8x16x32.Idx → EReal) (y : S2x8x16x96.Idx → EReal),
        concatenate S2x8x16x128 3 [⟨S2x8x16x32, x⟩, ⟨S2x8x16x96, y⟩] concatenates_S2x8x16x32_S2x8x16x96_S2x8x16x128_d3
          (ix4 i k (⟨d.val, by omega⟩ : Fin 16) (⟨e.val, by omega⟩ : Fin 128)) = x (ix4 i k ⟨d.val, by omega⟩ ⟨e.val, by omega⟩) := fun x y => by
      pointwise
      exact dif_pos (by omega)
    refine (hc _ _).trans ((padlo _ _ _ _ _ _ _).trans ?_)
    pointwise
  | ⟨1, _⟩ =>
    have hc : ∀ (x : S2x8x16x32.Idx → EReal) (y : S2x8x16x96.Idx → EReal),
        concatenate S2x8x16x128 3 [⟨S2x8x16x32, x⟩, ⟨S2x8x16x96, y⟩] concatenates_S2x8x16x32_S2x8x16x96_S2x8x16x128_d3
          (ix4 i k (⟨d.val, by omega⟩ : Fin 16) (⟨e.val + 32, by omega⟩ : Fin 128)) = y (ix4 i k ⟨d.val, by omega⟩ ⟨e.val, by omega⟩) := fun x y => by
      pointwise
      exact (dif_neg (by omega)).trans (congrArg (fun z => y (ix4 i k _ z)) (Fin.ext (by show e.val + 32 - 32 = e.val; omega)))
    refine (hc _ _).trans ((padhi _ _ _ _ _ _ _).trans ?_)
    pointwise
    exact congrArg (fun z => (m ((c : Thread nD τ).loc main_arg8) : S2x8x15x31.Idx → EReal) (ix4 i k z e)) (Fin.ext (Nat.add_comm _ _))

end Cert.HostValue
-- ==== Proof.WinValue.lean ====
module

public import proofs.«01_k».proof.Proof.IdealBody
public import Idealize.ShloMosaic.Lib.Pipeline.ValueKit

/-! # The blocks of the windows, an element at a time -/

@[expose] public section

set_option maxRecDepth 16384

noncomputable section

namespace Cert.KernelIdeal.Gen

open Cert.KernelIdeal Idealize.ShloMosaic Idealize.ShloMosaic.TcCoe Idealize.SL.Sem
variable {F : FTy → Type} [FloatOps F] [Named F]
variable (V : (c : Dev nD) → (b : Ref sig .tc) → Buf (Elt F) ((c : Thread nD τ).loc b)) (c : Dev nD)

theorem index1_0 : ∀ t : Fin cfg1.N, win1_0.index t = ![t.val, 0] := (by decide +kernel : ∀ t : Fin grid1.N, _)
theorem blk1_0 (t : Fin cfg1.N) (i : Fin 512) (n : Fin 1024) : iblk1 V c 0 t (ix2 i n)
    = (V c main_v18 : S16384x1024.Idx → Elt F .f32) (ix2 ⟨512 * (t.val) + i.val, by have : t.val < 32 := t.isLt; omega⟩ n) := by
  blk_simp [iblk1]
  exact congrArg _ (by blk_ext [index1_0])

theorem index1_2 : ∀ t : Fin cfg1.N, win1_2.index t = ![t.val, 0] := (by decide +kernel : ∀ t : Fin grid1.N, _)
theorem blk1_2 (t : Fin cfg1.N) (i : Fin 512) (n : Fin 512) : iblk1 V c 2 t (ix2 i n)
    = (V c main_v19 : S16384x512.Idx → Elt F .bf16) (ix2 ⟨512 * (t.val) + i.val, by have : t.val < 32 := t.isLt; omega⟩ n) := by
  blk_simp [iblk1]
  exact congrArg _ (by blk_ext [index1_2])

theorem index1_3 : ∀ t : Fin cfg1.N, win1_3.index t = ![t.val, 0] := (by decide +kernel : ∀ t : Fin grid1.N, _)
theorem blk1_3 (t : Fin cfg1.N) (i : Fin 512) (n : Fin 512) : iblk1 V c 3 t (ix2 i n)
    = (V c main_v20 : S16384x512.Idx → Elt F .bf16) (ix2 ⟨512 * (t.val) + i.val, by have : t.val < 32 := t.isLt; omega⟩ n) := by
  blk_simp [iblk1]
  exact congrArg _ (by blk_ext [index1_3])

theorem index1_4 : ∀ t : Fin cfg1.N, win1_4.index t = ![16 * (t.val / 8) + min 15 (2 * (t.val % 8) - 1), 0] := (by decide +kernel : ∀ t : Fin grid1.N, _)
theorem blk1_4 (t : Fin cfg1.N) (i : Fin 256) (n : Fin 512) : iblk1 V c 4 t (ix2 i n)
    = (V c main_v21 : S16384x512.Idx → Elt F .bf16) (ix2 ⟨256 * (16 * (t.val / 8) + min 15 (2 * (t.val % 8) - 1)) + i.val, by have : t.val < 32 := t.isLt; omega⟩ n) := by
  blk_simp [iblk1]
  exact congrArg _ (by blk_ext [index1_4])

theorem index1_5 : ∀ t : Fin cfg1.N, win1_5.index t = ![2 * t.val, 0] := (by decide +kernel : ∀ t : Fin grid1.N, _)
theorem blk1_5 (t : Fin cfg1.N) (i : Fin 256) (n : Fin 512) : iblk1 V c 5 t (ix2 i n)
    = (V c main_v21 : S16384x512.Idx → Elt F .bf16) (ix2 ⟨256 * (2 * t.val) + i.val, by have : t.val < 32 := t.isLt; omega⟩ n) := by
  blk_simp [iblk1]
  exact congrArg _ (by blk_ext [index1_5])

theorem index1_6 : ∀ t : Fin cfg1.N, win1_6.index t = ![2 * t.val + 1, 0] := (by decide +kernel : ∀ t : Fin grid1.N, _)
theorem blk1_6 (t : Fin cfg1.N) (i : Fin 256) (n : Fin 512) : iblk1 V c 6 t (ix2 i n)
    = (V c main_v21 : S16384x512.Idx → Elt F .bf16) (ix2 ⟨256 * (2 * t.val + 1) + i.val, by have : t.val < 32 := t.isLt; omega⟩ n) := by
  blk_simp [iblk1]
  exact congrArg _ (by blk_ext [index1_6])

theorem index1_7 : ∀ t : Fin cfg1.N, win1_7.index t = ![16 * (t.val / 8) + min 15 (2 * (t.val % 8) + 2), 0] := (by decide +kernel : ∀ t : Fin grid1.N, _)
theorem blk1_7 (t : Fin cfg1.N) (i : Fin 256) (n : Fin 512) : iblk1 V c 7 t (ix2 i n)
    = (V c main_v21 : S16384x512.Idx → Elt F .bf16) (ix2 ⟨256 * (16 * (t.val / 8) + min 15 (2 * (t.val % 8) + 2)) + i.val, by have : t.val < 32 := t.isLt; omega⟩ n) := by
  blk_simp [iblk1]
  exact congrArg _ (by blk_ext [index1_7])

theorem index1_8 : ∀ t : Fin cfg1.N, win1_8.index t = ![16 * (t.val / 8) + min 15 (2 * (t.val % 8) - 1), 0] := (by decide +kernel : ∀ t : Fin grid1.N, _)
theorem blk1_8 (t : Fin cfg1.N) (i : Fin 256) (n : Fin 512) : iblk1 V c 8 t (ix2 i n)
    = (V c main_v22 : S16384x512.Idx → Elt F .bf16) (ix2 ⟨256 * (16 * (t.val / 8) + min 15 (2 * (t.val % 8) - 1)) + i.val, by have : t.val < 32 := t.isLt; omega⟩ n) := by
  blk_simp [iblk1]
  exact congrArg _ (by blk_ext [index1_8])

theorem index1_9 : ∀ t : Fin cfg1.N, win1_9.index t = ![2 * t.val, 0] := (by decide +kernel : ∀ t : Fin grid1.N, _)
theorem blk1_9 (t : Fin cfg1.N) (i : Fin 256) (n : Fin 512) : iblk1 V c 9 t (ix2 i n)
    = (V c main_v22 : S16384x512.Idx → Elt F .bf16) (ix2 ⟨256 * (2 * t.val) + i.val, by have : t.val < 32 := t.isLt; omega⟩ n) := by
  blk_simp [iblk1]
  exact congrArg _ (by blk_ext [index1_9])

theorem index1_10 : ∀ t : Fin cfg1.N, win1_10.index t = ![2 * t.val + 1, 0] := (by decide +kernel : ∀ t : Fin grid1.N, _)
theorem blk1_10 (t : Fin cfg1.N) (i : Fin 256) (n : Fin 512) : iblk1 V c 10 t (ix2 i n)
    = (V c main_v22 : S16384x512.Idx → Elt F .bf16) (ix2 ⟨256 * (2 * t.val + 1) + i.val, by have : t.val < 32 := t.isLt; omega⟩ n) := by
  blk_simp [iblk1]
  exact congrArg _ (by blk_ext [index1_10])

theorem index1_11 : ∀ t : Fin cfg1.N, win1_11.index t = ![16 * (t.val / 8) + min 15 (2 * (t.val % 8) + 2), 0] := (by decide +kernel : ∀ t : Fin grid1.N, _)
theorem blk1_11 (t : Fin cfg1.N) (i : Fin 256) (n : Fin 512) : iblk1 V c 11 t (ix2 i n)
    = (V c main_v22 : S16384x512.Idx → Elt F .bf16) (ix2 ⟨256 * (16 * (t.val / 8) + min 15 (2 * (t.val % 8) + 2)) + i.val, by have : t.val < 32 := t.isLt; omega⟩ n) := by
  blk_simp [iblk1]
  exact congrArg _ (by blk_ext [index1_11])

theorem index1_12 : ∀ t : Fin cfg1.N, win1_12.index t = ![t.val / 8, 0] := (by decide +kernel : ∀ t : Fin grid1.N, _)
theorem blk1_12 (t : Fin cfg1.N) (i : Fin 256) (n : Fin 512) : iblk1 V c 12 t (ix2 i n)
    = (V c main_v27 : S1024x512.Idx → Elt F .bf16) (ix2 ⟨256 * (t.val / 8) + i.val, by have : t.val < 32 := t.isLt; omega⟩ n) := by
  blk_simp [iblk1]
  exact congrArg _ (by blk_ext [index1_12])

theorem index1_13 : ∀ t : Fin cfg1.N, win1_13.index t = ![t.val / 8, 0] := (by decide +kernel : ∀ t : Fin grid1.N, _)
theorem blk1_13 (t : Fin cfg1.N) (i : Fin 256) (n : Fin 512) : iblk1 V c 13 t (ix2 i n)
    = (V c main_v28 : S1024x512.Idx → Elt F .bf16) (ix2 ⟨256 * (t.val / 8) + i.val, by have : t.val < 32 := t.isLt; omega⟩ n) := by
  blk_simp [iblk1]
  exact congrArg _ (by blk_ext [index1_13])

theorem index1_15 : ∀ t : Fin cfg1.N, win1_15.index t = ![t.val, 0] := (by decide +kernel : ∀ t : Fin grid1.N, _)
theorem blk1_15 (t : Fin cfg1.N) (i : Fin 512) (n : Fin 512) : iblk1 V c 15 t (ix2 i n)
    = (V c main_v23 : S16384x512.Idx → Elt F .bf16) (ix2 ⟨512 * (t.val) + i.val, by have : t.val < 32 := t.isLt; omega⟩ n) := by
  blk_simp [iblk1]
  exact congrArg _ (by blk_ext [index1_15])

theorem index1_16 : ∀ t : Fin cfg1.N, win1_16.index t = ![t.val, 0] := (by decide +kernel : ∀ t : Fin grid1.N, _)
theorem blk1_16 (t : Fin cfg1.N) (i : Fin 512) (n : Fin 512) : iblk1 V c 16 t (ix2 i n)
    = (V c main_v24 : S16384x512.Idx → Elt F .bf16) (ix2 ⟨512 * (t.val) + i.val, by have : t.val < 32 := t.isLt; omega⟩ n) := by
  blk_simp [iblk1]
  exact congrArg _ (by blk_ext [index1_16])

theorem index1_17 : ∀ t : Fin cfg1.N, win1_17.index t = ![t.val, 0] := (by decide +kernel : ∀ t : Fin grid1.N, _)
theorem blk1_17 (t : Fin cfg1.N) (i : Fin 512) (n : Fin 1024) : iblk1 V c 17 t (ix2 i n)
    = (V c main_v25 : S16384x1024.Idx → Elt F .bf16) (ix2 ⟨512 * (t.val) + i.val, by have : t.val < 32 := t.isLt; omega⟩ n) := by
  blk_simp [iblk1]
  exact congrArg _ (by blk_ext [index1_17])

theorem index1_18 : ∀ t : Fin cfg1.N, win1_18.index t = ![t.val, 0] := (by decide +kernel : ∀ t : Fin grid1.N, _)
theorem blk1_18 (t : Fin cfg1.N) (i : Fin 512) (n : Fin 1024) : iblk1 V c 18 t (ix2 i n)
    = (V c main_v26 : S16384x1024.Idx → Elt F .bf16) (ix2 ⟨512 * (t.val) + i.val, by have : t.val < 32 := t.isLt; omega⟩ n) := by
  blk_simp [iblk1]
  exact congrArg _ (by blk_ext [index1_18])

theorem index1_1 : ∀ t : Fin cfg1.N, win1_1.index t = ![0, t.val / 8, 0, 0] := (by decide +kernel : ∀ t : Fin grid1.N, _)
theorem blk1_1 (t : Fin cfg1.N) (k : Fin 6) (l : Fin 1024) : iblk1 V c 1 t (ix4 0 0 k l)
    = (V c main_v0 : S2x8x6x1024.Idx → Elt F .f32) (ix4 0 ⟨t.val / 8, by have : t.val < 32 := t.isLt; omega⟩ k l) := by
  blk_simp [iblk1]
  exact congrArg _ (by blk_ext [index1_1])

theorem index1_14 : ∀ t : Fin cfg1.N, win1_14.index t = ![0, 0, 0, 0, 0] := (by decide +kernel : ∀ t : Fin grid1.N, _)
theorem blk1_14 (t : Fin cfg1.N) (j : Fin 6) (k : Fin 8) (l : Fin 256) (m : Fin 256) : iblk1 V c 14 t (ix5 0 j k l m)
    = (V c main_v6 : S2x6x8x256x256.Idx → Elt F .f32) (ix5 0 j k l m) := by
  blk_simp [iblk1]
  exact congrArg _ (by blk_ext [index1_14])

theorem index1_19 : ∀ t : Fin cfg1.N, win1_19.index t = ![0, 0, 0, 0] := (by decide +kernel : ∀ t : Fin grid1.N, _)
theorem blk1_19 (t : Fin cfg1.N) (j : Fin 4) (k : Fin 256) (l : Fin 128) : iblk1 V c 19 t (ix4 0 j k l)
    = (V c main_v12 : S2x4x256x128.Idx → Elt F .bf16) (ix4 0 j k l) := by
  blk_simp [iblk1]
  exact congrArg _ (by blk_ext [index1_19])

theorem index1_20 : ∀ t : Fin cfg1.N, win1_20.index t = ![0, 0, 0, 0] := (by decide +kernel : ∀ t : Fin grid1.N, _)
theorem blk1_20 (t : Fin cfg1.N) (j : Fin 4) (k : Fin 128) (l : Fin 128) : iblk1 V c 20 t (ix4 0 j k l)
    = (V c main_v10 : S2x4x128x128.Idx → Elt F .f32) (ix4 0 j k l) := by
  blk_simp [iblk1]
  exact congrArg _ (by blk_ext [index1_20])

theorem index1_21 : ∀ t : Fin cfg1.N, win1_21.index t = ![0, 0, 0] := (by decide +kernel : ∀ t : Fin grid1.N, _)
theorem blk1_21 (t : Fin cfg1.N) (j : Fin 512) (k : Fin 1024) : iblk1 V c 21 t (ix3 0 j k)
    = (V c main_v13 : S2x512x1024.Idx → Elt F .bf16) (ix3 0 j k) := by
  blk_simp [iblk1]
  exact congrArg _ (by blk_ext [index1_21])

theorem index1_22 : ∀ t : Fin cfg1.N, win1_22.index t = ![0, 0, 0] := (by decide +kernel : ∀ t : Fin grid1.N, _)
theorem blk1_22 (t : Fin cfg1.N) (j : Fin 512) (k : Fin 1024) : iblk1 V c 22 t (ix3 0 j k)
    = (V c main_v14 : S2x512x1024.Idx → Elt F .bf16) (ix3 0 j k) := by
  blk_simp [iblk1]
  exact congrArg _ (by blk_ext [index1_22])

theorem index1_23 : ∀ t : Fin cfg1.N, win1_23.index t = ![0, 0, 0] := (by decide +kernel : ∀ t : Fin grid1.N, _)
theorem blk1_23 (t : Fin cfg1.N) (j : Fin 1024) (k : Fin 1024) : iblk1 V c 23 t (ix3 0 j k)
    = (V c main_v15 : S2x1024x1024.Idx → Elt F .bf16) (ix3 0 j k) := by
  blk_simp [iblk1]
  exact congrArg _ (by blk_ext [index1_23])

theorem index1_24 : ∀ t : Fin cfg1.N, win1_24.index t = ![0, 0, 0] := (by decide +kernel : ∀ t : Fin grid1.N, _)
theorem blk1_24 (t : Fin cfg1.N) (k : Fin 1024) : iblk1 V c 24 t (ix3 0 0 k)
    = (V c main_v16 : S2x1x1024.Idx → Elt F .f32) (ix3 0 0 k) := by
  blk_simp [iblk1]
  exact congrArg _ (by blk_ext [index1_24])

theorem index1_25 : ∀ t : Fin cfg1.N, win1_25.index t = ![0, 0, 0] := (by decide +kernel : ∀ t : Fin grid1.N, _)
theorem blk1_25 (t : Fin cfg1.N) (k : Fin 1024) : iblk1 V c 25 t (ix3 0 0 k)
    = (V c main_v17 : S2x1x1024.Idx → Elt F .f32) (ix3 0 0 k) := by
  blk_simp [iblk1]
  exact congrArg _ (by blk_ext [index1_25])

theorem index1_26 : ∀ t : Fin cfg1.N, win1_26.index t = ![t.val, 0] := (by decide +kernel : ∀ t : Fin grid1.N, _)

theorem index0_0 : ∀ t : Fin cfg0.N, win0_0.index t = ![t.val / 8, t.val % 8, 0, 0] := (by decide +kernel : ∀ t : Fin grid0.N, _)
theorem index0_1 : ∀ t : Fin cfg0.N, win0_1.index t = ![t.val / 8, 0, t.val % 8, 0, 0] := (by decide +kernel : ∀ t : Fin grid0.N, _)
theorem blk0_0 (t : Fin cfg0.N) (k : Fin 16) (l : Fin 128) : iblk0 V c 0 t (ix4 0 0 k l)
    = (V c main_v5 : S2x8x16x128.Idx → Elt F .f32) (ix4 ⟨t.val / 8, by have : t.val < 16 := t.isLt; omega⟩ ⟨t.val % 8, by omega⟩ k l) := by
  blk_simp [iblk0]
  exact congrArg _ (by blk_ext [index0_0])

end Cert.KernelIdeal.Gen
-- ==== Proof.TabArray.lean ====
module

public import proofs.«01_k».proof.Proof.HostValue
public import proofs.«01_k».proof.Proof.WinValue
public import proofs.«01_k».proof.Proof.TabValue

/-! # The tables as the second pipeline finds them -/

@[expose] public section

set_option maxRecDepth 16384

noncomputable section

namespace Cert.TabValue

open Idealize.ShloMosaic Idealize.ShloMosaic.TcCoe Idealize.SL.Sem
open Cert.KernelIdeal Cert.KernelIdeal.Gen Cert.RefValue

theorem keyBase_le (k : Fin 6) : keyBase k ≤ 8 := by revert k; decide

/-- What a kind of table holds for head `h`, query `p` of a block and key `q` of the key block, from the bias. -/
def bias (rpb : S2x8x15x31.Idx → EReal) (i : Fin 2) (k : Fin 6) (h : Fin 8) (p q : Fin 256) : EReal :=
  if rowOk k (p.val / 64) (q.val / 64) = true ∧ colIn (p.val % 64) (q.val % 64) then
    rpb (ix4 i h ⟨keyBase k + q.val / 64 + 3 - p.val / 64, by have := keyBase_le k; omega⟩ ⟨place 15 30 (p.val % 64) (q.val % 64), by unfold place; omega⟩)
  else ⊥

/-- A table from a pair of bias rows is the table from the bias. -/
theorem tab_bias (x : Vec Ideal S1x1x16x128 .f32) (rpb : S2x8x15x31.Idx → EReal) (i : Fin 2) (h : Fin 8)
    (hx : ∀ (d : Fin 14) (u : Fin 2) (e : Fin 31),
      x (ix4 0 0 ⟨d.val, by omega⟩ ⟨e.val + 32 * u.val, by omega⟩) = rpb (ix4 i h ⟨d.val + u.val, by omega⟩ e))
    (k : Fin 6) (p q : Fin 256) : tab x k p q = bias rpb i k h p q := by
  have hb := keyBase_le k
  unfold tab bias planeVal
  by_cases h1 : rowOk k (p.val / 64) (q.val / 64) = true
  · rw [if_pos h1]
    have hm : q.val % 128 % 64 = q.val % 64 := by omega
    refine if_congr ?_ ?_ rfl
    · show colIn (p.val % 64) (q.val % 128 % 64) ↔ _
      rw [hm]; exact ⟨fun h => ⟨h1, h⟩, fun h => h.2⟩
    · have e1 : (planeOf k ⟨p.val / 64, by omega⟩ ⟨q.val / 128, by omega⟩).val = keyBase k + 2 * (q.val / 128) + 3 - p.val / 64 := by
        show (keyBase k + 2 * (q.val / 128) + 3 - p.val / 64) % 14 = _
        exact Nat.mod_eq_of_lt (by omega)
      refine Eq.trans ?_ ((hx (planeOf k ⟨p.val / 64, by omega⟩ ⟨q.val / 128, by omega⟩) ⟨q.val % 128 / 64, by omega⟩
        ⟨place 15 30 (p.val % 64) (q.val % 64), by unfold place; omega⟩).trans ?_)
      · refine congrArg (fun z => x (ix4 0 0 _ z)) (Fin.ext ?_)
        show place 15 30 (p.val % 64) (q.val % 128 % 64) + 32 * (q.val % 128 / 64) = _
        rw [hm]
      · refine congrArg (fun z => rpb (ix4 i h z _)) (Fin.ext ?_)
        show (planeOf k ⟨p.val / 64, by omega⟩ ⟨q.val / 128, by omega⟩).val + q.val % 128 / 64 = keyBase k + q.val / 64 + 3 - p.val / 64
        rw [e1]
        have : p.val / 64 ≤ 3 := by omega
        omega
  · rw [if_neg h1, if_neg fun h => h1 h.1]

variable (m : (ℓ : Loc nD τ sig) → Buf (Elt Ideal) ℓ) (ρ : Dev nD → PrngReg) (c : Dev nD)

/-- The tables' array after the first pipeline, from the bias. -/
def arr (rpb : S2x8x15x31.Idx → EReal) : S2x6x8x256x256.Idx → EReal := fun j => bias rpb (j 0) (j 1) (j 2) (j 3) (j 4)

theorem out_eq : (dat0 (V5 m ρ) c).arrAt 1 cfg0.N = arr (m ((c : Thread nD τ).loc main_arg8)) := by
  refine (dat0 (V5 m ρ) c).arrAt_eq_of_covers 1 _ (by decide +kernel) fun t hf y => ?_
  blk_simp
  rw [after0_1, outsAt0_eq]
  have ht : t.val < 16 := t.isLt
  have y0 : (y 0).val < 1 := (y 0).isLt
  have y2 : (y 2).val < 1 := (y 2).isLt
  have hy : (y : S1x6x1x256x256.Idx) = ix5 (0 : Fin 1) (y 1) (0 : Fin 1) (y 3) (y 4) := by
    funext a
    match a with
    | ⟨0, _⟩ => exact Subsingleton.elim (α := Fin 1) _ _
    | ⟨1, _⟩ => rfl
    | ⟨2, _⟩ => exact Subsingleton.elim (α := Fin 1) _ _
    | ⟨3, _⟩ => rfl
    | ⟨4, _⟩ => rfl
  refine (congrArg (View.canon (tileList (iblk0 (V5 m ρ) c 0 t))) hy).trans ((tiles_apply _ _ _ _).trans ?_)
  refine (tab_bias _ (m ((c : Thread nD τ).loc main_arg8)) ⟨t.val / 8, by omega⟩ ⟨t.val % 8, by omega⟩
    (fun d u e => (blk0_0 (V5 m ρ) c t _ _).trans (HostValue.v5 m ρ c _ _ d u e)) _ _ _).trans ?_
  unfold arr
  have e0 : (win0_1.blk t).view.emb y 0 = (⟨t.val / 8, by omega⟩ : Fin 2) := Fin.ext (by blk_simp [index0_1])
  have e1 : (win0_1.blk t).view.emb y 1 = (y 1 : Fin 6) := Fin.ext (by blk_simp [index0_1])
  have e2 : (win0_1.blk t).view.emb y 2 = (⟨t.val % 8, by omega⟩ : Fin 8) := Fin.ext (by blk_simp [index0_1])
  have e3 : (win0_1.blk t).view.emb y 3 = (y 3 : Fin 256) := Fin.ext (by blk_simp [index0_1])
  have e4 : (win0_1.blk t).view.emb y 4 = (y 4 : Fin 256) := Fin.ext (by blk_simp [index0_1])
  rw [e0, e1, e2, e3, e4]

/-- The tables as the second pipeline finds them. -/
theorem v6 (i : Fin 2) (k : Fin 6) (h : Fin 8) (p q : Fin 256) : (V7 m ρ c main_v6 : S2x6x8x256x256.Idx → EReal) (ix5 i k h p q)
    = bias (m ((c : Thread nD τ).loc main_arg8)) i k h p q := by
  have e : V7 m ρ c main_v6 = arr (m ((c : Thread nD τ).loc main_arg8)) := by
    show W7 m ρ c (Proc.devRef .tc main_v6) = _
    rw [W7_of m ρ c main_v6 (by decide)]
    exact (W6_arr m ρ c 1).trans (out_eq m ρ c)
  exact congrFun e _

end Cert.TabValue
-- ==== Proof.MixSpec.lean ====
module

public import proofs.«01_k».proof.Proof.MixGlue
public import proofs.«01_k».proof.Proof.TabArray

/-! # The mixing body's rows are the layer's

A block's three key blocks and their tables give every score that is not masked; so the attention over them is the
attention over all keys. -/

@[expose] public section

set_option maxRecDepth 16384

noncomputable section

namespace Cert.MixValue

open Idealize.ShloMosaic Cert.RefValue
open Cert.KernelIdeal Cert.KernelIdeal.Gen Cert.TabValue

/-- Every element is a real number. -/
def AllReal {ι : Type} (x : ι → EReal) : Prop := ∀ i, ∃ r : ℝ, x i = r

theorem sum_real {n : ℕ} (f : Fin n → EReal) (h : ∀ i, ∃ r : ℝ, f i = r) : ∃ r : ℝ, ∑ i, f i = r :=
  Finset.sum_induction f (fun x => ∃ r : ℝ, x = r) (fun _ _ ⟨a, ha⟩ ⟨b, hb⟩ => ⟨a + b, by rw [ha, hb, EReal.coe_add]⟩) ⟨0, rfl⟩
    fun i _ => h i

theorem mul_real {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

/-- The tables of the own block show every row. -/
theorem row_mid : ∀ (B : Fin 16) (a e : Fin 4), rowOk 2 a.val e.val = decide (rowIn (4 * B.val + a.val) (4 * B.val + e.val)) := by
  decide +kernel
/-- The tables of the block below show the rows of the window. -/
theorem row_low : ∀ (B : Fin 16) (a e : Fin 4), B.val ≠ 0 →
    rowOk (lowK B.val) a.val e.val = decide (rowIn (4 * B.val + a.val) (4 * (B.val - 1) + e.val)) := by
  decide +kernel
/-- The tables of the block above show the rows of the window. -/
theorem row_high : ∀ (B : Fin 16) (a e : Fin 4), B.val ≠ 15 →
    rowOk (highK B.val) a.val e.val = decide (rowIn (4 * B.val + a.val) (4 * (B.val + 1) + e.val)) := by
  decide +kernel
theorem base_low : ∀ B : Fin 16, B.val ≠ 0 → keyBase (lowK B.val) + 4 * B.val = 4 * (B.val - 1) + 4 := by decide
theorem base_high : ∀ B : Fin 16, B.val ≠ 15 → keyBase (highK B.val) + 4 * B.val = 4 * (B.val + 1) + 4 := by decide

/-- The masked kind shows nothing. -/
theorem bias_none (rpb : S2x8x15x31.Idx → EReal) (h : Fin 8) (p q : Fin 256) : bias rpb 0 5 h p q = ⊥ :=
  if_neg fun hh => Bool.false_ne_true hh.1

variable (qr qp kr v : S4x4096x512.Idx → EReal) (kc vc : S4x256x512.Idx → EReal) (rpb : S2x8x15x31.Idx → EReal)

/-- A product and its table entry are the score. -/
theorem score_of (b : Fin 4) (h : Fin 8) (q : Fin 4096) (B : Fin 16) (hq : q.val / 256 = B.val) (k : Fin 6) (Bk : ℕ) (hBk : Bk < 16) (e p : Fin 256)
    (hp : p.val = q.val % 256)
    (hrow : rowOk k (p.val / 64) (e.val / 64) = decide (rowIn (4 * B.val + p.val / 64) (4 * Bk + e.val / 64)))
    (hbase : rowOk k (p.val / 64) (e.val / 64) = true → keyBase k + 4 * B.val = 4 * Bk + 4) :
    (∑ d : Fin 64, qr (ix3 b q (Spec.lane h d)) * kr (ix3 b (Spec.tok (256 * Bk + e.val)) (Spec.lane h d))) + bias rpb 0 k h p e
      = Spec.score qr kr rpb b h q (Spec.tok (256 * Bk + e.val)) := by
  have ht : (Spec.tok (256 * Bk + e.val)).val = 256 * Bk + e.val := by show (256 * Bk + e.val) % 4096 = _; omega
  have h1 : q.val / 64 = 4 * B.val + p.val / 64 := by omega
  have h2 : q.val % 64 = p.val % 64 := by omega
  have h3 : (256 * Bk + e.val) / 64 = 4 * Bk + e.val / 64 := by omega
  have h4 : (256 * Bk + e.val) % 64 = e.val % 64 := by omega
  have hw : inWin q.val (Spec.tok (256 * Bk + e.val)).val ↔ rowOk k (p.val / 64) (e.val / 64) = true ∧ colIn (p.val % 64) (e.val % 64) := by
    rw [hrow, decide_eq_true_iff, ht]; unfold inWin; rw [h1, h2, h3, h4]
  unfold Spec.score bias
  by_cases hc : rowOk k (p.val / 64) (e.val / 64) = true ∧ colIn (p.val % 64) (e.val % 64)
  · rw [if_pos hc, if_pos (hw.mpr hc)]
    have hb := hbase hc.1
    have hin := hrow.symm.trans hc.1
    rw [decide_eq_true_iff] at hin
    unfold rowIn at hin
    refine congrArg (fun z => _ + rpb z) (funext fun a => match a with
      | ⟨0, _⟩ => rfl
      | ⟨1, _⟩ => rfl
      | ⟨2, _⟩ => Fin.ext ?_
      | ⟨3, _⟩ => Fin.ext ?_)
    · show keyBase k + e.val / 64 + 3 - p.val / 64 = min 14 ((Spec.tok (256 * Bk + e.val)).val / 64 + 7 - q.val / 64)
      rw [ht]; omega
    · show min 30 (e.val % 64 + 15 - p.val % 64) = min 30 ((Spec.tok (256 * Bk + e.val)).val % 64 + 15 - q.val % 64)
      rw [ht, h2, h4]
  · rw [if_neg hc, if_neg (fun hh => hc (hw.mp hh)), EReal.add_bot]

theorem score_ne_top (hqr : AllReal qr) (hkr : AllReal kr) (hrpb : AllReal rpb) (b : Fin 4) (h : Fin 8) (q t : Fin 4096) :
    Spec.score qr kr rpb b h q t ≠ ⊤ := by
  unfold Spec.score
  split
  · obtain ⟨x, hx⟩ := sum_real _ fun d : Fin 64 => mul_real (hqr (ix3 b q (Spec.lane h d))) (hkr (ix3 b t (Spec.lane h d)))
    obtain ⟨y, hy⟩ := hrpb (ix4 0 h ⟨place 7 14 (q / 64) (t / 64), place_lt _ _ _ _⟩ ⟨place 15 30 (q % 64) (t % 64), place_lt _ _ _ _⟩)
    rw [hx, hy, ← EReal.coe_add]; exact EReal.coe_ne_top _
  · exact bot_ne_top

/-- A token outside the three blocks is out of the window. -/
theorem score_out (b : Fin 4) (h : Fin 8) (q : Fin 4096) (B B' : Fin 16) (hq : q.val / 256 = B.val) (h1 : B'.val + 1 ≠ B.val) (h2 : B' ≠ B)
    (h3 : B'.val ≠ B.val + 1) (k : Fin 256) : Spec.score qr kr rpb b h q (Spec.tok (256 * B'.val + k.val)) = ⊥ := by
  refine if_neg fun hw => ?_
  have ht : (Spec.tok (256 * B'.val + k.val)).val = 256 * B'.val + k.val := by show (256 * B'.val + k.val) % 4096 = _; omega
  have hr := hw.1
  rw [ht] at hr
  have h2' : B'.val ≠ B.val := fun e => h2 (Fin.ext e)
  unfold rowIn at hr
  omega

/-- A row of the attention over the three blocks is the attention over all keys. -/
theorem attn_eq (hqr : AllReal qr) (hqp : AllReal qp) (hkr : AllReal kr) (hkc : AllReal kc) (hrpb : AllReal rpb)
    (b : Fin 4) (B : Fin 16) (q : Fin 4096) (hq : q.val / 256 = B.val) (j r : Fin 512) (hr : r.val % 256 = q.val % 256)
    (QR QP : S512x512.Idx → EReal) (KC VC K1 K2 K3 V1 V2 V3 : S256x512.Idx → EReal) (tab : S1x6x8x256x256.Idx → EReal)
    (hQR : ∀ x, QR (ix2 r x) = qr (ix3 b q x)) (hQP : ∀ x, QP (ix2 r x) = qp (ix3 b q x))
    (hKC : ∀ k x, KC (ix2 k x) = kc (ix3 b k x)) (hVC : ∀ k x, VC (ix2 k x) = vc (ix3 b k x))
    (hK1 : B.val ≠ 0 → ∀ k x, K1 (ix2 k x) = kr (ix3 b (Spec.tok (256 * (B.val - 1) + k.val)) x))
    (hV1 : B.val ≠ 0 → ∀ k x, V1 (ix2 k x) = v (ix3 b (Spec.tok (256 * (B.val - 1) + k.val)) x))
    (hK2 : ∀ k x, K2 (ix2 k x) = kr (ix3 b (Spec.tok (256 * B.val + k.val)) x))
    (hV2 : ∀ k x, V2 (ix2 k x) = v (ix3 b (Spec.tok (256 * B.val + k.val)) x))
    (hK3 : B.val ≠ 15 → ∀ k x, K3 (ix2 k x) = kr (ix3 b (Spec.tok (256 * (B.val + 1) + k.val)) x))
    (hV3 : B.val ≠ 15 → ∀ k x, V3 (ix2 k x) = v (ix3 b (Spec.tok (256 * (B.val + 1) + k.val)) x))
    (htab : ∀ k h p e, tab (ix5 0 k h p e) = bias rpb 0 k h p e) :
    rowAttn QR QP KC VC K1 K2 K3 V1 V2 V3 tab (lowK B.val) (highK B.val) r j = Spec.attn qr qp kr v kc vc rpb b q j := by
  have hB := B.isLt
  have hp : (⟨r.val % 256, by omega⟩ : Fin 256).val = q.val % 256 := hr
  have hd : ∀ x : ℕ, x < 256 → x / 64 < 4 := fun x hx => by omega
  unfold rowAttn Spec.attn
  simp only [hQR, hQP, hKC, hVC, htab]
  refine (Softmax.attendAll_eq _ _ _ _ _ _ _ _ _ _ B (fun k => sum_real _ fun d => mul_real (hqp _) (hkc _))
    (fun t => score_ne_top qr kr rpb hqr hkr hrpb b _ q _) (fun B' h1 h2 h3 k => score_out qr kr rpb b _ q B B' hq h1 h2 h3 k)
    (fun k => ⟨?_, hV2 k j⟩) (fun hb k => ⟨?_, hV1 hb k j⟩) (fun hb k => ?_) (fun hb k => ⟨?_, hV3 hb k j⟩) (fun hb k => ?_)).symm
  · simp only [hK2]
    exact score_of qr kr rpb b _ q B hq 2 B.val hB k _ hp
      (row_mid B ⟨_, hd _ (Nat.mod_lt _ (by norm_num))⟩ ⟨_, hd _ k.isLt⟩) fun _ => Nat.add_comm _ _
  · simp only [hK1 hb]
    exact score_of qr kr rpb b _ q B hq _ (B.val - 1) (by omega) k _ hp
      (row_low B ⟨_, hd _ (Nat.mod_lt _ (by norm_num))⟩ ⟨_, hd _ k.isLt⟩ hb) fun _ => base_low B hb
  · rw [show lowK B.val = 5 by rw [hb]; rfl, bias_none, EReal.add_bot]
  · simp only [hK3 hb]
    exact score_of qr kr rpb b _ q B hq _ (B.val + 1) (by omega) k _ hp
      (row_high B ⟨_, hd _ (Nat.mod_lt _ (by norm_num))⟩ ⟨_, hd _ k.isLt⟩ hb) fun _ => base_high B hb
  · rw [show highK B.val = 5 by rw [hb]; rfl, bias_none, EReal.add_bot]

/-- A row of the gating is the layer's. -/
theorem gate_eq (gu svn : S4x4096x512.Idx → EReal) (ws : S2x8x128x128.Idx → EReal) (bs : S2x8x128.Idx → EReal)
    (b : Fin 4) (q : Fin 4096) (j r : Fin 512) (hr : r.val % 128 = q.val % 128)
    (GU SVN : S512x512.Idx → EReal) (WS : S1x4x256x128.Idx → EReal) (BS : S1x4x128x128.Idx → EReal)
    (hGU : GU (ix2 r j) = gu (ix3 b q j))
    (hSVN : ∀ p : Fin 128, SVN (ix2 ⟨128 * (r.val / 128) + p.val, by omega⟩ j) = svn (ix3 b (Spec.tok (q.val / 128 * 128 + p.val)) j))
    (hWS : ∀ g u k, WS (ix4 0 g u k) = ws (ix4 0 ⟨2 * g.val + u.val / 128, by omega⟩ ⟨u.val % 128, by omega⟩ k))
    (hBS : ∀ g u l, BS (ix4 0 g u l) = bs (ix3 0 ⟨2 * g.val + l.val / 64, by omega⟩ u)) :
    rowGate GU SVN WS BS r j = Spec.gate gu svn ws bs b q j := by
  unfold rowGate Spec.gate
  rw [hGU, hBS]
  simp only [hWS, hSVN]
  refine congrArg (gu (ix3 b q j) * ·) (congr (congrArg (fun x y : EReal => x + y) (Finset.sum_congr rfl fun p _ => ?_)) ?_)
  · rw [mul_comm]
    refine congrArg (fun z => _ * ws z) (funext fun a => match a with
      | ⟨0, _⟩ => rfl
      | ⟨1, _⟩ => Fin.ext (by show 2 * (j.val / 128) + (128 * (j.val % 128 / 64) + r.val % 128) / 128 = j.val / 64; omega)
      | ⟨2, _⟩ => Fin.ext (by show (128 * (j.val % 128 / 64) + r.val % 128) % 128 = q.val % 128; omega)
      | ⟨3, _⟩ => rfl)
  · exact congrArg bs (funext fun a => match a with
      | ⟨0, _⟩ => rfl
      | ⟨1, _⟩ => Fin.ext (by show 2 * (j.val / 128) + j.val % 128 / 64 = j.val / 64; omega)
      | ⟨2, _⟩ => Fin.ext hr)

end Cert.MixValue
-- ==== Proof.RefLayer.lean ====
module

public import proofs.«01_k».proof.Proof.RefAttn

/-! # The reference's result, an element at a time -/

@[expose] public section

set_option maxRecDepth 16384

noncomputable section

namespace Cert.RefValue

open Idealize.ShloMosaic
open Cert.ReferenceIdeal Cert.ReferenceIdeal.Gen Cert.ReferenceIdeal.Read
open Cert.Spec (head tok)

variable (x0 : S4x4096x1024.Idx → EReal) (x1 : S2x8x6144.Idx → EReal)
  (x2 x3 x4 x5 : S4x4096x512.Idx → EReal) (x6 x7 : S4x256x512.Idx → EReal) (x8 : S2x8x15x31.Idx → EReal)
  (x9 x10 : S4x4096x512.Idx → EReal) (x11 x12 : S4x4096x1024.Idx → EReal)
  (x13 : S2x8x128x128.Idx → EReal) (x14 : S2x8x128.Idx → EReal) (x15 x16 : S2x512x1024.Idx → EReal) (x17 : S2x1024x1024.Idx → EReal)
  (x18 x19 : S2x1024.Idx → EReal)

theorem w_s_apply (g : Fin 8) (p k : Fin 128) : val_main_v106 (F := Ideal) x13 (ix3 g p k) = x13 (ix4 0 g p k) := by
  pointwise [val_main_v106, val_main_v105]

theorem w_pa_apply (j : Fin 512) (k : Fin 1024) : val_main_v120 (F := Ideal) x15 (ix2 j k) = x15 (ix3 0 j k) := by
  pointwise [val_main_v120, val_main_v119]

theorem w_pb_apply (j : Fin 512) (k : Fin 1024) : val_main_v125 (F := Ideal) x16 (ix2 j k) = x16 (ix3 0 j k) := by
  pointwise [val_main_v125, val_main_v124]

theorem w_o_apply (j k : Fin 1024) : val_main_v130 (F := Ideal) x17 (ix2 j k) = x17 (ix3 0 j k) := by
  pointwise [val_main_v130, val_main_v129]

theorem gain_apply (b : Fin 4) (q : Fin 4096) (n : Fin 1024) :
    val_main_v143 (F := Ideal) x1 (ix3 b q n) = x1 (ix3 0 ⟨b.val, by omega⟩ ⟨2048 + n.val, by omega⟩) := by
  pointwise [val_main_v143, val_main_v140, val_main_v136, val_main_v133, val_main_v132]

theorem ln_g_apply (b : Fin 4) (q : Fin 4096) (n : Fin 1024) :
    val_main_v169 (F := Ideal) x18 (ix3 b q n) = x18 (ix2 0 n) := by
  pointwise [val_main_v169, val_main_v168, val_main_v147, val_main_v146]

theorem ln_b_apply (b : Fin 4) (q : Fin 4096) (n : Fin 1024) :
    val_main_v172 (F := Ideal) x19 (ix3 b q n) = x19 (ix2 0 n) := by
  pointwise [val_main_v172, val_main_v171, val_main_v149, val_main_v148]

theorem b_s_apply (b : Fin 4) (c : Fin 32) (p : Fin 128) (g : Fin 8) (d : Fin 64) :
    val_main_v113 (F := Ideal) x14 (ix5 b c p g d) = x14 (ix3 0 g p) := by
  pointwise [val_main_v113, val_main_v112, val_main_v111, val_main_v110, val_main_v109]

/-- The reference's gating is `Spec.gate`. -/
theorem gate_apply (b : Fin 4) (q : Fin 4096) (j : Fin 512) :
    val_main_v117 (F := Ideal) x9 x10 x13 x14 (ix3 b q j) = Spec.gate x9 x10 x13 x14 b q j := by
  have hb := b.isLt; have hq := q.isLt; have hj := j.isLt
  rw [val_main_v117_apply, val_main_v115_apply, val_main_v116_apply,
    show idx_main_v116 (ix3 b q j) = ix5 b ⟨q.val / 128, by omega⟩ ⟨q.val % 128, by omega⟩ (head j) ⟨j.val % 64, by omega⟩ from
      funext fun a => Fin.ext (match a with
      | ⟨0, _⟩ => show ((b.val * 4096 + q.val) * 512 + j.val) / 2097152 = b.val by omega
      | ⟨1, _⟩ => show ((b.val * 4096 + q.val) * 512 + j.val) / 65536 % 32 = q.val / 128 by omega
      | ⟨2, _⟩ => show ((b.val * 4096 + q.val) * 512 + j.val) / 512 % 128 = q.val % 128 by omega
      | ⟨3, _⟩ => show ((b.val * 4096 + q.val) * 512 + j.val) / 64 % 8 = j.val / 64 by omega
      | ⟨4, _⟩ => show ((b.val * 4096 + q.val) * 512 + j.val) % 64 = j.val % 64 by omega),
    val_main_v114_apply, b_s_apply, val_main_v108_apply, val_main_v107_apply]
  unfold Spec.gate
  refine congrArg (fun z : EReal => x9 (ix3 b q j) * (z + x14 (ix3 0 (head j) ⟨q.val % 128, by omega⟩))) ?_
  refine Finset.sum_congr rfl fun p _ => ?_
  have hp := p.isLt
  rw [val_main_v104_apply, val_main_v103_apply]
  refine congrArg₂ (fun y z : EReal => y * z) (congrArg x10 (funext fun a => Fin.ext (match a with
      | ⟨0, _⟩ => show ((((b.val * 32 + q.val / 128) * 128 + p.val) * 8 + j.val / 64) * 64 + j.val % 64) / 2097152 = b.val by omega
      | ⟨1, _⟩ => show ((((b.val * 32 + q.val / 128) * 128 + p.val) * 8 + j.val / 64) * 64 + j.val % 64) / 512 % 4096 = (q.val / 128 * 128 + p.val) % 4096 by omega
      | ⟨2, _⟩ => show ((((b.val * 32 + q.val / 128) * 128 + p.val) * 8 + j.val / 64) * 64 + j.val % 64) % 512 = j.val by omega))) ?_
  exact (congrArg _ (funext fun a => match a with | ⟨0, _⟩ => rfl | ⟨1, _⟩ => rfl | ⟨2, _⟩ => rfl)).trans
    (w_s_apply x13 (head j) ⟨q.val % 128, by omega⟩ p)

/-- The reference's merged branches. -/
theorem merge_apply (b : Fin 4) (q : Fin 4096) (k : Fin 1024) :
    val_main_v128 (F := Ideal) x2 x3 x4 x5 x6 x7 x8 x9 x10 x11 x12 x13 x14 x15 x16 (ix3 b q k)
      = Spec.merge (Spec.attn x2 x3 x4 x5 x6 x7 x8 b q) (Spec.gate x9 x10 x13 x14 b q) (fun k => x11 (ix3 b q k)) (fun k => x12 (ix3 b q k))
          (fun j k => x15 (ix3 0 j k)) (fun j k => x16 (ix3 0 j k)) k := by
  rw [val_main_v128_apply, val_main_v122_apply, val_main_v127_apply, val_main_v121_apply, val_main_v126_apply,
    val_main_v118_apply, val_main_v123_apply]
  unfold Spec.merge
  refine congrArg₂ (fun y z : EReal => x11 (ix3 b q k) * y + x12 (ix3 b q k) * z) (Finset.sum_congr rfl fun j _ => ?_)
    (Finset.sum_congr rfl fun j _ => ?_)
  · exact congrArg₂ (fun y z : EReal => y * z)
      ((congrArg _ (funext fun a => match a with | ⟨0, _⟩ => rfl | ⟨1, _⟩ => rfl | ⟨2, _⟩ => rfl)).trans (attn_apply x2 x3 x4 x5 x6 x7 x8 b q j))
      ((congrArg _ (funext fun a => match a with | ⟨0, _⟩ => rfl | ⟨1, _⟩ => rfl)).trans (w_pa_apply x15 j k))
  · exact congrArg₂ (fun y z : EReal => y * z)
      ((congrArg _ (funext fun a => match a with | ⟨0, _⟩ => rfl | ⟨1, _⟩ => rfl | ⟨2, _⟩ => rfl)).trans (gate_apply x9 x10 x13 x14 b q j))
      ((congrArg _ (funext fun a => match a with | ⟨0, _⟩ => rfl | ⟨1, _⟩ => rfl)).trans (w_pb_apply x16 j k))

/-- The row that is normed. -/
abbrev mixed (b : Fin 4) (q : Fin 4096) (n : Fin 1024) : EReal :=
  Ideal.ofBits .f32 0x3FB504F3#32 * x0 (ix3 b q n) + x1 (ix3 0 ⟨b.val, by omega⟩ ⟨2048 + n.val, by omega⟩)
    * ∑ k, Spec.merge (Spec.attn x2 x3 x4 x5 x6 x7 x8 b q) (Spec.gate x9 x10 x13 x14 b q) (fun k => x11 (ix3 b q k)) (fun k => x12 (ix3 b q k))
          (fun j k => x15 (ix3 0 j k)) (fun j k => x16 (ix3 0 j k)) k * x17 (ix3 0 k n)

theorem mixed_apply (b : Fin 4) (q : Fin 4096) (n : Fin 1024) :
    val_main_v145 (F := Ideal) x0 x1 x2 x3 x4 x5 x6 x7 x8 x9 x10 x11 x12 x13 x14 x15 x16 x17 (ix3 b q n)
      = mixed x0 x1 x2 x3 x4 x5 x6 x7 x8 x9 x10 x11 x12 x13 x14 x15 x16 x17 b q n := by
  rw [val_main_v145_apply, val_main_v142_apply, val_main_v144_apply, gain_apply, val_main_v141_apply, val_main_cst_22_apply, val_main_v131_apply]
  refine congrArg (fun y : EReal => Ideal.ofBits .f32 0x3FB504F3#32 * x0 (ix3 b q n) + x1 (ix3 0 ⟨b.val, by omega⟩ ⟨2048 + n.val, by omega⟩) * y)
    (Finset.sum_congr rfl fun k _ => ?_)
  exact congrArg₂ (fun y z : EReal => y * z)
      ((congrArg _ (funext fun a => match a with | ⟨0, _⟩ => rfl | ⟨1, _⟩ => rfl | ⟨2, _⟩ => rfl)).trans
        (merge_apply x2 x3 x4 x5 x6 x7 x8 x9 x10 x11 x12 x13 x14 x15 x16 b q k))
      ((congrArg _ (funext fun a => match a with | ⟨0, _⟩ => rfl | ⟨1, _⟩ => rfl)).trans (w_o_apply x17 k n))

/-- The mean of the row. -/
theorem mean_apply (b : Fin 4) (q : Fin 4096) (i : Fin 1) :
    val_main_v153 (F := Ideal) x0 x1 x2 x3 x4 x5 x6 x7 x8 x9 x10 x11 x12 x13 x14 x15 x16 x17 (ix3 b q i)
      = Ideal.div (∑ k, mixed x0 x1 x2 x3 x4 x5 x6 x7 x8 x9 x10 x11 x12 x13 x14 x15 x16 x17 b q k) (Ideal.ofBits .f32 0x44800000#32) := by
  rw [val_main_v153_apply, val_main_v151_apply, val_main_v152_apply, val_main_cst_24_apply, val_main_v150_apply, val_main_cst_23_apply]
  refine congrArg (fun y : EReal => Ideal.div y (Ideal.ofBits .f32 0x44800000#32)) ?_
  refine ((congrArg (· + _) Ideal.ofBits_zero_f32).trans (zero_add _)).trans (Finset.sum_congr rfl fun k _ => ?_)
  exact (congrArg _ (funext fun a => match a with | ⟨0, _⟩ => rfl | ⟨1, _⟩ => rfl | ⟨2, _⟩ => rfl)).trans
    (mixed_apply x0 x1 x2 x3 x4 x5 x6 x7 x8 x9 x10 x11 x12 x13 x14 x15 x16 x17 b q k)

theorem centred_apply (b : Fin 4) (q : Fin 4096) (n : Fin 1024) :
    val_main_v155 (F := Ideal) x0 x1 x2 x3 x4 x5 x6 x7 x8 x9 x10 x11 x12 x13 x14 x15 x16 x17 (ix3 b q n)
      = mixed x0 x1 x2 x3 x4 x5 x6 x7 x8 x9 x10 x11 x12 x13 x14 x15 x16 x17 b q n
        - Ideal.div (∑ k, mixed x0 x1 x2 x3 x4 x5 x6 x7 x8 x9 x10 x11 x12 x13 x14 x15 x16 x17 b q k) (Ideal.ofBits .f32 0x44800000#32) := by
  rw [val_main_v155_apply, mixed_apply, val_main_v154_apply,
    show idx_main_v154 (ix3 b q n) = ix3 b q 0 from funext fun a => match a with | ⟨0, _⟩ => rfl | ⟨1, _⟩ => rfl | ⟨2, _⟩ => rfl, mean_apply]
  rfl

/-- The reference's result is `Spec.layer` of the two branches' rows. -/
theorem result_apply (b : Fin 4) (q : Fin 4096) (n : Fin 1024) :
    val_main_v174 (F := Ideal) x0 x1 x2 x3 x4 x5 x6 x7 x8 x9 x10 x11 x12 x13 x14 x15 x16 x17 x18 x19 (ix2 ⟨4096 * b.val + q.val, by omega⟩ n)
      = Spec.layer (Spec.attn x2 x3 x4 x5 x6 x7 x8 b q) (Spec.gate x9 x10 x13 x14 b q) (fun n => x0 (ix3 b q n))
          (fun k => x11 (ix3 b q k)) (fun k => x12 (ix3 b q k)) (fun j k => x15 (ix3 0 j k)) (fun j k => x16 (ix3 0 j k))
          (fun k n => x17 (ix3 0 k n)) (fun n => x1 (ix3 0 ⟨b.val, by omega⟩ ⟨2048 + n.val, by omega⟩))
          (fun n => x18 (ix2 0 n)) (fun n => x19 (ix2 0 n)) n := by
  have hb := b.isLt; have hq := q.isLt; have hn := n.isLt
  rw [val_main_v174_apply,
    show idx_main_v174 (ix2 ⟨4096 * b.val + q.val, by omega⟩ n) = ix3 b q n from funext fun a => Fin.ext (match a with
      | ⟨0, _⟩ => show ((4096 * b.val + q.val) * 1024 + n.val) / 4194304 = b.val by omega
      | ⟨1, _⟩ => show ((4096 * b.val + q.val) * 1024 + n.val) / 1024 % 4096 = q.val by omega
      | ⟨2, _⟩ => show ((4096 * b.val + q.val) * 1024 + n.val) % 1024 = n.val by omega),
    val_main_v173_apply, val_main_v170_apply, ln_b_apply, ln_g_apply, val_main_v167_apply, val_main_v166_apply, val_main_v165_apply,
    val_main_v164_apply, val_main_v163_apply, val_main_cst_27_apply, val_main_v160_apply, val_main_v158_apply, val_main_v159_apply,
    val_main_cst_26_apply, val_main_v157_apply, val_main_cst_25_apply]
  have e : ∀ k : Fin 1024, val_main_v156 (F := Ideal) x0 x1 x2 x3 x4 x5 x6 x7 x8 x9 x10 x11 x12 x13 x14 x15 x16 x17
      (idx_main_v157 (idx_main_v158 (idx_main_v166 (ix3 b q n))) k)
      = (mixed x0 x1 x2 x3 x4 x5 x6 x7 x8 x9 x10 x11 x12 x13 x14 x15 x16 x17 b q k
        - Ideal.div (∑ k, mixed x0 x1 x2 x3 x4 x5 x6 x7 x8 x9 x10 x11 x12 x13 x14 x15 x16 x17 b q k) (Ideal.ofBits .f32 0x44800000#32))
        * (mixed x0 x1 x2 x3 x4 x5 x6 x7 x8 x9 x10 x11 x12 x13 x14 x15 x16 x17 b q k
        - Ideal.div (∑ k, mixed x0 x1 x2 x3 x4 x5 x6 x7 x8 x9 x10 x11 x12 x13 x14 x15 x16 x17 b q k) (Ideal.ofBits .f32 0x44800000#32)) := fun k => by
    rw [show idx_main_v157 (idx_main_v158 (idx_main_v166 (ix3 b q n))) k = ix3 b q k from
      funext fun a => match a with | ⟨0, _⟩ => rfl | ⟨1, _⟩ => rfl | ⟨2, _⟩ => rfl, val_main_v156_apply, centred_apply]
    rfl
  simp only [e]
  have c : val_main_v162 (F := Ideal) x0 x1 x2 x3 x4 x5 x6 x7 x8 x9 x10 x11 x12 x13 x14 x15 x16 x17 (ix3 b q n)
      = _ := centred_apply x0 x1 x2 x3 x4 x5 x6 x7 x8 x9 x10 x11 x12 x13 x14 x15 x16 x17 b q n
  rw [c]
  have z : ∀ s : EReal, Ideal.ofBits .f32 0x00000000#32 + s = s := fun s => by rw [Ideal.ofBits_zero_f32, zero_add]
  unfold Spec.layer Spec.norm
  refine Eq.trans ?_ rfl
  show _ * Ideal.rsqrt (Ideal.div (Ideal.ofBits .f32 0x00000000#32 + _) _ + _) * _ + _ = _
  rw [z]; rfl

end Cert.RefValue
-- ==== Proof.MixResult.lean ====
module

public import proofs.«01_k».proof.Proof.MixOut
public import proofs.«01_k».proof.Proof.MixSpec
public import proofs.«01_k».proof.Proof.WinValue
public import proofs.«01_k».proof.Proof.RefLayer
public import proofs.«01_k».proof.Pre_finite_scores

/-! # The mixing call's result array is the reference's -/

@[expose] public section

set_option maxRecDepth 16384

noncomputable section

namespace Cert.MixValue

open Idealize.ShloMosaic Idealize.ShloMosaic.TcCoe Idealize.SL.Sem
open Cert.KernelIdeal Cert.KernelIdeal.Gen Cert.HostValue

/-- Rows by image and token. -/
theorem at_tok {n : ℕ} (X : (⟨2, ![16384, n]⟩ : Shape).Idx → EReal) (a : Fin 16384) (b : Fin 4) (q : Fin 4096) (h : a.val = 4096 * b.val + q.val)
    (k : Fin n) : X (ix2 a k) = X (ix2 (tok b q) k) :=
  congrArg (fun z : Fin 16384 => X (ix2 z k)) (Fin.ext h)

/-- Rows by image and a token's number. -/
theorem at_num {n : ℕ} (X : (⟨2, ![16384, n]⟩ : Shape).Idx → EReal) (a : Fin 16384) (b : Fin 4) (N : ℕ) (hN : N < 4096) (h : a.val = 4096 * b.val + N)
    (k : Fin n) : X (ix2 a k) = X (ix2 (tok b (Spec.tok N)) k) :=
  at_tok X a b (Spec.tok N) (h.trans (congrArg (4096 * b.val + ·) (Nat.mod_eq_of_lt hN).symm)) k

variable (m : (ℓ : Loc nD τ sig) → Buf (Elt Ideal) ℓ) (ρ : Dev nD → PrngReg) (c : Dev nD)

/-- The finiteness the claim asks for, an argument at a time. -/
structure Finite : Prop where
  qr : AllReal (m ((c : Thread nD τ).loc main_arg2) : S4x4096x512.Idx → EReal)
  qp : AllReal (m ((c : Thread nD τ).loc main_arg3) : S4x4096x512.Idx → EReal)
  kr : AllReal (m ((c : Thread nD τ).loc main_arg4) : S4x4096x512.Idx → EReal)
  kc : AllReal (m ((c : Thread nD τ).loc main_arg6) : S4x256x512.Idx → EReal)
  rpb : AllReal (m ((c : Thread nD τ).loc main_arg8) : S2x8x15x31.Idx → EReal)

/-- The image of a grid step. -/
abbrev img (t : Fin cfg1.N) : Fin 4 := ⟨t.val / 8, by have : t.val < 32 := t.isLt; omega⟩
/-- The token of a row of a grid step. -/
abbrev trow (t : Fin cfg1.N) (r : Fin 512) : Fin 4096 := ⟨512 * (t.val % 8) + r.val, by omega⟩

variable (t : Fin cfg1.N)

theorem lt32 : t.val < 32 := t.isLt

theorem attnG_eq (hf : Finite m c) (r j : Fin 512) : attnG (V7 m ρ) c t r j
    = Spec.attn (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (img t) (trow t r) j := by
  have ht := lt32 t
  have hr := r.isLt
  have hrow : 512 * t.val + r.val = 4096 * (t.val / 8) + (512 * (t.val % 8) + r.val) := by omega
  have hQR := fun x => (blk1_2 (V7 m ρ) c t r x).trans ((at_tok _ _ (img t) (trow t r) hrow x).trans (v19 m ρ c _ _ x))
  have hQP := fun x => (blk1_3 (V7 m ρ) c t r x).trans ((at_tok _ _ (img t) (trow t r) hrow x).trans (v20 m ρ c _ _ x))
  have hKC := fun k x => (blk1_12 (V7 m ρ) c t k x).trans (v27 m ρ c (img t) k x)
  have hVC := fun k x => (blk1_13 (V7 m ρ) c t k x).trans (v28 m ρ c (img t) k x)
  have htab := fun k h p e => (blk1_14 (V7 m ρ) c t k h p e).trans (TabValue.v6 m ρ c 0 k h p e)
  unfold attnG
  by_cases h0 : r.val / 256 = 0
  · rw [if_pos h0]
    refine attn_eq _ _ _ _ _ _ _ hf.qr hf.qp hf.kr hf.kc hf.rpb (img t) ⟨2 * (t.val % 8), by omega⟩ (trow t r)
      (by show (512 * (t.val % 8) + r.val) / 256 = 2 * (t.val % 8); omega) j r (by show r.val % 256 = (512 * (t.val % 8) + r.val) % 256; omega)
      _ _ _ _ _ _ _ _ _ _ _ hQR hQP hKC hVC (fun hb k x => ?_) (fun hb k x => ?_) (fun k x => ?_) (fun k x => ?_)
      (fun hb k x => ?_) (fun hb k x => ?_) htab
    · have hb' : 2 * (t.val % 8) ≠ 0 := hb
      exact (blk1_4 (V7 m ρ) c t k x).trans ((at_num _ _ (img t) (256 * (2 * (t.val % 8) - 1) + k.val) (by omega)
        (by show 256 * (16 * (t.val / 8) + min 15 (2 * (t.val % 8) - 1)) + k.val = 4096 * (t.val / 8) + (256 * (2 * (t.val % 8) - 1) + k.val); omega) x).trans (v21 m ρ c _ _ x))
    · have hb' : 2 * (t.val % 8) ≠ 0 := hb
      exact (blk1_8 (V7 m ρ) c t k x).trans ((at_num _ _ (img t) (256 * (2 * (t.val % 8) - 1) + k.val) (by omega)
        (by show 256 * (16 * (t.val / 8) + min 15 (2 * (t.val % 8) - 1)) + k.val = 4096 * (t.val / 8) + (256 * (2 * (t.val % 8) - 1) + k.val); omega) x).trans (v22 m ρ c _ _ x))
    · exact (blk1_5 (V7 m ρ) c t k x).trans ((at_num _ _ (img t) (256 * (2 * (t.val % 8)) + k.val) (by omega)
        (by show 256 * (2 * t.val) + k.val = 4096 * (t.val / 8) + (256 * (2 * (t.val % 8)) + k.val); omega) x).trans (v21 m ρ c _ _ x))
    · exact (blk1_9 (V7 m ρ) c t k x).trans ((at_num _ _ (img t) (256 * (2 * (t.val % 8)) + k.val) (by omega)
        (by show 256 * (2 * t.val) + k.val = 4096 * (t.val / 8) + (256 * (2 * (t.val % 8)) + k.val); omega) x).trans (v22 m ρ c _ _ x))
    · exact (blk1_6 (V7 m ρ) c t k x).trans ((at_num _ _ (img t) (256 * (2 * (t.val % 8) + 1) + k.val) (by omega)
        (by show 256 * (2 * t.val + 1) + k.val = 4096 * (t.val / 8) + (256 * (2 * (t.val % 8) + 1) + k.val); omega) x).trans (v21 m ρ c _ _ x))
    · exact (blk1_10 (V7 m ρ) c t k x).trans ((at_num _ _ (img t) (256 * (2 * (t.val % 8) + 1) + k.val) (by omega)
        (by show 256 * (2 * t.val + 1) + k.val = 4096 * (t.val / 8) + (256 * (2 * (t.val % 8) + 1) + k.val); omega) x).trans (v22 m ρ c _ _ x))
  · rw [if_neg h0]
    refine attn_eq _ _ _ _ _ _ _ hf.qr hf.qp hf.kr hf.kc hf.rpb (img t) ⟨2 * (t.val % 8) + 1, by omega⟩ (trow t r)
      (by show (512 * (t.val % 8) + r.val) / 256 = 2 * (t.val % 8) + 1; omega) j r (by show r.val % 256 = (512 * (t.val % 8) + r.val) % 256; omega)
      _ _ _ _ _ _ _ _ _ _ _ hQR hQP hKC hVC (fun hb k x => ?_) (fun hb k x => ?_) (fun k x => ?_) (fun k x => ?_)
      (fun hb k x => ?_) (fun hb k x => ?_) htab
    · exact (blk1_5 (V7 m ρ) c t k x).trans ((at_num _ _ (img t) (256 * (2 * (t.val % 8) + 1 - 1) + k.val) (by omega)
        (by show 256 * (2 * t.val) + k.val = 4096 * (t.val / 8) + (256 * (2 * (t.val % 8) + 1 - 1) + k.val); omega) x).trans (v21 m ρ c _ _ x))
    · exact (blk1_9 (V7 m ρ) c t k x).trans ((at_num _ _ (img t) (256 * (2 * (t.val % 8) + 1 - 1) + k.val) (by omega)
        (by show 256 * (2 * t.val) + k.val = 4096 * (t.val / 8) + (256 * (2 * (t.val % 8) + 1 - 1) + k.val); omega) x).trans (v22 m ρ c _ _ x))
    · exact (blk1_6 (V7 m ρ) c t k x).trans ((at_num _ _ (img t) (256 * (2 * (t.val % 8) + 1) + k.val) (by omega)
        (by show 256 * (2 * t.val + 1) + k.val = 4096 * (t.val / 8) + (256 * (2 * (t.val % 8) + 1) + k.val); omega) x).trans (v21 m ρ c _ _ x))
    · exact (blk1_10 (V7 m ρ) c t k x).trans ((at_num _ _ (img t) (256 * (2 * (t.val % 8) + 1) + k.val) (by omega)
        (by show 256 * (2 * t.val + 1) + k.val = 4096 * (t.val / 8) + (256 * (2 * (t.val % 8) + 1) + k.val); omega) x).trans (v22 m ρ c _ _ x))
    · have hb' : 2 * (t.val % 8) + 1 ≠ 15 := hb
      exact (blk1_7 (V7 m ρ) c t k x).trans ((at_num _ _ (img t) (256 * (2 * (t.val % 8) + 1 + 1) + k.val) (by omega)
        (by show 256 * (16 * (t.val / 8) + min 15 (2 * (t.val % 8) + 2)) + k.val = 4096 * (t.val / 8) + (256 * (2 * (t.val % 8) + 1 + 1) + k.val); omega) x).trans (v21 m ρ c _ _ x))
    · have hb' : 2 * (t.val % 8) + 1 ≠ 15 := hb
      exact (blk1_11 (V7 m ρ) c t k x).trans ((at_num _ _ (img t) (256 * (2 * (t.val % 8) + 1 + 1) + k.val) (by omega)
        (by show 256 * (16 * (t.val / 8) + min 15 (2 * (t.val % 8) + 2)) + k.val = 4096 * (t.val / 8) + (256 * (2 * (t.val % 8) + 1 + 1) + k.val); omega) x).trans (v22 m ρ c _ _ x))

theorem gateG_eq (r j : Fin 512) : gateG (V7 m ρ) c t r j
    = Spec.gate (m ((c : Thread nD τ).loc main_arg9)) (m ((c : Thread nD τ).loc main_arg10)) (m ((c : Thread nD τ).loc main_arg13))
        (m ((c : Thread nD τ).loc main_arg14)) (img t) (trow t r) j := by
  have ht := lt32 t
  have hr := r.isLt
  refine gate_eq _ _ _ _ (img t) (trow t r) j r (by show r.val % 128 = (512 * (t.val % 8) + r.val) % 128; omega) _ _ _ _ ?_ (fun p => ?_)
    (fun g u k => (blk1_19 (V7 m ρ) c t g u k).trans (v12 m ρ c 0 g u k)) (fun g u l => (blk1_20 (V7 m ρ) c t g u l).trans (v10 m ρ c 0 g u l))
  · exact (blk1_15 (V7 m ρ) c t r j).trans ((at_tok _ _ (img t) (trow t r)
      (by show 512 * t.val + r.val = 4096 * (t.val / 8) + (512 * (t.val % 8) + r.val); omega) j).trans (v23 m ρ c _ _ j))
  · have hp := p.isLt
    exact (blk1_16 (V7 m ρ) c t ⟨128 * (r.val / 128) + p.val, by omega⟩ j).trans ((at_num _ _ (img t) ((512 * (t.val % 8) + r.val) / 128 * 128 + p.val) (by omega)
      (by show 512 * t.val + (128 * (r.val / 128) + p.val) = 4096 * (t.val / 8) + ((512 * (t.val % 8) + r.val) / 128 * 128 + p.val); omega) j).trans (v24 m ρ c _ _ j))

/-- The reference's result, of the kernel's arguments. -/
def res : S16384x1024.Idx → EReal :=
  ReferenceIdeal.Read.val_main_v174 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17)) (m ((c : Thread nD τ).loc main_arg18))
    (m ((c : Thread nD τ).loc main_arg19))

theorem outG_eq (hf : Finite m c) (r : Fin 512) (n : Fin 1024) (a : Fin 16384) (ha : a.val = 512 * t.val + r.val) :
    outG (V7 m ρ) c t r n = res m c (ix2 a n) := by
  have ht := lt32 t
  have hr := r.isLt
  have hrow : 512 * t.val + r.val = 4096 * (t.val / 8) + (512 * (t.val % 8) + r.val) := by omega
  have e0 := fun x => (blk1_0 (V7 m ρ) c t r x).trans ((at_tok _ _ (img t) (trow t r) hrow x).trans (v18 m ρ c _ _ x))
  have e17 := fun x => (blk1_17 (V7 m ρ) c t r x).trans ((at_tok _ _ (img t) (trow t r) hrow x).trans (v25 m ρ c _ _ x))
  have e18 := fun x => (blk1_18 (V7 m ρ) c t r x).trans ((at_tok _ _ (img t) (trow t r) hrow x).trans (v26 m ρ c _ _ x))
  have e21 := fun j k => (blk1_21 (V7 m ρ) c t j k).trans (v13 m ρ c 0 j k)
  have e22 := fun j k => (blk1_22 (V7 m ρ) c t j k).trans (v14 m ρ c 0 j k)
  have e23 := fun j k => (blk1_23 (V7 m ρ) c t j k).trans (v15 m ρ c 0 j k)
  have e24 := fun k => (blk1_24 (V7 m ρ) c t k).trans (v16 m ρ c 0 k)
  have e25 := fun k => (blk1_25 (V7 m ρ) c t k).trans (v17 m ρ c 0 k)
  have e1 := fun k => (blk1_1 (V7 m ρ) c t 2 k).trans (v0 m ρ c 0 _ 2 k)
  have ea : a = tok (img t) (trow t r) := Fin.ext (ha.trans hrow)
  rw [ea]
  refine Eq.trans ?_ (RefValue.result_apply (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17)) (m ((c : Thread nD τ).loc main_arg18))
    (m ((c : Thread nD τ).loc main_arg19)) (img t) (trow t r) n).symm
  unfold outG rowOut
  rw [funext (attnG_eq m ρ c t hf r), funext (gateG_eq m ρ c t r), funext e0, funext e17, funext e18, funext fun j => funext (e21 j),
    funext fun j => funext (e22 j), funext fun j => funext (e23 j), funext e24, funext e25, funext e1]
  rfl

/-- The result array. -/
theorem out_eq (hf : Finite m c) : (dat1 (V7 m ρ) c).arrAt 26 cfg1.N = res m c := by
  refine (dat1 (V7 m ρ) c).arrAt_eq_of_covers 26 _ (by decide +kernel) fun t h y => ?_
  blk_simp
  rw [after1_26]
  have hy : (y : S512x1024.Idx) = ix2 (y 0) (y 1) := eq_ix2 y
  refine (congrArg (outsAt1 (V7 m ρ) c t) hy).trans ((outsAt1_apply (V7 m ρ) c t _ _).trans ?_)
  have e0 : ((win1_26.blk t).view.emb y 0).val = 512 * t.val + (y 0).val := by
    blk_simp [index1_26]; rw [Nat.mul_comm]
  have e1 : (win1_26.blk t).view.emb y 1 = (y 1 : Fin 1024) := Fin.ext (by blk_simp [index1_26])
  refine (outG_eq m ρ c t hf (y 0) (y 1) ((win1_26.blk t).view.emb y 0) e0).trans ?_
  refine congrArg (res m c) (funext fun a => match a with
    | ⟨0, _⟩ => rfl
    | ⟨1, _⟩ => e1.symm)

/-- What is not infinite is a real number. -/
theorem real_of_lt (x : EReal) (h : FloatOps.cmpf (F := Ideal) (φ := .f32) .olt (max x (-x)) (Ideal.ofBits .f32 0x7F800000#32) = 1#1) : ∃ r : ℝ, x = r := by
  have hi : Ideal.ofBits .f32 0x7F800000#32 = ⊤ := by simp [Ideal.ofBits, Ideal.ieee]
  rw [hi] at h
  induction x using EReal.rec with
  | bot => exact absurd h (by simp [FloatOps.cmpf, Ideal.cmp])
  | coe r => exact ⟨r, rfl⟩
  | top => exact absurd h (by simp [FloatOps.cmpf, Ideal.cmp])

theorem facts_pre : Cert.Pre_finite_scores.Facts := ⟨by decide, by decide, by decide, by decide⟩

end Cert.MixValue
-- ==== Proof.FfnBody.lean ====
module

public import proofs.«01_k».proof.Proof.Gen.Kernel3Ideal.Value

/-! # What the body of the feed-forward call leaves in its output block

The hidden rows are held with the eight rows before and after them.  A convolution of 256 lanes goes through a
scratch of two lane tiles, each stored in three pieces (the rows before, the block's own, the rows after) and read
back one row earlier and one row later.  Eleven chunks of lanes are gated, and their products with the
down-projection are gathered two chunks at a time. -/

@[expose] public section

set_option maxRecDepth 65536

noncomputable section

namespace Cert.Kernel3Ideal.Gen

open Idealize.ShloMosaic Idealize.ShloMosaic.TcCoe Idealize.SL.Sem

variable {F : FTy → Type} [FloatOps F]

abbrev PcZ (F : FTy → Type) [FloatOps F] := View.Piece (Elt F) S2x528x128 .f32
abbrev PcA (F : FTy → Type) [FloatOps F] := View.Piece (Elt F) S512x2816 .bf16

theorem inb_z (t : Fin 2) (o : ℕ) (n : ℕ) (h : o + n ≤ 528) :
    ∀ a : Fin 3, (![t.val, o, 0] : Fin 3 → ℕ) a + (![1, n, 128] : Fin 3 → ℕ) a ≤ S2x528x128.size a
  | ⟨0, _⟩ => by show t.val + 1 ≤ 2; omega
  | ⟨1, _⟩ => h
  | ⟨2, _⟩ => by show 0 + 128 ≤ 128; omega
theorem inb_wu (k : Fin 22) : ∀ a : Fin 3, (![0, 0, 256 * k.val] : Fin 3 → ℕ) a + S1x1024x256.size a ≤ S1x1024x5632.size a
  | ⟨0, _⟩ => by show 0 + 1 ≤ 1; decide
  | ⟨1, _⟩ => by show 0 + 1024 ≤ 1024; decide
  | ⟨2, _⟩ => by show 256 * k.val + 256 ≤ 5632; omega
theorem inb_cw (j : Fin 3) (k : Fin 44) : ∀ a : Fin 3, (![0, j.val, 128 * k.val] : Fin 3 → ℕ) a + S1x1x128.size a ≤ S1x3x5632.size a
  | ⟨0, _⟩ => by show 0 + 1 ≤ 1; decide
  | ⟨1, _⟩ => by show j.val + 1 ≤ 3; omega
  | ⟨2, _⟩ => by show 128 * k.val + 128 ≤ 5632; omega
theorem inb_cb (k : Fin 44) : ∀ a : Fin 3, (![0, 0, 128 * k.val] : Fin 3 → ℕ) a + S1x1x128.size a ≤ S1x1x5632.size a
  | ⟨0, _⟩ => by show 0 + 1 ≤ 1; decide
  | ⟨1, _⟩ => by show 0 + 1 ≤ 1; decide
  | ⟨2, _⟩ => by show 128 * k.val + 128 ≤ 5632; omega
theorem inb_act (k : Fin 11) : ∀ a : Fin 2, (![0, 256 * k.val] : Fin 2 → ℕ) a + S512x256.size a ≤ S512x2816.size a
  | ⟨0, _⟩ => by show 0 + 512 ≤ 512; decide
  | ⟨1, _⟩ => by show 256 * k.val + 256 ≤ 2816; omega
theorem inb_act2 (k : Fin 5) : ∀ a : Fin 2, (![0, 512 * k.val] : Fin 2 → ℕ) a + S512x512.size a ≤ S512x2816.size a
  | ⟨0, _⟩ => by show 0 + 512 ≤ 512; decide
  | ⟨1, _⟩ => by show 512 * k.val + 512 ≤ 2816; omega
theorem inb_wd2 (k : Fin 5) : ∀ a : Fin 3, (![0, 512 * k.val, 0] : Fin 3 → ℕ) a + S1x512x1024.size a ≤ S1x2816x1024.size a
  | ⟨0, _⟩ => by show 0 + 1 ≤ 1; decide
  | ⟨1, _⟩ => by show 512 * k.val + 512 ≤ 2816; omega
  | ⟨2, _⟩ => by show 0 + 1024 ≤ 1024; decide

/-- A stored tile of a convolution's scratch: rows `o … o + n` of lane tile `t`. -/
def pcZ (t : Fin 2) (o n : ℕ) (h : o + n ≤ 528) (z : (⟨3, ![1, n, 128]⟩ : Shape).Idx → Elt F .f32) : PcZ F :=
  ⟨Rect.unit (s := S2x528x128) ![t.val, o, 0] ![1, n, 128] (inb_z t o n h), z⟩

/-- Lane tile `t` of a scratch stored over the pieces `L`. -/
def threeZ (t : Fin 2) (z : FVec F S528x128 .f32) (L : List (PcZ F)) : List (PcZ F) :=
  pcZ t 520 8 (by decide) (k0_pay14 z) :: pcZ t 8 512 (by decide) (k0_pay13 (extractStridedSlice S512x128 ![0, 0] z slices_S528x128_o0_0_S512x128)) ::
    pcZ t 0 8 (by decide) (shapeCast S1x8x128 (extractStridedSlice S8x128 ![512, 0] z slices_S528x128_o512_0_S8x128) shapeCasts_S8x128_S1x8x128) :: L

/-- Rows `o … o + 512` of lane tile `t`, read back. -/
def rdZ (t : Fin 2) (o : ℕ) (h : o + 512 ≤ 528) (L : List (PcZ F)) : Vec F S1x512x128 .f32 :=
  fun j => View.canon L ((Rect.unit (s := S2x528x128) ![t.val, o, 0] ![1, 512, 128] (inb_z t o 512 h)).toLoadRect.idx j)

/-- One lane tile of a convolution, `L` the scratch's pieces once its three are stored. -/
def convOf (x5 : Vec F S1x3x5632 .f32) (x6 : Vec F S1x1x5632 .f32) (k : Fin 44) (t : Fin 2) (z : FVec F S528x128 .f32) (L : List (PcZ F)) :
    FVec F S512x128 .f32 :=
  k0_pay15 z (rdZ t 7 (by decide) L) (rdZ t 9 (by decide) L)
    (View.ld x5 (Rect.unit (s := S1x3x5632) ![0, 0, 128 * k.val] S1x1x128.size (inb_cw 0 k)))
    (View.ld x5 (Rect.unit (s := S1x3x5632) ![0, 1, 128 * k.val] S1x1x128.size (inb_cw 1 k)))
    (View.ld x5 (Rect.unit (s := S1x3x5632) ![0, 2, 128 * k.val] S1x1x128.size (inb_cw 2 k)))
    (View.ld x6 (Rect.unit (s := S1x1x5632) ![0, 0, 128 * k.val] S1x1x128.size (inb_cb k)))

/-- The hidden rows times 256 lanes of the up-projection. -/
def zOf (H : Vec F S528x1024 .bf16) (x4 : Vec F S1x1024x5632 .bf16) (k : Fin 22) : FVec F S528x256 .f32 :=
  k0_pay9 H (View.ld x4 (Rect.unit (s := S1x1024x5632) ![0, 0, 256 * k.val] S1x1024x256.size (inb_wu k)))

def zt0 (z : FVec F S528x256 .f32) : FVec F S528x128 .f32 := extractStridedSlice S528x128 ![0, 0] z slices_S528x256_o0_0_S528x128
def zt1 (z : FVec F S528x256 .f32) : FVec F S528x128 .f32 := k0_pay16 z

/-- The pieces of a scratch after a convolution over the pieces `L`. -/
def nextZ (z : FVec F S528x256 .f32) (L : List (PcZ F)) : List (PcZ F) := threeZ 1 (zt1 z) (threeZ 0 (zt0 z) L)

/-- A convolution of 256 lanes, over the pieces `L` its scratch held. -/
def conv2 (x5 : Vec F S1x3x5632 .f32) (x6 : Vec F S1x1x5632 .f32) (k : Fin 22) (z : FVec F S528x256 .f32) (L : List (PcZ F)) :
    FVec F S512x256 .f32 :=
  concatenate S512x256 1 [⟨S512x128, convOf x5 x6 ⟨2 * k.val, by omega⟩ 0 (zt0 z) (threeZ 0 (zt0 z) L)⟩,
    ⟨S512x128, convOf x5 x6 ⟨2 * k.val + 1, by omega⟩ 1 (zt1 z) (nextZ z L)⟩] concatenates_S512x128_S512x128_S512x256_d1

/-- A gated chunk of lanes. -/
def actOf (g a : FVec F S512x256 .f32) : FVec F S512x256 .bf16 :=
  shapeCast S512x256 (truncf .bf16 (mulf (mulf g (logistic g)) a) bitsLt_bf16_f32) shapeCasts_S512x256_S512x256

section body
variable (H : Vec F S528x1024 .bf16) (x4 : Vec F S1x1024x5632 .bf16) (x5 : Vec F S1x3x5632 .f32) (x6 : Vec F S1x1x5632 .f32) (x7 : Vec F S1x2816x1024 .bf16)

/-- The pieces of the gates' scratch (`b = 11`) or the values' (`b = 0`) before chunk `c`: two scratches of each, taken in turn. -/
def oldZ (b : ℕ) : (c : ℕ) → b + c < 24 → List (PcZ F)
  | 0, _ => []
  | 1, _ => []
  | c + 2, h => nextZ (zOf H x4 ⟨b + c, by omega⟩) (oldZ b c (by omega))

/-- Chunk `c` gated. -/
def chunk (c : Fin 11) : FVec F S512x256 .bf16 :=
  actOf (conv2 x5 x6 ⟨11 + c.val, by omega⟩ (zOf H x4 ⟨11 + c.val, by omega⟩) (oldZ H x4 11 c.val (by omega)))
    (conv2 x5 x6 ⟨0 + c.val, by omega⟩ (zOf H x4 ⟨0 + c.val, by omega⟩) (oldZ H x4 0 c.val (by omega)))

/-- The pieces of the gated lanes after `n` chunks. -/
def actL : (n : ℕ) → n ≤ 11 → List (PcA F)
  | 0, _ => []
  | n + 1, h => ⟨Rect.unit (s := S512x2816) ![0, 256 * n] S512x256.size (inb_act ⟨n, h⟩), chunk H x4 x5 x6 ⟨n, h⟩⟩ :: actL n (by omega)

/-- The product of chunks `2k` and `2k + 1` with the down-projection's rows. -/
def rdA (k : Fin 5) : Vec F S512x512 .bf16 :=
  fun j => View.canon (actL H x4 x5 x6 (2 * k.val + 2) (by omega)) ((Rect.unit (s := S512x2816) ![0, 512 * k.val] S512x512.size (inb_act2 k)).toLoadRect.idx j)
def wd2 (k : Fin 5) : Vec F S1x512x1024 .bf16 := View.ld x7 (Rect.unit (s := S1x2816x1024) ![0, 512 * k.val, 0] S1x512x1024.size (inb_wd2 k))

/-- A whole block as one piece. -/
def pcF (x : FVec F S512x1024 .f32) : View.Piece (Elt F) S512x1024 .f32 :=
  ⟨Rect.unit (s := S512x1024) ![0, 0] S512x1024.size inb_S512x1024_S512x1024_0_0, x⟩
def rdF (L : List (View.Piece (Elt F) S512x1024 .f32)) : Vec F S512x1024 .f32 :=
  fun j => View.canon L ((Rect.unit (s := S512x1024) ![0, 0] S512x1024.size inb_S512x1024_S512x1024_0_0).toLoadRect.idx j)

/-- The pieces of the gathering scratch after pair `n` of chunks. -/
def sumL : (n : ℕ) → n < 5 → List (View.Piece (Elt F) S512x1024 .f32)
  | 0, _ => [pcF (k0_pay68 (rdA H x4 x5 x6 0) (wd2 x7 0))]
  | n + 1, h => pcF (k0_pay127 (rdF (sumL n (by omega))) (rdA H x4 x5 x6 ⟨n + 1, h⟩) (wd2 x7 ⟨n + 1, h⟩)) :: sumL n (by omega)

end body

/-- The hidden rows' two pieces. -/
def hidL (i : grid0.Coords) (x0 : Vec F S512x1024 .f32) (x1 x2 : Vec F S8x1024 .f32) (x3 : Vec F S1x1x6x1024 .f32) : List (View.Piece (Elt F) S528x1024 .bf16) :=
  let sh := k0_pay4 (View.ld x3 (Rect.unit (s := S1x1x6x1024) ![0, 0, 3, 0] S1x1x1x1024.size inb_S1x1x6x1024_S1x1x1x1024_0_0_3_0))
  let sc := k0_pay5 (View.ld x3 (Rect.unit (s := S1x1x6x1024) ![0, 0, 4, 0] S1x1x1x1024.size inb_S1x1x6x1024_S1x1x1x1024_0_0_4_0))
  [⟨Rect.unit (s := S528x1024) ![512, 0] S16x1024.size inb_S528x1024_S16x1024_512_0,
      k0_pay8 (k0_pay2 i) (k0_pay3 i) sh sc (View.ld x1 (Rect.unit (s := S8x1024) ![0, 0] S8x1024.size inb_S8x1024_S8x1024_0_0))
        (View.ld x2 (Rect.unit (s := S8x1024) ![0, 0] S8x1024.size inb_S8x1024_S8x1024_0_0))⟩,
   ⟨Rect.unit (s := S528x1024) ![0, 0] S512x1024.size inb_S528x1024_S512x1024_0_0,
      k0_pay7 sh sc (k0_pay6 (View.ld x0 (Rect.unit (s := S512x1024) ![0, 0] S512x1024.size inb_S512x1024_S512x1024_0_0)))⟩]

/-- The hidden rows, read whole. -/
def hid (i : grid0.Coords) (x0 : Vec F S512x1024 .f32) (x1 x2 : Vec F S8x1024 .f32) (x3 : Vec F S1x1x6x1024 .f32) : Vec F S528x1024 .bf16 :=
  fun j => View.canon (hidL i x0 x1 x2 x3) ((Rect.unit (s := S528x1024) ![0, 0] S528x1024.size inb_S528x1024_S528x1024_0_0).toLoadRect.idx j)

/-- The last chunk, read back. -/
def rdLast (H : Vec F S528x1024 .bf16) (x4 : Vec F S1x1024x5632 .bf16) (x5 : Vec F S1x3x5632 .f32) (x6 : Vec F S1x1x5632 .f32) : Vec F S512x256 .bf16 :=
  fun j => View.canon (actL H x4 x5 x6 11 (by decide)) ((Rect.unit (s := S512x2816) ![0, 2560] S512x256.size inb_S512x2816_S512x256_0_2560).toLoadRect.idx j)

/-- What the body computes. -/
def ffnOut (i : grid0.Coords) (x0 : Vec F S512x1024 .f32) (x1 x2 : Vec F S8x1024 .f32) (x3 : Vec F S1x1x6x1024 .f32) (x4 : Vec F S1x1024x5632 .bf16)
    (x5 : Vec F S1x3x5632 .f32) (x6 : Vec F S1x1x5632 .f32) (x7 : Vec F S1x2816x1024 .bf16) (x8 x9 : Vec F S1x1x1024 .f32) : FVec F S512x1024 .f32 :=
  k0_pay1 (k0_pay326 (k0_pay324 (View.ld x0 (Rect.unit (s := S512x1024) ![0, 0] S512x1024.size inb_S512x1024_S512x1024_0_0)))
    (k0_pay325 (rdF (sumL (hid i x0 x1 x2 x3) x4 x5 x6 x7 4 (by decide))) (rdLast (hid i x0 x1 x2 x3) x4 x5 x6)
      (View.ld x7 (Rect.unit (s := S1x2816x1024) ![0, 2560, 0] S1x256x1024.size inb_S1x2816x1024_S1x256x1024_0_2560_0))
      (View.ld x3 (Rect.unit (s := S1x1x6x1024) ![0, 0, 5, 0] S1x1x1x1024.size inb_S1x1x6x1024_S1x1x1x1024_0_0_5_0))))
    (View.ld x8 (Rect.unit (s := S1x1x1024) ![0, 0, 0] S1x1x1024.size inb_S1x1x1024_S1x1x1024_0_0_0))
    (View.ld x9 (Rect.unit (s := S1x1x1024) ![0, 0, 0] S1x1x1024.size inb_S1x1x1024_S1x1x1024_0_0_0))

variable (m : (ℓ : Loc nD τ sig) → Buf (Elt F) ℓ)

set_option maxHeartbeats 8000000 in
/-- What the body leaves in its output block. -/
theorem outsAt0_eq (c : Dev nD) (t : Fin cfg0.N) : outsAt0 m c t = View.canon
    [pcF (ffnOut (grid0.coords t) (iblk m c 0 t) (iblk m c 1 t) (iblk m c 2 t) (iblk m c 3 t) (iblk m c 4 t) (iblk m c 5 t) (iblk m c 6 t)
      (iblk m c 7 t) (iblk m c 8 t) (iblk m c 9 t))] := by
  unfold outsAt0 out0_A_10; rw [View.read_writes_junk_eq_canon]; unfold kernelRun0_A; dsimp only
  sl_unfold_words
  simp only [View.readAt_eq_ld, View.readCov_eq_canon', (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread, (hs0_9 t).read_unread]
  sl_kernel_rfl

end Cert.Kernel3Ideal.Gen
-- ==== Proof.FfnConv.lean ====
module

public import proofs.«01_k».proof.Proof.FfnBody
public import proofs.«01_k».proof.Proof.Spec
public import Idealize.ShloMosaic.Lib.Pipeline.ValueKit

/-! # The feed-forward body's stored values, an element at a time -/

@[expose] public section

set_option maxRecDepth 16384

noncomputable section

namespace Cert.FfnValue

open Idealize.ShloMosaic Idealize.ShloMosaic.TcCoe Idealize.SL.Sem
open Cert.Kernel3Ideal Cert.Kernel3Ideal.Gen

theorem up_apply (H : S528x1024.Idx → EReal) (w : S1x1024x256.Idx → EReal) (r : Fin 528) (l : Fin 256) :
    k0_pay9 (F := Ideal) H w (ix2 r l) = ∑ k : Fin 1024, H (ix2 r k) * w (ix3 0 k l) := by
  pointwise [k0_pay9]

theorem after_apply (z : S528x128.Idx → EReal) (u : Fin 1) (r : Fin 8) (l : Fin 128) :
    k0_pay14 (F := Ideal) z (ix3 u r l) = z (ix2 ⟨520 + r.val, by omega⟩ l) := by
  pointwise [k0_pay14]

theorem own_apply (z : S528x128.Idx → EReal) (u : Fin 1) (r : Fin 512) (l : Fin 128) :
    k0_pay13 (F := Ideal) (extractStridedSlice S512x128 ![0, 0] z slices_S528x128_o0_0_S512x128) (ix3 u r l) = z (ix2 ⟨r.val, by omega⟩ l) := by
  pointwise [k0_pay13]

theorem before_apply (z : S528x128.Idx → EReal) (u : Fin 1) (r : Fin 8) (l : Fin 128) :
    shapeCast S1x8x128 (extractStridedSlice S8x128 ![512, 0] z slices_S528x128_o512_0_S8x128) shapeCasts_S8x128_S1x8x128 (ix3 u r l)
      = z (ix2 ⟨512 + r.val, by omega⟩ l) := by
  pointwise []

theorem taps_apply (z : S528x128.Idx → EReal) (p q : S1x512x128.Idx → EReal) (w0 w1 w2 b : S1x1x128.Idx → EReal) (i : Fin 512) (l : Fin 128) :
    k0_pay15 (F := Ideal) z p q w0 w1 w2 b (ix2 i l) = w0 (ix3 0 0 l) * p (ix3 0 i l) + w1 (ix3 0 0 l) * z (ix2 ⟨i.val, by omega⟩ l)
      + w2 (ix3 0 0 l) * q (ix3 0 i l) + b (ix3 0 0 l) := by
  pointwise [k0_pay15]

theorem zt0_apply (z : S528x256.Idx → EReal) (r : Fin 528) (l : Fin 128) :
    zt0 (F := Ideal) z (ix2 r l) = z (ix2 r ⟨l.val, by omega⟩) := by
  pointwise [zt0]

theorem zt1_apply (z : S528x256.Idx → EReal) (r : Fin 528) (l : Fin 128) :
    zt1 (F := Ideal) z (ix2 r l) = z (ix2 r ⟨128 + l.val, by omega⟩) := by
  pointwise [zt1, k0_pay16]

theorem actOf_apply (g a : S512x256.Idx → EReal) (i : Fin 512) (l : Fin 256) :
    actOf (F := Ideal) g a (ix2 i l) = g (ix2 i l) * Ideal.logistic (g (ix2 i l)) * a (ix2 i l) := by
  pointwise [actOf]

theorem down0_apply (a : S512x512.Idx → EReal) (w : S1x512x1024.Idx → EReal) (i : Fin 512) (n : Fin 1024) :
    k0_pay68 (F := Ideal) a w (ix2 i n) = ∑ j : Fin 512, a (ix2 i j) * w (ix3 0 j n) := by
  pointwise [k0_pay68]

theorem down_apply (f : S512x1024.Idx → EReal) (a : S512x512.Idx → EReal) (w : S1x512x1024.Idx → EReal) (i : Fin 512) (n : Fin 1024) :
    k0_pay127 (F := Ideal) f a w (ix2 i n) = f (ix2 i n) + ∑ j : Fin 512, a (ix2 i j) * w (ix3 0 j n) := by
  pointwise [k0_pay127]

theorem mixed_apply (x f : S512x1024.Idx → EReal) (a : S512x256.Idx → EReal) (w : S1x256x1024.Idx → EReal) (g : S1x1x1x1024.Idx → EReal)
    (i : Fin 512) (n : Fin 1024) :
    k0_pay326 (F := Ideal) (k0_pay324 x) (k0_pay325 f a w g) (ix2 i n)
      = Ideal.ofBits .f32 0x3FB504F3#32 * x (ix2 i n) + g (ix4 0 0 0 n) * (f (ix2 i n) + ∑ j : Fin 256, a (ix2 i j) * w (ix3 0 j n)) := by
  pointwise [k0_pay326, k0_pay324, k0_pay325]

theorem norm_apply (r : S512x1024.Idx → EReal) (g o : S1x1x1024.Idx → EReal) (i : Fin 512) (n : Fin 1024) :
    k0_pay1 (F := Ideal) r g o (ix2 i n) = Spec.norm (fun k => r (ix2 i k)) (fun k => g (ix3 0 0 k)) (fun k => o (ix3 0 0 k)) n := by
  pointwise [k0_pay1]
  rfl

theorem hid0_apply (x : S512x1024.Idx → EReal) (sh sc : S1x1x1x1024.Idx → EReal) (i : Fin 512) (n : Fin 1024) :
    k0_pay7 (F := Ideal) (k0_pay4 sh) (k0_pay5 sc) (k0_pay6 x) (ix2 i n)
      = x (ix2 i n) * (Ideal.ofBits .f32 0x3F800000#32 + sc (ix4 0 0 0 n)) + sh (ix4 0 0 0 n) := by
  pointwise [k0_pay7, k0_pay4, k0_pay5, k0_pay6]

theorem hidB_apply (p q : EReal) (x y : S8x1024.Idx → EReal) (sh sc : S1x1x1x1024.Idx → EReal) (i : Fin 8) (n : Fin 1024) :
    k0_pay8 (F := Ideal) p q (k0_pay4 sh) (k0_pay5 sc) x y (ix2 ⟨i.val, by omega⟩ n)
      = (x (ix2 i n) * (Ideal.ofBits .f32 0x3F800000#32 + sc (ix4 0 0 0 n)) + sh (ix4 0 0 0 n)) * p := by
  pointwise [k0_pay8, k0_pay4, k0_pay5]

theorem hidA_apply (p q : EReal) (x y : S8x1024.Idx → EReal) (sh sc : S1x1x1x1024.Idx → EReal) (i : Fin 8) (n : Fin 1024) :
    k0_pay8 (F := Ideal) p q (k0_pay4 sh) (k0_pay5 sc) x y (ix2 ⟨8 + i.val, by omega⟩ n)
      = (y (ix2 i n) * (Ideal.ofBits .f32 0x3F800000#32 + sc (ix4 0 0 0 n)) + sh (ix4 0 0 0 n)) * q := by
  pointwise [k0_pay8, k0_pay4, k0_pay5]

end Cert.FfnValue
-- ==== Proof.FfnScratch.lean ====
module

public import proofs.«01_k».proof.Proof.FfnConv

/-! # The feed-forward body's scratches, read back

A scratch is read where its newest pieces lie, whatever older ones lie below. -/

@[expose] public section

set_option maxRecDepth 16384

noncomputable section

namespace Cert.FfnValue

open Idealize.ShloMosaic Idealize.ShloMosaic.TcCoe Idealize.SL.Sem
open Cert.Kernel3Ideal Cert.Kernel3Ideal.Gen

/-- Inside the newest piece of a convolution's scratch. -/
theorem pcZ_in (t : Fin 2) (o n : ℕ) (h : o + n ≤ 528) (w : (⟨3, ![1, n, 128]⟩ : Shape).Idx → EReal) (L : List (PcZ Ideal))
    (i : Fin n) (r : Fin 528) (l : Fin 128) (hr : r.val = o + i.val) :
    View.canon (pcZ (F := Ideal) t o n h w :: L) (ix3 t r l) = w (ix3 0 i l) := by
  have e : ∀ a, ((Rect.unit (s := S2x528x128) ![t.val, o, 0] ![1, n, 128] (inb_z t o n h)).emb (ix3 0 i l) a).val
      = (![t.val, o, 0] : Fin 3 → ℕ) a + ((ix3 0 i l : (⟨3, ![1, n, 128]⟩ : Shape).Idx) a).val :=
    Rect.idx_unit_val (s := S2x528x128) _ _ (inb_z t o n h) (ix3 0 i l)
  rw [show (ix3 t r l : S2x528x128.Idx) = (Rect.unit (s := S2x528x128) ![t.val, o, 0] ![1, n, 128] (inb_z t o n h)).emb (ix3 0 i l) from
    funext fun a => match a with
      | ⟨0, _⟩ => Fin.ext (e 0).symm
      | ⟨1, _⟩ => Fin.ext (hr.trans (e 1).symm)
      | ⟨2, _⟩ => Fin.ext ((Nat.zero_add _).symm.trans (e 2).symm)]
  exact View.canon_cons_emb (Val := Elt Ideal) (Rect.unit (s := S2x528x128) ![t.val, o, 0] ![1, n, 128] (inb_z t o n h)) w L _

/-- Off its rows. -/
theorem pcZ_out (t : Fin 2) (o n : ℕ) (h : o + n ≤ 528) (w : (⟨3, ![1, n, 128]⟩ : Shape).Idx → EReal) (L : List (PcZ Ideal))
    (u : Fin 2) (r : Fin 528) (l : Fin 128) (hr : r.val < o ∨ o + n ≤ r.val) :
    View.canon (pcZ (F := Ideal) t o n h w :: L) (ix3 u r l) = View.canon L (ix3 u r l) := by
  refine View.canon_cons_of_not_mem _ _ fun hm => ?_
  obtain ⟨j, hj, e⟩ := (LoadRect.mem_set _).1 hm 1
  have hj : j < n := hj
  have e : r.val = o + 1 * j := e
  omega

/-- The tokens' rows of a scratch: eight before the block, the block's 512, eight after it. -/
def rowZ (r : Fin 528) : Fin 528 := if r.val < 8 then ⟨(512 + r.val) % 528, by omega⟩ else if r.val < 520 then ⟨r.val - 8, by omega⟩ else r

theorem threeZ_apply (t : Fin 2) (z : S528x128.Idx → EReal) (L : List (PcZ Ideal)) (r : Fin 528) (l : Fin 128) :
    View.canon (threeZ (F := Ideal) t z L) (ix3 t r l) = z (ix2 (rowZ r) l) := by
  unfold threeZ rowZ
  by_cases h1 : r.val < 8
  · rw [pcZ_out _ _ _ _ _ _ _ _ _ (by omega), pcZ_out _ _ _ _ _ _ _ _ _ (by omega), pcZ_in _ _ _ _ _ _ ⟨r.val, h1⟩ r l (Nat.zero_add _).symm,
      before_apply, if_pos h1]
    exact congrArg (fun s => z (ix2 s l)) (Fin.ext (by show 512 + r.val = (512 + r.val) % 528; omega))
  · by_cases h2 : r.val < 520
    · rw [pcZ_out _ _ _ _ _ _ _ _ _ (by omega), pcZ_in _ _ _ _ _ _ ⟨r.val - 8, by omega⟩ r l (by show r.val = 8 + (r.val - 8); omega),
        own_apply, if_neg h1, if_pos h2]
    · rw [pcZ_in _ _ _ _ _ _ ⟨r.val - 520, by omega⟩ r l (by show r.val = 520 + (r.val - 520); omega), after_apply, if_neg h1, if_neg h2]
      exact congrArg (fun s => z (ix2 s l)) (Fin.ext (by show 520 + (r.val - 520) = r.val; omega))

theorem rdZ_apply (t : Fin 2) (o : ℕ) (h : o + 512 ≤ 528) (z : S528x128.Idx → EReal) (L : List (PcZ Ideal)) (i : Fin 512) (l : Fin 128) :
    rdZ (F := Ideal) t o h (threeZ t z L) (ix3 0 i l) = z (ix2 (rowZ ⟨o + i.val, by omega⟩) l) := by
  have e : ∀ a, ((Rect.unit (s := S2x528x128) ![t.val, o, 0] ![1, 512, 128] (inb_z t o 512 h)).toLoadRect.idx (ix3 0 i l) a).val
      = (![t.val, o, 0] : Fin 3 → ℕ) a + ((ix3 0 i l : (⟨3, ![1, 512, 128]⟩ : Shape).Idx) a).val :=
    Rect.idx_unit_val (s := S2x528x128) _ _ (inb_z t o 512 h) (ix3 0 i l)
  refine Eq.trans ?_ (threeZ_apply t z L ⟨o + i.val, by omega⟩ l)
  exact congrArg (View.canon _) (funext fun a => match a with
      | ⟨0, _⟩ => Fin.ext (e 0)
      | ⟨1, _⟩ => Fin.ext (e 1)
      | ⟨2, _⟩ => Fin.ext ((e 2).trans (Nat.zero_add _)))

/-- A tile of three axes, read. -/
theorem ld3at {α : EltTy → Type} {e : EltTy} {a b a' b' : ℕ} (X : (⟨3, ![1, a, b]⟩ : Shape).Idx → α e) (o o' : ℕ)
    (h : ∀ x : Fin 3, (![0, o, o'] : Fin 3 → ℕ) x + (![1, a', b'] : Fin 3 → ℕ) x ≤ (![1, a, b] : Fin 3 → ℕ) x) (i : Fin a') (l : Fin b')
    (r : Fin a) (c : Fin b) (hr : r.val = o + i.val) (hc : c.val = o' + l.val) :
    View.ld X (Rect.unit (s := ⟨3, ![1, a, b]⟩) ![0, o, o'] ![1, a', b'] h) (ix3 0 i l) = X (ix3 0 r c) :=
  View.ld_unit_apply_of X _ _ h (ix3 0 i l) _ fun x => by
    match x with
    | ⟨0, _⟩ => rfl
    | ⟨1, _⟩ => exact hr
    | ⟨2, _⟩ => exact hc

/-- A row of hidden values times a lane of the up-projection. -/
def zrow (H : S528x1024.Idx → EReal) (x4 : S1x1024x5632.Idx → EReal) (r : Fin 528) (l : Fin 5632) : EReal :=
  ∑ k : Fin 1024, H (ix2 r k) * x4 (ix3 0 k l)

/-- A lane of the convolution at a row. -/
def conv (H : S528x1024.Idx → EReal) (x4 : S1x1024x5632.Idx → EReal) (x5 : S1x3x5632.Idx → EReal) (x6 : S1x1x5632.Idx → EReal)
    (i : Fin 512) (l : Fin 5632) : EReal :=
  x5 (ix3 0 0 l) * zrow H x4 (rowZ ⟨7 + i.val, by omega⟩) l + x5 (ix3 0 1 l) * zrow H x4 ⟨i.val, by omega⟩ l
    + x5 (ix3 0 2 l) * zrow H x4 (rowZ ⟨9 + i.val, by omega⟩) l + x6 (ix3 0 0 l)

variable (H : S528x1024.Idx → EReal) (x4 : S1x1024x5632.Idx → EReal) (x5 : S1x3x5632.Idx → EReal) (x6 : S1x1x5632.Idx → EReal)

theorem zOf_apply (k : Fin 22) (r : Fin 528) (l : Fin 256) :
    zOf (F := Ideal) H x4 k (ix2 r l) = zrow H x4 r ⟨256 * k.val + l.val, by omega⟩ := by
  unfold zOf zrow
  rw [up_apply]
  exact Finset.sum_congr rfl fun d _ => congrArg (H (ix2 r d) * ·)
    (ld3at (α := Elt Ideal) (e := .bf16) x4 0 (256 * k.val) (inb_wu k) d l d _ (Nat.zero_add _).symm rfl)

theorem convOf_apply (k : Fin 44) (t : Fin 2) (z : S528x128.Idx → EReal) (L : List (PcZ Ideal)) (i : Fin 512) (l : Fin 128)
    (hz : ∀ r : Fin 528, z (ix2 r l) = zrow H x4 r ⟨128 * k.val + l.val, by omega⟩) :
    convOf (F := Ideal) x5 x6 k t z (threeZ t z L) (ix2 i l) = conv H x4 x5 x6 i ⟨128 * k.val + l.val, by omega⟩ := by
  unfold convOf conv
  rw [taps_apply, rdZ_apply, rdZ_apply, hz, hz, hz]
  have w : ∀ j : Fin 3, View.ld (Val := Elt Ideal) (e' := .f32) x5 (Rect.unit (s := S1x3x5632) ![0, j.val, 128 * k.val] S1x1x128.size (inb_cw j k)) (ix3 0 0 l)
      = x5 (ix3 0 j ⟨128 * k.val + l.val, by omega⟩) := fun j =>
    ld3at (α := Elt Ideal) (e := .f32) x5 j.val (128 * k.val) (inb_cw j k) (0 : Fin 1) l j _ rfl rfl
  have b : View.ld (Val := Elt Ideal) (e' := .f32) x6 (Rect.unit (s := S1x1x5632) ![0, 0, 128 * k.val] S1x1x128.size (inb_cb k)) (ix3 0 0 l)
      = x6 (ix3 0 0 ⟨128 * k.val + l.val, by omega⟩) :=
    ld3at (α := Elt Ideal) (e := .f32) x6 0 (128 * k.val) (inb_cb k) (0 : Fin 1) l 0 _ rfl rfl
  exact congrArg₂ (· + ·) (congrArg₂ (· + ·) (congrArg₂ (· + ·) (congrArg (· * _) (w 0)) (congrArg (· * _) (w 1))) (congrArg (· * _) (w 2))) b

/-- The convolution of two lane tiles, at a lane of either. -/
theorem cat_apply (p q : S512x128.Idx → EReal) (i : Fin 512) (l : Fin 256) :
    concatenate (α := EReal) S512x256 1 [⟨S512x128, p⟩, ⟨S512x128, q⟩] concatenates_S512x128_S512x128_S512x256_d1 (ix2 i l)
      = if h : l.val < 128 then p (ix2 i ⟨l.val, h⟩) else q (ix2 i ⟨l.val - 128, by omega⟩) := by
  pointwise []

theorem conv2_apply (k : Fin 22) (L : List (PcZ Ideal)) (i : Fin 512) (l : Fin 256) :
    conv2 (F := Ideal) x5 x6 k (zOf H x4 k) L (ix2 i l) = conv H x4 x5 x6 i ⟨256 * k.val + l.val, by omega⟩ := by
  unfold conv2 nextZ
  rw [cat_apply]
  split
  · next h =>
    refine (convOf_apply H x4 x5 x6 _ _ _ _ i _ fun r => ?_).trans (congrArg (conv H x4 x5 x6 i) (Fin.ext ?_))
    · rw [zt0_apply, zOf_apply]
      exact congrArg (zrow H x4 r) (Fin.ext (by show 256 * k.val + l.val = 128 * (2 * k.val) + l.val; omega))
    · show 128 * (2 * k.val) + l.val = 256 * k.val + l.val; omega
  · next h =>
    refine (convOf_apply H x4 x5 x6 _ _ _ _ i _ fun r => ?_).trans (congrArg (conv H x4 x5 x6 i) (Fin.ext ?_))
    · rw [zt1_apply, zOf_apply]
      exact congrArg (zrow H x4 r) (Fin.ext (by show 256 * k.val + (128 + (l.val - 128)) = 128 * (2 * k.val + 1) + (l.val - 128); omega))
    · show 128 * (2 * k.val + 1) + (l.val - 128) = 256 * k.val + l.val; omega

/-- A gated lane at a row. -/
def act (i : Fin 512) (j : Fin 2816) : EReal :=
  conv H x4 x5 x6 i ⟨2816 + j.val, by omega⟩ * Ideal.logistic (conv H x4 x5 x6 i ⟨2816 + j.val, by omega⟩) * conv H x4 x5 x6 i ⟨j.val, by omega⟩

theorem chunk_apply (c : Fin 11) (i : Fin 512) (l : Fin 256) :
    chunk (F := Ideal) H x4 x5 x6 c (ix2 i l) = act H x4 x5 x6 i ⟨256 * c.val + l.val, by omega⟩ := by
  unfold chunk act
  rw [actOf_apply, conv2_apply, conv2_apply]
  have e : (⟨256 * (11 + c.val) + l.val, by omega⟩ : Fin 5632) = ⟨2816 + (256 * c.val + l.val), by omega⟩ := Fin.ext (by
    show 256 * (11 + c.val) + l.val = 2816 + (256 * c.val + l.val); omega)
  have e' : (⟨256 * (0 + c.val) + l.val, by omega⟩ : Fin 5632) = ⟨256 * c.val + l.val, by omega⟩ := Fin.ext (by
    show 256 * (0 + c.val) + l.val = 256 * c.val + l.val; omega)
  exact congrArg₂ (· * ·) (congrArg (fun s => conv H x4 x5 x6 i s * Ideal.logistic (conv H x4 x5 x6 i s)) e) (congrArg (conv H x4 x5 x6 i) e')

/-- The gated lanes' scratch after `n` chunks, at a lane of one of them. -/
theorem actL_apply : ∀ (n : ℕ) (h : n ≤ 11) (i : Fin 512) (j : Fin 2816) (_ : j.val < 256 * n),
    View.canon (actL (F := Ideal) H x4 x5 x6 n h) (ix2 i j) = act H x4 x5 x6 i j
  | 0, _, _, _, hj => absurd hj (by omega)
  | n + 1, h, i, j, hj => by
    have e : ∀ x a, ((Rect.unit (s := S512x2816) ![0, 256 * n] S512x256.size (inb_act ⟨n, h⟩)).emb x a).val
        = (![0, 256 * n] : Fin 2 → ℕ) a + (x a).val := Rect.idx_unit_val (s := S512x2816) _ _ (inb_act ⟨n, h⟩)
    show View.canon (_ :: actL (F := Ideal) H x4 x5 x6 n _) (ix2 i j) = _
    by_cases hn : j.val < 256 * n
    · refine (View.canon_cons_of_not_mem _ _ fun hm => ?_).trans (actL_apply n (by omega) i j hn)
      obtain ⟨k, _, e1⟩ := (LoadRect.mem_set _).1 hm 1
      have e1 : j.val = 256 * n + 1 * k := e1
      omega
    · rw [show (ix2 i j : S512x2816.Idx) = (Rect.unit (s := S512x2816) ![0, 256 * n] S512x256.size (inb_act ⟨n, h⟩)).emb
          (ix2 i (⟨j.val - 256 * n, by omega⟩ : Fin 256)) from funext fun a => match a with
        | ⟨0, _⟩ => Fin.ext ((Nat.zero_add _).symm.trans (e (ix2 i (⟨j.val - 256 * n, by omega⟩ : Fin 256)) 0).symm)
        | ⟨1, _⟩ => Fin.ext ((show j.val = 256 * n + (j.val - 256 * n) by omega).trans (e (ix2 i (⟨j.val - 256 * n, by omega⟩ : Fin 256)) 1).symm)]
      refine (View.canon_cons_emb (Val := Elt Ideal) _ _ _ _).trans ((chunk_apply H x4 x5 x6 ⟨n, h⟩ i _).trans ?_)
      exact congrArg (act H x4 x5 x6 i) (Fin.ext (by show 256 * n + (j.val - 256 * n) = j.val; omega))

theorem rdA_apply (k : Fin 5) (i : Fin 512) (l : Fin 512) :
    rdA (F := Ideal) H x4 x5 x6 k (ix2 i l) = act H x4 x5 x6 i ⟨512 * k.val + l.val, by omega⟩ := by
  have e : ∀ a, ((Rect.unit (s := S512x2816) ![0, 512 * k.val] S512x512.size (inb_act2 k)).toLoadRect.idx (ix2 i l) a).val
      = (![0, 512 * k.val] : Fin 2 → ℕ) a + ((ix2 i l : S512x512.Idx) a).val := Rect.idx_unit_val (s := S512x2816) _ _ (inb_act2 k) (ix2 i l)
  refine Eq.trans ?_ (actL_apply H x4 x5 x6 (2 * k.val + 2) (by omega) i ⟨512 * k.val + l.val, by omega⟩ (by
    show 512 * k.val + l.val < _; omega))
  exact congrArg (View.canon _) (funext fun a => match a with
      | ⟨0, _⟩ => Fin.ext ((e 0).trans (Nat.zero_add _))
      | ⟨1, _⟩ => Fin.ext (e 1))

theorem rdLast_apply (i : Fin 512) (l : Fin 256) : rdLast (F := Ideal) H x4 x5 x6 (ix2 i l) = act H x4 x5 x6 i ⟨2560 + l.val, by omega⟩ := by
  have e : ∀ a, ((Rect.unit (s := S512x2816) ![0, 2560] S512x256.size inb_S512x2816_S512x256_0_2560).toLoadRect.idx (ix2 i l) a).val
      = (![0, 2560] : Fin 2 → ℕ) a + ((ix2 i l : S512x256.Idx) a).val :=
    Rect.idx_unit_val (s := S512x2816) _ _ inb_S512x2816_S512x256_0_2560 (ix2 i l)
  refine Eq.trans ?_ (actL_apply H x4 x5 x6 11 (by decide) i ⟨2560 + l.val, by omega⟩ (by show 2560 + l.val < _; omega))
  exact congrArg (View.canon _) (funext fun a => match a with
      | ⟨0, _⟩ => Fin.ext ((e 0).trans (Nat.zero_add _))
      | ⟨1, _⟩ => Fin.ext (e 1))

/-- A whole block stored and read back. -/
theorem rdF_cons (x : S512x1024.Idx → EReal) (L : List (View.Piece (Elt Ideal) S512x1024 .f32)) : rdF (F := Ideal) (pcF x :: L) = x :=
  funext fun j => by
    unfold rdF pcF
    exact View.canon_cons_emb (Val := Elt Ideal) (Rect.unit (s := S512x1024) ![0, 0] S512x1024.size inb_S512x1024_S512x1024_0_0) x L j

variable (x7 : S1x2816x1024.Idx → EReal)

theorem wd2_apply (k : Fin 5) (l : Fin 512) (n : Fin 1024) :
    wd2 (F := Ideal) x7 k (ix3 0 l n) = x7 (ix3 0 ⟨512 * k.val + l.val, by omega⟩ n) :=
  ld3at (α := Elt Ideal) (e := .bf16) x7 (512 * k.val) 0 (inb_wd2 k) l n _ _ rfl (Nat.zero_add _).symm

/-- The first `512 (n + 1)` gated lanes times the down-projection. -/
theorem sumL_apply : ∀ (n : ℕ) (h : n < 5) (i : Fin 512) (d : Fin 1024), rdF (F := Ideal) (sumL H x4 x5 x6 x7 n h) (ix2 i d)
    = ∑ j ∈ Finset.range (512 * (n + 1)), if hj : j < 2816 then act H x4 x5 x6 i ⟨j, hj⟩ * x7 (ix3 0 ⟨j, hj⟩ d) else 0
  | 0, h, i, d => by
    rw [sumL, rdF_cons, down0_apply, Finset.sum_range]
    refine Finset.sum_congr rfl fun l _ => ?_
    rw [dif_pos (show l.val < 2816 by omega), rdA_apply, wd2_apply]
    have e : (⟨512 * (0 : Fin 5).val + l.val, by have := l.isLt; show 512 * 0 + l.val < 2816; omega⟩ : Fin 2816) = ⟨l.val, by omega⟩ :=
      Fin.ext (show 512 * 0 + l.val = l.val by omega)
    exact congrArg (fun s => act H x4 x5 x6 i s * x7 (ix3 0 s d)) e
  | n + 1, h, i, d => by
    rw [sumL, rdF_cons, down_apply, sumL_apply n (by omega) i d, show 512 * (n + 1 + 1) = 512 * (n + 1) + 512 by omega,
      Finset.sum_range_add _ (512 * (n + 1)) 512]
    refine congrArg (_ + ·) (Eq.trans ?_ (Finset.sum_range _).symm)
    refine Finset.sum_congr rfl fun l _ => ?_
    rw [dif_pos (show 512 * (n + 1) + l.val < 2816 by omega), rdA_apply, wd2_apply]

/-- All 2816 gated lanes: five pairs of chunks and the last chunk. -/
theorem sum2816 (f : Fin 2816 → EReal) :
    (∑ j ∈ Finset.range (512 * (4 + 1)), if hj : j < 2816 then f ⟨j, hj⟩ else 0) + ∑ l : Fin 256, f ⟨2560 + l.val, by omega⟩ = ∑ j, f j := by
  have h : ∑ j, f j = ∑ j : Fin 2816, (fun j : ℕ => if hj : j < 2816 then f ⟨j, hj⟩ else 0) j.val :=
    Finset.sum_congr rfl fun j _ => (dif_pos (c := j.val < 2816) (t := fun hj => f ⟨j.val, hj⟩) (e := fun _ => 0) j.isLt).symm
  rw [h, ← Finset.sum_range (fun j : ℕ => if hj : j < 2816 then f ⟨j, hj⟩ else 0)]
  refine Eq.trans ?_ (Finset.sum_range_add (fun j : ℕ => if hj : j < 2816 then f ⟨j, hj⟩ else 0) 2560 256).symm
  refine congrArg (_ + ·) (Eq.trans ?_ (Finset.sum_range _).symm)
  exact Finset.sum_congr rfl fun l _ =>
    (dif_pos (c := 2560 + l.val < 2816) (t := fun hj => f ⟨2560 + l.val, hj⟩) (e := fun _ => 0) (by omega)).symm

end Cert.FfnValue
-- ==== Proof.FfnBlock.lean ====
module

public import proofs.«01_k».proof.Proof.FfnScratch

/-! # The feed-forward body, an element at a time -/

@[expose] public section

set_option maxRecDepth 16384

noncomputable section

namespace Cert.FfnValue

open Idealize.ShloMosaic Idealize.ShloMosaic.TcCoe Idealize.SL.Sem
open Cert.Kernel3Ideal Cert.Kernel3Ideal.Gen

/-- Inside the newest piece of a scratch stored by rows. -/
theorem rows_in {a b : ℕ} {e : EltTy} (o n : ℕ) (h : ∀ x : Fin 2, (![o, 0] : Fin 2 → ℕ) x + (![n, b] : Fin 2 → ℕ) x ≤ (![a, b] : Fin 2 → ℕ) x)
    (w : (⟨2, ![n, b]⟩ : Shape).Idx → Elt Ideal e) (L : List (View.Piece (Elt Ideal) ⟨2, ![a, b]⟩ e))
    (i : Fin n) (r : Fin a) (k : Fin b) (hr : r.val = o + i.val) :
    View.canon (⟨Rect.unit (s := ⟨2, ![a, b]⟩) ![o, 0] ![n, b] h, w⟩ :: L) (ix2 r k) = w (ix2 i k) := by
  have e : ∀ x, ((Rect.unit (s := ⟨2, ![a, b]⟩) ![o, 0] ![n, b] h).emb (ix2 i k) x).val
      = (![o, 0] : Fin 2 → ℕ) x + ((ix2 i k : (⟨2, ![n, b]⟩ : Shape).Idx) x).val := Rect.idx_unit_val (s := ⟨2, ![a, b]⟩) _ _ h (ix2 i k)
  rw [show (ix2 r k : (⟨2, ![a, b]⟩ : Shape).Idx) = (Rect.unit (s := ⟨2, ![a, b]⟩) ![o, 0] ![n, b] h).emb (ix2 i k) from
    funext fun x => match x with
      | ⟨0, _⟩ => Fin.ext (hr.trans (e 0).symm)
      | ⟨1, _⟩ => Fin.ext ((Nat.zero_add _).symm.trans (e 1).symm)]
  exact View.canon_cons_emb (Val := Elt Ideal) (Rect.unit (s := ⟨2, ![a, b]⟩) ![o, 0] ![n, b] h) w L _

/-- Off its rows. -/
theorem rows_out {a b : ℕ} {e : EltTy} (o n : ℕ) (h : ∀ x : Fin 2, (![o, 0] : Fin 2 → ℕ) x + (![n, b] : Fin 2 → ℕ) x ≤ (![a, b] : Fin 2 → ℕ) x)
    (w : (⟨2, ![n, b]⟩ : Shape).Idx → Elt Ideal e) (L : List (View.Piece (Elt Ideal) ⟨2, ![a, b]⟩ e))
    (r : Fin a) (k : Fin b) (hr : r.val < o) :
    View.canon (⟨Rect.unit (s := ⟨2, ![a, b]⟩) ![o, 0] ![n, b] h, w⟩ :: L) (ix2 r k) = View.canon L (ix2 r k) := by
  refine View.canon_cons_of_not_mem _ _ fun hm => ?_
  obtain ⟨j, _, e⟩ := (LoadRect.mem_set _).1 hm 0
  have e : r.val = o + 1 * j := e
  omega

/-- A whole tile, read. -/
theorem ld2at {α : EltTy → Type} {e : EltTy} {a b : ℕ} (X : (⟨2, ![a, b]⟩ : Shape).Idx → α e)
    (h : ∀ x : Fin 2, (![0, 0] : Fin 2 → ℕ) x + (![a, b] : Fin 2 → ℕ) x ≤ (![a, b] : Fin 2 → ℕ) x) (i : Fin a) (l : Fin b) :
    View.ld X (Rect.unit (s := ⟨2, ![a, b]⟩) ![0, 0] ![a, b] h) (ix2 i l) = X (ix2 i l) :=
  View.ld_unit_apply_of X _ _ h (ix2 i l) _ fun x => by
    match x with
    | ⟨0, _⟩ => exact (Nat.zero_add _).symm
    | ⟨1, _⟩ => exact (Nat.zero_add _).symm

/-- A row of the modulation, read. -/
theorem ldmod {α : EltTy → Type} {e : EltTy} (X : S1x1x6x1024.Idx → α e) (o : ℕ)
    (h : ∀ x : Fin 4, (![0, 0, o, 0] : Fin 4 → ℕ) x + (![1, 1, 1, 1024] : Fin 4 → ℕ) x ≤ (![1, 1, 6, 1024] : Fin 4 → ℕ) x) (r : Fin 6) (hr : r.val = o)
    (l : Fin 1024) : View.ld X (Rect.unit (s := S1x1x6x1024) ![0, 0, o, 0] ![1, 1, 1, 1024] h) (ix4 0 0 0 l) = X (ix4 0 0 r l) :=
  View.ld_unit_apply_of X _ _ h (ix4 0 0 0 l) _ fun x => by
    match x with
    | ⟨0, _⟩ => rfl
    | ⟨1, _⟩ => rfl
    | ⟨2, _⟩ => exact hr
    | ⟨3, _⟩ => exact (Nat.zero_add _).symm

/-- A modulated element. -/
def hidV (x3 : S1x1x6x1024.Idx → EReal) (k : Fin 1024) (x : EReal) : EReal :=
  x * (Ideal.ofBits .f32 0x3F800000#32 + x3 (ix4 0 0 4 k)) + x3 (ix4 0 0 3 k)

variable (i : grid0.Coords) (x0 : S512x1024.Idx → EReal) (x1 x2 : S8x1024.Idx → EReal) (x3 : S1x1x6x1024.Idx → EReal)

theorem hid_eq (r : Fin 528) (k : Fin 1024) : hid (F := Ideal) i x0 x1 x2 x3 (ix2 r k) = View.canon (hidL (F := Ideal) i x0 x1 x2 x3) (ix2 r k) := by
  have e : ∀ x, ((Rect.unit (s := S528x1024) ![0, 0] S528x1024.size inb_S528x1024_S528x1024_0_0).toLoadRect.idx (ix2 r k) x).val
      = (![0, 0] : Fin 2 → ℕ) x + ((ix2 r k : S528x1024.Idx) x).val := Rect.idx_unit_val (s := S528x1024) _ _ inb_S528x1024_S528x1024_0_0 (ix2 r k)
  exact congrArg (View.canon _) (funext fun x => match x with
      | ⟨0, _⟩ => Fin.ext ((e 0).trans (Nat.zero_add _))
      | ⟨1, _⟩ => Fin.ext ((e 1).trans (Nat.zero_add _)))

theorem hid_own (r : Fin 528) (k : Fin 1024) (s : Fin 512) (h : r.val = s.val) :
    hid (F := Ideal) i x0 x1 x2 x3 (ix2 r k) = hidV x3 k (x0 (ix2 s k)) := by
  rw [hid_eq]
  unfold hidL
  refine (rows_out (e := .bf16) 512 16 inb_S528x1024_S16x1024_512_0 _ _ r k (by omega)).trans
    ((rows_in (e := .bf16) 0 512 inb_S528x1024_S512x1024_0_0 _ _ s r k (by omega)).trans ((hid0_apply _ _ _ s k).trans ?_))
  unfold hidV
  exact congrArg₂ (· + ·) (congrArg₂ (· * ·) (ld2at (α := Elt Ideal) (e := .f32) x0 inb_S512x1024_S512x1024_0_0 s k)
    (congrArg (_ + ·) (ldmod (α := Elt Ideal) (e := .f32) x3 4 inb_S1x1x6x1024_S1x1x1x1024_0_0_4_0 4 rfl k)))
    (ldmod (α := Elt Ideal) (e := .f32) x3 3 inb_S1x1x6x1024_S1x1x1x1024_0_0_3_0 3 rfl k)

theorem hid_before (r : Fin 528) (k : Fin 1024) (s : Fin 8) (h : r.val = 512 + s.val) :
    hid (F := Ideal) i x0 x1 x2 x3 (ix2 r k) = hidV x3 k (x1 (ix2 s k)) * k0_pay2 (F := Ideal) i := by
  rw [hid_eq]
  unfold hidL
  refine (rows_in (e := .bf16) 512 16 inb_S528x1024_S16x1024_512_0 _ _ ⟨s.val, by omega⟩ r k (by exact h)).trans ((hidB_apply _ _ _ _ _ _ s k).trans ?_)
  unfold hidV
  exact congrArg (· * _) (congrArg₂ (· + ·) (congrArg₂ (· * ·) (ld2at (α := Elt Ideal) (e := .f32) x1 inb_S8x1024_S8x1024_0_0 s k)
    (congrArg (_ + ·) (ldmod (α := Elt Ideal) (e := .f32) x3 4 inb_S1x1x6x1024_S1x1x1x1024_0_0_4_0 4 rfl k)))
    (ldmod (α := Elt Ideal) (e := .f32) x3 3 inb_S1x1x6x1024_S1x1x1x1024_0_0_3_0 3 rfl k))

theorem hid_after (r : Fin 528) (k : Fin 1024) (s : Fin 8) (h : r.val = 520 + s.val) :
    hid (F := Ideal) i x0 x1 x2 x3 (ix2 r k) = hidV x3 k (x2 (ix2 s k)) * k0_pay3 (F := Ideal) i := by
  rw [hid_eq]
  unfold hidL
  refine (rows_in (e := .bf16) 512 16 inb_S528x1024_S16x1024_512_0 _ _ ⟨8 + s.val, by omega⟩ r k (by show r.val = 512 + (8 + s.val); omega)).trans
    ((hidA_apply _ _ _ _ _ _ s k).trans ?_)
  unfold hidV
  exact congrArg (· * _) (congrArg₂ (· + ·) (congrArg₂ (· * ·) (ld2at (α := Elt Ideal) (e := .f32) x2 inb_S8x1024_S8x1024_0_0 s k)
    (congrArg (_ + ·) (ldmod (α := Elt Ideal) (e := .f32) x3 4 inb_S1x1x6x1024_S1x1x1x1024_0_0_4_0 4 rfl k)))
    (ldmod (α := Elt Ideal) (e := .f32) x3 3 inb_S1x1x6x1024_S1x1x1x1024_0_0_3_0 3 rfl k))

/-- Whether a block has a block before it in its image, as a number. -/
theorem prev_at (t : Fin grid0.N) : k0_pay2 (F := Ideal) (grid0.coords t) = if t.val % 8 = 0 then 0 else 1 := by
  obtain ⟨f, h, e⟩ : ∃ f : Fin grid0.N → BitVec 32, (∀ t, k0_pay2 (F := Ideal) (grid0.coords t) = (((f t).toInt : ℝ) : EReal))
      ∧ ∀ t, f t = if t.val % 8 = 0 then 0#32 else 1#32 := ⟨_, fun t => rfl, by decide +kernel⟩
  rw [h, e]
  split <;> simp

/-- Whether a block has a block after it. -/
theorem next_at (t : Fin grid0.N) : k0_pay3 (F := Ideal) (grid0.coords t) = if t.val % 8 = 7 then 0 else 1 := by
  obtain ⟨f, h, e⟩ : ∃ f : Fin grid0.N → BitVec 32, (∀ t, k0_pay3 (F := Ideal) (grid0.coords t) = (((f t).toInt : ℝ) : EReal))
      ∧ ∀ t, f t = if t.val % 8 = 7 then 0#32 else 1#32 := ⟨_, fun t => rfl, by decide +kernel⟩
  rw [h, e]
  split <;> simp

variable (x4 : S1x1024x5632.Idx → EReal) (x5 : S1x3x5632.Idx → EReal) (x6 : S1x1x5632.Idx → EReal) (x7 : S1x2816x1024.Idx → EReal) (x8 x9 : S1x1x1024.Idx → EReal)

/-- A row of the block's result. -/
def rowOut (H : S528x1024.Idx → EReal) (r : Fin 512) (n : Fin 1024) : EReal :=
  Spec.norm (fun d => Ideal.ofBits .f32 0x3FB504F3#32 * x0 (ix2 r d) + x3 (ix4 0 0 5 d) * ∑ j : Fin 2816, act H x4 x5 x6 r j * x7 (ix3 0 j d))
    (fun k => x8 (ix3 0 0 k)) (fun k => x9 (ix3 0 0 k)) n

theorem ffnOut_apply (r : Fin 512) (n : Fin 1024) : ffnOut (F := Ideal) i x0 x1 x2 x3 x4 x5 x6 x7 x8 x9 (ix2 r n)
    = rowOut x0 x3 x4 x5 x6 x7 x8 x9 (hid (F := Ideal) i x0 x1 x2 x3) r n := by
  unfold ffnOut rowOut
  generalize hid (F := Ideal) i x0 x1 x2 x3 = H
  refine (norm_apply _ _ _ r n).trans ?_
  have h8 := funext fun k => ld3at (α := Elt Ideal) (e := .f32) x8 0 0 inb_S1x1x1024_S1x1x1024_0_0_0 (0 : Fin 1) k 0 k rfl (Nat.zero_add _).symm
  have h9 := funext fun k => ld3at (α := Elt Ideal) (e := .f32) x9 0 0 inb_S1x1x1024_S1x1x1024_0_0_0 (0 : Fin 1) k 0 k rfl (Nat.zero_add _).symm
  have hr : ∀ d : Fin 1024, k0_pay326 (F := Ideal) (k0_pay324 (View.ld x0 (Rect.unit (s := S512x1024) ![0, 0] S512x1024.size inb_S512x1024_S512x1024_0_0)))
      (k0_pay325 (rdF (sumL H x4 x5 x6 x7 4 (by decide))) (rdLast H x4 x5 x6)
        (View.ld x7 (Rect.unit (s := S1x2816x1024) ![0, 2560, 0] S1x256x1024.size inb_S1x2816x1024_S1x256x1024_0_2560_0))
        (View.ld x3 (Rect.unit (s := S1x1x6x1024) ![0, 0, 5, 0] S1x1x1x1024.size inb_S1x1x6x1024_S1x1x1x1024_0_0_5_0))) (ix2 r d)
      = Ideal.ofBits .f32 0x3FB504F3#32 * x0 (ix2 r d) + x3 (ix4 0 0 5 d) * ∑ j : Fin 2816, act H x4 x5 x6 r j * x7 (ix3 0 j d) := fun d => by
    refine (mixed_apply _ _ _ _ _ r d).trans ?_
    refine congrArg₂ (· + ·) (congrArg (_ * ·) (ld2at (α := Elt Ideal) (e := .f32) x0 inb_S512x1024_S512x1024_0_0 r d))
      (congrArg₂ (· * ·) (ldmod (α := Elt Ideal) (e := .f32) x3 5 inb_S1x1x6x1024_S1x1x1x1024_0_0_5_0 5 rfl d) ?_)
    refine Eq.trans ?_ (sum2816 fun j => act H x4 x5 x6 r j * x7 (ix3 0 j d))
    refine congrArg₂ (· + ·) (sumL_apply H x4 x5 x6 x7 4 (by decide) r d) (Finset.sum_congr rfl fun l _ => ?_)
    exact congrArg₂ (· * ·) (rdLast_apply H x4 x5 x6 r l)
      (ld3at (α := Elt Ideal) (e := .bf16) x7 2560 0 inb_S1x2816x1024_S1x256x1024_0_2560_0 l d ⟨2560 + l.val, by omega⟩ d rfl (Nat.zero_add _).symm)
  rw [funext hr]
  exact (congrArg (fun g => Spec.norm _ g _ n) h8).trans (congrArg (fun o => Spec.norm _ _ o n) h9)

/-- What the body leaves in its output block, an element at a time. -/
theorem block_apply (m : (ℓ : Loc nD τ sig) → Buf (Elt Ideal) ℓ) (c : Dev nD) (t : Fin cfg0.N) (r : Fin 512) (n : Fin 1024) :
    (outsAt0 m c t : S512x1024.Idx → EReal) (ix2 r n) = rowOut (iblk m c 0 t) (iblk m c 3 t) (iblk m c 4 t) (iblk m c 5 t) (iblk m c 6 t) (iblk m c 7 t) (iblk m c 8 t) (iblk m c 9 t)
      (hid (F := Ideal) (grid0.coords t) (iblk m c 0 t) (iblk m c 1 t) (iblk m c 2 t) (iblk m c 3 t)) r n := by
  rw [outsAt0_eq]
  exact (rows_in (e := .f32) 0 512 inb_S512x1024_S512x1024_0_0 _ [] r r n (Nat.zero_add _).symm).trans (ffnOut_apply _ _ _ _ _ _ _ _ _ _ _ r n)

end Cert.FfnValue
-- ==== Proof.FfnWin.lean ====
module

public import proofs.«01_k».proof.Proof.FfnBody
public import proofs.«01_k».proof.Proof.HostValue
public import Idealize.ShloMosaic.Lib.Pipeline.ValueKit

/-! # The feed-forward's windows and the host's arrays under them, an element at a time -/

@[expose] public section

set_option maxRecDepth 65536

noncomputable section

namespace Cert.FfnValue

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

theorem index0_0 : ∀ t : Fin cfg0.N, win0_0.index t = ![t.val, 0] := (by decide +kernel : ∀ t : Fin grid0.N, _)
theorem index0_1 : ∀ t : Fin cfg0.N, win0_1.index t = ![64 * t.val - 1, 0] := (by decide +kernel : ∀ t : Fin grid0.N, _)
theorem index0_2 : ∀ t : Fin cfg0.N, win0_2.index t = ![min 2047 (64 * (t.val + 1)), 0] := (by decide +kernel : ∀ t : Fin grid0.N, _)
theorem index0_3 : ∀ t : Fin cfg0.N, win0_3.index t = ![0, t.val / 8, 0, 0] := (by decide +kernel : ∀ t : Fin grid0.N, _)
theorem index0_4 : ∀ t : Fin cfg0.N, win0_4.index t = ![0, 0, 0] := (by decide +kernel : ∀ t : Fin grid0.N, _)
theorem index0_5 : ∀ t : Fin cfg0.N, win0_5.index t = ![0, 0, 0] := (by decide +kernel : ∀ t : Fin grid0.N, _)
theorem index0_6 : ∀ t : Fin cfg0.N, win0_6.index t = ![0, 0, 0] := (by decide +kernel : ∀ t : Fin grid0.N, _)
theorem index0_7 : ∀ t : Fin cfg0.N, win0_7.index t = ![0, 0, 0] := (by decide +kernel : ∀ t : Fin grid0.N, _)
theorem index0_8 : ∀ t : Fin cfg0.N, win0_8.index t = ![0, 0, 0] := (by decide +kernel : ∀ t : Fin grid0.N, _)
theorem index0_9 : ∀ t : Fin cfg0.N, win0_9.index t = ![0, 0, 0] := (by decide +kernel : ∀ t : Fin grid0.N, _)
theorem index0_10 : ∀ t : Fin cfg0.N, win0_10.index t = ![t.val, 0] := (by decide +kernel : ∀ t : Fin grid0.N, _)

theorem v6 (b : Fin 4) (q : Fin 4096) (n : Fin 1024) :
    (V m c main_v6 : S16384x1024.Idx → EReal) (ix2 (HostValue.tok b q) n) = (m ((c : Thread nD τ).loc main_arg0) : S4x4096x1024.Idx → EReal) (ix3 b q n) := by
  have h : V m c main_v6 = shapeCast S16384x1024 (m ((c : Thread nD τ).loc main_arg0)) shapeCasts_S4x4096x1024_S16384x1024 := by
    unfold_abbrev_sides
    after_results
    rfl
  exact (congrFun h _).trans (HostValue.casttok1024 _ _ _ _ _)

theorem v0 (a : Fin 2) (b : Fin 8) (r : Fin 6) (l : Fin 1024) :
    (V m c main_v0 : S2x8x6x1024.Idx → EReal) (ix4 a b r l)
      = (m ((c : Thread nD τ).loc main_arg1) : S2x8x6144.Idx → EReal) (ix3 a b ⟨1024 * r.val + l.val, by omega⟩) := by
  have h : V m c main_v0 = shapeCast S2x8x6x1024 (m ((c : Thread nD τ).loc main_arg1)) shapeCasts_S2x8x6144_S2x8x6x1024 := by
    unfold_abbrev_sides
    after_results
    rfl
  refine (congrFun h _).trans ?_
  pointwise
  refine congrArg (m ((c : Thread nD τ).loc main_arg1) : S2x8x6144.Idx → EReal) (funext fun x => ?_)
  match x with
  | ⟨0, _⟩ => rfl
  | ⟨1, _⟩ => rfl
  | ⟨2, _⟩ => first | rfl | exact Fin.ext (by show r.val * 1024 + l.val = 1024 * r.val + l.val; omega)

theorem v1 : (V m c main_v1 : S2x1024x5632.Idx → EReal) = (m ((c : Thread nD τ).loc main_arg2) : S2x1024x5632.Idx → EReal) := by
  unfold_abbrev_sides
  after_results
  rfl

theorem v3 : (V m c main_v3 : S2x2816x1024.Idx → EReal) = (m ((c : Thread nD τ).loc main_arg5) : S2x2816x1024.Idx → EReal) := by
  unfold_abbrev_sides
  after_results
  rfl

theorem castcb (x : S2x5632.Idx → EReal) (h : S2x5632.ShapeCasts S2x1x5632) (a : Fin 2) (l : Fin 5632) :
    shapeCast S2x1x5632 x h (ix3 a 0 l) = x (ix2 a l) := by
  pointwise

theorem v2 (a : Fin 2) (l : Fin 5632) :
    (V m c main_v2 : S2x1x5632.Idx → EReal) (ix3 a 0 l) = (m ((c : Thread nD τ).loc main_arg4) : S2x5632.Idx → EReal) (ix2 a l) := by
  have h : V m c main_v2 = shapeCast S2x1x5632 (m ((c : Thread nD τ).loc main_arg4)) shapeCasts_S2x5632_S2x1x5632 := by
    unfold_abbrev_sides
    after_results
    rfl
  exact (congrFun h _).trans (castcb _ _ _ _)

theorem v4 (a : Fin 2) (l : Fin 1024) :
    (V m c main_v4 : S2x1x1024.Idx → EReal) (ix3 a 0 l) = (m ((c : Thread nD τ).loc main_arg6) : S2x1024.Idx → EReal) (ix2 a l) := by
  have h : V m c main_v4 = shapeCast S2x1x1024 (m ((c : Thread nD τ).loc main_arg6)) shapeCasts_S2x1024_S2x1x1024 := by
    unfold_abbrev_sides
    after_results
    rfl
  exact (congrFun h _).trans (HostValue.castln _ _ _ _)

theorem v5 (a : Fin 2) (l : Fin 1024) :
    (V m c main_v5 : S2x1x1024.Idx → EReal) (ix3 a 0 l) = (m ((c : Thread nD τ).loc main_arg7) : S2x1024.Idx → EReal) (ix2 a l) := by
  have h : V m c main_v5 = shapeCast S2x1x1024 (m ((c : Thread nD τ).loc main_arg7)) shapeCasts_S2x1024_S2x1x1024 := by
    unfold_abbrev_sides
    after_results
    rfl
  exact (congrFun h _).trans (HostValue.castln _ _ _ _)

variable (t : Fin cfg0.N)

theorem lt32 : t.val < 32 := t.isLt

/-- The image of a grid step. -/
abbrev img : Fin 4 := ⟨t.val / 8, by have := lt32 t; omega⟩

/-- A token's row among all images' rows. -/
theorem at_tok (a : Fin 16384) (b : Fin 4) (q : Fin 4096) (h : a.val = 4096 * b.val + q.val) (n : Fin 1024) :
    (V m c main_v6 : S16384x1024.Idx → EReal) (ix2 a n) = (m ((c : Thread nD τ).loc main_arg0) : S4x4096x1024.Idx → EReal) (ix3 b q n) :=
  (congrArg (fun z : Fin 16384 => (V m c main_v6 : S16384x1024.Idx → EReal) (ix2 z n)) (Fin.ext h)).trans (v6 m c b q n)

theorem blk0 (i : Fin 512) (n : Fin 1024) (q : Fin 4096) (hq : q.val = 512 * (t.val % 8) + i.val) :
    (iblk m c 0 t : S512x1024.Idx → EReal) (ix2 i n) = (m ((c : Thread nD τ).loc main_arg0) : S4x4096x1024.Idx → EReal) (ix3 (img t) q n) := by
  have ht := lt32 t
  refine Eq.trans ?_ (at_tok m c ⟨512 * t.val + i.val, by omega⟩ (img t) q (by show 512 * t.val + i.val = 4096 * (t.val / 8) + q.val; omega) n)
  blk_simp [iblk]
  exact congrArg _ (by blk_ext [index0_0])

theorem blk1 (h0 : t.val % 8 ≠ 0) (i : Fin 8) (n : Fin 1024) (q : Fin 4096) (hq : q.val + 8 = 512 * (t.val % 8) + i.val) :
    (iblk m c 1 t : S8x1024.Idx → EReal) (ix2 i n) = (m ((c : Thread nD τ).loc main_arg0) : S4x4096x1024.Idx → EReal) (ix3 (img t) q n) := by
  have ht := lt32 t
  refine Eq.trans ?_ (at_tok m c ⟨8 * (64 * t.val - 1) + i.val, by omega⟩ (img t) q
    (by show 8 * (64 * t.val - 1) + i.val = 4096 * (t.val / 8) + q.val; omega) n)
  blk_simp [iblk]
  exact congrArg _ (by blk_ext [index0_1])

theorem blk2 (h7 : t.val % 8 ≠ 7) (i : Fin 8) (n : Fin 1024) (q : Fin 4096) (hq : q.val = 512 * (t.val % 8) + 512 + i.val) :
    (iblk m c 2 t : S8x1024.Idx → EReal) (ix2 i n) = (m ((c : Thread nD τ).loc main_arg0) : S4x4096x1024.Idx → EReal) (ix3 (img t) q n) := by
  have ht := lt32 t
  refine Eq.trans ?_ (at_tok m c ⟨8 * (min 2047 (64 * (t.val + 1))) + i.val, by omega⟩ (img t) q
    (by show 8 * (min 2047 (64 * (t.val + 1))) + i.val = 4096 * (t.val / 8) + q.val; omega) n)
  blk_simp [iblk]
  exact congrArg _ (by blk_ext [index0_2])

theorem blk3 (r : Fin 6) (l : Fin 1024) : (iblk m c 3 t : S1x1x6x1024.Idx → EReal) (ix4 0 0 r l)
    = (m ((c : Thread nD τ).loc main_arg1) : S2x8x6144.Idx → EReal) (ix3 0 ⟨t.val / 8, by have := lt32 t; omega⟩ ⟨1024 * r.val + l.val, by omega⟩) := by
  refine Eq.trans ?_ (v0 m c 0 ⟨t.val / 8, by have := lt32 t; omega⟩ r l)
  blk_simp [iblk]
  exact congrArg _ (by blk_ext [index0_3])

theorem blk4 (k : Fin 1024) (l : Fin 5632) : (iblk m c 4 t : S1x1024x5632.Idx → EReal) (ix3 0 k l)
    = (m ((c : Thread nD τ).loc main_arg2) : S2x1024x5632.Idx → EReal) (ix3 0 k l) := by
  refine Eq.trans ?_ (congrFun (v1 m c) (ix3 0 k l))
  blk_simp [iblk]
  exact congrArg _ (by blk_ext [index0_4])

theorem blk5 (k : Fin 3) (l : Fin 5632) : (iblk m c 5 t : S1x3x5632.Idx → EReal) (ix3 0 k l)
    = (m ((c : Thread nD τ).loc main_arg3) : S2x3x5632.Idx → EReal) (ix3 0 k l) := by
  refine Eq.trans ?_ (congrFun (V_main_arg3 m c) (ix3 0 k l))
  blk_simp [iblk]
  exact congrArg _ (by blk_ext [index0_5])

theorem blk6 (l : Fin 5632) : (iblk m c 6 t : S1x1x5632.Idx → EReal) (ix3 0 0 l)
    = (m ((c : Thread nD τ).loc main_arg4) : S2x5632.Idx → EReal) (ix2 0 l) := by
  refine Eq.trans ?_ (v2 m c 0 l)
  blk_simp [iblk]
  exact congrArg _ (by blk_ext [index0_6])

theorem blk7 (k : Fin 2816) (l : Fin 1024) : (iblk m c 7 t : S1x2816x1024.Idx → EReal) (ix3 0 k l)
    = (m ((c : Thread nD τ).loc main_arg5) : S2x2816x1024.Idx → EReal) (ix3 0 k l) := by
  refine Eq.trans ?_ (congrFun (v3 m c) (ix3 0 k l))
  blk_simp [iblk]
  exact congrArg _ (by blk_ext [index0_7])

theorem blk8 (l : Fin 1024) : (iblk m c 8 t : S1x1x1024.Idx → EReal) (ix3 0 0 l)
    = (m ((c : Thread nD τ).loc main_arg6) : S2x1024.Idx → EReal) (ix2 0 l) := by
  refine Eq.trans ?_ (v4 m c 0 l)
  blk_simp [iblk]
  exact congrArg _ (by blk_ext [index0_8])

theorem blk9 (l : Fin 1024) : (iblk m c 9 t : S1x1x1024.Idx → EReal) (ix3 0 0 l)
    = (m ((c : Thread nD τ).loc main_arg7) : S2x1024.Idx → EReal) (ix2 0 l) := by
  refine Eq.trans ?_ (v5 m c 0 l)
  blk_simp [iblk]
  exact congrArg _ (by blk_ext [index0_9])

end Cert.FfnValue
-- ==== Proof.FfnRef.lean ====
module

public import proofs.«01_k».proof.Proof.Spec
public import proofs.«01_k».proof.Proof.Gen.Reference3Ideal.Read
public import Idealize.ShloMosaic.Lib.Pipeline.ValueKit
public import Idealize.ShloMosaic.Lib.KernelVsHost
public import Idealize.ShloMosaic.Lib.IdealHost

/-! # The feed-forward reference's result, an element at a time -/

@[expose] public section

set_option maxRecDepth 65536

noncomputable section

namespace Cert.FfnRef

open Idealize.ShloMosaic
open Cert.Reference3Ideal Cert.Reference3Ideal.Gen Cert.Reference3Ideal.Read

variable (x0 : S4x4096x1024.Idx → EReal) (x1 : S2x8x6144.Idx → EReal) (x2 : S2x1024x5632.Idx → EReal) (x3 : S2x3x5632.Idx → EReal)
  (x4 : S2x5632.Idx → EReal) (x5 : S2x2816x1024.Idx → EReal) (x6 x7 : S2x1024.Idx → EReal)

/-- Row `r` of an image's modulation. -/
def modn (r : Fin 6) (b : Fin 4) (n : Fin 1024) : EReal := x1 (ix3 0 ⟨b.val, by omega⟩ ⟨1024 * r.val + n.val, by omega⟩)

/-- A modulated token. -/
def hidden (b : Fin 4) (q : Fin 4096) (k : Fin 1024) : EReal :=
  x0 (ix3 b q k) * (Ideal.ofBits .f32 0x3F800000#32 + modn x1 4 b k) + modn x1 3 b k

/-- Its up-projection. -/
def up (b : Fin 4) (q : Fin 4096) (l : Fin 5632) : EReal := ∑ k, hidden x0 x1 b q k * x2 (ix3 0 k l)

/-- The up-projection with a row of zeros before the image's tokens and one after them. -/
def upP (b : Fin 4) (p : ℕ) (l : Fin 5632) : EReal := if h : 1 ≤ p ∧ p ≤ 4096 then up x0 x1 x2 b ⟨p - 1, by omega⟩ l else 0

/-- The convolution along the tokens. -/
def cv (b : Fin 4) (q : Fin 4096) (l : Fin 5632) : EReal :=
  x3 (ix3 0 0 l) * upP x0 x1 x2 b q.val l + x3 (ix3 0 1 l) * upP x0 x1 x2 b (q.val + 1) l + x3 (ix3 0 2 l) * upP x0 x1 x2 b (q.val + 2) l + x4 (ix2 0 l)

/-- The gated lanes. -/
def gated (b : Fin 4) (q : Fin 4096) (j : Fin 2816) : EReal :=
  cv x0 x1 x2 x3 x4 b q ⟨2816 + j.val, by omega⟩ * Ideal.logistic (cv x0 x1 x2 x3 x4 b q ⟨2816 + j.val, by omega⟩) * cv x0 x1 x2 x3 x4 b q ⟨j.val, by omega⟩

/-- The row that is normed. -/
def mixed (b : Fin 4) (q : Fin 4096) (n : Fin 1024) : EReal :=
  Ideal.ofBits .f32 0x3FB504F3#32 * x0 (ix3 b q n) + modn x1 5 b n * ∑ j, gated x0 x1 x2 x3 x4 b q j * x5 (ix3 0 j n)

theorem shift_apply (b : Fin 4) (q : Fin 4096) (n : Fin 1024) : val_main_v15 (F := Ideal) x1 (ix3 b q n) = modn x1 3 b n := by
  pointwise [val_main_v15, val_main_v8, val_main_v5, val_main_v1, val_main_v0, modn]

theorem scale_apply (b : Fin 4) (q : Fin 4096) (n : Fin 1024) :
    val_main_v13 (F := Ideal) x1 (ix3 b q n) = Ideal.ofBits .f32 0x3F800000#32 + modn x1 4 b n := by
  pointwise [val_main_v13, val_main_v12, val_main_v11, val_main_cst, val_main_v9, val_main_v6, val_main_v1, val_main_v0, modn]

theorem gain_apply (b : Fin 4) (q : Fin 4096) (n : Fin 1024) : val_main_v55 (F := Ideal) x1 (ix3 b q n) = modn x1 5 b n := by
  pointwise [val_main_v55, val_main_v10, val_main_v7, val_main_v1, val_main_v0, modn]

theorem hidden_apply (b : Fin 4) (q : Fin 4096) (n : Fin 1024) : val_main_v16 (F := Ideal) x0 x1 (ix3 b q n) = hidden x0 x1 b q n := by
  rw [val_main_v16_apply, val_main_v14_apply, scale_apply, shift_apply]; rfl

theorem w_up_apply (k : Fin 1024) (l : Fin 5632) : val_main_v18 (F := Ideal) x2 (ix2 k l) = x2 (ix3 0 k l) := by
  pointwise [val_main_v18, val_main_v17]

theorem w_down_apply (j : Fin 2816) (n : Fin 1024) : val_main_v51 (F := Ideal) x5 (ix2 j n) = x5 (ix3 0 j n) := by
  pointwise [val_main_v51, val_main_v50]

theorem tap0_apply (b : Fin 4) (q : Fin 4096) (l : Fin 5632) : val_main_v25 (F := Ideal) x3 (ix3 b q l) = x3 (ix3 0 0 l) := by
  pointwise [val_main_v25, val_main_v24, val_main_v22, val_main_v21]

theorem tap1_apply (b : Fin 4) (q : Fin 4096) (l : Fin 5632) : val_main_v31 (F := Ideal) x3 (ix3 b q l) = x3 (ix3 0 1 l) := by
  pointwise [val_main_v31, val_main_v30, val_main_v28, val_main_v27]

theorem tap2_apply (b : Fin 4) (q : Fin 4096) (l : Fin 5632) : val_main_v38 (F := Ideal) x3 (ix3 b q l) = x3 (ix3 0 2 l) := by
  pointwise [val_main_v38, val_main_v37, val_main_v35, val_main_v34]

theorem bias_apply (b : Fin 4) (q : Fin 4096) (l : Fin 5632) : val_main_v44 (F := Ideal) x4 (ix3 b q l) = x4 (ix2 0 l) := by
  pointwise [val_main_v44, val_main_v43, val_main_v42, val_main_v41]

theorem ln_g_apply (b : Fin 4) (q : Fin 4096) (n : Fin 1024) : val_main_v81 (F := Ideal) x6 (ix3 b q n) = x6 (ix2 0 n) := by
  pointwise [val_main_v81, val_main_v80, val_main_v59, val_main_v58]

theorem ln_b_apply (b : Fin 4) (q : Fin 4096) (n : Fin 1024) : val_main_v84 (F := Ideal) x7 (ix3 b q n) = x7 (ix2 0 n) := by
  pointwise [val_main_v84, val_main_v83, val_main_v61, val_main_v60]

theorem up_apply (b : Fin 4) (q : Fin 4096) (l : Fin 5632) : val_main_v19 (F := Ideal) x0 x1 x2 (ix3 b q l) = up x0 x1 x2 b q l := by
  rw [val_main_v19_apply]
  refine Finset.sum_congr rfl fun k _ => ?_
  exact congrArg₂ (fun y z : EReal => y * z)
    ((congrArg _ (funext fun a => match a with | ⟨0, _⟩ => rfl | ⟨1, _⟩ => rfl | ⟨2, _⟩ => rfl)).trans (hidden_apply x0 x1 b q k))
    ((congrArg _ (funext fun a => match a with | ⟨0, _⟩ => rfl | ⟨1, _⟩ => rfl)).trans (w_up_apply x2 k l))

/-- The padded rows. -/
theorem pad_at (b : Fin 4) (p : Fin 4098) (l : Fin 5632) : val_main_v20 (F := Ideal) x0 x1 x2 (ix3 b p l) = upP x0 x1 x2 b p.val l := by
  unfold val_main_v20 upP
  by_cases h : 1 ≤ p.val ∧ p.val ≤ 4096
  · rw [dif_pos h]
    refine (pad_apply_of_inside _ _ _ _ _ _ _ (ix3 b p l) (ix3 b ⟨p.val - 1, by omega⟩ l) fun a => ?_).trans (up_apply x0 x1 x2 b _ l)
    match a with
    | ⟨0, _⟩ => show b.val = 0 + b.val * (0 + 1); omega
    | ⟨1, _⟩ => show p.val = 1 + (p.val - 1) * (0 + 1); omega
    | ⟨2, _⟩ => show l.val = 0 + l.val * (0 + 1); omega
  · rw [dif_neg h]
    have hp := p.isLt
    refine (pad_apply_of_not_inside _ _ _ _ _ _ _ (ix3 b p l) 1 fun hin => h ?_).trans ?_
    · have h1 : 1 ≤ p.val := hin.1
      have h2 : (p.val - 1) / (0 + 1) < 4096 := hin.2.2
      omega
    · show (((0#32 : BitVec 32).toInt : ℝ) : EReal) = 0
      simp

theorem cv_apply (b : Fin 4) (q : Fin 4096) (l : Fin 5632) : val_main_v45 (F := Ideal) x0 x1 x2 x3 x4 (ix3 b q l) = cv x0 x1 x2 x3 x4 b q l := by
  have hq := q.isLt
  rw [val_main_v45_apply, val_main_v40_apply, val_main_v33_apply, val_main_v26_apply, val_main_v32_apply, val_main_v39_apply,
    tap0_apply, tap1_apply, tap2_apply, bias_apply, val_main_v23_apply, val_main_v29_apply, val_main_v36_apply,
    show idx_main_v23 (ix3 b q l) = ix3 b ⟨q.val, by omega⟩ l from funext fun a => match a with
      | ⟨0, _⟩ => rfl | ⟨1, _⟩ => rfl | ⟨2, _⟩ => rfl,
    show idx_main_v29 (ix3 b q l) = ix3 b ⟨q.val + 1, by omega⟩ l from funext fun a => Fin.ext (match a with
      | ⟨0, _⟩ => rfl | ⟨1, _⟩ => Nat.add_comm 1 q.val | ⟨2, _⟩ => rfl),
    show idx_main_v36 (ix3 b q l) = ix3 b ⟨q.val + 2, by omega⟩ l from funext fun a => Fin.ext (match a with
      | ⟨0, _⟩ => rfl | ⟨1, _⟩ => Nat.add_comm 2 q.val | ⟨2, _⟩ => rfl),
    pad_at, pad_at, pad_at]
  rfl

theorem gated_apply (b : Fin 4) (q : Fin 4096) (j : Fin 2816) :
    val_main_v49 (F := Ideal) x0 x1 x2 x3 x4 (ix3 b q j) = gated x0 x1 x2 x3 x4 b q j := by
  have hg : val_main_v47 (F := Ideal) x0 x1 x2 x3 x4 (ix3 b q j) = cv x0 x1 x2 x3 x4 b q ⟨2816 + j.val, by omega⟩ := by
    rw [val_main_v47_apply, show idx_main_v47 (ix3 b q j) = ix3 b q ⟨2816 + j.val, by omega⟩ from funext fun a => match a with
      | ⟨0, _⟩ => rfl | ⟨1, _⟩ => rfl | ⟨2, _⟩ => rfl, cv_apply]
  have ha : val_main_v46 (F := Ideal) x0 x1 x2 x3 x4 (ix3 b q j) = cv x0 x1 x2 x3 x4 b q ⟨j.val, by omega⟩ := by
    rw [val_main_v46_apply, show idx_main_v46 (ix3 b q j) = ix3 b q ⟨j.val, by omega⟩ from funext fun a => match a with
      | ⟨0, _⟩ => rfl | ⟨1, _⟩ => rfl | ⟨2, _⟩ => rfl, cv_apply]
  rw [val_main_v49_apply, val_main_v48_apply, val_main_call1_v5_apply, val_main_call1_v4_apply, val_main_call1_cst_0_apply,
    val_main_call1_v3_apply, val_main_call1_v2_apply, val_main_call1_cst_apply, val_main_call1_v1_apply, val_main_call1_v0_apply, hg, ha]
  unfold gated
  generalize cv x0 x1 x2 x3 x4 b q ⟨2816 + j.val, by omega⟩ = g
  generalize cv x0 x1 x2 x3 x4 b q ⟨j.val, by omega⟩ = a
  show g * Ideal.div (Ideal.ofBits .f32 0x3F800000#32) (Ideal.ofBits .f32 0x3F800000#32 + _) * a = _
  rw [Ideal.ofBits_one_f32]; rfl

theorem mixed_apply (b : Fin 4) (q : Fin 4096) (n : Fin 1024) :
    val_main_v57 (F := Ideal) x0 x1 x2 x3 x4 x5 (ix3 b q n) = mixed x0 x1 x2 x3 x4 x5 b q n := by
  rw [val_main_v57_apply, val_main_v54_apply, val_main_v56_apply, gain_apply, val_main_v53_apply, val_main_cst_0_apply, val_main_v52_apply]
  refine congrArg (fun y : EReal => Ideal.ofBits .f32 0x3FB504F3#32 * x0 (ix3 b q n) + modn x1 5 b n * y) (Finset.sum_congr rfl fun j _ => ?_)
  exact congrArg₂ (fun y z : EReal => y * z)
      ((congrArg _ (funext fun a => match a with | ⟨0, _⟩ => rfl | ⟨1, _⟩ => rfl | ⟨2, _⟩ => rfl)).trans (gated_apply x0 x1 x2 x3 x4 b q j))
      ((congrArg _ (funext fun a => match a with | ⟨0, _⟩ => rfl | ⟨1, _⟩ => rfl)).trans (w_down_apply x5 j n))

/-- The mean of the row. -/
theorem mean_apply (b : Fin 4) (q : Fin 4096) (i : Fin 1) :
    val_main_v65 (F := Ideal) x0 x1 x2 x3 x4 x5 (ix3 b q i)
      = Ideal.div (∑ k, mixed x0 x1 x2 x3 x4 x5 b q k) (Ideal.ofBits .f32 0x44800000#32) := by
  rw [val_main_v65_apply, val_main_v63_apply, val_main_v64_apply, val_main_cst_2_apply, val_main_v62_apply, val_main_cst_1_apply]
  refine congrArg (fun y : EReal => Ideal.div y (Ideal.ofBits .f32 0x44800000#32)) ?_
  refine ((congrArg (· + _) Ideal.ofBits_zero_f32).trans (zero_add _)).trans (Finset.sum_congr rfl fun k _ => ?_)
  exact (congrArg _ (funext fun a => match a with | ⟨0, _⟩ => rfl | ⟨1, _⟩ => rfl | ⟨2, _⟩ => rfl)).trans (mixed_apply x0 x1 x2 x3 x4 x5 b q k)

/-- The row less its mean. -/
abbrev centred (b : Fin 4) (q : Fin 4096) (n : Fin 1024) : EReal :=
  mixed x0 x1 x2 x3 x4 x5 b q n - Ideal.div (∑ k, mixed x0 x1 x2 x3 x4 x5 b q k) (Ideal.ofBits .f32 0x44800000#32)

theorem centred_apply (b : Fin 4) (q : Fin 4096) (n : Fin 1024) :
    val_main_v67 (F := Ideal) x0 x1 x2 x3 x4 x5 (ix3 b q n) = centred x0 x1 x2 x3 x4 x5 b q n := by
  rw [val_main_v67_apply, mixed_apply, val_main_v66_apply,
    show idx_main_v66 (ix3 b q n) = ix3 b q 0 from funext fun a => match a with | ⟨0, _⟩ => rfl | ⟨1, _⟩ => rfl | ⟨2, _⟩ => rfl, mean_apply]
  rfl

/-- The reference's result is the normed row. -/
theorem result_apply (b : Fin 4) (q : Fin 4096) (n : Fin 1024) :
    val_main_v86 (F := Ideal) x0 x1 x2 x3 x4 x5 x6 x7 (ix2 ⟨4096 * b.val + q.val, by omega⟩ n)
      = Spec.norm (mixed x0 x1 x2 x3 x4 x5 b q) (fun n => x6 (ix2 0 n)) (fun n => x7 (ix2 0 n)) n := by
  have hb := b.isLt; have hq := q.isLt; have hn := n.isLt
  rw [val_main_v86_apply,
    show idx_main_v86 (ix2 ⟨4096 * b.val + q.val, by omega⟩ n) = ix3 b q n from funext fun a => Fin.ext (match a with
      | ⟨0, _⟩ => show ((4096 * b.val + q.val) * 1024 + n.val) / 4194304 = b.val by omega
      | ⟨1, _⟩ => show ((4096 * b.val + q.val) * 1024 + n.val) / 1024 % 4096 = q.val by omega
      | ⟨2, _⟩ => show ((4096 * b.val + q.val) * 1024 + n.val) % 1024 = n.val by omega),
    val_main_v85_apply, val_main_v82_apply, ln_b_apply, ln_g_apply, val_main_v79_apply, val_main_v78_apply, val_main_v77_apply,
    val_main_v76_apply, val_main_v75_apply, val_main_cst_5_apply, val_main_v72_apply, val_main_v70_apply, val_main_v71_apply,
    val_main_cst_4_apply, val_main_v69_apply, val_main_cst_3_apply]
  have e : ∀ k : Fin 1024, val_main_v68 (F := Ideal) x0 x1 x2 x3 x4 x5 (idx_main_v69 (idx_main_v70 (idx_main_v78 (ix3 b q n))) k)
      = centred x0 x1 x2 x3 x4 x5 b q k * centred x0 x1 x2 x3 x4 x5 b q k := fun k => by
    rw [show idx_main_v69 (idx_main_v70 (idx_main_v78 (ix3 b q n))) k = ix3 b q k from
      funext fun a => match a with | ⟨0, _⟩ => rfl | ⟨1, _⟩ => rfl | ⟨2, _⟩ => rfl, val_main_v68_apply, centred_apply]
    rfl
  simp only [e]
  have c : val_main_v74 (F := Ideal) x0 x1 x2 x3 x4 x5 (ix3 b q n) = _ := centred_apply x0 x1 x2 x3 x4 x5 b q n
  rw [c]
  have z : ∀ s : EReal, Ideal.ofBits .f32 0x00000000#32 + s = s := fun s => by rw [Ideal.ofBits_zero_f32, zero_add]
  unfold Spec.norm
  refine Eq.trans ?_ rfl
  show _ * Ideal.rsqrt (Ideal.div (Ideal.ofBits .f32 0x00000000#32 + _) _ + _) * _ + _ = _
  rw [z]; rfl

end Cert.FfnRef
-- ==== Proof.FfnResult.lean ====
module

public import proofs.«01_k».proof.Proof.FfnBlock
public import proofs.«01_k».proof.Proof.FfnWin
public import proofs.«01_k».proof.Proof.FfnRef
public import proofs.«01_k».proof.Proof.Gen.Kernel3Ideal.Value

/-! # The feed-forward call's result array is the reference's -/

@[expose] public section

set_option maxRecDepth 16384

noncomputable section

namespace Cert.FfnValue

open Idealize.ShloMosaic Idealize.ShloMosaic.TcCoe Idealize.SL.Sem
open Cert.Kernel3Ideal Cert.Kernel3Ideal.Gen Cert.Kernel3Ideal.Value

variable (m : (ℓ : Loc nD τ sig) → Buf (Elt Ideal) ℓ) (c : Dev nD) (t : Fin cfg0.N)

/-- The call's arguments. -/
abbrev a0 : S4x4096x1024.Idx → EReal := m ((c : Thread nD τ).loc main_arg0)
abbrev a1 : S2x8x6144.Idx → EReal := m ((c : Thread nD τ).loc main_arg1)
abbrev a2 : S2x1024x5632.Idx → EReal := m ((c : Thread nD τ).loc main_arg2)
abbrev a3 : S2x3x5632.Idx → EReal := m ((c : Thread nD τ).loc main_arg3)
abbrev a4 : S2x5632.Idx → EReal := m ((c : Thread nD τ).loc main_arg4)
abbrev a5 : S2x2816x1024.Idx → EReal := m ((c : Thread nD τ).loc main_arg5)
abbrev a6 : S2x1024.Idx → EReal := m ((c : Thread nD τ).loc main_arg6)
abbrev a7 : S2x1024.Idx → EReal := m ((c : Thread nD τ).loc main_arg7)

/-- The hidden rows of a grid step. -/
abbrev hidA : S528x1024.Idx → EReal :=
  hid (F := Ideal) (grid0.coords t) (iblk m c 0 t) (iblk m c 1 t) (iblk m c 2 t) (iblk m c 3 t)

/-- A modulated element of an image's token. -/
theorem hidV_eq (k : Fin 1024) (x : EReal) (q : Fin 4096) (h : x = a0 m c (ix3 (img t) q k)) :
    hidV (iblk m c 3 t) k x = FfnRef.hidden (a0 m c) (a1 m c) (img t) q k := by
  unfold hidV FfnRef.hidden FfnRef.modn
  rw [blk3, blk3, h]

theorem own_eq (s : Fin 528) (r : Fin 512) (h : s.val = r.val) (q : Fin 4096) (hq : q.val = 512 * (t.val % 8) + r.val) (k : Fin 1024) :
    hidA m c t (ix2 s k) = FfnRef.hidden (a0 m c) (a1 m c) (img t) q k :=
  (hid_own _ _ _ _ _ s k r h).trans (hidV_eq m c t k _ q (blk0 m c t r k q hq))

theorem before_zero (s : Fin 528) (h : s.val = 519) (h0 : t.val % 8 = 0) (k : Fin 1024) : hidA m c t (ix2 s k) = 0 :=
  (hid_before _ _ _ _ _ s k 7 h).trans ((congrArg (_ * ·) ((prev_at t).trans (if_pos h0))).trans (mul_zero _))

theorem before_eq (s : Fin 528) (h : s.val = 519) (h0 : t.val % 8 ≠ 0) (q : Fin 4096) (hq : q.val + 1 = 512 * (t.val % 8)) (k : Fin 1024) :
    hidA m c t (ix2 s k) = FfnRef.hidden (a0 m c) (a1 m c) (img t) q k :=
  (hid_before _ _ _ _ _ s k 7 h).trans ((congrArg (_ * ·) ((prev_at t).trans (if_neg h0))).trans ((mul_one _).trans
    (hidV_eq m c t k _ q (blk1 m c t h0 7 k q (by show q.val + 8 = 512 * (t.val % 8) + 7; omega)))))

theorem after_zero (s : Fin 528) (h : s.val = 520) (h7 : t.val % 8 = 7) (k : Fin 1024) : hidA m c t (ix2 s k) = 0 :=
  (hid_after _ _ _ _ _ s k 0 h).trans ((congrArg (_ * ·) ((next_at t).trans (if_pos h7))).trans (mul_zero _))

theorem after_eq (s : Fin 528) (h : s.val = 520) (h7 : t.val % 8 ≠ 7) (q : Fin 4096) (hq : q.val = 512 * (t.val % 8) + 512) (k : Fin 1024) :
    hidA m c t (ix2 s k) = FfnRef.hidden (a0 m c) (a1 m c) (img t) q k :=
  (hid_after _ _ _ _ _ s k 0 h).trans ((congrArg (_ * ·) ((next_at t).trans (if_neg h7))).trans ((mul_one _).trans
    (hidV_eq m c t k _ q (blk2 m c t h7 0 k q hq))))

theorem zero_term (x w : EReal) (h : x = 0) : x * w = 0 := by rw [h, zero_mul]

/-- A block's own row, projected: row `512 (t % 8) + r + 1` of the padded rows. -/
theorem z_own (s : Fin 528) (r : Fin 512) (h : s.val = r.val) (p : ℕ) (hp : p = 512 * (t.val % 8) + r.val + 1) (l : Fin 5632) :
    zrow (hidA m c t) (iblk m c 4 t) s l = FfnRef.upP (a0 m c) (a1 m c) (a2 m c) (img t) p l := by
  unfold zrow FfnRef.upP FfnRef.up
  rw [dif_pos (show 1 ≤ p ∧ p ≤ 4096 by omega)]
  exact Finset.sum_congr rfl fun k _ => congrArg₂ (· * ·) (own_eq m c t s r h ⟨p - 1, by omega⟩ (by show p - 1 = _; omega) k) (blk4 m c t k l)

/-- The row before a block. -/
theorem z_before (s : Fin 528) (h : s.val = 519) (l : Fin 5632) :
    zrow (hidA m c t) (iblk m c 4 t) s l = FfnRef.upP (a0 m c) (a1 m c) (a2 m c) (img t) (512 * (t.val % 8)) l := by
  unfold zrow FfnRef.upP FfnRef.up
  by_cases h0 : t.val % 8 = 0
  · rw [dif_neg (show ¬(1 ≤ 512 * (t.val % 8) ∧ 512 * (t.val % 8) ≤ 4096) by omega)]
    exact Finset.sum_eq_zero fun k _ => zero_term _ _ (before_zero m c t s h h0 k)
  · rw [dif_pos (show 1 ≤ 512 * (t.val % 8) ∧ 512 * (t.val % 8) ≤ 4096 by omega)]
    exact Finset.sum_congr rfl fun k _ => congrArg₂ (· * ·) (before_eq m c t s h h0 ⟨512 * (t.val % 8) - 1, by omega⟩ (by
      show 512 * (t.val % 8) - 1 + 1 = _; omega) k) (blk4 m c t k l)

/-- The row after a block. -/
theorem z_after (s : Fin 528) (h : s.val = 520) (l : Fin 5632) :
    zrow (hidA m c t) (iblk m c 4 t) s l = FfnRef.upP (a0 m c) (a1 m c) (a2 m c) (img t) (512 * (t.val % 8) + 513) l := by
  unfold zrow FfnRef.upP FfnRef.up
  by_cases h7 : t.val % 8 = 7
  · rw [dif_neg (show ¬(1 ≤ 512 * (t.val % 8) + 513 ∧ 512 * (t.val % 8) + 513 ≤ 4096) by omega)]
    exact Finset.sum_eq_zero fun k _ => zero_term _ _ (after_zero m c t s h h7 k)
  · rw [dif_pos (show 1 ≤ 512 * (t.val % 8) + 513 ∧ 512 * (t.val % 8) + 513 ≤ 4096 by omega)]
    exact Finset.sum_congr rfl fun k _ => congrArg₂ (· * ·) (after_eq m c t s h h7 ⟨512 * (t.val % 8) + 513 - 1, by omega⟩ (by
      show 512 * (t.val % 8) + 513 - 1 = _; omega) k) (blk4 m c t k l)

variable (r : Fin 512) (q : Fin 4096) (hq : q.val = 512 * (t.val % 8) + r.val)
include hq

theorem conv_eq (l : Fin 5632) : conv (hidA m c t) (iblk m c 4 t) (iblk m c 5 t) (iblk m c 6 t) r l
    = FfnRef.cv (a0 m c) (a1 m c) (a2 m c) (a3 m c) (a4 m c) (img t) q l := by
  have hr := r.isLt
  have e0 : zrow (hidA m c t) (iblk m c 4 t) (rowZ ⟨7 + r.val, by omega⟩) l = FfnRef.upP (a0 m c) (a1 m c) (a2 m c) (img t) q.val l := by
    by_cases h : r.val = 0
    · refine (z_before m c t _ ?_ l).trans (congrArg (fun p => FfnRef.upP _ _ _ _ p l) (by omega))
      unfold rowZ
      rw [if_pos (show 7 + r.val < 8 by omega)]
      show (512 + (7 + r.val)) % 528 = 519
      omega
    · refine z_own m c t _ ⟨r.val - 1, by omega⟩ ?_ _ (by show q.val = 512 * (t.val % 8) + (r.val - 1) + 1; omega) l
      unfold rowZ
      rw [if_neg (show ¬7 + r.val < 8 by omega), if_pos (show 7 + r.val < 520 by omega)]
      show 7 + r.val - 8 = r.val - 1
      omega
  have e1 : zrow (hidA m c t) (iblk m c 4 t) ⟨r.val, by omega⟩ l = FfnRef.upP (a0 m c) (a1 m c) (a2 m c) (img t) (q.val + 1) l :=
    z_own m c t _ r rfl _ (by omega) l
  have e2 : zrow (hidA m c t) (iblk m c 4 t) (rowZ ⟨9 + r.val, by omega⟩) l = FfnRef.upP (a0 m c) (a1 m c) (a2 m c) (img t) (q.val + 2) l := by
    by_cases h : r.val = 511
    · refine (z_after m c t _ ?_ l).trans (congrArg (fun p => FfnRef.upP _ _ _ _ p l) (by omega))
      unfold rowZ
      rw [if_neg (show ¬9 + r.val < 8 by omega), if_neg (show ¬9 + r.val < 520 by omega)]
      show 9 + r.val = 520
      omega
    · refine z_own m c t _ ⟨r.val + 1, by omega⟩ ?_ _ (by show q.val + 2 = 512 * (t.val % 8) + (r.val + 1) + 1; omega) l
      unfold rowZ
      rw [if_neg (show ¬9 + r.val < 8 by omega), if_pos (show 9 + r.val < 520 by omega)]
      show 9 + r.val - 8 = r.val + 1
      omega
  unfold conv FfnRef.cv
  rw [e0, e1, e2, blk5, blk5, blk5, blk6]

theorem act_eq (j : Fin 2816) : act (hidA m c t) (iblk m c 4 t) (iblk m c 5 t) (iblk m c 6 t) r j
    = FfnRef.gated (a0 m c) (a1 m c) (a2 m c) (a3 m c) (a4 m c) (img t) q j := by
  unfold act FfnRef.gated
  rw [conv_eq m c t r q hq, conv_eq m c t r q hq]

/-- A row of a block's result is the reference's row. -/
theorem rowOut_eq (n : Fin 1024) :
    rowOut (iblk m c 0 t) (iblk m c 3 t) (iblk m c 4 t) (iblk m c 5 t) (iblk m c 6 t) (iblk m c 7 t) (iblk m c 8 t) (iblk m c 9 t) (hidA m c t) r n
      = Spec.norm (FfnRef.mixed (a0 m c) (a1 m c) (a2 m c) (a3 m c) (a4 m c) (a5 m c) (img t) q) (fun n => a6 m c (ix2 0 n)) (fun n => a7 m c (ix2 0 n)) n := by
  have e : ∀ (x : S512x1024.Idx → EReal) (y : S1x1x6x1024.Idx → EReal) (w : S1x2816x1024.Idx → EReal), x = iblk m c 0 t → y = iblk m c 3 t → w = iblk m c 7 t → ∀ d,
      Ideal.ofBits .f32 0x3FB504F3#32 * x (ix2 r d) + y (ix4 0 0 5 d)
        * ∑ j : Fin 2816, act (hidA m c t) (iblk m c 4 t) (iblk m c 5 t) (iblk m c 6 t) r j * w (ix3 0 j d)
      = FfnRef.mixed (a0 m c) (a1 m c) (a2 m c) (a3 m c) (a4 m c) (a5 m c) (img t) q d := fun x y w hx hy hw d => by
    subst hx hy hw
    unfold FfnRef.mixed FfnRef.modn
    refine congrArg₂ (· + ·) (congrArg (_ * ·) (blk0 m c t r d q hq)) (congrArg₂ (· * ·) (blk3 m c t 5 d) (Finset.sum_congr rfl fun j _ => ?_))
    exact congrArg₂ (· * ·) (act_eq m c t r q hq j) (blk7 m c t j d)
  unfold rowOut
  exact (congrArg (fun f => Spec.norm f _ _ n) (funext (e _ _ _ rfl rfl rfl))).trans ((congrArg (fun g => Spec.norm _ g _ n) (funext (blk8 m c t))).trans
    (congrArg (fun o => Spec.norm _ _ o n) (funext (blk9 m c t))))

omit hq

/-- The reference's result, of the kernel's arguments. -/
def res : S16384x1024.Idx → EReal :=
  Reference3Ideal.Read.val_main_v86 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- A row of a block is that row of the reference's result. -/
theorem block_eq (r : Fin 512) (n : Fin 1024) (a : Fin 16384) (ha : a.val = 512 * t.val + r.val) :
    (outsAt0 m c t : S512x1024.Idx → EReal) (ix2 r n) = res m c (ix2 a n) := by
  have ht := lt32 t
  have hr := r.isLt
  refine (block_apply m c t r n).trans ((rowOut_eq m c t r ⟨512 * (t.val % 8) + r.val, by omega⟩ rfl n).trans ?_)
  rw [show a = ⟨4096 * (img t).val + (512 * (t.val % 8) + r.val), by show 4096 * (t.val / 8) + _ < 16384; omega⟩ from
    Fin.ext (by show a.val = 4096 * (t.val / 8) + (512 * (t.val % 8) + r.val); omega)]
  exact (FfnRef.result_apply _ _ _ _ _ _ _ _ (img t) ⟨512 * (t.val % 8) + r.val, by omega⟩ n).symm

/-- The result array. -/
theorem out_eq : (dats m 0 c).arrAt 10 cfg0.N = res m c := by
  refine (dats m 0 c).arrAt_eq_of_covers 10 _ (by decide +kernel) fun t h y => ?_
  blk_simp
  rw [after0_10]
  have hy : (y : S512x1024.Idx) = ix2 (y 0) (y 1) := eq_ix2 y
  have e0 : ((win0_10.blk t).view.emb y 0).val = 512 * t.val + (y 0).val := by
    blk_simp [index0_10]; rw [Nat.mul_comm]
  have e1 : (win0_10.blk t).view.emb y 1 = (y 1 : Fin 1024) := Fin.ext (by blk_simp [index0_10])
  refine (congrArg (outsAt0 m c t) hy).trans ((block_eq m c t (y 0) (y 1) ((win0_10.blk t).view.emb y 0) e0).trans ?_)
  refine congrArg (res m c) (funext fun a => match a with
    | ⟨0, _⟩ => rfl
    | ⟨1, _⟩ => e1.symm)

end Cert.FfnValue
-- ==== Proof.ProjRope.lean ====
module

public import proofs.«01_k».proof.Proof.Gen.Reference2Ideal.Read
public import Idealize.ShloMosaic.Lib.Pipeline.ValueKit
public import Idealize.ShloMosaic.Lib.KernelVsHost
public import Idealize.ShloMosaic.Lib.IdealHost

/-! # The rotation of the reference, an element at a time -/

@[expose] public section

set_option maxRecDepth 65536

noncomputable section

namespace Cert.ProjRef

open Idealize.ShloMosaic
open Cert.Reference2Ideal Cert.Reference2Ideal.Gen Cert.Reference2Ideal.Read

/-- The cosine a lane of a token is multiplied by: of the token's row for the first half of a head's lanes, of its column for the second. -/
def cosT (q : Fin 4096) (j : ℕ) : EReal :=
  if j % 64 < 32 then val_main_v43 (F := Ideal) (ix2 q ⟨j % 16, by omega⟩) else val_main_v67 (F := Ideal) (ix2 q ⟨j % 16, by omega⟩)

/-- The sine. -/
def sinT (q : Fin 4096) (j : ℕ) : EReal :=
  if j % 64 < 32 then val_main_v45 (F := Ideal) (ix2 q ⟨j % 16, by omega⟩) else val_main_v69 (F := Ideal) (ix2 q ⟨j % 16, by omega⟩)

/-- A rotated lane, of the token's lanes. -/
def rot (z : Fin 512 → EReal) (q : Fin 4096) (j : Fin 512) : EReal :=
  if h : j.val % 32 < 16 then z j * cosT q j.val - z ⟨j.val + 16, by omega⟩ * sinT q j.val
  else z j * cosT q j.val + z ⟨j.val - 16, by omega⟩ * sinT q j.val

/-- The rotation of half of a head's lanes. -/
def half (z : FVec Ideal S4x4096x8x32 .f32) (c s : FVec Ideal S1x4096x1x16 .f32) : FVec Ideal S4x4096x8x32 .f32 :=
  let z1 := extractStridedSlice S4x4096x8x16 ![0, 0, 0, 0] z slices_S4x4096x8x32_S4x4096x8x16_0_0_0_0
  let z2 := extractStridedSlice S4x4096x8x16 ![0, 0, 0, 16] z slices_S4x4096x8x32_S4x4096x8x16_0_0_0_16
  let c' := broadcastInDim S4x4096x8x16 ![0, 1, 2, 3] bcast_S1x4096x1x16_S4x4096x8x16_0_1_2_3 c
  let s' := broadcastInDim S4x4096x8x16 ![0, 1, 2, 3] bcast_S1x4096x1x16_S4x4096x8x16_0_1_2_3 s
  concatenate S4x4096x8x32 3 [⟨S4x4096x8x16, subf (mulf z1 c') (mulf z2 s')⟩, ⟨S4x4096x8x16, addf (mulf z2 c') (mulf z1 s')⟩]
    concatenates_S4x4096x8x16_S4x4096x8x16_S4x4096x8x32_d3

theorem half_low (z : FVec Ideal S4x4096x8x32 .f32) (c s : FVec Ideal S1x4096x1x16 .f32) (b : Fin 4) (q : Fin 4096) (h : Fin 8) (d : Fin 32) (hd : d.val < 16) :
    half z c s (ix4 b q h d) = z (ix4 b q h d) * c (ix4 0 q 0 ⟨d.val, hd⟩) - z (ix4 b q h ⟨16 + d.val, by omega⟩) * s (ix4 0 q 0 ⟨d.val, hd⟩) := by
  unfold half
  pointwise
  rw [dif_pos hd]

theorem half_high (z : FVec Ideal S4x4096x8x32 .f32) (c s : FVec Ideal S1x4096x1x16 .f32) (b : Fin 4) (q : Fin 4096) (h : Fin 8) (d : Fin 32) (hd : ¬d.val < 16) :
    half z c s (ix4 b q h d) = z (ix4 b q h d) * c (ix4 0 q 0 ⟨d.val - 16, by omega⟩) + z (ix4 b q h ⟨d.val - 16, by omega⟩) * s (ix4 0 q 0 ⟨d.val - 16, by omega⟩) := by
  unfold half
  pointwise
  rw [dif_neg hd]
  have e : (⟨16 + (d.val - 16), by omega⟩ : Fin 32) = d := Fin.ext (by show 16 + (d.val - 16) = d.val; omega)
  rw [e]

/-- The rotation of all lanes. -/
def ropeOf (z : FVec Ideal S4x4096x512 .f32) : FVec Ideal S4x4096x8x64 .f32 :=
  let y := shapeCast S4x4096x8x64 z shapeCasts_S4x4096x512_S4x4096x8x64
  concatenate S4x4096x8x64 3
    [⟨S4x4096x8x32, half (extractStridedSlice S4x4096x8x32 ![0, 0, 0, 0] y slices_S4x4096x8x64_S4x4096x8x32_0_0_0_0) (val_main_v44 (F := Ideal)) (val_main_v46 (F := Ideal))⟩,
     ⟨S4x4096x8x32, half (extractStridedSlice S4x4096x8x32 ![0, 0, 0, 32] y slices_S4x4096x8x64_S4x4096x8x32_0_0_0_32) (val_main_v68 (F := Ideal)) (val_main_v70 (F := Ideal))⟩]
    concatenates_S4x4096x8x32_S4x4096x8x32_S4x4096x8x64_d3

theorem ropeOf_q (x0 : S4x4096x1024.Idx → EReal) (x1 : S2x8x6144.Idx → EReal) (x2 : S2x1024x4608.Idx → EReal) :
    val_main_v84 (F := Ideal) x0 x1 x2 = ropeOf (val_main_v19 (F := Ideal) x0 x1 x2) := rfl

theorem ropeOf_k (x0 : S4x4096x1024.Idx → EReal) (x1 : S2x8x6144.Idx → EReal) (x2 : S2x1024x4608.Idx → EReal) :
    val_main_v146 (F := Ideal) x0 x1 x2 = ropeOf (val_main_v20 (F := Ideal) x0 x1 x2) := rfl

theorem ropeOf_low (z : FVec Ideal S4x4096x512 .f32) (b : Fin 4) (q : Fin 4096) (h : Fin 8) (d : Fin 64) (hd : d.val < 32) :
    ropeOf z (ix4 b q h d) = half (extractStridedSlice S4x4096x8x32 ![0, 0, 0, 0] (shapeCast S4x4096x8x64 z shapeCasts_S4x4096x512_S4x4096x8x64)
      slices_S4x4096x8x64_S4x4096x8x32_0_0_0_0) (val_main_v44 (F := Ideal)) (val_main_v46 (F := Ideal)) (ix4 b q h ⟨d.val, hd⟩) := by
  unfold ropeOf
  generalize half _ _ _ = x
  generalize half _ _ _ = y
  pointwise
  rw [dif_pos hd]

theorem ropeOf_high (z : FVec Ideal S4x4096x512 .f32) (b : Fin 4) (q : Fin 4096) (h : Fin 8) (d : Fin 64) (hd : ¬d.val < 32) :
    ropeOf z (ix4 b q h d) = half (extractStridedSlice S4x4096x8x32 ![0, 0, 0, 32] (shapeCast S4x4096x8x64 z shapeCasts_S4x4096x512_S4x4096x8x64)
      slices_S4x4096x8x64_S4x4096x8x32_0_0_0_32) (val_main_v68 (F := Ideal)) (val_main_v70 (F := Ideal)) (ix4 b q h ⟨d.val - 32, by omega⟩) := by
  unfold ropeOf
  generalize half _ (val_main_v68 (F := Ideal)) _ = x
  generalize half _ _ _ = y
  pointwise
  rw [dif_neg hd]

theorem head_low (z : FVec Ideal S4x4096x512 .f32) (b : Fin 4) (q : Fin 4096) (h : Fin 8) (d : Fin 32) :
    extractStridedSlice S4x4096x8x32 ![0, 0, 0, 0] (shapeCast S4x4096x8x64 z shapeCasts_S4x4096x512_S4x4096x8x64)
      slices_S4x4096x8x64_S4x4096x8x32_0_0_0_0 (ix4 b q h d) = z (ix3 b q ⟨64 * h.val + d.val, by omega⟩) := by
  pointwise
  refine congrArg z (funext fun a => Fin.ext ?_)
  match a with
  | ⟨0, _⟩ => rfl
  | ⟨1, _⟩ => rfl
  | ⟨2, _⟩ => show h.val * 64 + d.val = 64 * h.val + d.val; omega

theorem head_high (z : FVec Ideal S4x4096x512 .f32) (b : Fin 4) (q : Fin 4096) (h : Fin 8) (d : Fin 32) :
    extractStridedSlice S4x4096x8x32 ![0, 0, 0, 32] (shapeCast S4x4096x8x64 z shapeCasts_S4x4096x512_S4x4096x8x64)
      slices_S4x4096x8x64_S4x4096x8x32_0_0_0_32 (ix4 b q h d) = z (ix3 b q ⟨64 * h.val + (32 + d.val), by omega⟩) := by
  pointwise
  refine congrArg z (funext fun a => Fin.ext ?_)
  match a with
  | ⟨0, _⟩ => rfl
  | ⟨1, _⟩ => rfl
  | ⟨2, _⟩ => show h.val * 64 + (32 + d.val) = 64 * h.val + (32 + d.val); omega

theorem c44 (q : Fin 4096) (f : Fin 16) : val_main_v44 (F := Ideal) (ix4 0 q 0 f) = val_main_v43 (F := Ideal) (ix2 q f) := by
  rw [val_main_v44_apply]; exact congrArg _ (funext fun a => match a with | ⟨0, _⟩ => rfl | ⟨1, _⟩ => rfl)
theorem c46 (q : Fin 4096) (f : Fin 16) : val_main_v46 (F := Ideal) (ix4 0 q 0 f) = val_main_v45 (F := Ideal) (ix2 q f) := by
  rw [val_main_v46_apply]; exact congrArg _ (funext fun a => match a with | ⟨0, _⟩ => rfl | ⟨1, _⟩ => rfl)
theorem c68 (q : Fin 4096) (f : Fin 16) : val_main_v68 (F := Ideal) (ix4 0 q 0 f) = val_main_v67 (F := Ideal) (ix2 q f) := by
  rw [val_main_v68_apply]; exact congrArg _ (funext fun a => match a with | ⟨0, _⟩ => rfl | ⟨1, _⟩ => rfl)
theorem c70 (q : Fin 4096) (f : Fin 16) : val_main_v70 (F := Ideal) (ix4 0 q 0 f) = val_main_v69 (F := Ideal) (ix2 q f) := by
  rw [val_main_v70_apply]; exact congrArg _ (funext fun a => match a with | ⟨0, _⟩ => rfl | ⟨1, _⟩ => rfl)

/-- A lane of the rotation. -/
theorem ropeOf_apply (z : FVec Ideal S4x4096x512 .f32) (b : Fin 4) (q : Fin 4096) (h : Fin 8) (d : Fin 64) (j : Fin 512) (hj : j.val = 64 * h.val + d.val) :
    ropeOf z (ix4 b q h d) = rot (fun l => z (ix3 b q l)) q j := by
  have hd := d.isLt
  have hz : ∀ (l l' : Fin 512), l.val = l'.val → z (ix3 b q l) = z (ix3 b q l') := fun l l' e => by rw [Fin.ext e]
  have hf : ∀ (g : S4096x16.Idx → EReal) (f f' : Fin 16), f.val = f'.val → g (ix2 q f) = g (ix2 q f') := fun g f f' e => by rw [Fin.ext e]
  unfold rot cosT sinT
  by_cases h32 : d.val < 32
  · rw [ropeOf_low z b q h d h32, if_pos (show j.val % 64 < 32 by omega), if_pos (show j.val % 64 < 32 by omega)]
    by_cases h16 : d.val < 16
    · rw [half_low _ _ _ _ _ _ _ h16, dif_pos (show j.val % 32 < 16 by omega), head_low, head_low, c44, c46]
      exact congrArg₂ (· - ·) (congrArg₂ (· * ·) (hz _ _ (by show 64 * h.val + d.val = j.val; omega)) (hf _ _ _ (by show d.val = j.val % 16; omega)))
        (congrArg₂ (· * ·) (hz _ _ (by show 64 * h.val + (16 + d.val) = j.val + 16; omega)) (hf _ _ _ (by show d.val = j.val % 16; omega)))
    · rw [half_high _ _ _ _ _ _ _ h16, dif_neg (show ¬j.val % 32 < 16 by omega), head_low, head_low, c44, c46]
      exact congrArg₂ (· + ·) (congrArg₂ (· * ·) (hz _ _ (by show 64 * h.val + d.val = j.val; omega)) (hf _ _ _ (by show d.val - 16 = j.val % 16; omega)))
        (congrArg₂ (· * ·) (hz _ _ (by show 64 * h.val + (d.val - 16) = j.val - 16; omega)) (hf _ _ _ (by show d.val - 16 = j.val % 16; omega)))
  · rw [ropeOf_high z b q h d h32, if_neg (show ¬j.val % 64 < 32 by omega), if_neg (show ¬j.val % 64 < 32 by omega)]
    by_cases h16 : d.val - 32 < 16
    · rw [half_low _ _ _ _ _ _ _ h16, dif_pos (show j.val % 32 < 16 by omega), head_high, head_high, c68, c70]
      exact congrArg₂ (· - ·) (congrArg₂ (· * ·) (hz _ _ (by show 64 * h.val + (32 + (d.val - 32)) = j.val; omega)) (hf _ _ _ (by show d.val - 32 = j.val % 16; omega)))
        (congrArg₂ (· * ·) (hz _ _ (by show 64 * h.val + (32 + (16 + (d.val - 32))) = j.val + 16; omega)) (hf _ _ _ (by show d.val - 32 = j.val % 16; omega)))
    · rw [half_high _ _ _ _ _ _ _ h16, dif_neg (show ¬j.val % 32 < 16 by omega), head_high, head_high, c68, c70]
      exact congrArg₂ (· + ·) (congrArg₂ (· * ·) (hz _ _ (by show 64 * h.val + (32 + (d.val - 32)) = j.val; omega)) (hf _ _ _ (by show d.val - 32 - 16 = j.val % 16; omega)))
        (congrArg₂ (· * ·) (hz _ _ (by show 64 * h.val + (32 + (d.val - 32 - 16)) = j.val - 16; omega)) (hf _ _ _ (by show d.val - 32 - 16 = j.val % 16; omega)))

end Cert.ProjRef
-- ==== Proof.ProjRef.lean ====
module

public import proofs.«01_k».proof.Proof.ProjRope
public import proofs.«01_k».proof.Proof.HostValue

/-! # The projection reference's results, an element at a time -/

@[expose] public section

set_option maxRecDepth 65536

noncomputable section

namespace Cert.ProjRef

open Idealize.ShloMosaic
open Cert.Reference2Ideal Cert.Reference2Ideal.Gen Cert.Reference2Ideal.Read

variable (x0 : S4x4096x1024.Idx → EReal) (x1 : S2x8x6144.Idx → EReal) (x2 : S2x1024x4608.Idx → EReal) (x3 x4 : S2x512.Idx → EReal)

/-- Row `r` of an image's modulation. -/
def modn (r : Fin 6) (b : Fin 4) (n : Fin 1024) : EReal := x1 (ix3 0 ⟨b.val, by omega⟩ ⟨1024 * r.val + n.val, by omega⟩)

/-- A modulated token. -/
def hidden (b : Fin 4) (q : Fin 4096) (k : Fin 1024) : EReal :=
  x0 (ix3 b q k) * (Ideal.ofBits .f32 0x3F800000#32 + modn x1 1 b k) + modn x1 0 b k

/-- Its projection. -/
def proj (b : Fin 4) (q : Fin 4096) (l : Fin 4608) : EReal := ∑ k, hidden x0 x1 b q k * x2 (ix3 0 k l)

/-- The gated linear unit's activation. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

/-- The layer norm of a row of 512 lanes. -/
def norm (r g o : Fin 512 → EReal) (n : Fin 512) : EReal :=
  (r n - Ideal.div (∑ k, r k) (Ideal.ofBits .f32 0x44000000#32))
    * Ideal.rsqrt (Ideal.div (∑ k, (r k - Ideal.div (∑ k, r k) (Ideal.ofBits .f32 0x44000000#32)) * (r k - Ideal.div (∑ k, r k) (Ideal.ofBits .f32 0x44000000#32)))
        (Ideal.ofBits .f32 0x44000000#32) + Ideal.ofBits .f32 0x3727C5AC#32) * g n + o n

/-- The pattern of a half is a half. -/
theorem half_eq : Ideal.ofBits .f32 0x3F000000#32 = ((1 / 2 : ℝ) : EReal) := by
  simp [Ideal.ofBits, Ideal.ieee, -EReal.coe_mul]; norm_num

theorem tanh_half (r : ℝ) : 1 / 2 * Real.tanh (1 / 2 * r) + 1 / 2 = (1 + Real.exp (-r))⁻¹ := by
  have h : Real.exp (-r) = Real.exp (-(1 / 2 * r)) * Real.exp (-(1 / 2 * r)) := by rw [← Real.exp_add]; congr 1; ring
  have h1 : Real.exp (1 / 2 * r) * Real.exp (-(1 / 2 * r)) = 1 := by rw [← Real.exp_add]; simp
  rw [Real.tanh_eq_sinh_div_cosh, Real.sinh_eq, Real.cosh_eq, h]
  have p := Real.exp_pos (1 / 2 * r)
  have n := Real.exp_pos (-(1 / 2 * r))
  generalize Real.exp (1 / 2 * r) = a at *
  generalize Real.exp (-(1 / 2 * r)) = b at *
  have hs : a + b ≠ 0 := by positivity
  have hb : 1 + b * b ≠ 0 := by positivity
  field_simp
  nlinarith

/-- The logistic function, by the hyperbolic tangent of half its argument. -/
theorem logistic_half (z : EReal) : Ideal.ofBits .f32 0x3F000000#32 * Ideal.tanh (Ideal.ofBits .f32 0x3F000000#32 * z) + Ideal.ofBits .f32 0x3F000000#32
    = Ideal.logistic z := by
  rw [half_eq]
  induction z using EReal.rec with
  | bot =>
    rw [EReal.coe_mul_bot_of_pos (by norm_num), Ideal.tanh_bot, Ideal.logistic_bot]
    rw [show (-1 : EReal) = ((-1 : ℝ) : EReal) by rw [EReal.coe_neg, EReal.coe_one], ← EReal.coe_mul, ← EReal.coe_add]
    norm_num
  | top =>
    rw [EReal.coe_mul_top_of_pos (by norm_num), Ideal.tanh_top, Ideal.logistic_top]
    rw [mul_one, ← EReal.coe_add]
    norm_num
  | coe r =>
    rw [← EReal.coe_mul, Ideal.tanh_coe, Ideal.logistic_coe, ← EReal.coe_mul, ← EReal.coe_add, tanh_half]

theorem shift_apply (b : Fin 4) (q : Fin 4096) (n : Fin 1024) : val_main_v14 (F := Ideal) x1 (ix3 b q n) = modn x1 0 b n := by
  pointwise [val_main_v14, val_main_v8, val_main_v2, val_main_v1, val_main_v0, modn]

theorem scale_apply (b : Fin 4) (q : Fin 4096) (n : Fin 1024) :
    val_main_v12 (F := Ideal) x1 (ix3 b q n) = Ideal.ofBits .f32 0x3F800000#32 + modn x1 1 b n := by
  pointwise [val_main_v12, val_main_v11, val_main_v10, val_main_cst, val_main_v9, val_main_v3, val_main_v1, val_main_v0, modn]

theorem hidden_apply (b : Fin 4) (q : Fin 4096) (n : Fin 1024) : val_main_v15 (F := Ideal) x0 x1 (ix3 b q n) = hidden x0 x1 b q n := by
  rw [val_main_v15_apply, val_main_v13_apply, scale_apply, shift_apply]; rfl

theorem weight_apply (k : Fin 1024) (l : Fin 4608) : val_main_v17 (F := Ideal) x2 (ix2 k l) = x2 (ix3 0 k l) := by
  pointwise [val_main_v17, val_main_v16]

theorem proj_apply (b : Fin 4) (q : Fin 4096) (l : Fin 4608) : val_main_v18 (F := Ideal) x0 x1 x2 (ix3 b q l) = proj x0 x1 x2 b q l := by
  rw [val_main_v18_apply]
  refine Finset.sum_congr rfl fun k _ => ?_
  exact congrArg₂ (fun y z : EReal => y * z)
    ((congrArg _ (funext fun a => match a with | ⟨0, _⟩ => rfl | ⟨1, _⟩ => rfl | ⟨2, _⟩ => rfl)).trans (hidden_apply x0 x1 b q k))
    ((congrArg _ (funext fun a => match a with | ⟨0, _⟩ => rfl | ⟨1, _⟩ => rfl)).trans (weight_apply x2 k l))

/-- A slice of the projection's lanes. -/
theorem slice_apply {w : ℕ} (o : ℕ) (h : S4x4096x4608.Slices ![0, 0, o] (⟨3, ![4, 4096, w]⟩ : Shape)) (b : Fin 4) (q : Fin 4096) (j : Fin w) (l : Fin 4608)
    (hl : l.val = o + j.val) :
    extractStridedSlice (⟨3, ![4, 4096, w]⟩ : Shape) ![0, 0, o] (val_main_v18 (F := Ideal) x0 x1 x2) h (ix3 b q j) = proj x0 x1 x2 b q l := by
  refine Eq.trans ?_ (proj_apply x0 x1 x2 b q l)
  generalize val_main_v18 (F := Ideal) x0 x1 x2 = y
  exact extractStridedSlice_apply ![0, 0, o] y h (ix3 b q j) (ix3 b q l) (fun a => match a with
    | ⟨0, _⟩ => by show b.val = 0 + b.val; omega
    | ⟨1, _⟩ => by show q.val = 0 + q.val; omega
    | ⟨2, _⟩ => by show l.val = o + j.val; exact hl)

theorem q_apply (b : Fin 4) (q : Fin 4096) (j : Fin 512) : val_main_v19 (F := Ideal) x0 x1 x2 (ix3 b q j) = proj x0 x1 x2 b q ⟨j.val, by omega⟩ :=
  slice_apply x0 x1 x2 0 _ b q j _ (Nat.zero_add _).symm

theorem k_apply (b : Fin 4) (q : Fin 4096) (j : Fin 512) : val_main_v20 (F := Ideal) x0 x1 x2 (ix3 b q j) = proj x0 x1 x2 b q ⟨512 + j.val, by omega⟩ :=
  slice_apply x0 x1 x2 512 _ b q j _ rfl

theorem v_apply (b : Fin 4) (q : Fin 4096) (j : Fin 512) : val_main_v21 (F := Ideal) x0 x1 x2 (ix3 b q j) = proj x0 x1 x2 b q ⟨1024 + j.val, by omega⟩ :=
  slice_apply x0 x1 x2 1024 _ b q j _ rfl

theorem u_apply (b : Fin 4) (q : Fin 4096) (j : Fin 512) : val_main_v22 (F := Ideal) x0 x1 x2 (ix3 b q j) = proj x0 x1 x2 b q ⟨1536 + j.val, by omega⟩ :=
  slice_apply x0 x1 x2 1536 _ b q j _ rfl

theorem s_apply (b : Fin 4) (q : Fin 4096) (j : Fin 512) : val_main_v23 (F := Ideal) x0 x1 x2 (ix3 b q j) = proj x0 x1 x2 b q ⟨2048 + j.val, by omega⟩ :=
  slice_apply x0 x1 x2 2048 _ b q j _ rfl

theorem a_apply (b : Fin 4) (q : Fin 4096) (j : Fin 1024) : val_main_v24 (F := Ideal) x0 x1 x2 (ix3 b q j) = proj x0 x1 x2 b q ⟨2560 + j.val, by omega⟩ :=
  slice_apply x0 x1 x2 2560 _ b q j _ rfl

theorem b_apply (b : Fin 4) (q : Fin 4096) (j : Fin 1024) : val_main_v25 (F := Ideal) x0 x1 x2 (ix3 b q j) = proj x0 x1 x2 b q ⟨3584 + j.val, by omega⟩ :=
  slice_apply x0 x1 x2 3584 _ b q j _ rfl

theorem gelu_u (i : S4x4096x512.Idx) : val_main_v159 (F := Ideal) x0 x1 x2 i = gelu (val_main_v22 (F := Ideal) x0 x1 x2 i) := by
  rw [val_main_v159_apply, val_main_v158_apply, val_main_v157_apply, val_main_cst_12_apply, val_main_v156_apply, val_main_v155_apply, val_main_cst_11_apply,
    val_main_v154_apply, val_main_v153_apply, val_main_v152_apply, val_main_cst_10_apply, val_main_v151_apply, val_main_v150_apply, val_main_v149_apply,
    val_main_cst_9_apply, val_main_v148_apply, val_main_v147_apply]
  generalize val_main_v22 (F := Ideal) x0 x1 x2 i = z
  unfold gelu
  rw [mul_comm z (z * z)]
  rfl

theorem gelu_s (i : S4x4096x512.Idx) : val_main_v172 (F := Ideal) x0 x1 x2 i = gelu (val_main_v23 (F := Ideal) x0 x1 x2 i) := by
  rw [val_main_v172_apply, val_main_v171_apply, val_main_v170_apply, val_main_cst_16_apply, val_main_v169_apply, val_main_v168_apply, val_main_cst_15_apply,
    val_main_v167_apply, val_main_v166_apply, val_main_v165_apply, val_main_cst_14_apply, val_main_v164_apply, val_main_v163_apply, val_main_v162_apply,
    val_main_cst_13_apply, val_main_v161_apply, val_main_v160_apply]
  generalize val_main_v23 (F := Ideal) x0 x1 x2 i = z
  unfold gelu
  rw [mul_comm z (z * z)]
  rfl

/-- The row that is normed. -/
def sgu (b : Fin 4) (q : Fin 4096) (j : Fin 512) : EReal := gelu (proj x0 x1 x2 b q ⟨2048 + j.val, by omega⟩)

theorem sgu_apply (b : Fin 4) (q : Fin 4096) (j : Fin 512) : val_main_v172 (F := Ideal) x0 x1 x2 (ix3 b q j) = sgu x0 x1 x2 b q j := by
  rw [gelu_s, s_apply]; rfl

theorem mean_apply (b : Fin 4) (q : Fin 4096) (i : Fin 1) :
    val_main_v180 (F := Ideal) x0 x1 x2 (ix3 b q i) = Ideal.div (∑ k, sgu x0 x1 x2 b q k) (Ideal.ofBits .f32 0x44000000#32) := by
  rw [val_main_v180_apply, val_main_v178_apply, val_main_v179_apply, val_main_cst_18_apply, val_main_v177_apply, val_main_cst_17_apply]
  refine congrArg (fun y : EReal => Ideal.div y (Ideal.ofBits .f32 0x44000000#32)) ?_
  refine ((congrArg (· + _) Ideal.ofBits_zero_f32).trans (zero_add _)).trans (Finset.sum_congr rfl fun k _ => ?_)
  exact (congrArg _ (funext fun a => match a with | ⟨0, _⟩ => rfl | ⟨1, _⟩ => rfl | ⟨2, _⟩ => rfl)).trans (sgu_apply x0 x1 x2 b q k)

/-- The row less its mean. -/
abbrev centred (b : Fin 4) (q : Fin 4096) (n : Fin 512) : EReal :=
  sgu x0 x1 x2 b q n - Ideal.div (∑ k, sgu x0 x1 x2 b q k) (Ideal.ofBits .f32 0x44000000#32)

theorem centred_apply (b : Fin 4) (q : Fin 4096) (n : Fin 512) : val_main_v182 (F := Ideal) x0 x1 x2 (ix3 b q n) = centred x0 x1 x2 b q n := by
  rw [val_main_v182_apply, sgu_apply, val_main_v181_apply,
    show idx_main_v181 (ix3 b q n) = ix3 b q 0 from funext fun a => match a with | ⟨0, _⟩ => rfl | ⟨1, _⟩ => rfl | ⟨2, _⟩ => rfl, mean_apply]
  rfl

theorem gain_apply (b : Fin 4) (q : Fin 4096) (n : Fin 512) : val_main_v196 (F := Ideal) x3 (ix3 b q n) = x3 (ix2 0 n) := by
  pointwise [val_main_v196, val_main_v195, val_main_v174, val_main_v173]

theorem offset_apply (b : Fin 4) (q : Fin 4096) (n : Fin 512) : val_main_v199 (F := Ideal) x4 (ix3 b q n) = x4 (ix2 0 n) := by
  pointwise [val_main_v199, val_main_v198, val_main_v176, val_main_v175]

theorem norm_apply (b : Fin 4) (q : Fin 4096) (n : Fin 512) : val_main_v200 (F := Ideal) x0 x1 x2 x3 x4 (ix3 b q n)
    = norm (sgu x0 x1 x2 b q) (fun n => x3 (ix2 0 n)) (fun n => x4 (ix2 0 n)) n := by
  rw [val_main_v200_apply, val_main_v197_apply, offset_apply, gain_apply, val_main_v194_apply, val_main_v193_apply, val_main_v192_apply,
    val_main_v191_apply, val_main_v190_apply, val_main_cst_21_apply, val_main_v187_apply, val_main_v185_apply, val_main_v186_apply,
    val_main_cst_20_apply, val_main_v184_apply, val_main_cst_19_apply]
  have e : ∀ k : Fin 512, val_main_v183 (F := Ideal) x0 x1 x2 (idx_main_v184 (idx_main_v185 (idx_main_v193 (ix3 b q n))) k)
      = centred x0 x1 x2 b q k * centred x0 x1 x2 b q k := fun k => by
    rw [show idx_main_v184 (idx_main_v185 (idx_main_v193 (ix3 b q n))) k = ix3 b q k from
      funext fun a => match a with | ⟨0, _⟩ => rfl | ⟨1, _⟩ => rfl | ⟨2, _⟩ => rfl, val_main_v183_apply, centred_apply]
    rfl
  simp only [e]
  have c : val_main_v189 (F := Ideal) x0 x1 x2 (ix3 b q n) = _ := centred_apply x0 x1 x2 b q n
  rw [c]
  have z : ∀ s : EReal, Ideal.ofBits .f32 0x00000000#32 + s = s := fun s => by rw [Ideal.ofBits_zero_f32, zero_add]
  unfold norm
  refine Eq.trans ?_ rfl
  show _ * Ideal.rsqrt (Ideal.div (Ideal.ofBits .f32 0x00000000#32 + _) _ + _) * _ + _ = _
  rw [z]; rfl

theorem sga_eq (i : S4x4096x1024.Idx) : val_main_v206 (F := Ideal) x0 x1 x2 i = Ideal.logistic (val_main_v24 (F := Ideal) x0 x1 x2 i) := by
  rw [val_main_v206_apply, val_main_v205_apply, val_main_cst_23_apply, val_main_v204_apply, val_main_v203_apply, val_main_cst_22_apply, val_main_v202_apply,
    val_main_v201_apply]
  generalize val_main_v24 (F := Ideal) x0 x1 x2 i = z
  show Ideal.div (Ideal.ofBits .f32 0x3F800000#32) (Ideal.ofBits .f32 0x3F800000#32 + _) = _
  rw [Ideal.ofBits_one_f32]; rfl

theorem sgb_eq (i : S4x4096x1024.Idx) : val_main_v212 (F := Ideal) x0 x1 x2 i = Ideal.logistic (val_main_v25 (F := Ideal) x0 x1 x2 i) := by
  rw [val_main_v212_apply, val_main_v211_apply, val_main_cst_25_apply, val_main_v210_apply, val_main_v209_apply, val_main_cst_24_apply, val_main_v208_apply,
    val_main_v207_apply]
  generalize val_main_v25 (F := Ideal) x0 x1 x2 i = z
  show Ideal.div (Ideal.ofBits .f32 0x3F800000#32) (Ideal.ofBits .f32 0x3F800000#32 + _) = _
  rw [Ideal.ofBits_one_f32]; rfl

/-- Heads' lanes side by side. -/
theorem castheads (x : S4x4096x8x64.Idx → EReal) (h : S4x4096x8x64.ShapeCasts S16384x512) (b : Fin 4) (q : Fin 4096) (n : Fin 512) :
    shapeCast S16384x512 x h (ix2 (HostValue.tok b q) n) = x (ix4 b q ⟨n.val / 64, by omega⟩ ⟨n.val % 64, by omega⟩) := by
  have hb := b.isLt; have hq := q.isLt; have hn := n.isLt
  refine shapeCast_apply x h _ _ ?_
  rw [Shape.rowMajor_val_four, Shape.rowMajor_val_two]
  show ((b.val * 4096 + q.val) * 8 + n.val / 64) * 64 + n.val % 64 = (4096 * b.val + q.val) * 512 + n.val
  omega

/-! ### The eight results -/

variable (b : Fin 4) (q : Fin 4096)

theorem r0 (j : Fin 512) : val_main_v214 (F := Ideal) x0 x1 x2 (ix2 (HostValue.tok b q) j)
    = rot (fun l => proj x0 x1 x2 b q ⟨l.val, by omega⟩) q j * Ideal.ofBits .f32 0x3E000000#32 := by
  refine (castheads (val_main_v86 (F := Ideal) x0 x1 x2) shapeCasts_S4x4096x8x64_S16384x512 b q j).trans ?_
  rw [val_main_v86_apply, val_main_v85_apply, val_main_cst_3_apply, ropeOf_q]
  rw [ropeOf_apply _ b q _ _ j (by show j.val = 64 * (j.val / 64) + j.val % 64; omega), funext (q_apply x0 x1 x2 b q)]
  rfl

theorem r1 (j : Fin 512) : val_main_v216 (F := Ideal) x0 x1 x2 (ix2 (HostValue.tok b q) j)
    = proj x0 x1 x2 b q ⟨j.val, by omega⟩ * Ideal.ofBits .f32 0x3E000000#32 := by
  refine (HostValue.casttok512 (val_main_v88 (F := Ideal) x0 x1 x2) shapeCasts_S4x4096x512_S16384x512 b q j).trans ?_
  rw [val_main_v88_apply, val_main_v87_apply, val_main_cst_4_apply, q_apply]
  rfl

theorem r2 (j : Fin 512) : val_main_v218 (F := Ideal) x0 x1 x2 (ix2 (HostValue.tok b q) j) = rot (fun l => proj x0 x1 x2 b q ⟨512 + l.val, by omega⟩) q j := by
  refine (castheads (val_main_v146 (F := Ideal) x0 x1 x2) shapeCasts_S4x4096x8x64_S16384x512 b q j).trans ?_
  rw [ropeOf_k, ropeOf_apply _ b q _ _ j (by show j.val = 64 * (j.val / 64) + j.val % 64; omega), funext (k_apply x0 x1 x2 b q)]

theorem r3 (j : Fin 512) : val_main_v220 (F := Ideal) x0 x1 x2 (ix2 (HostValue.tok b q) j) = proj x0 x1 x2 b q ⟨1024 + j.val, by omega⟩ :=
  (HostValue.casttok512 (val_main_v21 (F := Ideal) x0 x1 x2) shapeCasts_S4x4096x512_S16384x512 b q j).trans (v_apply x0 x1 x2 b q j)

theorem r4 (j : Fin 512) : val_main_v222 (F := Ideal) x0 x1 x2 (ix2 (HostValue.tok b q) j) = gelu (proj x0 x1 x2 b q ⟨1536 + j.val, by omega⟩) :=
  (HostValue.casttok512 (val_main_v159 (F := Ideal) x0 x1 x2) shapeCasts_S4x4096x512_S16384x512 b q j).trans
    ((gelu_u x0 x1 x2 _).trans (congrArg gelu (u_apply x0 x1 x2 b q j)))

theorem r5 (j : Fin 512) : val_main_v224 (F := Ideal) x0 x1 x2 x3 x4 (ix2 (HostValue.tok b q) j)
    = norm (sgu x0 x1 x2 b q) (fun n => x3 (ix2 0 n)) (fun n => x4 (ix2 0 n)) j :=
  (HostValue.casttok512 (val_main_v200 (F := Ideal) x0 x1 x2 x3 x4) shapeCasts_S4x4096x512_S16384x512 b q j).trans (norm_apply x0 x1 x2 x3 x4 b q j)

theorem r6 (j : Fin 1024) : val_main_v226 (F := Ideal) x0 x1 x2 (ix2 (HostValue.tok b q) j) = Ideal.logistic (proj x0 x1 x2 b q ⟨2560 + j.val, by omega⟩) :=
  (HostValue.casttok1024 (val_main_v206 (F := Ideal) x0 x1 x2) shapeCasts_S4x4096x1024_S16384x1024 b q j).trans
    ((sga_eq x0 x1 x2 _).trans (congrArg Ideal.logistic (a_apply x0 x1 x2 b q j)))

theorem r7 (j : Fin 1024) : val_main_v228 (F := Ideal) x0 x1 x2 (ix2 (HostValue.tok b q) j) = Ideal.logistic (proj x0 x1 x2 b q ⟨3584 + j.val, by omega⟩) :=
  (HostValue.casttok1024 (val_main_v212 (F := Ideal) x0 x1 x2) shapeCasts_S4x4096x1024_S16384x1024 b q j).trans
    ((sgb_eq x0 x1 x2 _).trans (congrArg Ideal.logistic (b_apply x0 x1 x2 b q j)))

end Cert.ProjRef
-- ==== Proof.ProjBody.lean ====
module

public import proofs.«01_k».proof.Proof.Gen.Kernel2Ideal.Value
public import proofs.«01_k».proof.Proof.FfnScratch
public import proofs.«01_k».proof.Proof.FfnBlock
public import proofs.«01_k».proof.Proof.MixGlue
public import proofs.«01_k».proof.Proof.ProjRef

/-! # The projection's body on its blocks, an element at a time -/

@[expose] public section

set_option maxRecDepth 65536

noncomputable section

namespace Cert.ProjValue

open Idealize.ShloMosaic Idealize.ShloMosaic.TcCoe Idealize.SL.Sem
open Cert.Kernel2Ideal Cert.Kernel2Ideal.Gen
open Cert.ProjRef (gelu norm logistic_half)

/-! ### The payloads -/

theorem mod_apply (x : S1024x1024.Idx → EReal) (s o : S1x1x1x1024.Idx → EReal) (i k : Fin 1024) : k0_pay4 (F := Ideal) x s o (ix2 i k)
    = x (ix2 i k) * (Ideal.ofBits .f32 0x3F800000#32 + s (ix4 0 0 0 k)) + o (ix4 0 0 0 k) := by
  rw [Ideal.ofBits_one_f32]
  pointwise [k0_pay4]

variable (h : S1024x1024.Idx → EReal) (w : S1x1024x512.Idx → EReal) (i : Fin 1024)

/-- A product's row. -/
abbrev mm (l : Fin 512) : EReal := ∑ k : Fin 1024, h (ix2 i k) * w (ix3 0 k l)

theorem mm_apply (l : Fin 512) : k0_pay25 (F := Ideal) h w (ix2 i l) = mm h w i l := by pointwise [k0_pay25]

theorem gelu_apply (l : Fin 512) : k0_pay27 (F := Ideal) (k0_pay25 (F := Ideal) h w) (k0_pay26 (F := Ideal) h w) (ix2 i l) = gelu (mm h w i l) := by
  rw [← mm_apply]; rfl

theorem centred_apply (l : Fin 512) : k0_pay30 (F := Ideal) h w (ix2 i l)
    = gelu (mm h w i l) - Ideal.div (∑ k, gelu (mm h w i k)) (Ideal.ofBits .f32 0x44000000#32) := by
  simp only [gelu, Ideal.ofBits_one_f32]
  pointwise [k0_pay30]

theorem spread_apply (l : Fin 512) : k0_pay31 (F := Ideal) h w (ix2 i l)
    = Ideal.rsqrt (Ideal.div (∑ k, k0_pay30 (F := Ideal) h w (ix2 i k) * k0_pay30 (F := Ideal) h w (ix2 i k)) (Ideal.ofBits .f32 0x44000000#32)
      + Ideal.ofBits .f32 0x3727C5AC#32) := by
  pointwise [k0_pay31]

theorem norm_apply (g o : S1x1x512.Idx → EReal) (l : Fin 512) :
    k0_pay1 (F := Ideal) (k0_pay28 (F := Ideal) g) (k0_pay29 (F := Ideal) o) (k0_pay30 (F := Ideal) h w) (k0_pay31 (F := Ideal) h w) (ix2 i l)
      = norm (fun l => gelu (mm h w i l)) (fun l => g (ix3 0 0 l)) (fun l => o (ix3 0 0 l)) l := by
  have e : ∀ c r : S1024x512.Idx → EReal, k0_pay1 (F := Ideal) (k0_pay28 (F := Ideal) g) (k0_pay29 (F := Ideal) o) c r (ix2 i l)
      = c (ix2 i l) * r (ix2 i l) * g (ix3 0 0 l) + o (ix3 0 0 l) := fun c r => by
    pointwise [k0_pay1, k0_pay28, k0_pay29]
  rw [e, spread_apply]
  simp only [centred_apply]
  rfl

theorem gate_apply (w : S1x1024x1024.Idx → EReal) (l : Fin 1024) :
    k0_pay2 (F := Ideal) h w (ix2 i l) = Ideal.logistic (∑ k : Fin 1024, h (ix2 i k) * w (ix3 0 k l)) := by
  rw [← logistic_half]
  pointwise [k0_pay2]

/-! ### The rotation of a tile of 128 lanes -/

/-- A row rotated, by a row of each table. -/
def ropeB (z : Fin 512 → EReal) (C S : Fin 128 → EReal) (j : Fin 512) : EReal :=
  z j * C ⟨j.val % 128, by omega⟩
    + (if h : j.val % 32 < 16 then z ⟨j.val + 16, by have := j.isLt; omega⟩ else z ⟨j.val - 16, by omega⟩) * S ⟨j.val % 128, by omega⟩

/-- The rotation of the tile at lane `o`. -/
def tile (o : ℕ) (hs : S1024x512.Slices ![0, o] S1024x128) (z : FVec Ideal S1024x512 .f32) (C S : FVec Ideal S1024x128 .f32) (M : IVec S1024x128 1) :
    FVec Ideal S1024x128 .f32 :=
  addf (mulf (extractStridedSlice S1024x128 ![0, o] z hs) C)
    (mulf (select M (dynamicRotate 1 112#32 none (extractStridedSlice S1024x128 ![0, o] z hs) rotates_S1024x128_d1)
      (dynamicRotate 1 16#32 none (extractStridedSlice S1024x128 ![0, o] z hs) rotates_S1024x128_d1)) S)

theorem lanes (o : ℕ) (hs : S1024x512.Slices ![0, o] S1024x128) (z : FVec Ideal S1024x512 .f32) (l : Fin 128) (j : Fin 512) (hj : j.val = o + l.val) :
    extractStridedSlice S1024x128 ![0, o] z hs (ix2 i l) = z (ix2 i j) :=
  extractStridedSlice_apply ![0, o] z hs (ix2 i l) (ix2 i j) (fun a => match a with
    | ⟨0, _⟩ => by show i.val = 0 + i.val; omega
    | ⟨1, _⟩ => by show j.val = o + l.val; exact hj)

theorem turned (y : FVec Ideal S1024x128 .f32) (s : BitVec 32) (l k : Fin 128) (hk : k.val = (l.val + 128 - s.toNat % 128) % 128) :
    dynamicRotate 1 s none y rotates_S1024x128_d1 (ix2 i l) = y (ix2 i k) :=
  dynamicRotate_apply 1 s y rotates_S1024x128_d1 (ix2 i l) (ix2 i k) (fun b => match b with
    | ⟨0, _⟩ => rfl
    | ⟨1, _⟩ => hk)

/-- The first half of each group of 32 lanes. -/
theorem mask_apply (l : Fin 128) :
    k0_pay10 (iota .tc S1024x128 32 [1] iota_S1024x128_d1_w32) 32#32 (Scalar.cmpi .eq 32#32 0#32) 1#32 (ix2 i l) = if l.val % 32 < 16 then 1#1 else 0#1 := by
  obtain ⟨f, h, e⟩ : ∃ f : Fin 128 → BitVec 1,
      (∀ i l, k0_pay10 (iota .tc S1024x128 32 [1] iota_S1024x128_d1_w32) 32#32 (Scalar.cmpi .eq 32#32 0#32) 1#32 (ix2 i l) = f l)
      ∧ ∀ l, f l = if l.val % 32 < 16 then 1#1 else 0#1 :=
    ⟨fun l => k0_pay10 (iota .tc S1024x128 32 [1] iota_S1024x128_d1_w32) 32#32 (Scalar.cmpi .eq 32#32 0#32) 1#32 (ix2 0 l), fun i l => rfl, by decide +kernel⟩
  rw [h, e]

theorem sel_one (x y : EReal) : Scalar.select 1#1 x y = x := rfl

theorem sel_zero (x y : EReal) : Scalar.select 0#1 x y = y := rfl

theorem tile_apply (o : ℕ) (ho : o % 128 = 0) (hs : S1024x512.Slices ![0, o] S1024x128) (z : FVec Ideal S1024x512 .f32) (C S : FVec Ideal S1024x128 .f32)
    (M : IVec S1024x128 1) (hM : ∀ l : Fin 128, M (ix2 i l) = if l.val % 32 < 16 then 1#1 else 0#1) (l : Fin 128) (j : Fin 512) (hj : j.val = o + l.val) :
    tile o hs z C S M (ix2 i l) = ropeB (fun j => z (ix2 i j)) (fun l => C (ix2 i l)) (fun l => S (ix2 i l)) j := by
  have hl : (⟨j.val % 128, by omega⟩ : Fin 128) = l := Fin.ext (by show j.val % 128 = l.val; omega)
  have hlt := l.isLt
  have hlt' := j.isLt
  unfold ropeB
  rw [hl]
  refine congrArg₂ (fun x y : EReal => x + y) (congrArg (· * C (ix2 i l)) (lanes i o hs z l j hj)) (congrArg (fun x : EReal => x * S (ix2 i l)) ?_)
  refine Eq.trans (congrArg (fun b : BitVec 1 => Scalar.select b _ _) (hM l)) ?_
  by_cases c : l.val % 32 < 16
  · rw [if_pos c, dif_pos (by omega : j.val % 32 < 16)]
    refine Eq.trans ?_ (lanes i o hs z ⟨l.val + 16, by omega⟩ ⟨j.val + 16, by omega⟩ (by show j.val + 16 = o + (l.val + 16); omega))
    exact (sel_one _ _).trans (turned i _ 112#32 l ⟨l.val + 16, by omega⟩ (by show l.val + 16 = (l.val + 128 - 112) % 128; omega))
  · rw [if_neg c, dif_neg (by omega : ¬ j.val % 32 < 16)]
    refine Eq.trans ?_ (lanes i o hs z ⟨l.val - 16, by omega⟩ ⟨j.val - 16, by omega⟩ (by show j.val - 16 = o + (l.val - 16); omega))
    exact (sel_zero _ _).trans (turned i _ 16#32 l ⟨l.val - 16, by omega⟩ (by show l.val - 16 = (l.val + 128 - 16) % 128; omega))

/-- A tile's piece: the rotation, then `s` of each element. -/
theorem tile_piece (s : EReal → EReal) (z : FVec Ideal S1024x512 .f32) (C S : FVec Ideal S1024x128 .f32)
    (M : IVec S1024x128 1) (hM : ∀ (i : Fin 1024) (l : Fin 128), M (ix2 i l) = if l.val % 32 < 16 then 1#1 else 0#1)
    (o : ℕ) (ho : o % 128 = 0) (hs : S1024x512.Slices ![0, o] S1024x128)
    (hb : ∀ x : Fin 2, (![0, o] : Fin 2 → ℕ) x + (![1024, 128] : Fin 2 → ℕ) x ≤ (![1024, 512] : Fin 2 → ℕ) x)
    (p : S1024x128.Idx → EReal) (hp : ∀ x, p x = s (tile o hs z C S M x)) (x : S1024x128.Idx) :
    p x = (fun y : S1024x512.Idx => s (ropeB (fun j => z (ix2 (y 0) j)) (fun l => C (ix2 (y 0) l)) (fun l => S (ix2 (y 0) l)) (y 1)))
      ((Rect.unit (s := S1024x512) ![0, o] ![1024, 128] hb).emb x) := by
  refine MixValue.piece_of 0 o hb p (fun r j => s (ropeB (fun j => z (ix2 r j)) (fun l => C (ix2 r l)) (fun l => S (ix2 r l)) j)) (fun i l r j hr hj => ?_) x
  obtain rfl : r = i := Fin.ext (hr.trans (Nat.zero_add _))
  exact (hp _).trans (congrArg s (tile_apply r o ho hs z C S M (hM r) l j hj))

/-! ### The outputs' blocks -/

variable (x0 : S1024x1024.Idx → EReal) (x1 : S1x1x6x1024.Idx → EReal) (x2 : S1x1024x4608.Idx → EReal) (x3 x4 : S1x1x512.Idx → EReal) (x5 x6 : S1024x128.Idx → EReal)

/-- A modulated token of the block. -/
def hidB (i k : Fin 1024) : EReal := x0 (ix2 i k) * (Ideal.ofBits .f32 0x3F800000#32 + x1 (ix4 0 0 1 k)) + x1 (ix4 0 0 0 k)

/-- Its projection. -/
def projB (i : Fin 1024) (l : Fin 4608) : EReal := ∑ k, hidB x0 x1 i k * x2 (ix3 0 k l)

theorem hid_apply (k : Fin 1024) : k0_pay33 (F := Ideal) x0 x1 x2 x3 x4 x5 x6 (ix2 i k) = hidB x0 x1 i k := by
  refine (mod_apply _ _ _ i k).trans ?_
  exact congrArg₂ (fun x y : EReal => x + y) (congrArg₂ (fun x y : EReal => x * y) (FfnValue.ld2at (α := Elt Ideal) (e := .f32) x0 inb_S1024x1024_S1024x1024_0_0 i k)
    (congrArg (fun x : EReal => Ideal.ofBits .f32 0x3F800000#32 + x) (FfnValue.ldmod (α := Elt Ideal) (e := .f32) x1 1 inb_S1x1x6x1024_S1x1x1x1024_0_0_1_0 1 rfl k)))
    (FfnValue.ldmod (α := Elt Ideal) (e := .f32) x1 0 inb_S1x1x6x1024_S1x1x1x1024_0_0_0_0 0 rfl k)

/-- A product with a slice of the weights. -/
theorem slice_apply {n : ℕ} (o : ℕ) (hb : ∀ x : Fin 3, (![0, 0, o] : Fin 3 → ℕ) x + (![1, 1024, n] : Fin 3 → ℕ) x ≤ (![1, 1024, 4608] : Fin 3 → ℕ) x)
    (l : Fin n) (j : Fin 4608) (hj : j.val = o + l.val) :
    (∑ k : Fin 1024, (k0_pay33 (F := Ideal) x0 x1 x2 x3 x4 x5 x6 (ix2 i k) : EReal)
      * (View.ld (Val := Elt Ideal) (e' := .bf16) x2 (Rect.unit (s := S1x1024x4608) ![0, 0, o] ![1, 1024, n] hb) (ix3 0 k l) : EReal)) = projB x0 x1 x2 i j :=
  Finset.sum_congr rfl fun k _ => congrArg₂ (fun x y : EReal => x * y) (hid_apply i x0 x1 x2 x3 x4 x5 x6 k)
    (FfnValue.ld3at (α := Elt Ideal) (e := .bf16) x2 0 o hb k l k j (Nat.zero_add _).symm hj)

theorem q_apply (l : Fin 512) : k0_pay34 (F := Ideal) x0 x1 x2 x3 x4 x5 x6 (ix2 i l) = projB x0 x1 x2 i ⟨l.val, by omega⟩ :=
  (mm_apply (k0_pay33 (F := Ideal) x0 x1 x2 x3 x4 x5 x6) _ i l).trans (slice_apply i x0 x1 x2 x3 x4 x5 x6 0 inb_S1x1024x4608_S1x1024x512_0_0_0 l _ (Nat.zero_add _).symm)

theorem k_apply (l : Fin 512) : k0_pay35 (F := Ideal) x0 x1 x2 x3 x4 x5 x6 (ix2 i l) = projB x0 x1 x2 i ⟨512 + l.val, by omega⟩ :=
  (mm_apply (k0_pay33 (F := Ideal) x0 x1 x2 x3 x4 x5 x6) _ i l).trans (slice_apply i x0 x1 x2 x3 x4 x5 x6 512 inb_S1x1024x4608_S1x1024x512_0_0_512 l _ rfl)

theorem cos_apply (l : Fin 128) : k0_pay36 (F := Ideal) x0 x1 x2 x3 x4 x5 x6 (ix2 i l) = x5 (ix2 i l) := by
  refine Eq.trans ?_ (FfnValue.ld2at (α := Elt Ideal) (e := .f32) x5 inb_S1024x128_S1024x128_0_0 i l)
  show k0_pay8 (F := Ideal) _ (ix2 i l) = _
  pointwise [k0_pay8]

theorem sin_apply (l : Fin 128) : k0_pay37 (F := Ideal) x0 x1 x2 x3 x4 x5 x6 (ix2 i l) = x6 (ix2 i l) := by
  refine Eq.trans ?_ (FfnValue.ld2at (α := Elt Ideal) (e := .f32) x6 inb_S1024x128_S1024x128_0_0 i l)
  show k0_pay9 (F := Ideal) _ (ix2 i l) = _
  pointwise [k0_pay9]

theorem o7 (l : Fin 512) : out0_7 (F := Ideal) x0 x1 x2 x3 x4 x5 x6 (ix2 i l)
    = ropeB (fun j => projB x0 x1 x2 i ⟨j.val, by omega⟩) (fun l => x5 (ix2 i l)) (fun l => x6 (ix2 i l)) l * Ideal.ofBits .f32 0x3E000000#32 := by
  rw [← funext (q_apply i x0 x1 x2 x3 x4 x5 x6), ← funext (cos_apply i x0 x1 x2 x3 x4 x5 x6), ← funext (sin_apply i x0 x1 x2 x3 x4 x5 x6)]
  unfold out0_7
  have P := tile_piece (fun x => x * Ideal.ofBits .f32 0x3E000000#32) (k0_pay34 (F := Ideal) x0 x1 x2 x3 x4 x5 x6) (k0_pay36 (F := Ideal) x0 x1 x2 x3 x4 x5 x6)
    (k0_pay37 (F := Ideal) x0 x1 x2 x3 x4 x5 x6) (k0_pay38 (F := Ideal) x0 x1 x2 x3 x4 x5 x6) mask_apply
  refine (View.canon_apply_of_pieces (Val := Elt Ideal) (e := .bf16) (fun y : S1024x512.Idx =>
    ropeB (fun j => k0_pay34 (F := Ideal) x0 x1 x2 x3 x4 x5 x6 (ix2 (y 0) j)) (fun l => k0_pay36 (F := Ideal) x0 x1 x2 x3 x4 x5 x6 (ix2 (y 0) l))
      (fun l => k0_pay37 (F := Ideal) x0 x1 x2 x3 x4 x5 x6 (ix2 (y 0) l)) (y 1) * Ideal.ofBits .f32 0x3E000000#32) _ ?_ _ (cover0_7 _ _ _ _ _)).trans rfl
  simp only [List.forall_mem_cons, List.not_mem_nil, false_implies, implies_true, and_true]
  exact ⟨P 384 rfl slices_S1024x512_o0_384_S1024x128 inb_S1024x512_S1024x128_0_384 _ fun _ => rfl,
    P 256 rfl slices_S1024x512_o0_256_S1024x128 inb_S1024x512_S1024x128_0_256 _ fun _ => rfl,
    P 128 rfl slices_S1024x512_o0_128_S1024x128 inb_S1024x512_S1024x128_0_128 _ fun _ => rfl,
    P 0 rfl slices_S1024x512_o0_0_S1024x128 inb_S1024x512_S1024x128_0_0 _ fun _ => rfl⟩

theorem o9 (l : Fin 512) : out0_9 (F := Ideal) x0 x1 x2 x3 x4 x5 x6 (ix2 i l)
    = ropeB (fun j => projB x0 x1 x2 i ⟨512 + j.val, by omega⟩) (fun l => x5 (ix2 i l)) (fun l => x6 (ix2 i l)) l := by
  rw [← funext (k_apply i x0 x1 x2 x3 x4 x5 x6), ← funext (cos_apply i x0 x1 x2 x3 x4 x5 x6), ← funext (sin_apply i x0 x1 x2 x3 x4 x5 x6)]
  unfold out0_9
  have P := tile_piece (fun x => x) (k0_pay35 (F := Ideal) x0 x1 x2 x3 x4 x5 x6) (k0_pay36 (F := Ideal) x0 x1 x2 x3 x4 x5 x6)
    (k0_pay37 (F := Ideal) x0 x1 x2 x3 x4 x5 x6) (k0_pay38 (F := Ideal) x0 x1 x2 x3 x4 x5 x6) mask_apply
  refine (View.canon_apply_of_pieces (Val := Elt Ideal) (e := .bf16) (fun y : S1024x512.Idx =>
    ropeB (fun j => k0_pay35 (F := Ideal) x0 x1 x2 x3 x4 x5 x6 (ix2 (y 0) j)) (fun l => k0_pay36 (F := Ideal) x0 x1 x2 x3 x4 x5 x6 (ix2 (y 0) l))
      (fun l => k0_pay37 (F := Ideal) x0 x1 x2 x3 x4 x5 x6 (ix2 (y 0) l)) (y 1)) _ ?_ _ (cover0_9 _ _ _ _ _)).trans rfl
  simp only [List.forall_mem_cons, List.not_mem_nil, false_implies, implies_true, and_true]
  exact ⟨P 384 rfl slices_S1024x512_o0_384_S1024x128 inb_S1024x512_S1024x128_0_384 _ fun _ => rfl,
    P 256 rfl slices_S1024x512_o0_256_S1024x128 inb_S1024x512_S1024x128_0_256 _ fun _ => rfl,
    P 128 rfl slices_S1024x512_o0_128_S1024x128 inb_S1024x512_S1024x128_0_128 _ fun _ => rfl,
    P 0 rfl slices_S1024x512_o0_0_S1024x128 inb_S1024x512_S1024x128_0_0 _ fun _ => rfl⟩

/-- The one store of a whole buffer of 512 lanes, read. -/
theorem whole512 (p : S1024x512.Idx → EReal) (l : Fin 512) : View.canon (Val := Elt Ideal) (e := .bf16) [⟨r0_5, p⟩] (ix2 i l) = p (ix2 i l) :=
  FfnValue.rows_in (e := .bf16) 0 1024 inb_S1024x512_S1024x512_0_0 p [] i i l (Nat.zero_add _).symm

/-- And of 1024. -/
theorem whole1024 (p : S1024x1024.Idx → EReal) (l : Fin 1024) : View.canon (Val := Elt Ideal) (e := .bf16) [⟨r0_0, p⟩] (ix2 i l) = p (ix2 i l) :=
  FfnValue.rows_in (e := .bf16) 0 1024 inb_S1024x1024_S1024x1024_0_0 p [] i i l (Nat.zero_add _).symm

theorem o8 (l : Fin 512) : out0_8 (F := Ideal) x0 x1 x2 x3 x4 x5 x6 (ix2 i l)
    = projB x0 x1 x2 i ⟨l.val, by omega⟩ * Ideal.ofBits .f32 0x3E000000#32 :=
  (whole512 i _ l).trans (congrArg (fun x : EReal => x * Ideal.ofBits .f32 0x3E000000#32) (q_apply i x0 x1 x2 x3 x4 x5 x6 l))

theorem o10 (l : Fin 512) : out0_10 (F := Ideal) x0 x1 x2 x3 x4 x5 x6 (ix2 i l) = projB x0 x1 x2 i ⟨1024 + l.val, by omega⟩ :=
  (whole512 i _ l).trans ((mm_apply (k0_pay33 (F := Ideal) x0 x1 x2 x3 x4 x5 x6) _ i l).trans
    (slice_apply i x0 x1 x2 x3 x4 x5 x6 1024 inb_S1x1024x4608_S1x1024x512_0_0_1024 l _ rfl))

theorem o11 (l : Fin 512) : out0_11 (F := Ideal) x0 x1 x2 x3 x4 x5 x6 (ix2 i l) = gelu (projB x0 x1 x2 i ⟨1536 + l.val, by omega⟩) :=
  (whole512 i _ l).trans ((gelu_apply (k0_pay33 (F := Ideal) x0 x1 x2 x3 x4 x5 x6) _ i l).trans
    (congrArg gelu (slice_apply i x0 x1 x2 x3 x4 x5 x6 1536 inb_S1x1024x4608_S1x1024x512_0_0_1536 l _ rfl)))

theorem o12 (l : Fin 512) : out0_12 (F := Ideal) x0 x1 x2 x3 x4 x5 x6 (ix2 i l)
    = norm (fun l => gelu (projB x0 x1 x2 i ⟨2048 + l.val, by omega⟩)) (fun l => x3 (ix3 0 0 l)) (fun l => x4 (ix3 0 0 l)) l := by
  refine (whole512 i _ l).trans ((norm_apply (k0_pay33 (F := Ideal) x0 x1 x2 x3 x4 x5 x6) _ i _ _ l).trans ?_)
  rw [funext fun l => congrArg gelu (slice_apply i x0 x1 x2 x3 x4 x5 x6 2048 inb_S1x1024x4608_S1x1024x512_0_0_2048 l ⟨2048 + l.val, by omega⟩ rfl)]
  exact congrArg₂ (fun g o => norm _ g o l)
    (funext fun l => FfnValue.ld3at (α := Elt Ideal) (e := .f32) x3 0 0 inb_S1x1x512_S1x1x512_0_0_0 0 l 0 l rfl (Nat.zero_add _).symm)
    (funext fun l => FfnValue.ld3at (α := Elt Ideal) (e := .f32) x4 0 0 inb_S1x1x512_S1x1x512_0_0_0 0 l 0 l rfl (Nat.zero_add _).symm)

theorem o13 (l : Fin 1024) : out0_13 (F := Ideal) x0 x1 x2 x3 x4 x5 x6 (ix2 i l) = Ideal.logistic (projB x0 x1 x2 i ⟨2560 + l.val, by omega⟩) :=
  (whole1024 i _ l).trans ((gate_apply (k0_pay33 (F := Ideal) x0 x1 x2 x3 x4 x5 x6) i _ l).trans
    (congrArg Ideal.logistic (slice_apply i x0 x1 x2 x3 x4 x5 x6 2560 inb_S1x1024x4608_S1x1024x1024_0_0_2560 l _ rfl)))

theorem o14 (l : Fin 1024) : out0_14 (F := Ideal) x0 x1 x2 x3 x4 x5 x6 (ix2 i l) = Ideal.logistic (projB x0 x1 x2 i ⟨3584 + l.val, by omega⟩) :=
  (whole1024 i _ l).trans ((gate_apply (k0_pay33 (F := Ideal) x0 x1 x2 x3 x4 x5 x6) i _ l).trans
    (congrArg Ideal.logistic (slice_apply i x0 x1 x2 x3 x4 x5 x6 3584 inb_S1x1024x4608_S1x1024x1024_0_0_3584 l _ rfl)))

end Cert.ProjValue
-- ==== Proof.ProjWin.lean ====
module

public import proofs.«01_k».proof.Proof.Gen.Kernel2Ideal.Value
public import proofs.«01_k».proof.Proof.HostValue
public import proofs.«01_k».proof.Proof.ProjRef
public import Idealize.ShloMosaic.Lib.Pipeline.ValueKit

/-! # The projection's windows and the host's arrays under them, an element at a time -/

@[expose] public section

set_option maxRecDepth 65536

noncomputable section

namespace Cert.ProjValue

open Idealize.ShloMosaic Idealize.ShloMosaic.TcCoe Idealize.SL.Sem
open Cert.Kernel2Ideal Cert.Kernel2Ideal.Gen
open Cert.Reference2Ideal.Read
open Cert.ProjRef (cosT sinT modn)

/-- Five lists of host operations, one after another. -/
theorem line (a b d e f : List (HloOp τ sig (Elt Ideal))) (W) (r : DevRef τ sig) : StableHlo.after (List.flatten [a, b, d, e, f]) W r
    = StableHlo.after f (StableHlo.after e (StableHlo.after d (StableHlo.after b (StableHlo.after a W)))) r := by
  simp only [List.flatten_cons, List.flatten_nil, List.append_nil, StableHlo.after_append]

variable (m : (ℓ : Loc nD τ sig) → Buf (Elt Ideal) ℓ) (c : Dev nD)

theorem index0_0 : ∀ t : Fin cfg0.N, win0_0.index t = ![t.val, 0] := (by decide +kernel : ∀ t : Fin grid0.N, _)
theorem index0_1 : ∀ t : Fin cfg0.N, win0_1.index t = ![0, t.val / 4, 0, 0] := (by decide +kernel : ∀ t : Fin grid0.N, _)
theorem index0_2 : ∀ t : Fin cfg0.N, win0_2.index t = ![0, 0, 0] := (by decide +kernel : ∀ t : Fin grid0.N, _)
theorem index0_3 : ∀ t : Fin cfg0.N, win0_3.index t = ![0, 0, 0] := (by decide +kernel : ∀ t : Fin grid0.N, _)
theorem index0_4 : ∀ t : Fin cfg0.N, win0_4.index t = ![0, 0, 0] := (by decide +kernel : ∀ t : Fin grid0.N, _)
theorem index0_5 : ∀ t : Fin cfg0.N, win0_5.index t = ![t.val % 4, 0] := (by decide +kernel : ∀ t : Fin grid0.N, _)
theorem index0_6 : ∀ t : Fin cfg0.N, win0_6.index t = ![t.val % 4, 0] := (by decide +kernel : ∀ t : Fin grid0.N, _)
theorem index0_7 : ∀ t : Fin cfg0.N, win0_7.index t = ![t.val, 0] := (by decide +kernel : ∀ t : Fin grid0.N, _)
theorem index0_8 : ∀ t : Fin cfg0.N, win0_8.index t = ![t.val, 0] := (by decide +kernel : ∀ t : Fin grid0.N, _)
theorem index0_9 : ∀ t : Fin cfg0.N, win0_9.index t = ![t.val, 0] := (by decide +kernel : ∀ t : Fin grid0.N, _)
theorem index0_10 : ∀ t : Fin cfg0.N, win0_10.index t = ![t.val, 0] := (by decide +kernel : ∀ t : Fin grid0.N, _)
theorem index0_11 : ∀ t : Fin cfg0.N, win0_11.index t = ![t.val, 0] := (by decide +kernel : ∀ t : Fin grid0.N, _)
theorem index0_12 : ∀ t : Fin cfg0.N, win0_12.index t = ![t.val, 0] := (by decide +kernel : ∀ t : Fin grid0.N, _)
theorem index0_13 : ∀ t : Fin cfg0.N, win0_13.index t = ![t.val, 0] := (by decide +kernel : ∀ t : Fin grid0.N, _)
theorem index0_14 : ∀ t : Fin cfg0.N, win0_14.index t = ![t.val, 0] := (by decide +kernel : ∀ t : Fin grid0.N, _)

/-! ### The host's arrays -/

theorem v40 (b : Fin 4) (q : Fin 4096) (n : Fin 1024) :
    (V m c main_v40 : S16384x1024.Idx → EReal) (ix2 (HostValue.tok b q) n) = (m ((c : Thread nD τ).loc main_arg0) : S4x4096x1024.Idx → EReal) (ix3 b q n) := by
  have h : V m c main_v40 = shapeCast S16384x1024 (m ((c : Thread nD τ).loc main_arg0)) shapeCasts_S4x4096x1024_S16384x1024 := by
    unfold_abbrev_sides
    rw [line]
    after_results_simp
    rfl
  exact (congrFun h _).trans (HostValue.casttok1024 _ _ _ _ _)

theorem v0 (a : Fin 2) (b : Fin 8) (r : Fin 6) (l : Fin 1024) :
    (V m c main_v0 : S2x8x6x1024.Idx → EReal) (ix4 a b r l)
      = (m ((c : Thread nD τ).loc main_arg1) : S2x8x6144.Idx → EReal) (ix3 a b ⟨1024 * r.val + l.val, by omega⟩) := by
  have h : V m c main_v0 = shapeCast S2x8x6x1024 (m ((c : Thread nD τ).loc main_arg1)) shapeCasts_S2x8x6144_S2x8x6x1024 := by
    unfold_abbrev_sides
    rw [line]
    after_results_simp
    rfl
  refine (congrFun h _).trans ?_
  pointwise
  refine congrArg (m ((c : Thread nD τ).loc main_arg1) : S2x8x6144.Idx → EReal) (funext fun x => ?_)
  match x with
  | ⟨0, _⟩ => rfl
  | ⟨1, _⟩ => rfl
  | ⟨2, _⟩ => first | rfl | exact Fin.ext (by show r.val * 1024 + l.val = 1024 * r.val + l.val; omega)

theorem v41 : (V m c main_v41 : S2x1024x4608.Idx → EReal) = (m ((c : Thread nD τ).loc main_arg2) : S2x1024x4608.Idx → EReal) := by
  unfold_abbrev_sides
  rw [line]
  after_results_simp
  rfl

theorem castgain (x : S2x512.Idx → EReal) (h : S2x512.ShapeCasts S2x1x512) (a : Fin 2) (l : Fin 512) :
    shapeCast S2x1x512 x h (ix3 a 0 l) = x (ix2 a l) := by
  pointwise

theorem v42 (a : Fin 2) (l : Fin 512) :
    (V m c main_v42 : S2x1x512.Idx → EReal) (ix3 a 0 l) = (m ((c : Thread nD τ).loc main_arg3) : S2x512.Idx → EReal) (ix2 a l) := by
  have h : V m c main_v42 = shapeCast S2x1x512 (m ((c : Thread nD τ).loc main_arg3)) shapeCasts_S2x512_S2x1x512 := by
    unfold_abbrev_sides
    rw [line]
    after_results_simp
    rfl
  exact (congrFun h _).trans (castgain _ _ _ _)

theorem v43 (a : Fin 2) (l : Fin 512) :
    (V m c main_v43 : S2x1x512.Idx → EReal) (ix3 a 0 l) = (m ((c : Thread nD τ).loc main_arg4) : S2x512.Idx → EReal) (ix2 a l) := by
  have h : V m c main_v43 = shapeCast S2x1x512 (m ((c : Thread nD τ).loc main_arg4)) shapeCasts_S2x512_S2x1x512 := by
    unfold_abbrev_sides
    rw [line]
    after_results_simp
    rfl
  exact (congrFun h _).trans (castgain _ _ _ _)

/-! ### The tables -/

/-- Four tables of 16 lanes side by side. -/
def four (x y z w : FVec Ideal S4096x16 .f32) : FVec Ideal S4096x64 .f32 :=
  concatenate S4096x64 1 [⟨S4096x32, concatenate S4096x32 1 [⟨S4096x16, x⟩, ⟨S4096x16, y⟩] concatenates_S4096x16_S4096x16_S4096x32_d1⟩,
    ⟨S4096x32, concatenate S4096x32 1 [⟨S4096x16, z⟩, ⟨S4096x16, w⟩] concatenates_S4096x16_S4096x16_S4096x32_d1⟩] concatenates_S4096x32_S4096x32_S4096x64_d1

/-- A table of 64 lanes, twice over. -/
def twice (x : FVec Ideal S4096x64 .f32) : FVec Ideal S4096x128 .f32 :=
  shapeCast S4096x128 (broadcastInDim S1x4096x2x64 ![0, 1, 2, 3] bcast_S1x4096x1x64_S1x4096x2x64_0_1_2_3
    (shapeCast S1x4096x1x64 x shapeCasts_S4096x64_S1x4096x1x64)) shapeCasts_S1x4096x2x64_S4096x128

set_option maxHeartbeats 1000000 in
theorem v36 : V m c main_v36 = twice (four (val_main_v43 (F := Ideal)) (val_main_v43 (F := Ideal)) (val_main_v67 (F := Ideal)) (val_main_v67 (F := Ideal))) := by
  unfold_abbrev_sides
  rw [line]
  after_results
  simp only [StableHlo.TRef.ofBuf_toBuf]
  unfold twice four val_main_v43 val_main_v67 val_main_v42 val_main_v66 val_main_v40 val_main_v41 val_main_v64 val_main_v65 val_main_v38
    val_main_v39 val_main_v62 val_main_v63 val_main_v37 val_main_v35 val_main_v61 val_main_v28 val_main_v34 val_main_v33 val_main_v29
    val_main_call0_v11 val_main_call0_v13 val_main_call0_v2 val_main_cst_2 val_main_v31 val_main_v32 val_main_call1_v12 val_main_call1_v14
    val_main_call1_v4 val_main_call0_v6 val_main_call0_v10 val_main_call0_v12 val_main_v26 val_main_call0_v1 val_main_v30 val_main_cst_1
    val_main_call1_v11 val_main_call1_v6 val_main_call1_v13 val_main_call1_v3 val_main_call0_v3 val_main_call0_v5 val_main_call0_v8 val_main_call0_v9
    val_main_call0_c_0 val_main_call0_v0 val_main_call1_v8 val_main_call1_v10 val_main_call1_v5 val_main_call1_v2 val_main_call0_v4 val_main_call0_v7
    val_main_call0_c val_main_c val_main_call1_v7 val_main_call1_v9 val_main_call1_c_1 val_main_call1_v1 val_main_call1_c_0 val_main_call1_v0
    val_main_call1_c_2 val_main_call1_c_3 val_main_call1_c val_main_c_0
  rfl

set_option maxHeartbeats 1000000 in
theorem v39 : V m c main_v39 = twice (four (Host.negf (val_main_v45 (F := Ideal))) (val_main_v45 (F := Ideal)) (Host.negf (val_main_v69 (F := Ideal))) (val_main_v69 (F := Ideal))) := by
  unfold_abbrev_sides
  rw [line]
  after_results
  simp only [StableHlo.TRef.ofBuf_toBuf]
  unfold twice four val_main_v45 val_main_v69 val_main_v42 val_main_v66 val_main_v40 val_main_v41 val_main_v64 val_main_v65 val_main_v38
    val_main_v39 val_main_v62 val_main_v63 val_main_v37 val_main_v35 val_main_v61 val_main_v28 val_main_v34 val_main_v33 val_main_v29
    val_main_call0_v11 val_main_call0_v13 val_main_call0_v2 val_main_cst_2 val_main_v31 val_main_v32 val_main_call1_v12 val_main_call1_v14
    val_main_call1_v4 val_main_call0_v6 val_main_call0_v10 val_main_call0_v12 val_main_v26 val_main_call0_v1 val_main_v30 val_main_cst_1
    val_main_call1_v11 val_main_call1_v6 val_main_call1_v13 val_main_call1_v3 val_main_call0_v3 val_main_call0_v5 val_main_call0_v8 val_main_call0_v9
    val_main_call0_c_0 val_main_call0_v0 val_main_call1_v8 val_main_call1_v10 val_main_call1_v5 val_main_call1_v2 val_main_call0_v4 val_main_call0_v7
    val_main_call0_c val_main_c val_main_call1_v7 val_main_call1_v9 val_main_call1_c_1 val_main_call1_v1 val_main_call1_c_0 val_main_call1_v0
    val_main_call1_c_2 val_main_call1_c_3 val_main_call1_c val_main_c_0
  rfl

theorem pair16 (x y : S4096x16.Idx → EReal) (h : Shape.Concatenates [S4096x16, S4096x16] S4096x32 1) (q : Fin 4096) (l : Fin 32) :
    concatenate S4096x32 1 [⟨S4096x16, x⟩, ⟨S4096x16, y⟩] h (ix2 q l) = if hl : l.val < 16 then x (ix2 q ⟨l.val, hl⟩) else y (ix2 q ⟨l.val - 16, by omega⟩) := by
  pointwise

theorem pair32 (x y : S4096x32.Idx → EReal) (h : Shape.Concatenates [S4096x32, S4096x32] S4096x64 1) (q : Fin 4096) (l : Fin 64) :
    concatenate S4096x64 1 [⟨S4096x32, x⟩, ⟨S4096x32, y⟩] h (ix2 q l) = if hl : l.val < 32 then x (ix2 q ⟨l.val, hl⟩) else y (ix2 q ⟨l.val - 32, by omega⟩) := by
  pointwise

theorem four_apply (x y z w : FVec Ideal S4096x16 .f32) (q : Fin 4096) (l : Fin 64) (f : Fin 16) (hf : f.val = l.val % 16) :
    four x y z w (ix2 q l) = if l.val < 32 then (if l.val < 16 then x (ix2 q f) else y (ix2 q f)) else (if l.val < 48 then z (ix2 q f) else w (ix2 q f)) := by
  have hg : ∀ (g : S4096x16.Idx → EReal) (a : Fin 16), a.val = f.val → g (ix2 q a) = g (ix2 q f) := fun g a e => by rw [Fin.ext e]
  have hl := l.isLt
  refine (pair32 _ _ concatenates_S4096x32_S4096x32_S4096x64_d1 q l).trans ?_
  by_cases h : l.val < 32
  · rw [dif_pos h, if_pos h]
    refine (pair16 _ _ concatenates_S4096x16_S4096x16_S4096x32_d1 q ⟨l.val, h⟩).trans ?_
    by_cases h' : l.val < 16
    · rw [if_pos h']; exact (dif_pos h').trans (hg x _ (by show l.val = f.val; omega))
    · rw [if_neg h']; exact (dif_neg h').trans (hg y _ (by show l.val - 16 = f.val; omega))
  · rw [dif_neg h, if_neg h]
    refine (pair16 _ _ concatenates_S4096x16_S4096x16_S4096x32_d1 q ⟨l.val - 32, by omega⟩).trans ?_
    by_cases h' : l.val < 48
    · rw [if_pos h']; exact (dif_pos (show l.val - 32 < 16 by omega)).trans (hg z _ (by show l.val - 32 = f.val; omega))
    · rw [if_neg h']; exact (dif_neg (show ¬l.val - 32 < 16 by omega)).trans (hg w _ (by show l.val - 32 - 16 = f.val; omega))

theorem twice_apply (x : FVec Ideal S4096x64 .f32) (q : Fin 4096) (l : Fin 128) : twice x (ix2 q l) = x (ix2 q ⟨l.val % 64, by omega⟩) := by
  have hq := q.isLt; have hl := l.isLt
  unfold twice
  refine (shapeCast_apply _ shapeCasts_S1x4096x2x64_S4096x128 (ix2 q l) (ix4 0 q ⟨l.val / 64, by omega⟩ ⟨l.val % 64, by omega⟩) ?_).trans ?_
  · rw [Shape.rowMajor_val_four, Shape.rowMajor_val_two]
    show ((0 * 4096 + q.val) * 2 + l.val / 64) * 64 + l.val % 64 = q.val * 128 + l.val
    omega
  · pointwise

theorem cos_tab (q : Fin 4096) (l : Fin 128) : (V m c main_v36 : S4096x128.Idx → EReal) (ix2 q l) = cosT q l.val := by
  refine (congrFun (v36 m c) _).trans ((twice_apply _ q l).trans ((four_apply _ _ _ _ q _ ⟨l.val % 16, by omega⟩ (by show l.val % 16 = l.val % 64 % 16; omega)).trans ?_))
  unfold cosT
  rw [ite_self, ite_self]

theorem sin_tab (q : Fin 4096) (l : Fin 128) : (V m c main_v39 : S4096x128.Idx → EReal) (ix2 q l) = if l.val % 32 < 16 then -sinT q l.val else sinT q l.val := by
  refine (congrFun (v39 m c) _).trans ((twice_apply _ q l).trans ((four_apply _ _ _ _ q _ ⟨l.val % 16, by omega⟩ (by show l.val % 16 = l.val % 64 % 16; omega)).trans ?_))
  unfold sinT
  show (if l.val % 64 < 32 then (if l.val % 64 < 16 then -_ else _) else (if l.val % 64 < 48 then -_ else _)) = _
  by_cases h : l.val % 64 < 32
  · simp only [if_pos h]
    by_cases h' : l.val % 64 < 16
    · rw [if_pos h', if_pos (by omega)]
    · rw [if_neg h', if_neg (by omega)]
  · simp only [if_neg h]
    by_cases h' : l.val % 64 < 48
    · rw [if_pos h', if_pos (by omega)]
    · rw [if_neg h', if_neg (by omega)]

/-! ### The blocks -/

variable (t : Fin cfg0.N)

theorem lt16 : t.val < 16 := t.isLt

/-- The image of a grid step. -/
abbrev img : Fin 4 := ⟨t.val / 4, by have := lt16 t; omega⟩

/-- The token of a row of a grid step's block. -/
abbrev pos (i : Fin 1024) : Fin 4096 := ⟨1024 * (t.val % 4) + i.val, by omega⟩

theorem blk0 (i n : Fin 1024) :
    (iblk m c 0 t : S1024x1024.Idx → EReal) (ix2 i n) = (m ((c : Thread nD τ).loc main_arg0) : S4x4096x1024.Idx → EReal) (ix3 (img t) (pos t i) n) := by
  have ht := lt16 t
  have e : (V m c main_v40 : S16384x1024.Idx → EReal) (ix2 ⟨1024 * t.val + i.val, by omega⟩ n) = _ :=
    (congrArg (fun z : Fin 16384 => (V m c main_v40 : S16384x1024.Idx → EReal) (ix2 z n))
      (Fin.ext (by show 1024 * t.val + i.val = 4096 * (t.val / 4) + (1024 * (t.val % 4) + i.val); omega))).trans (v40 m c (img t) (pos t i) n)
  refine Eq.trans ?_ e
  blk_simp [iblk]
  exact congrArg _ (by blk_ext [index0_0])

theorem blk1 (r : Fin 6) (l : Fin 1024) : (iblk m c 1 t : S1x1x6x1024.Idx → EReal) (ix4 0 0 r l)
    = modn (m ((c : Thread nD τ).loc main_arg1) : S2x8x6144.Idx → EReal) r (img t) l := by
  refine Eq.trans ?_ (v0 m c 0 ⟨t.val / 4, by have := lt16 t; omega⟩ r l)
  blk_simp [iblk]
  exact congrArg _ (by blk_ext [index0_1])

theorem blk2 (k : Fin 1024) (l : Fin 4608) : (iblk m c 2 t : S1x1024x4608.Idx → EReal) (ix3 0 k l)
    = (m ((c : Thread nD τ).loc main_arg2) : S2x1024x4608.Idx → EReal) (ix3 0 k l) := by
  refine Eq.trans ?_ (congrFun (v41 m c) (ix3 0 k l))
  blk_simp [iblk]
  exact congrArg _ (by blk_ext [index0_2])

theorem blk3 (l : Fin 512) : (iblk m c 3 t : S1x1x512.Idx → EReal) (ix3 0 0 l) = (m ((c : Thread nD τ).loc main_arg3) : S2x512.Idx → EReal) (ix2 0 l) := by
  refine Eq.trans ?_ (v42 m c 0 l)
  blk_simp [iblk]
  exact congrArg _ (by blk_ext [index0_3])

theorem blk4 (l : Fin 512) : (iblk m c 4 t : S1x1x512.Idx → EReal) (ix3 0 0 l) = (m ((c : Thread nD τ).loc main_arg4) : S2x512.Idx → EReal) (ix2 0 l) := by
  refine Eq.trans ?_ (v43 m c 0 l)
  blk_simp [iblk]
  exact congrArg _ (by blk_ext [index0_4])

theorem blk5 (i : Fin 1024) (l : Fin 128) : (iblk m c 5 t : S1024x128.Idx → EReal) (ix2 i l) = cosT (pos t i) l.val := by
  refine Eq.trans ?_ (cos_tab m c (pos t i) l)
  blk_simp [iblk]
  exact congrArg _ (by blk_ext [index0_5])

theorem blk6 (i : Fin 1024) (l : Fin 128) : (iblk m c 6 t : S1024x128.Idx → EReal) (ix2 i l)
    = if l.val % 32 < 16 then -sinT (pos t i) l.val else sinT (pos t i) l.val := by
  refine Eq.trans ?_ (sin_tab m c (pos t i) l)
  blk_simp [iblk]
  exact congrArg _ (by blk_ext [index0_6])

end Cert.ProjValue
-- ==== Proof.ProjResult.lean ====
module

public import proofs.«01_k».proof.Proof.ProjBody
public import proofs.«01_k».proof.Proof.ProjWin

/-! # The in-projection call's eight result arrays are the reference's -/

@[expose] public section

set_option maxRecDepth 65536

noncomputable section

namespace Cert.ProjValue

open Idealize.ShloMosaic Idealize.ShloMosaic.TcCoe Idealize.SL.Sem
open Cert.Kernel2Ideal Cert.Kernel2Ideal.Gen
open Cert.Reference2Ideal.Read
open Cert.ProjRef (cosT sinT rot proj gelu norm sgu)

/-- A token's cosine depends on the lane's place within a head only. -/
theorem cosT_mod (q : Fin 4096) (j : ℕ) : cosT q (j % 128) = cosT q j := by
  have h : j % 128 % 64 = j % 64 := by omega
  have h' : j % 128 % 16 = j % 16 := by omega
  unfold cosT
  simp only [h, h']

theorem sinT_mod (q : Fin 4096) (j : ℕ) : sinT q (j % 128) = sinT q j := by
  have h : j % 128 % 64 = j % 64 := by omega
  have h' : j % 128 % 16 = j % 16 := by omega
  unfold sinT
  simp only [h, h']

/-- The kernel's rotation (partner lane times a signed sine) is the reference's (a difference in the lower lanes, a sum in the upper). -/
theorem rope_eq (z : Fin 512 → EReal) (q : Fin 4096) (C S : Fin 128 → EReal) (hC : ∀ l, C l = cosT q l.val)
    (hS : ∀ l, S l = if l.val % 32 < 16 then -sinT q l.val else sinT q l.val) (j : Fin 512) : ropeB z C S j = rot z q j := by
  have h : j.val % 128 % 32 = j.val % 32 := by omega
  unfold ropeB rot
  rw [hC, hS]
  simp only [cosT_mod, sinT_mod, h]
  split
  · rw [mul_neg, sub_eq_add_neg]
  · rfl

variable (m : (ℓ : Loc nD τ sig) → Buf (Elt Ideal) ℓ) (c : Dev nD) (t : Fin cfg0.N)

/-- The call's arguments. -/
abbrev a0 : S4x4096x1024.Idx → EReal := m ((c : Thread nD τ).loc main_arg0)
abbrev a1 : S2x8x6144.Idx → EReal := m ((c : Thread nD τ).loc main_arg1)
abbrev a2 : S2x1024x4608.Idx → EReal := m ((c : Thread nD τ).loc main_arg2)
abbrev a3 : S2x512.Idx → EReal := m ((c : Thread nD τ).loc main_arg3)
abbrev a4 : S2x512.Idx → EReal := m ((c : Thread nD τ).loc main_arg4)

/-- A block's projected row is the reference's row of that token. -/
theorem proj_eq (i : Fin 1024) (l : Fin 4608) :
    projB (iblk m c 0 t) (iblk m c 1 t) (iblk m c 2 t) i l = proj (a0 m c) (a1 m c) (a2 m c) (img t) (pos t i) l := by
  unfold projB ProjRef.proj hidB ProjRef.hidden
  refine Finset.sum_congr rfl fun k _ => ?_
  rw [blk0, blk1, blk1, blk2]

theorem block7 (i : Fin 1024) (l : Fin 512) : out0_7 (F := Ideal) (iblk m c 0 t) (iblk m c 1 t) (iblk m c 2 t) (iblk m c 3 t) (iblk m c 4 t) (iblk m c 5 t) (iblk m c 6 t) (ix2 i l)
    = val_main_v214 (F := Ideal) (a0 m c) (a1 m c) (a2 m c) (ix2 (HostValue.tok (img t) (pos t i)) l) := by
  refine (o7 i _ _ _ _ _ _ _ l).trans (Eq.trans ?_ (ProjRef.r0 _ _ _ _ _ l).symm)
  rw [funext fun j => proj_eq m c t i _, rope_eq _ (pos t i) _ _ (blk5 m c t i) (blk6 m c t i)]

theorem block8 (i : Fin 1024) (l : Fin 512) : out0_8 (F := Ideal) (iblk m c 0 t) (iblk m c 1 t) (iblk m c 2 t) (iblk m c 3 t) (iblk m c 4 t) (iblk m c 5 t) (iblk m c 6 t) (ix2 i l)
    = val_main_v216 (F := Ideal) (a0 m c) (a1 m c) (a2 m c) (ix2 (HostValue.tok (img t) (pos t i)) l) :=
  (o8 i _ _ _ _ _ _ _ l).trans ((congrArg (fun x : EReal => x * Ideal.ofBits .f32 0x3E000000#32) (proj_eq m c t i _)).trans (ProjRef.r1 _ _ _ _ _ l).symm)

theorem block9 (i : Fin 1024) (l : Fin 512) : out0_9 (F := Ideal) (iblk m c 0 t) (iblk m c 1 t) (iblk m c 2 t) (iblk m c 3 t) (iblk m c 4 t) (iblk m c 5 t) (iblk m c 6 t) (ix2 i l)
    = val_main_v218 (F := Ideal) (a0 m c) (a1 m c) (a2 m c) (ix2 (HostValue.tok (img t) (pos t i)) l) := by
  refine (o9 i _ _ _ _ _ _ _ l).trans (Eq.trans ?_ (ProjRef.r2 _ _ _ _ _ l).symm)
  rw [funext fun j => proj_eq m c t i _, rope_eq _ (pos t i) _ _ (blk5 m c t i) (blk6 m c t i)]

theorem block10 (i : Fin 1024) (l : Fin 512) : out0_10 (F := Ideal) (iblk m c 0 t) (iblk m c 1 t) (iblk m c 2 t) (iblk m c 3 t) (iblk m c 4 t) (iblk m c 5 t) (iblk m c 6 t) (ix2 i l)
    = val_main_v220 (F := Ideal) (a0 m c) (a1 m c) (a2 m c) (ix2 (HostValue.tok (img t) (pos t i)) l) :=
  (o10 i _ _ _ _ _ _ _ l).trans ((proj_eq m c t i _).trans (ProjRef.r3 _ _ _ _ _ l).symm)

theorem block11 (i : Fin 1024) (l : Fin 512) : out0_11 (F := Ideal) (iblk m c 0 t) (iblk m c 1 t) (iblk m c 2 t) (iblk m c 3 t) (iblk m c 4 t) (iblk m c 5 t) (iblk m c 6 t) (ix2 i l)
    = val_main_v222 (F := Ideal) (a0 m c) (a1 m c) (a2 m c) (ix2 (HostValue.tok (img t) (pos t i)) l) :=
  (o11 i _ _ _ _ _ _ _ l).trans ((congrArg gelu (proj_eq m c t i _)).trans (ProjRef.r4 _ _ _ _ _ l).symm)

theorem block12 (i : Fin 1024) (l : Fin 512) : out0_12 (F := Ideal) (iblk m c 0 t) (iblk m c 1 t) (iblk m c 2 t) (iblk m c 3 t) (iblk m c 4 t) (iblk m c 5 t) (iblk m c 6 t) (ix2 i l)
    = val_main_v224 (F := Ideal) (a0 m c) (a1 m c) (a2 m c) (a3 m c) (a4 m c) (ix2 (HostValue.tok (img t) (pos t i)) l) := by
  refine (o12 i _ _ _ _ _ _ _ l).trans (Eq.trans ?_ (ProjRef.r5 _ _ _ _ _ _ _ l).symm)
  unfold ProjRef.sgu
  rw [funext fun j => congrArg gelu (proj_eq m c t i _), funext (blk3 m c t), funext (blk4 m c t)]

theorem block13 (i : Fin 1024) (l : Fin 1024) : out0_13 (F := Ideal) (iblk m c 0 t) (iblk m c 1 t) (iblk m c 2 t) (iblk m c 3 t) (iblk m c 4 t) (iblk m c 5 t) (iblk m c 6 t) (ix2 i l)
    = val_main_v226 (F := Ideal) (a0 m c) (a1 m c) (a2 m c) (ix2 (HostValue.tok (img t) (pos t i)) l) :=
  (o13 i _ _ _ _ _ _ _ l).trans ((congrArg Ideal.logistic (proj_eq m c t i _)).trans (ProjRef.r6 _ _ _ _ _ l).symm)

theorem block14 (i : Fin 1024) (l : Fin 1024) : out0_14 (F := Ideal) (iblk m c 0 t) (iblk m c 1 t) (iblk m c 2 t) (iblk m c 3 t) (iblk m c 4 t) (iblk m c 5 t) (iblk m c 6 t) (ix2 i l)
    = val_main_v228 (F := Ideal) (a0 m c) (a1 m c) (a2 m c) (ix2 (HostValue.tok (img t) (pos t i)) l) :=
  (o14 i _ _ _ _ _ _ _ l).trans ((congrArg Ideal.logistic (proj_eq m c t i _)).trans (ProjRef.r7 _ _ _ _ _ l).symm)

/-- A block whose rows are an array's rows from the step's first on holds, at each of its indices, the array's value where the block lies. -/
theorem place {n : ℕ} (f : (⟨2, ![16384, n]⟩ : Shape).Idx → EReal) (g : (⟨2, ![1024, n]⟩ : Shape).Idx → EReal)
    (h : ∀ i l, g (ix2 i l) = f (ix2 (HostValue.tok (img t) (pos t i)) l)) (y : (⟨2, ![1024, n]⟩ : Shape).Idx)
    (e : (⟨2, ![16384, n]⟩ : Shape).Idx) (e0 : (e 0).val = 1024 * t.val + (y 0).val) (e1 : (e 1).val = (y 1).val) : g y = f e := by
  refine (congrArg g (eq_ix2 y)).trans ((h (y 0) (y 1)).trans (congrArg f (funext fun a => match a with
    | ⟨0, _⟩ => Fin.ext ?_
    | ⟨1, _⟩ => Fin.ext e1.symm)))
  show 4096 * (t.val / 4) + (1024 * (t.val % 4) + (y 0).val) = (e 0).val
  rw [e0]
  omega

theorem out7 : (dats m 0 c).arrAt 7 cfg0.N = val_main_v214 (F := Ideal) (a0 m c) (a1 m c) (a2 m c) := by
  refine (dats m 0 c).arrAt_eq_of_covers 7 _ (by decide +kernel) fun t h y => ?_
  blk_simp
  rw [after0_7]
  exact place t _ _ (block7 m c t) y _ (by blk_simp [index0_7]; rw [Nat.mul_comm]) (by blk_simp [index0_7])

theorem out8 : (dats m 0 c).arrAt 8 cfg0.N = val_main_v216 (F := Ideal) (a0 m c) (a1 m c) (a2 m c) := by
  refine (dats m 0 c).arrAt_eq_of_covers 8 _ (by decide +kernel) fun t h y => ?_
  blk_simp
  rw [after0_8]
  exact place t _ _ (block8 m c t) y _ (by blk_simp [index0_8]; rw [Nat.mul_comm]) (by blk_simp [index0_8])

theorem out9 : (dats m 0 c).arrAt 9 cfg0.N = val_main_v218 (F := Ideal) (a0 m c) (a1 m c) (a2 m c) := by
  refine (dats m 0 c).arrAt_eq_of_covers 9 _ (by decide +kernel) fun t h y => ?_
  blk_simp
  rw [after0_9]
  exact place t _ _ (block9 m c t) y _ (by blk_simp [index0_9]; rw [Nat.mul_comm]) (by blk_simp [index0_9])

theorem out10 : (dats m 0 c).arrAt 10 cfg0.N = val_main_v220 (F := Ideal) (a0 m c) (a1 m c) (a2 m c) := by
  refine (dats m 0 c).arrAt_eq_of_covers 10 _ (by decide +kernel) fun t h y => ?_
  blk_simp
  rw [after0_10]
  exact place t _ _ (block10 m c t) y _ (by blk_simp [index0_10]; rw [Nat.mul_comm]) (by blk_simp [index0_10])

theorem out11 : (dats m 0 c).arrAt 11 cfg0.N = val_main_v222 (F := Ideal) (a0 m c) (a1 m c) (a2 m c) := by
  refine (dats m 0 c).arrAt_eq_of_covers 11 _ (by decide +kernel) fun t h y => ?_
  blk_simp
  rw [after0_11]
  exact place t _ _ (block11 m c t) y _ (by blk_simp [index0_11]; rw [Nat.mul_comm]) (by blk_simp [index0_11])

theorem out12 : (dats m 0 c).arrAt 12 cfg0.N = val_main_v224 (F := Ideal) (a0 m c) (a1 m c) (a2 m c) (a3 m c) (a4 m c) := by
  refine (dats m 0 c).arrAt_eq_of_covers 12 _ (by decide +kernel) fun t h y => ?_
  blk_simp
  rw [after0_12]
  exact place t _ _ (block12 m c t) y _ (by blk_simp [index0_12]; rw [Nat.mul_comm]) (by blk_simp [index0_12])

theorem out13 : (dats m 0 c).arrAt 13 cfg0.N = val_main_v226 (F := Ideal) (a0 m c) (a1 m c) (a2 m c) := by
  refine (dats m 0 c).arrAt_eq_of_covers 13 _ (by decide +kernel) fun t h y => ?_
  blk_simp
  rw [after0_13]
  exact place t _ _ (block13 m c t) y _ (by blk_simp [index0_13]; rw [Nat.mul_comm]) (by blk_simp [index0_13])

theorem out14 : (dats m 0 c).arrAt 14 cfg0.N = val_main_v228 (F := Ideal) (a0 m c) (a1 m c) (a2 m c) := by
  refine (dats m 0 c).arrAt_eq_of_covers 14 _ (by decide +kernel) fun t h y => ?_
  blk_simp
  rw [after0_14]
  exact place t _ _ (block14 m c t) y _ (by blk_simp [index0_14]; rw [Nat.mul_comm]) (by blk_simp [index0_14])

end Cert.ProjValue

end
-- ==== Proof.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.KernelRun
public import proofs.«01_k».proof.Proof.IdealRun
public import proofs.«01_k».proof.Proof.Gen.Kernel2.Frame
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.ReferenceIdeal.Run
public import proofs.«01_k».proof.Proof.Gen.ReferenceIdeal.Read
public import proofs.«01_k».proof.Proof.MixResult
public import proofs.«01_k».proof.Proof.FfnResult
public import proofs.«01_k».proof.Proof.ProjResult
public import Idealize.ShloMosaic.Adequacy
public import Idealize.ShloMosaic.Init

/-! # The claims -/

@[expose] public section

noncomputable section

namespace Cert.Proof

open Idealize.ShloMosaic Idealize.SL.Sem Cert.Kernel

/-- The reference's frame: its run, of which the results' part is left out; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- What the claim assumes, an argument at a time. -/
theorem finite (m : (ℓ : Loc Cert.KernelIdeal.nD Cert.KernelIdeal.τ Cert.KernelIdeal.sig) → Buf (Elt Ideal) ℓ)
    (h : Cert.Pre_KernelIdeal_finite_scores (hPre_finite_scores := MixValue.facts_pre) m) (c : Dev Cert.KernelIdeal.nD) : MixValue.Finite m c :=
  ⟨fun i => MixValue.real_of_lt _ (congrFun (h c).1 i), fun i => MixValue.real_of_lt _ (congrFun (h c).2.1 i),
    fun i => MixValue.real_of_lt _ (congrFun (h c).2.2.1 i), fun i => MixValue.real_of_lt _ (congrFun (h c).2.2.2.1 i),
    fun i => MixValue.real_of_lt _ (congrFun (h c).2.2.2.2 i)⟩

/-- The kernel's result is the reference's. -/
theorem value : Cert.algebraic_KernelIdeal_ReferenceIdeal_pre_finite_scores (hKernelIdeal := Cert.KernelIdeal.Gen.facts)
    (hReferenceIdeal := Cert.ReferenceIdeal.Gen.facts) (hPre_finite_scores := MixValue.facts_pre) := by
  intro m g m' g' hpre hag
  refine ⟨fun c => MixValue.res m c,
    (θ_run Cert.KernelIdeal.defs _ _).mono (fun r h c => ⟨(h.1 c).1.trans (MixValue.out_eq m g c (finite m hpre c)), (h.1 c).2⟩) (Cert.KernelIdeal.Gen.ends m g),
    (θ_run Cert.ReferenceIdeal.defs _ _).mono (fun r h c => ⟨((h c).1.trans (Cert.ReferenceIdeal.Read.val_main_v174_eq _)).trans ?_, (h c).2⟩)
      (Cert.ReferenceIdeal.Value.run m' g')⟩
  obtain ⟨a0, a1, a2, a3, a4, a5, a6, a7, a8, a9, a10, a11, a12, a13, a14, a15, a16, a17, a18, a19⟩ := hag c
  unfold MixValue.res
  congr 1

/-- The feed-forward reference's frame: its run, of which the results' part is left out. -/
theorem frame_reference3 : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)

/-- The feed-forward kernel's result is its reference's. -/
theorem value3 : Cert.algebraic_Kernel3Ideal_Reference3Ideal (hKernel3Ideal := Cert.Kernel3Ideal.Gen.facts)
    (hReference3Ideal := Cert.Reference3Ideal.Gen.facts) := by
  intro m g m' g' _ hag
  refine ⟨fun c => FfnValue.res m c,
    (θ_run Cert.Kernel3Ideal.defs _ _).mono (fun r h c => ⟨(h c).1.trans (FfnValue.out_eq m c), (h c).2⟩) (Cert.Kernel3Ideal.Value.run_blocks m g),
    (θ_run Cert.Reference3Ideal.defs _ _).mono (fun r h c => ⟨((h c).1.trans (Cert.Reference3Ideal.Read.val_main_v86_eq _)).trans ?_, (h c).2⟩)
      (Cert.Reference3Ideal.Value.run m' g')⟩
  obtain ⟨a0, a1, a2, a3, a4, a5, a6, a7⟩ := hag c
  unfold FfnValue.res
  congr 1

/-- The in-projection reference's frame: its run, of which the results' part is left out. -/
theorem frame_reference2 : Cert.quiescent_Reference2Ideal := fun m ρ _ =>
  (θ_run Cert.Reference2Ideal.defs _ _).mono (fun r h => ⟨fun c => (h c).2.2.2.2.2.2.2.2, sem_eq_zero_of_no_sems (by decide) r.2⟩)
    (Cert.Reference2Ideal.Value.run m ρ)

/-- The in-projection kernel's eight results are its reference's. -/
theorem value2 : Cert.algebraic_Kernel2Ideal_Reference2Ideal (hKernel2Ideal := Cert.Kernel2Ideal.Gen.facts)
    (hReference2Ideal := Cert.Reference2Ideal.Gen.facts) := by
  intro m g m' g' _ hag
  refine ⟨fun c => Cert.Reference2Ideal.Read.val_main_v214 (F := Ideal) (ProjValue.a0 m c) (ProjValue.a1 m c) (ProjValue.a2 m c),
    fun c => Cert.Reference2Ideal.Read.val_main_v216 (F := Ideal) (ProjValue.a0 m c) (ProjValue.a1 m c) (ProjValue.a2 m c),
    fun c => Cert.Reference2Ideal.Read.val_main_v218 (F := Ideal) (ProjValue.a0 m c) (ProjValue.a1 m c) (ProjValue.a2 m c),
    fun c => Cert.Reference2Ideal.Read.val_main_v220 (F := Ideal) (ProjValue.a0 m c) (ProjValue.a1 m c) (ProjValue.a2 m c),
    fun c => Cert.Reference2Ideal.Read.val_main_v222 (F := Ideal) (ProjValue.a0 m c) (ProjValue.a1 m c) (ProjValue.a2 m c),
    fun c => Cert.Reference2Ideal.Read.val_main_v224 (F := Ideal) (ProjValue.a0 m c) (ProjValue.a1 m c) (ProjValue.a2 m c) (ProjValue.a3 m c) (ProjValue.a4 m c),
    fun c => Cert.Reference2Ideal.Read.val_main_v226 (F := Ideal) (ProjValue.a0 m c) (ProjValue.a1 m c) (ProjValue.a2 m c),
    fun c => Cert.Reference2Ideal.Read.val_main_v228 (F := Ideal) (ProjValue.a0 m c) (ProjValue.a1 m c) (ProjValue.a2 m c),
    (θ_run Cert.Kernel2Ideal.defs _ _).mono (fun r h c => ⟨
      (h c).1.trans (ProjValue.out7 m c),
      (h c).2.1.trans (ProjValue.out8 m c),
      (h c).2.2.1.trans (ProjValue.out9 m c),
      (h c).2.2.2.1.trans (ProjValue.out10 m c),
      (h c).2.2.2.2.1.trans (ProjValue.out11 m c),
      (h c).2.2.2.2.2.1.trans (ProjValue.out12 m c),
      (h c).2.2.2.2.2.2.1.trans (ProjValue.out13 m c),
      (h c).2.2.2.2.2.2.2.1.trans (ProjValue.out14 m c), (h c).2.2.2.2.2.2.2.2⟩) (Cert.Kernel2Ideal.Value.run_blocks m g),
    (θ_run Cert.Reference2Ideal.defs _ _).mono (fun r h c => ⟨
      ((h c).1.trans (Cert.Reference2Ideal.Read.val_main_v214_eq _)).trans ?_,
      ((h c).2.1.trans (Cert.Reference2Ideal.Read.val_main_v216_eq _)).trans ?_,
      ((h c).2.2.1.trans (Cert.Reference2Ideal.Read.val_main_v218_eq _)).trans ?_,
      ((h c).2.2.2.1.trans (Cert.Reference2Ideal.Read.val_main_v220_eq _)).trans ?_,
      ((h c).2.2.2.2.1.trans (Cert.Reference2Ideal.Read.val_main_v222_eq _)).trans ?_,
      ((h c).2.2.2.2.2.1.trans (Cert.Reference2Ideal.Read.val_main_v224_eq _)).trans ?_,
      ((h c).2.2.2.2.2.2.1.trans (Cert.Reference2Ideal.Read.val_main_v226_eq _)).trans ?_,
      ((h c).2.2.2.2.2.2.2.1.trans (Cert.Reference2Ideal.Read.val_main_v228_eq _)).trans ?_, (h c).2.2.2.2.2.2.2.2⟩)
      (Cert.Reference2Ideal.Value.run m' g')⟩
  all_goals
    obtain ⟨a0, a1, a2, a3, a4⟩ := hag c
    congr 1

theorem claim : Cert.Claim := ⟨Cert.Kernel.Gen.facts, Cert.Kernel2.Gen.facts, Cert.Kernel3.Gen.facts, Cert.KernelIdeal.Gen.facts, Cert.ReferenceIdeal.Gen.facts,
  Cert.Kernel3Ideal.Gen.facts, Cert.Reference3Ideal.Gen.facts, Cert.Kernel2Ideal.Gen.facts, Cert.Reference2Ideal.Gen.facts, MixValue.facts_pre,
  fun m ρ _ => Cert.Kernel.Gen.frame m ρ,
  fun m ρ _ => Cert.Kernel2.Gen.frame m ρ,
  fun m ρ _ => Cert.Kernel3.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel3Ideal.Gen.frame m ρ,
  frame_reference3,
  fun m ρ _ => Cert.Kernel2Ideal.Gen.frame m ρ,
  frame_reference2,
  IdealRules.named_const.statement Cert.KernelIdeal.κ "mask" .f32 0xF149F2CA#32 ⊥ rfl,
  value,
  trivial,
  value3,
  trivial,
  value2⟩

end Cert.Proof

end
